-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S16384x1024 : Shape := ⟨2, ![16384, 1024]⟩
abbrev S_ : Shape := ⟨0, ![]⟩
abbrev S24 : Shape := ⟨1, ![24]⟩
abbrev S48 : Shape := ⟨1, ![48]⟩
abbrev S1 : Shape := ⟨1, ![1]⟩
abbrev S128x1024 : Shape := ⟨2, ![128, 1024]⟩
abbrev S64x1024 : Shape := ⟨2, ![64, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | _, _ => false

abbrev semScoped : Fin 1 → Bool
  | ⟨0, _⟩ => false
  | _ => false

abbrev dmaSemScoped : Fin 481 → Bool
  | ⟨i, _⟩ => dmaSemScopedAt i

abbrev sig : RefSig :=
  (ofTc nBuf bufTy 1 481 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32 : BitVec 32 := 4096#32
  let v47 : BitVec 32 := Scalar.muli v8 c4096_i32
  let c0_i32_27 : BitVec 32 := 0#32
  ![v47.toNat, 0]
def k0_dev1 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v50 : BitVec 32 := Scalar.muli v2 c8_i32_29
  let v51 : BitVec 32 := Scalar.addi c0_i32_30 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v52 : BitVec 32 := Scalar.muli v5 c4_i32_31
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v21 : BitVec 32 := Scalar.subi v8 c1_i32_10
  let c4_i32_11 : BitVec 32 := 4#32
  let c0_i32 : BitVec 32 := 0#32
  let v22 : BitVec 1 := Scalar.cmpi .eq c4_i32_11 c0_i32
  let c1_i32_12 : BitVec 32 := 1#32
  let v23 : BitVec 32 := Scalar.select v22 c1_i32_12 c4_i32_11
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_32 : BitVec 32 := 1#32
  let v54 : BitVec 32 := Scalar.muli v31 c1_i32_32
  let v55 : BitVec 32 := Scalar.addi v53 v54
  v55.toNat
def k0_dev2 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v56 : BitVec 32 := Scalar.muli v2 c8_i32_34
  let v57 : BitVec 32 := Scalar.addi c0_i32_35 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_36 : BitVec 32 := 4#32
  let v58 : BitVec 32 := Scalar.muli v5 c4_i32_36
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_37 : BitVec 32 := 1#32
  let v60 : BitVec 32 := Scalar.muli v42 c1_i32_37
  let v61 : BitVec 32 := Scalar.addi v59 v60
  v61.toNat
def k0_dev3 (d0 : Dev nD) : Nat :=
  let c0_i32_40 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_39 : BitVec 32 := 8#32
  let v62 : BitVec 32 := Scalar.muli v45 c8_i32_39
  let v63 : BitVec 32 := Scalar.addi c0_i32_40 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v64 : BitVec 32 := Scalar.muli v5 c4_i32_41
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v66 : BitVec 32 := Scalar.muli v8 c1_i32_42
  let v67 : BitVec 32 := Scalar.addi v65 v66
  v67.toNat
def k0_dev4 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v68 : BitVec 32 := Scalar.muli v2 c8_i32_44
  let v69 : BitVec 32 := Scalar.addi c0_i32_45 v68
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_46 : BitVec 32 := 4#32
  let v70 : BitVec 32 := Scalar.muli v46 c4_i32_46
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v72 : BitVec 32 := Scalar.muli v8 c1_i32_47
  let v73 : BitVec 32 := Scalar.addi v71 v72
  v73.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v74 : BitVec 1 := Scalar.cmpi .slt v8 c3_i32
  let v75 : BitVec 32 := Scalar.extui v74
  let c0_i32_49 : BitVec 32 := 0#32
  let v76 : BitVec 1 := Scalar.cmpi .ne v75 c0_i32_49
  v76

def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_962 : BitVec 32 := 4096#32
  let v1341 : BitVec 32 := Scalar.muli v8 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_963 : BitVec 32 := 1024#32
  let v1342 : BitVec 32 := Scalar.muli v10 c1024_i32_963
  let v1343 : BitVec 32 := Scalar.addi v1341 v1342
  let c0_i32_964 : BitVec 32 := 0#32
  let v1344 : BitVec 32 := Scalar.addi v1343 c0_i32_964
  let c0_i32_971 : BitVec 32 := 0#32
  ![v1344.toNat, 0]
def k0_off3 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c0_i32_961 : BitVec 32 := 0#32
  let v1340 : BitVec 32 := Scalar.addi v1339 c0_i32_961
  let c0_i32_972 : BitVec 32 := 0#32
  ![v1340.toNat, 0]
def k0_dev5 (d0 : Dev nD) : Nat :=
  let c0_i32_968 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_967 : BitVec 32 := 8#32
  let v1345 : BitVec 32 := Scalar.muli v2 c8_i32_967
  let v1346 : BitVec 32 := Scalar.addi c0_i32_968 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_969 : BitVec 32 := 4#32
  let v1347 : BitVec 32 := Scalar.muli v5 c4_i32_969
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_970 : BitVec 32 := 1#32
  let v1349 : BitVec 32 := Scalar.muli v43 c1_i32_970
  let v1350 : BitVec 32 := Scalar.addi v1348 v1349
  v1350.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_50 : BitVec 32 := 0#32
  let v77 : BitVec 1 := Scalar.cmpi .sgt v8 c0_i32_50
  let v78 : BitVec 32 := Scalar.extui v77
  let c0_i32_51 : BitVec 32 := 0#32
  let v79 : BitVec 1 := Scalar.cmpi .ne v78 c0_i32_51
  v79

def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_962 : BitVec 32 := 4096#32
  let v1341 : BitVec 32 := Scalar.muli v8 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_963 : BitVec 32 := 1024#32
  let v1342 : BitVec 32 := Scalar.muli v10 c1024_i32_963
  let v1343 : BitVec 32 := Scalar.addi v1341 v1342
  let c0_i32_964 : BitVec 32 := 0#32
  let v1344 : BitVec 32 := Scalar.addi v1343 c0_i32_964
  let c0_i32_971 : BitVec 32 := 0#32
  ![v1344.toNat, 0]
def k0_off5 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c0_i32_961 : BitVec 32 := 0#32
  let v1340 : BitVec 32 := Scalar.addi v1339 c0_i32_961
  let c0_i32_972 : BitVec 32 := 0#32
  ![v1340.toNat, 0]
def k0_dev6 (d0 : Dev nD) : Nat :=
  let c0_i32_968 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_967 : BitVec 32 := 8#32
  let v1345 : BitVec 32 := Scalar.muli v2 c8_i32_967
  let v1346 : BitVec 32 := Scalar.addi c0_i32_968 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_969 : BitVec 32 := 4#32
  let v1347 : BitVec 32 := Scalar.muli v5 c4_i32_969
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_970 : BitVec 32 := 1#32
  let v1349 : BitVec 32 := Scalar.muli v44 c1_i32_970
  let v1350 : BitVec 32 := Scalar.addi v1348 v1349
  v1350.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_52 : BitVec 32 := 3#32
  let v80 : BitVec 1 := Scalar.cmpi .slt v8 c3_i32_52
  let v81 : BitVec 32 := Scalar.extui v80
  let c0_i32_53 : BitVec 32 := 0#32
  let v82 : BitVec 1 := Scalar.cmpi .ne v81 c0_i32_53
  v82

def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c128_i32_963 : BitVec 32 := 128#32
  let v1344 : BitVec 32 := Scalar.addi v1343 c128_i32_963
  let c0_i32_970 : BitVec 32 := 0#32
  ![v1344.toNat, 0]
def k0_off7 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c128_i32 : BitVec 32 := 128#32
  let v1340 : BitVec 32 := Scalar.addi v1339 c128_i32
  let c0_i32_971 : BitVec 32 := 0#32
  ![v1340.toNat, 0]
def k0_dev7 (d0 : Dev nD) : Nat :=
  let c0_i32_967 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_966 : BitVec 32 := 8#32
  let v1345 : BitVec 32 := Scalar.muli v2 c8_i32_966
  let v1346 : BitVec 32 := Scalar.addi c0_i32_967 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_968 : BitVec 32 := 4#32
  let v1347 : BitVec 32 := Scalar.muli v5 c4_i32_968
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_969 : BitVec 32 := 1#32
  let v1349 : BitVec 32 := Scalar.muli v43 c1_i32_969
  let v1350 : BitVec 32 := Scalar.addi v1348 v1349
  v1350.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_54 : BitVec 32 := 0#32
  let v83 : BitVec 1 := Scalar.cmpi .sgt v8 c0_i32_54
  let v84 : BitVec 32 := Scalar.extui v83
  let c0_i32_55 : BitVec 32 := 0#32
  let v85 : BitVec 1 := Scalar.cmpi .ne v84 c0_i32_55
  v85

def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c128_i32_963 : BitVec 32 := 128#32
  let v1344 : BitVec 32 := Scalar.addi v1343 c128_i32_963
  let c0_i32_970 : BitVec 32 := 0#32
  ![v1344.toNat, 0]
def k0_off9 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c128_i32 : BitVec 32 := 128#32
  let v1340 : BitVec 32 := Scalar.addi v1339 c128_i32
  let c0_i32_971 : BitVec 32 := 0#32
  ![v1340.toNat, 0]
def k0_dev8 (d0 : Dev nD) : Nat :=
  let c0_i32_967 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_966 : BitVec 32 := 8#32
  let v1345 : BitVec 32 := Scalar.muli v2 c8_i32_966
  let v1346 : BitVec 32 := Scalar.addi c0_i32_967 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_968 : BitVec 32 := 4#32
  let v1347 : BitVec 32 := Scalar.muli v5 c4_i32_968
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_969 : BitVec 32 := 1#32
  let v1349 : BitVec 32 := Scalar.muli v44 c1_i32_969
  let v1350 : BitVec 32 := Scalar.addi v1348 v1349
  v1350.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_56 : BitVec 32 := 3#32
  let v86 : BitVec 1 := Scalar.cmpi .slt v8 c3_i32_56
  let v87 : BitVec 32 := Scalar.extui v86
  let c0_i32_57 : BitVec 32 := 0#32
  let v88 : BitVec 1 := Scalar.cmpi .ne v87 c0_i32_57
  v88

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c256_i32_963 : BitVec 32 := 256#32
  let v1344 : BitVec 32 := Scalar.addi v1343 c256_i32_963
  let c0_i32_970 : BitVec 32 := 0#32
  ![v1344.toNat, 0]
def k0_off11 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c256_i32 : BitVec 32 := 256#32
  let v1340 : BitVec 32 := Scalar.addi v1339 c256_i32
  let c0_i32_971 : BitVec 32 := 0#32
  ![v1340.toNat, 0]
def k0_dev9 (d0 : Dev nD) : Nat :=
  let c0_i32_967 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_966 : BitVec 32 := 8#32
  let v1345 : BitVec 32 := Scalar.muli v2 c8_i32_966
  let v1346 : BitVec 32 := Scalar.addi c0_i32_967 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_968 : BitVec 32 := 4#32
  let v1347 : BitVec 32 := Scalar.muli v5 c4_i32_968
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_969 : BitVec 32 := 1#32
  let v1349 : BitVec 32 := Scalar.muli v43 c1_i32_969
  let v1350 : BitVec 32 := Scalar.addi v1348 v1349
  v1350.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_58 : BitVec 32 := 0#32
  let v89 : BitVec 1 := Scalar.cmpi .sgt v8 c0_i32_58
  let v90 : BitVec 32 := Scalar.extui v89
  let c0_i32_59 : BitVec 32 := 0#32
  let v91 : BitVec 1 := Scalar.cmpi .ne v90 c0_i32_59
  v91

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c256_i32_963 : BitVec 32 := 256#32
  let v1344 : BitVec 32 := Scalar.addi v1343 c256_i32_963
  let c0_i32_970 : BitVec 32 := 0#32
  ![v1344.toNat, 0]
def k0_off13 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c256_i32 : BitVec 32 := 256#32
  let v1340 : BitVec 32 := Scalar.addi v1339 c256_i32
  let c0_i32_971 : BitVec 32 := 0#32
  ![v1340.toNat, 0]
def k0_dev10 (d0 : Dev nD) : Nat :=
  let c0_i32_967 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_966 : BitVec 32 := 8#32
  let v1345 : BitVec 32 := Scalar.muli v2 c8_i32_966
  let v1346 : BitVec 32 := Scalar.addi c0_i32_967 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_968 : BitVec 32 := 4#32
  let v1347 : BitVec 32 := Scalar.muli v5 c4_i32_968
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_969 : BitVec 32 := 1#32
  let v1349 : BitVec 32 := Scalar.muli v44 c1_i32_969
  let v1350 : BitVec 32 := Scalar.addi v1348 v1349
  v1350.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_60 : BitVec 32 := 3#32
  let v92 : BitVec 1 := Scalar.cmpi .slt v8 c3_i32_60
  let v93 : BitVec 32 := Scalar.extui v92
  let c0_i32_61 : BitVec 32 := 0#32
  let v94 : BitVec 1 := Scalar.cmpi .ne v93 c0_i32_61
  v94

def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c384_i32_963 : BitVec 32 := 384#32
  let v1344 : BitVec 32 := Scalar.addi v1343 c384_i32_963
  let c0_i32_970 : BitVec 32 := 0#32
  ![v1344.toNat, 0]
def k0_off15 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c384_i32 : BitVec 32 := 384#32
  let v1340 : BitVec 32 := Scalar.addi v1339 c384_i32
  let c0_i32_971 : BitVec 32 := 0#32
  ![v1340.toNat, 0]
def k0_dev11 (d0 : Dev nD) : Nat :=
  let c0_i32_967 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_966 : BitVec 32 := 8#32
  let v1345 : BitVec 32 := Scalar.muli v2 c8_i32_966
  let v1346 : BitVec 32 := Scalar.addi c0_i32_967 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_968 : BitVec 32 := 4#32
  let v1347 : BitVec 32 := Scalar.muli v5 c4_i32_968
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_969 : BitVec 32 := 1#32
  let v1349 : BitVec 32 := Scalar.muli v43 c1_i32_969
  let v1350 : BitVec 32 := Scalar.addi v1348 v1349
  v1350.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_62 : BitVec 32 := 0#32
  let v95 : BitVec 1 := Scalar.cmpi .sgt v8 c0_i32_62
  let v96 : BitVec 32 := Scalar.extui v95
  let c0_i32_63 : BitVec 32 := 0#32
  let v97 : BitVec 1 := Scalar.cmpi .ne v96 c0_i32_63
  v97

def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c384_i32_963 : BitVec 32 := 384#32
  let v1344 : BitVec 32 := Scalar.addi v1343 c384_i32_963
  let c0_i32_970 : BitVec 32 := 0#32
  ![v1344.toNat, 0]
def k0_off17 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c384_i32 : BitVec 32 := 384#32
  let v1340 : BitVec 32 := Scalar.addi v1339 c384_i32
  let c0_i32_971 : BitVec 32 := 0#32
  ![v1340.toNat, 0]
def k0_dev12 (d0 : Dev nD) : Nat :=
  let c0_i32_967 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_966 : BitVec 32 := 8#32
  let v1345 : BitVec 32 := Scalar.muli v2 c8_i32_966
  let v1346 : BitVec 32 := Scalar.addi c0_i32_967 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_968 : BitVec 32 := 4#32
  let v1347 : BitVec 32 := Scalar.muli v5 c4_i32_968
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_969 : BitVec 32 := 1#32
  let v1349 : BitVec 32 := Scalar.muli v44 c1_i32_969
  let v1350 : BitVec 32 := Scalar.addi v1348 v1349
  v1350.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_64 : BitVec 32 := 3#32
  let v98 : BitVec 1 := Scalar.cmpi .slt v8 c3_i32_64
  let v99 : BitVec 32 := Scalar.extui v98
  let c0_i32_65 : BitVec 32 := 0#32
  let v100 : BitVec 1 := Scalar.cmpi .ne v99 c0_i32_65
  v100

def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c512_i32_963 : BitVec 32 := 512#32
  let v1344 : BitVec 32 := Scalar.addi v1343 c512_i32_963
  let c0_i32_970 : BitVec 32 := 0#32
  ![v1344.toNat, 0]
def k0_off19 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c512_i32 : BitVec 32 := 512#32
  let v1340 : BitVec 32 := Scalar.addi v1339 c512_i32
  let c0_i32_971 : BitVec 32 := 0#32
  ![v1340.toNat, 0]
def k0_dev13 (d0 : Dev nD) : Nat :=
  let c0_i32_967 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_966 : BitVec 32 := 8#32
  let v1345 : BitVec 32 := Scalar.muli v2 c8_i32_966
  let v1346 : BitVec 32 := Scalar.addi c0_i32_967 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_968 : BitVec 32 := 4#32
  let v1347 : BitVec 32 := Scalar.muli v5 c4_i32_968
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_969 : BitVec 32 := 1#32
  let v1349 : BitVec 32 := Scalar.muli v43 c1_i32_969
  let v1350 : BitVec 32 := Scalar.addi v1348 v1349
  v1350.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_66 : BitVec 32 := 0#32
  let v101 : BitVec 1 := Scalar.cmpi .sgt v8 c0_i32_66
  let v102 : BitVec 32 := Scalar.extui v101
  let c0_i32_67 : BitVec 32 := 0#32
  let v103 : BitVec 1 := Scalar.cmpi .ne v102 c0_i32_67
  v103

def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c512_i32_963 : BitVec 32 := 512#32
  let v1344 : BitVec 32 := Scalar.addi v1343 c512_i32_963
  let c0_i32_970 : BitVec 32 := 0#32
  ![v1344.toNat, 0]
def k0_off21 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c512_i32 : BitVec 32 := 512#32
  let v1340 : BitVec 32 := Scalar.addi v1339 c512_i32
  let c0_i32_971 : BitVec 32 := 0#32
  ![v1340.toNat, 0]
def k0_dev14 (d0 : Dev nD) : Nat :=
  let c0_i32_967 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_966 : BitVec 32 := 8#32
  let v1345 : BitVec 32 := Scalar.muli v2 c8_i32_966
  let v1346 : BitVec 32 := Scalar.addi c0_i32_967 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_968 : BitVec 32 := 4#32
  let v1347 : BitVec 32 := Scalar.muli v5 c4_i32_968
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_969 : BitVec 32 := 1#32
  let v1349 : BitVec 32 := Scalar.muli v44 c1_i32_969
  let v1350 : BitVec 32 := Scalar.addi v1348 v1349
  v1350.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_68 : BitVec 32 := 3#32
  let v104 : BitVec 1 := Scalar.cmpi .slt v8 c3_i32_68
  let v105 : BitVec 32 := Scalar.extui v104
  let c0_i32_69 : BitVec 32 := 0#32
  let v106 : BitVec 1 := Scalar.cmpi .ne v105 c0_i32_69
  v106

def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c640_i32_963 : BitVec 32 := 640#32
  let v1344 : BitVec 32 := Scalar.addi v1343 c640_i32_963
  let c0_i32_969 : BitVec 32 := 0#32
  ![v1344.toNat, 0]
def k0_off23 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c640_i32 : BitVec 32 := 640#32
  let v1340 : BitVec 32 := Scalar.addi v1339 c640_i32
  let c0_i32_970 : BitVec 32 := 0#32
  ![v1340.toNat, 0]
def k0_dev15 (d0 : Dev nD) : Nat :=
  let c0_i32_966 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_965 : BitVec 32 := 8#32
  let v1345 : BitVec 32 := Scalar.muli v2 c8_i32_965
  let v1346 : BitVec 32 := Scalar.addi c0_i32_966 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_967 : BitVec 32 := 4#32
  let v1347 : BitVec 32 := Scalar.muli v5 c4_i32_967
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_968 : BitVec 32 := 1#32
  let v1349 : BitVec 32 := Scalar.muli v43 c1_i32_968
  let v1350 : BitVec 32 := Scalar.addi v1348 v1349
  v1350.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_70 : BitVec 32 := 0#32
  let v107 : BitVec 1 := Scalar.cmpi .sgt v8 c0_i32_70
  let v108 : BitVec 32 := Scalar.extui v107
  let c0_i32_71 : BitVec 32 := 0#32
  let v109 : BitVec 1 := Scalar.cmpi .ne v108 c0_i32_71
  v109

def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c640_i32_963 : BitVec 32 := 640#32
  let v1344 : BitVec 32 := Scalar.addi v1343 c640_i32_963
  let c0_i32_969 : BitVec 32 := 0#32
  ![v1344.toNat, 0]
def k0_off25 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c640_i32 : BitVec 32 := 640#32
  let v1340 : BitVec 32 := Scalar.addi v1339 c640_i32
  let c0_i32_970 : BitVec 32 := 0#32
  ![v1340.toNat, 0]
def k0_dev16 (d0 : Dev nD) : Nat :=
  let c0_i32_966 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_965 : BitVec 32 := 8#32
  let v1345 : BitVec 32 := Scalar.muli v2 c8_i32_965
  let v1346 : BitVec 32 := Scalar.addi c0_i32_966 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_967 : BitVec 32 := 4#32
  let v1347 : BitVec 32 := Scalar.muli v5 c4_i32_967
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_968 : BitVec 32 := 1#32
  let v1349 : BitVec 32 := Scalar.muli v44 c1_i32_968
  let v1350 : BitVec 32 := Scalar.addi v1348 v1349
  v1350.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_72 : BitVec 32 := 3#32
  let v110 : BitVec 1 := Scalar.cmpi .slt v8 c3_i32_72
  let v111 : BitVec 32 := Scalar.extui v110
  let c0_i32_73 : BitVec 32 := 0#32
  let v112 : BitVec 1 := Scalar.cmpi .ne v111 c0_i32_73
  v112

def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c768_i32_963 : BitVec 32 := 768#32
  let v1344 : BitVec 32 := Scalar.addi v1343 c768_i32_963
  let c0_i32_969 : BitVec 32 := 0#32
  ![v1344.toNat, 0]
def k0_off27 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c768_i32 : BitVec 32 := 768#32
  let v1340 : BitVec 32 := Scalar.addi v1339 c768_i32
  let c0_i32_970 : BitVec 32 := 0#32
  ![v1340.toNat, 0]
def k0_dev17 (d0 : Dev nD) : Nat :=
  let c0_i32_966 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_965 : BitVec 32 := 8#32
  let v1345 : BitVec 32 := Scalar.muli v2 c8_i32_965
  let v1346 : BitVec 32 := Scalar.addi c0_i32_966 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_967 : BitVec 32 := 4#32
  let v1347 : BitVec 32 := Scalar.muli v5 c4_i32_967
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_968 : BitVec 32 := 1#32
  let v1349 : BitVec 32 := Scalar.muli v43 c1_i32_968
  let v1350 : BitVec 32 := Scalar.addi v1348 v1349
  v1350.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_74 : BitVec 32 := 0#32
  let v113 : BitVec 1 := Scalar.cmpi .sgt v8 c0_i32_74
  let v114 : BitVec 32 := Scalar.extui v113
  let c0_i32_75 : BitVec 32 := 0#32
  let v115 : BitVec 1 := Scalar.cmpi .ne v114 c0_i32_75
  v115

def k0_off28 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c768_i32_963 : BitVec 32 := 768#32
  let v1344 : BitVec 32 := Scalar.addi v1343 c768_i32_963
  let c0_i32_969 : BitVec 32 := 0#32
  ![v1344.toNat, 0]
def k0_off29 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c768_i32 : BitVec 32 := 768#32
  let v1340 : BitVec 32 := Scalar.addi v1339 c768_i32
  let c0_i32_970 : BitVec 32 := 0#32
  ![v1340.toNat, 0]
def k0_dev18 (d0 : Dev nD) : Nat :=
  let c0_i32_966 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_965 : BitVec 32 := 8#32
  let v1345 : BitVec 32 := Scalar.muli v2 c8_i32_965
  let v1346 : BitVec 32 := Scalar.addi c0_i32_966 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_967 : BitVec 32 := 4#32
  let v1347 : BitVec 32 := Scalar.muli v5 c4_i32_967
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_968 : BitVec 32 := 1#32
  let v1349 : BitVec 32 := Scalar.muli v44 c1_i32_968
  let v1350 : BitVec 32 := Scalar.addi v1348 v1349
  v1350.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_76 : BitVec 32 := 3#32
  let v116 : BitVec 1 := Scalar.cmpi .slt v8 c3_i32_76
  let v117 : BitVec 32 := Scalar.extui v116
  let c0_i32_77 : BitVec 32 := 0#32
  let v118 : BitVec 1 := Scalar.cmpi .ne v117 c0_i32_77
  v118

def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c896_i32_963 : BitVec 32 := 896#32
  let v1344 : BitVec 32 := Scalar.addi v1343 c896_i32_963
  let c0_i32_969 : BitVec 32 := 0#32
  ![v1344.toNat, 0]
def k0_off31 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c896_i32 : BitVec 32 := 896#32
  let v1340 : BitVec 32 := Scalar.addi v1339 c896_i32
  let c0_i32_970 : BitVec 32 := 0#32
  ![v1340.toNat, 0]
def k0_dev19 (d0 : Dev nD) : Nat :=
  let c0_i32_966 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_965 : BitVec 32 := 8#32
  let v1345 : BitVec 32 := Scalar.muli v2 c8_i32_965
  let v1346 : BitVec 32 := Scalar.addi c0_i32_966 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_967 : BitVec 32 := 4#32
  let v1347 : BitVec 32 := Scalar.muli v5 c4_i32_967
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_968 : BitVec 32 := 1#32
  let v1349 : BitVec 32 := Scalar.muli v43 c1_i32_968
  let v1350 : BitVec 32 := Scalar.addi v1348 v1349
  v1350.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_78 : BitVec 32 := 0#32
  let v119 : BitVec 1 := Scalar.cmpi .sgt v8 c0_i32_78
  let v120 : BitVec 32 := Scalar.extui v119
  let c0_i32_79 : BitVec 32 := 0#32
  let v121 : BitVec 1 := Scalar.cmpi .ne v120 c0_i32_79
  v121

def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_961 : BitVec 32 := 4096#32
  let v1341 : BitVec 32 := Scalar.muli v8 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_962 : BitVec 32 := 1024#32
  let v1342 : BitVec 32 := Scalar.muli v10 c1024_i32_962
  let v1343 : BitVec 32 := Scalar.addi v1341 v1342
  let c896_i32_963 : BitVec 32 := 896#32
  let v1344 : BitVec 32 := Scalar.addi v1343 c896_i32_963
  let c0_i32_969 : BitVec 32 := 0#32
  ![v1344.toNat, 0]
def k0_off33 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c896_i32 : BitVec 32 := 896#32
  let v1340 : BitVec 32 := Scalar.addi v1339 c896_i32
  let c0_i32_970 : BitVec 32 := 0#32
  ![v1340.toNat, 0]
def k0_dev20 (d0 : Dev nD) : Nat :=
  let c0_i32_966 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_965 : BitVec 32 := 8#32
  let v1345 : BitVec 32 := Scalar.muli v2 c8_i32_965
  let v1346 : BitVec 32 := Scalar.addi c0_i32_966 v1345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_967 : BitVec 32 := 4#32
  let v1347 : BitVec 32 := Scalar.muli v5 c4_i32_967
  let v1348 : BitVec 32 := Scalar.addi v1346 v1347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_968 : BitVec 32 := 1#32
  let v1349 : BitVec 32 := Scalar.muli v44 c1_i32_968
  let v1350 : BitVec 32 := Scalar.addi v1348 v1349
  v1350.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v122 : BitVec 1 := Scalar.cmpi .sge v8 c1_i32_80
  let v123 : BitVec 32 := Scalar.extui v122
  let c0_i32_81 : BitVec 32 := 0#32
  let v124 : BitVec 1 := Scalar.cmpi .ne v123 c0_i32_81
  v124

def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_970 : BitVec 32 := 0#32
  ![v1343.toNat, 0]
def k0_dev21 (d0 : Dev nD) : Nat :=
  let c0_i32_978 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_977 : BitVec 32 := 8#32
  let v1358 : BitVec 32 := Scalar.muli v45 c8_i32_977
  let v1359 : BitVec 32 := Scalar.addi c0_i32_978 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_979 : BitVec 32 := 4#32
  let v1360 : BitVec 32 := Scalar.muli v5 c4_i32_979
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_980 : BitVec 32 := 1#32
  let v1362 : BitVec 32 := Scalar.muli v8 c1_i32_980
  let v1363 : BitVec 32 := Scalar.addi v1361 v1362
  v1363.toNat
def k0_dev22 (d0 : Dev nD) : Nat :=
  let c0_i32_989 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_988 : BitVec 32 := 8#32
  let v1374 : BitVec 32 := Scalar.muli v2 c8_i32_988
  let v1375 : BitVec 32 := Scalar.addi c0_i32_989 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_990 : BitVec 32 := 4#32
  let v1376 : BitVec 32 := Scalar.muli v46 c4_i32_990
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_991 : BitVec 32 := 1#32
  let v1378 : BitVec 32 := Scalar.muli v8 c1_i32_991
  let v1379 : BitVec 32 := Scalar.addi v1377 v1378
  v1379.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v125 : BitVec 1 := Scalar.cmpi .sge v8 c1_i32_82
  let c3_i32_83 : BitVec 32 := 3#32
  let v126 : BitVec 1 := Scalar.cmpi .slt v8 c3_i32_83
  let v127 : BitVec 1 := Scalar.andi v125 v126
  let v128 : BitVec 32 := Scalar.extui v127
  let c0_i32_84 : BitVec 32 := 0#32
  let v129 : BitVec 1 := Scalar.cmpi .ne v128 c0_i32_84
  v129

def k0_off35 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_970 : BitVec 32 := 0#32
  ![v1343.toNat, 0]
def k0_dev23 (d0 : Dev nD) : Nat :=
  let c0_i32_967 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_966 : BitVec 32 := 8#32
  let v1344 : BitVec 32 := Scalar.muli v2 c8_i32_966
  let v1345 : BitVec 32 := Scalar.addi c0_i32_967 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_968 : BitVec 32 := 4#32
  let v1346 : BitVec 32 := Scalar.muli v5 c4_i32_968
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_969 : BitVec 32 := 1#32
  let v1348 : BitVec 32 := Scalar.muli v43 c1_i32_969
  let v1349 : BitVec 32 := Scalar.addi v1347 v1348
  v1349.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v130 : BitVec 32 := Scalar.addi v8 c1_i32_85
  let c3_i32_86 : BitVec 32 := 3#32
  let v131 : BitVec 1 := Scalar.cmpi .sle v130 c3_i32_86
  let v132 : BitVec 32 := Scalar.extui v131
  let c0_i32_87 : BitVec 32 := 0#32
  let v133 : BitVec 1 := Scalar.cmpi .ne v132 c0_i32_87
  v133

def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_970 : BitVec 32 := 0#32
  ![v1343.toNat, 0]
def k0_dev24 (d0 : Dev nD) : Nat :=
  let c0_i32_977 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_976 : BitVec 32 := 8#32
  let v1358 : BitVec 32 := Scalar.muli v45 c8_i32_976
  let v1359 : BitVec 32 := Scalar.addi c0_i32_977 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_978 : BitVec 32 := 4#32
  let v1360 : BitVec 32 := Scalar.muli v5 c4_i32_978
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_979 : BitVec 32 := 1#32
  let v1362 : BitVec 32 := Scalar.muli v8 c1_i32_979
  let v1363 : BitVec 32 := Scalar.addi v1361 v1362
  v1363.toNat
def k0_dev25 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_987 : BitVec 32 := 8#32
  let v1374 : BitVec 32 := Scalar.muli v2 c8_i32_987
  let v1375 : BitVec 32 := Scalar.addi c0_i32_988 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_989 : BitVec 32 := 4#32
  let v1376 : BitVec 32 := Scalar.muli v46 c4_i32_989
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1378 : BitVec 32 := Scalar.muli v8 c1_i32_990
  let v1379 : BitVec 32 := Scalar.addi v1377 v1378
  v1379.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v134 : BitVec 32 := Scalar.addi v8 c1_i32_88
  let c3_i32_89 : BitVec 32 := 3#32
  let v135 : BitVec 1 := Scalar.cmpi .sle v134 c3_i32_89
  let c0_i32_90 : BitVec 32 := 0#32
  let v136 : BitVec 1 := Scalar.cmpi .sgt v8 c0_i32_90
  let v137 : BitVec 1 := Scalar.andi v135 v136
  let v138 : BitVec 32 := Scalar.extui v137
  let c0_i32_91 : BitVec 32 := 0#32
  let v139 : BitVec 1 := Scalar.cmpi .ne v138 c0_i32_91
  v139

def k0_off37 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_970 : BitVec 32 := 0#32
  ![v1343.toNat, 0]
def k0_dev26 (d0 : Dev nD) : Nat :=
  let c0_i32_967 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_966 : BitVec 32 := 8#32
  let v1344 : BitVec 32 := Scalar.muli v2 c8_i32_966
  let v1345 : BitVec 32 := Scalar.addi c0_i32_967 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_968 : BitVec 32 := 4#32
  let v1346 : BitVec 32 := Scalar.muli v5 c4_i32_968
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_969 : BitVec 32 := 1#32
  let v1348 : BitVec 32 := Scalar.muli v44 c1_i32_969
  let v1349 : BitVec 32 := Scalar.addi v1347 v1348
  v1349.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v140 : BitVec 1 := Scalar.cmpi .sge v8 c1_i32_92
  let v141 : BitVec 32 := Scalar.extui v140
  let c0_i32_93 : BitVec 32 := 0#32
  let v142 : BitVec 1 := Scalar.cmpi .ne v141 c0_i32_93
  v142

def k0_off38 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_969 : BitVec 32 := 0#32
  ![v1343.toNat, 0]
def k0_dev27 (d0 : Dev nD) : Nat :=
  let c0_i32_977 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_976 : BitVec 32 := 8#32
  let v1358 : BitVec 32 := Scalar.muli v45 c8_i32_976
  let v1359 : BitVec 32 := Scalar.addi c0_i32_977 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_978 : BitVec 32 := 4#32
  let v1360 : BitVec 32 := Scalar.muli v5 c4_i32_978
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_979 : BitVec 32 := 1#32
  let v1362 : BitVec 32 := Scalar.muli v8 c1_i32_979
  let v1363 : BitVec 32 := Scalar.addi v1361 v1362
  v1363.toNat
def k0_dev28 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_987 : BitVec 32 := 8#32
  let v1374 : BitVec 32 := Scalar.muli v2 c8_i32_987
  let v1375 : BitVec 32 := Scalar.addi c0_i32_988 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_989 : BitVec 32 := 4#32
  let v1376 : BitVec 32 := Scalar.muli v46 c4_i32_989
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1378 : BitVec 32 := Scalar.muli v8 c1_i32_990
  let v1379 : BitVec 32 := Scalar.addi v1377 v1378
  v1379.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v143 : BitVec 1 := Scalar.cmpi .sge v8 c1_i32_94
  let c3_i32_95 : BitVec 32 := 3#32
  let v144 : BitVec 1 := Scalar.cmpi .slt v8 c3_i32_95
  let v145 : BitVec 1 := Scalar.andi v143 v144
  let v146 : BitVec 32 := Scalar.extui v145
  let c0_i32_96 : BitVec 32 := 0#32
  let v147 : BitVec 1 := Scalar.cmpi .ne v146 c0_i32_96
  v147

def k0_off39 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_968 : BitVec 32 := 0#32
  ![v1343.toNat, 0]
def k0_dev29 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v148 : BitVec 32 := Scalar.addi v8 c1_i32_97
  let c3_i32_98 : BitVec 32 := 3#32
  let v149 : BitVec 1 := Scalar.cmpi .sle v148 c3_i32_98
  let v150 : BitVec 32 := Scalar.extui v149
  let c0_i32_99 : BitVec 32 := 0#32
  let v151 : BitVec 1 := Scalar.cmpi .ne v150 c0_i32_99
  v151

def k0_off40 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_969 : BitVec 32 := 0#32
  ![v1343.toNat, 0]
def k0_dev30 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev31 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v152 : BitVec 32 := Scalar.addi v8 c1_i32_100
  let c3_i32_101 : BitVec 32 := 3#32
  let v153 : BitVec 1 := Scalar.cmpi .sle v152 c3_i32_101
  let c0_i32_102 : BitVec 32 := 0#32
  let v154 : BitVec 1 := Scalar.cmpi .sgt v8 c0_i32_102
  let v155 : BitVec 1 := Scalar.andi v153 v154
  let v156 : BitVec 32 := Scalar.extui v155
  let c0_i32_103 : BitVec 32 := 0#32
  let v157 : BitVec 1 := Scalar.cmpi .ne v156 c0_i32_103
  v157

def k0_off41 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_968 : BitVec 32 := 0#32
  ![v1343.toNat, 0]
def k0_dev32 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v158 : BitVec 1 := Scalar.cmpi .sge v8 c1_i32_104
  let v159 : BitVec 32 := Scalar.extui v158
  let c0_i32_105 : BitVec 32 := 0#32
  let v160 : BitVec 1 := Scalar.cmpi .ne v159 c0_i32_105
  v160

def k0_off42 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_969 : BitVec 32 := 0#32
  ![v1343.toNat, 0]
def k0_dev33 (d0 : Dev nD) : Nat :=
  let c0_i32_977 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_976 : BitVec 32 := 8#32
  let v1358 : BitVec 32 := Scalar.muli v45 c8_i32_976
  let v1359 : BitVec 32 := Scalar.addi c0_i32_977 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_978 : BitVec 32 := 4#32
  let v1360 : BitVec 32 := Scalar.muli v5 c4_i32_978
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_979 : BitVec 32 := 1#32
  let v1362 : BitVec 32 := Scalar.muli v8 c1_i32_979
  let v1363 : BitVec 32 := Scalar.addi v1361 v1362
  v1363.toNat
def k0_dev34 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_987 : BitVec 32 := 8#32
  let v1374 : BitVec 32 := Scalar.muli v2 c8_i32_987
  let v1375 : BitVec 32 := Scalar.addi c0_i32_988 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_989 : BitVec 32 := 4#32
  let v1376 : BitVec 32 := Scalar.muli v46 c4_i32_989
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1378 : BitVec 32 := Scalar.muli v8 c1_i32_990
  let v1379 : BitVec 32 := Scalar.addi v1377 v1378
  v1379.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v161 : BitVec 1 := Scalar.cmpi .sge v8 c1_i32_106
  let c3_i32_107 : BitVec 32 := 3#32
  let v162 : BitVec 1 := Scalar.cmpi .slt v8 c3_i32_107
  let v163 : BitVec 1 := Scalar.andi v161 v162
  let v164 : BitVec 32 := Scalar.extui v163
  let c0_i32_108 : BitVec 32 := 0#32
  let v165 : BitVec 1 := Scalar.cmpi .ne v164 c0_i32_108
  v165

def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_968 : BitVec 32 := 0#32
  ![v1343.toNat, 0]
def k0_dev35 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v166 : BitVec 32 := Scalar.addi v8 c1_i32_109
  let c3_i32_110 : BitVec 32 := 3#32
  let v167 : BitVec 1 := Scalar.cmpi .sle v166 c3_i32_110
  let v168 : BitVec 32 := Scalar.extui v167
  let c0_i32_111 : BitVec 32 := 0#32
  let v169 : BitVec 1 := Scalar.cmpi .ne v168 c0_i32_111
  v169

def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_969 : BitVec 32 := 0#32
  ![v1343.toNat, 0]
def k0_dev36 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev37 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v170 : BitVec 32 := Scalar.addi v8 c1_i32_112
  let c3_i32_113 : BitVec 32 := 3#32
  let v171 : BitVec 1 := Scalar.cmpi .sle v170 c3_i32_113
  let c0_i32_114 : BitVec 32 := 0#32
  let v172 : BitVec 1 := Scalar.cmpi .sgt v8 c0_i32_114
  let v173 : BitVec 1 := Scalar.andi v171 v172
  let v174 : BitVec 32 := Scalar.extui v173
  let c0_i32_115 : BitVec 32 := 0#32
  let v175 : BitVec 1 := Scalar.cmpi .ne v174 c0_i32_115
  v175

def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_968 : BitVec 32 := 0#32
  ![v1343.toNat, 0]
def k0_dev38 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v176 : BitVec 1 := Scalar.cmpi .sge v8 c1_i32_116
  let v177 : BitVec 32 := Scalar.extui v176
  let c0_i32_117 : BitVec 32 := 0#32
  let v178 : BitVec 1 := Scalar.cmpi .ne v177 c0_i32_117
  v178

def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_969 : BitVec 32 := 0#32
  ![v1343.toNat, 0]
def k0_dev39 (d0 : Dev nD) : Nat :=
  let c0_i32_977 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_976 : BitVec 32 := 8#32
  let v1358 : BitVec 32 := Scalar.muli v45 c8_i32_976
  let v1359 : BitVec 32 := Scalar.addi c0_i32_977 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_978 : BitVec 32 := 4#32
  let v1360 : BitVec 32 := Scalar.muli v5 c4_i32_978
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_979 : BitVec 32 := 1#32
  let v1362 : BitVec 32 := Scalar.muli v8 c1_i32_979
  let v1363 : BitVec 32 := Scalar.addi v1361 v1362
  v1363.toNat
def k0_dev40 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_987 : BitVec 32 := 8#32
  let v1374 : BitVec 32 := Scalar.muli v2 c8_i32_987
  let v1375 : BitVec 32 := Scalar.addi c0_i32_988 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_989 : BitVec 32 := 4#32
  let v1376 : BitVec 32 := Scalar.muli v46 c4_i32_989
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1378 : BitVec 32 := Scalar.muli v8 c1_i32_990
  let v1379 : BitVec 32 := Scalar.addi v1377 v1378
  v1379.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v179 : BitVec 1 := Scalar.cmpi .sge v8 c1_i32_118
  let c3_i32_119 : BitVec 32 := 3#32
  let v180 : BitVec 1 := Scalar.cmpi .slt v8 c3_i32_119
  let v181 : BitVec 1 := Scalar.andi v179 v180
  let v182 : BitVec 32 := Scalar.extui v181
  let c0_i32_120 : BitVec 32 := 0#32
  let v183 : BitVec 1 := Scalar.cmpi .ne v182 c0_i32_120
  v183

def k0_off47 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_968 : BitVec 32 := 0#32
  ![v1343.toNat, 0]
def k0_dev41 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v184 : BitVec 32 := Scalar.addi v8 c1_i32_121
  let c3_i32_122 : BitVec 32 := 3#32
  let v185 : BitVec 1 := Scalar.cmpi .sle v184 c3_i32_122
  let v186 : BitVec 32 := Scalar.extui v185
  let c0_i32_123 : BitVec 32 := 0#32
  let v187 : BitVec 1 := Scalar.cmpi .ne v186 c0_i32_123
  v187

def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_969 : BitVec 32 := 0#32
  ![v1343.toNat, 0]
def k0_dev42 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev43 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v188 : BitVec 32 := Scalar.addi v8 c1_i32_124
  let c3_i32_125 : BitVec 32 := 3#32
  let v189 : BitVec 1 := Scalar.cmpi .sle v188 c3_i32_125
  let c0_i32_126 : BitVec 32 := 0#32
  let v190 : BitVec 1 := Scalar.cmpi .sgt v8 c0_i32_126
  let v191 : BitVec 1 := Scalar.andi v189 v190
  let v192 : BitVec 32 := Scalar.extui v191
  let c0_i32_127 : BitVec 32 := 0#32
  let v193 : BitVec 1 := Scalar.cmpi .ne v192 c0_i32_127
  v193

def k0_off49 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_968 : BitVec 32 := 0#32
  ![v1343.toNat, 0]
def k0_dev44 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v194 : BitVec 1 := Scalar.cmpi .sge v8 c1_i32_128
  let v195 : BitVec 32 := Scalar.extui v194
  let c0_i32_129 : BitVec 32 := 0#32
  let v196 : BitVec 1 := Scalar.cmpi .ne v195 c0_i32_129
  v196

def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_969 : BitVec 32 := 0#32
  ![v1343.toNat, 0]
def k0_dev45 (d0 : Dev nD) : Nat :=
  let c0_i32_977 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_976 : BitVec 32 := 8#32
  let v1358 : BitVec 32 := Scalar.muli v45 c8_i32_976
  let v1359 : BitVec 32 := Scalar.addi c0_i32_977 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_978 : BitVec 32 := 4#32
  let v1360 : BitVec 32 := Scalar.muli v5 c4_i32_978
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_979 : BitVec 32 := 1#32
  let v1362 : BitVec 32 := Scalar.muli v8 c1_i32_979
  let v1363 : BitVec 32 := Scalar.addi v1361 v1362
  v1363.toNat
def k0_dev46 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_987 : BitVec 32 := 8#32
  let v1374 : BitVec 32 := Scalar.muli v2 c8_i32_987
  let v1375 : BitVec 32 := Scalar.addi c0_i32_988 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_989 : BitVec 32 := 4#32
  let v1376 : BitVec 32 := Scalar.muli v46 c4_i32_989
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1378 : BitVec 32 := Scalar.muli v8 c1_i32_990
  let v1379 : BitVec 32 := Scalar.addi v1377 v1378
  v1379.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v197 : BitVec 1 := Scalar.cmpi .sge v8 c1_i32_130
  let c3_i32_131 : BitVec 32 := 3#32
  let v198 : BitVec 1 := Scalar.cmpi .slt v8 c3_i32_131
  let v199 : BitVec 1 := Scalar.andi v197 v198
  let v200 : BitVec 32 := Scalar.extui v199
  let c0_i32_132 : BitVec 32 := 0#32
  let v201 : BitVec 1 := Scalar.cmpi .ne v200 c0_i32_132
  v201

def k0_off51 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_968 : BitVec 32 := 0#32
  ![v1343.toNat, 0]
def k0_dev47 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v202 : BitVec 32 := Scalar.addi v8 c1_i32_133
  let c3_i32_134 : BitVec 32 := 3#32
  let v203 : BitVec 1 := Scalar.cmpi .sle v202 c3_i32_134
  let v204 : BitVec 32 := Scalar.extui v203
  let c0_i32_135 : BitVec 32 := 0#32
  let v205 : BitVec 1 := Scalar.cmpi .ne v204 c0_i32_135
  v205

def k0_off52 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_969 : BitVec 32 := 0#32
  ![v1343.toNat, 0]
def k0_dev48 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev49 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v206 : BitVec 32 := Scalar.addi v8 c1_i32_136
  let c3_i32_137 : BitVec 32 := 3#32
  let v207 : BitVec 1 := Scalar.cmpi .sle v206 c3_i32_137
  let c0_i32_138 : BitVec 32 := 0#32
  let v208 : BitVec 1 := Scalar.cmpi .sgt v8 c0_i32_138
  let v209 : BitVec 1 := Scalar.andi v207 v208
  let v210 : BitVec 32 := Scalar.extui v209
  let c0_i32_139 : BitVec 32 := 0#32
  let v211 : BitVec 1 := Scalar.cmpi .ne v210 c0_i32_139
  v211

def k0_off53 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_968 : BitVec 32 := 0#32
  ![v1343.toNat, 0]
def k0_dev50 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v212 : BitVec 1 := Scalar.cmpi .sge v8 c1_i32_140
  let v213 : BitVec 32 := Scalar.extui v212
  let c0_i32_141 : BitVec 32 := 0#32
  let v214 : BitVec 1 := Scalar.cmpi .ne v213 c0_i32_141
  v214

def k0_off54 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_968 : BitVec 32 := 0#32
  ![v1343.toNat, 0]
def k0_dev51 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev52 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v215 : BitVec 1 := Scalar.cmpi .sge v8 c1_i32_142
  let c3_i32_143 : BitVec 32 := 3#32
  let v216 : BitVec 1 := Scalar.cmpi .slt v8 c3_i32_143
  let v217 : BitVec 1 := Scalar.andi v215 v216
  let v218 : BitVec 32 := Scalar.extui v217
  let c0_i32_144 : BitVec 32 := 0#32
  let v219 : BitVec 1 := Scalar.cmpi .ne v218 c0_i32_144
  v219

def k0_off55 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_968 : BitVec 32 := 0#32
  ![v1343.toNat, 0]
def k0_dev53 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v220 : BitVec 32 := Scalar.addi v8 c1_i32_145
  let c3_i32_146 : BitVec 32 := 3#32
  let v221 : BitVec 1 := Scalar.cmpi .sle v220 c3_i32_146
  let v222 : BitVec 32 := Scalar.extui v221
  let c0_i32_147 : BitVec 32 := 0#32
  let v223 : BitVec 1 := Scalar.cmpi .ne v222 c0_i32_147
  v223

def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_968 : BitVec 32 := 0#32
  ![v1343.toNat, 0]
def k0_dev54 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev55 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v224 : BitVec 32 := Scalar.addi v8 c1_i32_148
  let c3_i32_149 : BitVec 32 := 3#32
  let v225 : BitVec 1 := Scalar.cmpi .sle v224 c3_i32_149
  let c0_i32_150 : BitVec 32 := 0#32
  let v226 : BitVec 1 := Scalar.cmpi .sgt v8 c0_i32_150
  let v227 : BitVec 1 := Scalar.andi v225 v226
  let v228 : BitVec 32 := Scalar.extui v227
  let c0_i32_151 : BitVec 32 := 0#32
  let v229 : BitVec 1 := Scalar.cmpi .ne v228 c0_i32_151
  v229

def k0_off57 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_968 : BitVec 32 := 0#32
  ![v1343.toNat, 0]
def k0_dev56 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v230 : BitVec 1 := Scalar.cmpi .sge v8 c1_i32_152
  let v231 : BitVec 32 := Scalar.extui v230
  let c0_i32_153 : BitVec 32 := 0#32
  let v232 : BitVec 1 := Scalar.cmpi .ne v231 c0_i32_153
  v232

def k0_off58 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_968 : BitVec 32 := 0#32
  ![v1343.toNat, 0]
def k0_dev57 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev58 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v233 : BitVec 1 := Scalar.cmpi .sge v8 c1_i32_154
  let c3_i32_155 : BitVec 32 := 3#32
  let v234 : BitVec 1 := Scalar.cmpi .slt v8 c3_i32_155
  let v235 : BitVec 1 := Scalar.andi v233 v234
  let v236 : BitVec 32 := Scalar.extui v235
  let c0_i32_156 : BitVec 32 := 0#32
  let v237 : BitVec 1 := Scalar.cmpi .ne v236 c0_i32_156
  v237

def k0_off59 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_968 : BitVec 32 := 0#32
  ![v1343.toNat, 0]
def k0_dev59 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_157 : BitVec 32 := 1#32
  let v238 : BitVec 32 := Scalar.addi v8 c1_i32_157
  let c3_i32_158 : BitVec 32 := 3#32
  let v239 : BitVec 1 := Scalar.cmpi .sle v238 c3_i32_158
  let v240 : BitVec 32 := Scalar.extui v239
  let c0_i32_159 : BitVec 32 := 0#32
  let v241 : BitVec 1 := Scalar.cmpi .ne v240 c0_i32_159
  v241

def k0_off60 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_968 : BitVec 32 := 0#32
  ![v1343.toNat, 0]
def k0_dev60 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev61 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v242 : BitVec 32 := Scalar.addi v8 c1_i32_160
  let c3_i32_161 : BitVec 32 := 3#32
  let v243 : BitVec 1 := Scalar.cmpi .sle v242 c3_i32_161
  let c0_i32_162 : BitVec 32 := 0#32
  let v244 : BitVec 1 := Scalar.cmpi .sgt v8 c0_i32_162
  let v245 : BitVec 1 := Scalar.andi v243 v244
  let v246 : BitVec 32 := Scalar.extui v245
  let c0_i32_163 : BitVec 32 := 0#32
  let v247 : BitVec 1 := Scalar.cmpi .ne v246 c0_i32_163
  v247

def k0_off61 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_968 : BitVec 32 := 0#32
  ![v1343.toNat, 0]
def k0_dev62 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v248 : BitVec 1 := Scalar.cmpi .sge v8 c1_i32_164
  let v249 : BitVec 32 := Scalar.extui v248
  let c0_i32_165 : BitVec 32 := 0#32
  let v250 : BitVec 1 := Scalar.cmpi .ne v249 c0_i32_165
  v250

def k0_off62 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_968 : BitVec 32 := 0#32
  ![v1343.toNat, 0]
def k0_dev63 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev64 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v251 : BitVec 1 := Scalar.cmpi .sge v8 c1_i32_166
  let c3_i32_167 : BitVec 32 := 3#32
  let v252 : BitVec 1 := Scalar.cmpi .slt v8 c3_i32_167
  let v253 : BitVec 1 := Scalar.andi v251 v252
  let v254 : BitVec 32 := Scalar.extui v253
  let c0_i32_168 : BitVec 32 := 0#32
  let v255 : BitVec 1 := Scalar.cmpi .ne v254 c0_i32_168
  v255

def k0_off63 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_968 : BitVec 32 := 0#32
  ![v1343.toNat, 0]
def k0_dev65 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_169 : BitVec 32 := 1#32
  let v256 : BitVec 32 := Scalar.addi v8 c1_i32_169
  let c3_i32_170 : BitVec 32 := 3#32
  let v257 : BitVec 1 := Scalar.cmpi .sle v256 c3_i32_170
  let v258 : BitVec 32 := Scalar.extui v257
  let c0_i32_171 : BitVec 32 := 0#32
  let v259 : BitVec 1 := Scalar.cmpi .ne v258 c0_i32_171
  v259

def k0_off64 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_968 : BitVec 32 := 0#32
  ![v1343.toNat, 0]
def k0_dev66 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev67 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v260 : BitVec 32 := Scalar.addi v8 c1_i32_172
  let c3_i32_173 : BitVec 32 := 3#32
  let v261 : BitVec 1 := Scalar.cmpi .sle v260 c3_i32_173
  let c0_i32_174 : BitVec 32 := 0#32
  let v262 : BitVec 1 := Scalar.cmpi .sgt v8 c0_i32_174
  let v263 : BitVec 1 := Scalar.andi v261 v262
  let v264 : BitVec 32 := Scalar.extui v263
  let c0_i32_175 : BitVec 32 := 0#32
  let v265 : BitVec 1 := Scalar.cmpi .ne v264 c0_i32_175
  v265

def k0_off65 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_968 : BitVec 32 := 0#32
  ![v1343.toNat, 0]
def k0_dev68 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_176 : BitVec 32 := 2#32
  let v266 : BitVec 1 := Scalar.cmpi .sge v8 c2_i32_176
  let v267 : BitVec 32 := Scalar.extui v266
  let c0_i32_177 : BitVec 32 := 0#32
  let v268 : BitVec 1 := Scalar.cmpi .ne v267 c0_i32_177
  v268

def k0_off66 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_970 : BitVec 32 := 0#32
  ![v1343.toNat, 0]
def k0_dev69 (d0 : Dev nD) : Nat :=
  let c0_i32_978 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_977 : BitVec 32 := 8#32
  let v1358 : BitVec 32 := Scalar.muli v45 c8_i32_977
  let v1359 : BitVec 32 := Scalar.addi c0_i32_978 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_979 : BitVec 32 := 4#32
  let v1360 : BitVec 32 := Scalar.muli v5 c4_i32_979
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_980 : BitVec 32 := 1#32
  let v1362 : BitVec 32 := Scalar.muli v8 c1_i32_980
  let v1363 : BitVec 32 := Scalar.addi v1361 v1362
  v1363.toNat
def k0_dev70 (d0 : Dev nD) : Nat :=
  let c0_i32_989 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_988 : BitVec 32 := 8#32
  let v1374 : BitVec 32 := Scalar.muli v2 c8_i32_988
  let v1375 : BitVec 32 := Scalar.addi c0_i32_989 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_990 : BitVec 32 := 4#32
  let v1376 : BitVec 32 := Scalar.muli v46 c4_i32_990
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_991 : BitVec 32 := 1#32
  let v1378 : BitVec 32 := Scalar.muli v8 c1_i32_991
  let v1379 : BitVec 32 := Scalar.addi v1377 v1378
  v1379.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_178 : BitVec 32 := 2#32
  let v269 : BitVec 1 := Scalar.cmpi .sge v8 c2_i32_178
  let c3_i32_179 : BitVec 32 := 3#32
  let v270 : BitVec 1 := Scalar.cmpi .slt v8 c3_i32_179
  let v271 : BitVec 1 := Scalar.andi v269 v270
  let v272 : BitVec 32 := Scalar.extui v271
  let c0_i32_180 : BitVec 32 := 0#32
  let v273 : BitVec 1 := Scalar.cmpi .ne v272 c0_i32_180
  v273

def k0_off67 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_969 : BitVec 32 := 0#32
  ![v1343.toNat, 0]
def k0_dev71 (d0 : Dev nD) : Nat :=
  let c0_i32_966 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_965 : BitVec 32 := 8#32
  let v1344 : BitVec 32 := Scalar.muli v2 c8_i32_965
  let v1345 : BitVec 32 := Scalar.addi c0_i32_966 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_967 : BitVec 32 := 4#32
  let v1346 : BitVec 32 := Scalar.muli v5 c4_i32_967
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_968 : BitVec 32 := 1#32
  let v1348 : BitVec 32 := Scalar.muli v43 c1_i32_968
  let v1349 : BitVec 32 := Scalar.addi v1347 v1348
  v1349.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_181 : BitVec 32 := 2#32
  let v274 : BitVec 32 := Scalar.addi v8 c2_i32_181
  let c3_i32_182 : BitVec 32 := 3#32
  let v275 : BitVec 1 := Scalar.cmpi .sle v274 c3_i32_182
  let v276 : BitVec 32 := Scalar.extui v275
  let c0_i32_183 : BitVec 32 := 0#32
  let v277 : BitVec 1 := Scalar.cmpi .ne v276 c0_i32_183
  v277

def k0_off68 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_970 : BitVec 32 := 0#32
  ![v1343.toNat, 0]
def k0_dev72 (d0 : Dev nD) : Nat :=
  let c0_i32_977 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_976 : BitVec 32 := 8#32
  let v1358 : BitVec 32 := Scalar.muli v45 c8_i32_976
  let v1359 : BitVec 32 := Scalar.addi c0_i32_977 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_978 : BitVec 32 := 4#32
  let v1360 : BitVec 32 := Scalar.muli v5 c4_i32_978
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_979 : BitVec 32 := 1#32
  let v1362 : BitVec 32 := Scalar.muli v8 c1_i32_979
  let v1363 : BitVec 32 := Scalar.addi v1361 v1362
  v1363.toNat
def k0_dev73 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_987 : BitVec 32 := 8#32
  let v1374 : BitVec 32 := Scalar.muli v2 c8_i32_987
  let v1375 : BitVec 32 := Scalar.addi c0_i32_988 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_989 : BitVec 32 := 4#32
  let v1376 : BitVec 32 := Scalar.muli v46 c4_i32_989
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1378 : BitVec 32 := Scalar.muli v8 c1_i32_990
  let v1379 : BitVec 32 := Scalar.addi v1377 v1378
  v1379.toNat
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_184 : BitVec 32 := 2#32
  let v278 : BitVec 32 := Scalar.addi v8 c2_i32_184
  let c3_i32_185 : BitVec 32 := 3#32
  let v279 : BitVec 1 := Scalar.cmpi .sle v278 c3_i32_185
  let c0_i32_186 : BitVec 32 := 0#32
  let v280 : BitVec 1 := Scalar.cmpi .sgt v8 c0_i32_186
  let v281 : BitVec 1 := Scalar.andi v279 v280
  let v282 : BitVec 32 := Scalar.extui v281
  let c0_i32_187 : BitVec 32 := 0#32
  let v283 : BitVec 1 := Scalar.cmpi .ne v282 c0_i32_187
  v283

def k0_off69 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_969 : BitVec 32 := 0#32
  ![v1343.toNat, 0]
def k0_dev74 (d0 : Dev nD) : Nat :=
  let c0_i32_966 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_965 : BitVec 32 := 8#32
  let v1344 : BitVec 32 := Scalar.muli v2 c8_i32_965
  let v1345 : BitVec 32 := Scalar.addi c0_i32_966 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_967 : BitVec 32 := 4#32
  let v1346 : BitVec 32 := Scalar.muli v5 c4_i32_967
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_968 : BitVec 32 := 1#32
  let v1348 : BitVec 32 := Scalar.muli v44 c1_i32_968
  let v1349 : BitVec 32 := Scalar.addi v1347 v1348
  v1349.toNat
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_188 : BitVec 32 := 2#32
  let v284 : BitVec 1 := Scalar.cmpi .sge v8 c2_i32_188
  let v285 : BitVec 32 := Scalar.extui v284
  let c0_i32_189 : BitVec 32 := 0#32
  let v286 : BitVec 1 := Scalar.cmpi .ne v285 c0_i32_189
  v286

def k0_off70 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_968 : BitVec 32 := 0#32
  ![v1343.toNat, 0]
def k0_dev75 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev76 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_190 : BitVec 32 := 2#32
  let v287 : BitVec 1 := Scalar.cmpi .sge v8 c2_i32_190
  let c3_i32_191 : BitVec 32 := 3#32
  let v288 : BitVec 1 := Scalar.cmpi .slt v8 c3_i32_191
  let v289 : BitVec 1 := Scalar.andi v287 v288
  let v290 : BitVec 32 := Scalar.extui v289
  let c0_i32_192 : BitVec 32 := 0#32
  let v291 : BitVec 1 := Scalar.cmpi .ne v290 c0_i32_192
  v291

def k0_off71 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_968 : BitVec 32 := 0#32
  ![v1343.toNat, 0]
def k0_dev77 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_193 : BitVec 32 := 2#32
  let v292 : BitVec 32 := Scalar.addi v8 c2_i32_193
  let c3_i32_194 : BitVec 32 := 3#32
  let v293 : BitVec 1 := Scalar.cmpi .sle v292 c3_i32_194
  let v294 : BitVec 32 := Scalar.extui v293
  let c0_i32_195 : BitVec 32 := 0#32
  let v295 : BitVec 1 := Scalar.cmpi .ne v294 c0_i32_195
  v295

def k0_off72 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_968 : BitVec 32 := 0#32
  ![v1343.toNat, 0]
def k0_dev78 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev79 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_196 : BitVec 32 := 2#32
  let v296 : BitVec 32 := Scalar.addi v8 c2_i32_196
  let c3_i32_197 : BitVec 32 := 3#32
  let v297 : BitVec 1 := Scalar.cmpi .sle v296 c3_i32_197
  let c0_i32_198 : BitVec 32 := 0#32
  let v298 : BitVec 1 := Scalar.cmpi .sgt v8 c0_i32_198
  let v299 : BitVec 1 := Scalar.andi v297 v298
  let v300 : BitVec 32 := Scalar.extui v299
  let c0_i32_199 : BitVec 32 := 0#32
  let v301 : BitVec 1 := Scalar.cmpi .ne v300 c0_i32_199
  v301

def k0_off73 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_968 : BitVec 32 := 0#32
  ![v1343.toNat, 0]
def k0_dev80 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_200 : BitVec 32 := 2#32
  let v302 : BitVec 1 := Scalar.cmpi .sge v8 c2_i32_200
  let v303 : BitVec 32 := Scalar.extui v302
  let c0_i32_201 : BitVec 32 := 0#32
  let v304 : BitVec 1 := Scalar.cmpi .ne v303 c0_i32_201
  v304

def k0_off74 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_968 : BitVec 32 := 0#32
  ![v1343.toNat, 0]
def k0_dev81 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev82 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_202 : BitVec 32 := 2#32
  let v305 : BitVec 1 := Scalar.cmpi .sge v8 c2_i32_202
  let c3_i32_203 : BitVec 32 := 3#32
  let v306 : BitVec 1 := Scalar.cmpi .slt v8 c3_i32_203
  let v307 : BitVec 1 := Scalar.andi v305 v306
  let v308 : BitVec 32 := Scalar.extui v307
  let c0_i32_204 : BitVec 32 := 0#32
  let v309 : BitVec 1 := Scalar.cmpi .ne v308 c0_i32_204
  v309

def k0_off75 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_968 : BitVec 32 := 0#32
  ![v1343.toNat, 0]
def k0_dev83 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_205 : BitVec 32 := 2#32
  let v310 : BitVec 32 := Scalar.addi v8 c2_i32_205
  let c3_i32_206 : BitVec 32 := 3#32
  let v311 : BitVec 1 := Scalar.cmpi .sle v310 c3_i32_206
  let v312 : BitVec 32 := Scalar.extui v311
  let c0_i32_207 : BitVec 32 := 0#32
  let v313 : BitVec 1 := Scalar.cmpi .ne v312 c0_i32_207
  v313

def k0_off76 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_968 : BitVec 32 := 0#32
  ![v1343.toNat, 0]
def k0_dev84 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev85 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_208 : BitVec 32 := 2#32
  let v314 : BitVec 32 := Scalar.addi v8 c2_i32_208
  let c3_i32_209 : BitVec 32 := 3#32
  let v315 : BitVec 1 := Scalar.cmpi .sle v314 c3_i32_209
  let c0_i32_210 : BitVec 32 := 0#32
  let v316 : BitVec 1 := Scalar.cmpi .sgt v8 c0_i32_210
  let v317 : BitVec 1 := Scalar.andi v315 v316
  let v318 : BitVec 32 := Scalar.extui v317
  let c0_i32_211 : BitVec 32 := 0#32
  let v319 : BitVec 1 := Scalar.cmpi .ne v318 c0_i32_211
  v319

def k0_off77 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_968 : BitVec 32 := 0#32
  ![v1343.toNat, 0]
def k0_dev86 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_212 : BitVec 32 := 2#32
  let v320 : BitVec 1 := Scalar.cmpi .sge v8 c2_i32_212
  let v321 : BitVec 32 := Scalar.extui v320
  let c0_i32_213 : BitVec 32 := 0#32
  let v322 : BitVec 1 := Scalar.cmpi .ne v321 c0_i32_213
  v322

def k0_off78 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_968 : BitVec 32 := 0#32
  ![v1343.toNat, 0]
def k0_dev87 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev88 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_214 : BitVec 32 := 2#32
  let v323 : BitVec 1 := Scalar.cmpi .sge v8 c2_i32_214
  let c3_i32_215 : BitVec 32 := 3#32
  let v324 : BitVec 1 := Scalar.cmpi .slt v8 c3_i32_215
  let v325 : BitVec 1 := Scalar.andi v323 v324
  let v326 : BitVec 32 := Scalar.extui v325
  let c0_i32_216 : BitVec 32 := 0#32
  let v327 : BitVec 1 := Scalar.cmpi .ne v326 c0_i32_216
  v327

def k0_off79 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_968 : BitVec 32 := 0#32
  ![v1343.toNat, 0]
def k0_dev89 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_217 : BitVec 32 := 2#32
  let v328 : BitVec 32 := Scalar.addi v8 c2_i32_217
  let c3_i32_218 : BitVec 32 := 3#32
  let v329 : BitVec 1 := Scalar.cmpi .sle v328 c3_i32_218
  let v330 : BitVec 32 := Scalar.extui v329
  let c0_i32_219 : BitVec 32 := 0#32
  let v331 : BitVec 1 := Scalar.cmpi .ne v330 c0_i32_219
  v331

def k0_off80 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_968 : BitVec 32 := 0#32
  ![v1343.toNat, 0]
def k0_dev90 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev91 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_220 : BitVec 32 := 2#32
  let v332 : BitVec 32 := Scalar.addi v8 c2_i32_220
  let c3_i32_221 : BitVec 32 := 3#32
  let v333 : BitVec 1 := Scalar.cmpi .sle v332 c3_i32_221
  let c0_i32_222 : BitVec 32 := 0#32
  let v334 : BitVec 1 := Scalar.cmpi .sgt v8 c0_i32_222
  let v335 : BitVec 1 := Scalar.andi v333 v334
  let v336 : BitVec 32 := Scalar.extui v335
  let c0_i32_223 : BitVec 32 := 0#32
  let v337 : BitVec 1 := Scalar.cmpi .ne v336 c0_i32_223
  v337

def k0_off81 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_968 : BitVec 32 := 0#32
  ![v1343.toNat, 0]
def k0_dev92 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_224 : BitVec 32 := 2#32
  let v338 : BitVec 1 := Scalar.cmpi .sge v8 c2_i32_224
  let v339 : BitVec 32 := Scalar.extui v338
  let c0_i32_225 : BitVec 32 := 0#32
  let v340 : BitVec 1 := Scalar.cmpi .ne v339 c0_i32_225
  v340

def k0_off82 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_968 : BitVec 32 := 0#32
  ![v1343.toNat, 0]
def k0_dev93 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev94 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_226 : BitVec 32 := 2#32
  let v341 : BitVec 1 := Scalar.cmpi .sge v8 c2_i32_226
  let c3_i32_227 : BitVec 32 := 3#32
  let v342 : BitVec 1 := Scalar.cmpi .slt v8 c3_i32_227
  let v343 : BitVec 1 := Scalar.andi v341 v342
  let v344 : BitVec 32 := Scalar.extui v343
  let c0_i32_228 : BitVec 32 := 0#32
  let v345 : BitVec 1 := Scalar.cmpi .ne v344 c0_i32_228
  v345

def k0_off83 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_968 : BitVec 32 := 0#32
  ![v1343.toNat, 0]
def k0_dev95 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_229 : BitVec 32 := 2#32
  let v346 : BitVec 32 := Scalar.addi v8 c2_i32_229
  let c3_i32_230 : BitVec 32 := 3#32
  let v347 : BitVec 1 := Scalar.cmpi .sle v346 c3_i32_230
  let v348 : BitVec 32 := Scalar.extui v347
  let c0_i32_231 : BitVec 32 := 0#32
  let v349 : BitVec 1 := Scalar.cmpi .ne v348 c0_i32_231
  v349

def k0_off84 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_968 : BitVec 32 := 0#32
  ![v1343.toNat, 0]
def k0_dev96 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev97 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_232 : BitVec 32 := 2#32
  let v350 : BitVec 32 := Scalar.addi v8 c2_i32_232
  let c3_i32_233 : BitVec 32 := 3#32
  let v351 : BitVec 1 := Scalar.cmpi .sle v350 c3_i32_233
  let c0_i32_234 : BitVec 32 := 0#32
  let v352 : BitVec 1 := Scalar.cmpi .sgt v8 c0_i32_234
  let v353 : BitVec 1 := Scalar.andi v351 v352
  let v354 : BitVec 32 := Scalar.extui v353
  let c0_i32_235 : BitVec 32 := 0#32
  let v355 : BitVec 1 := Scalar.cmpi .ne v354 c0_i32_235
  v355

def k0_off85 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_968 : BitVec 32 := 0#32
  ![v1343.toNat, 0]
def k0_dev98 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_236 : BitVec 32 := 2#32
  let v356 : BitVec 1 := Scalar.cmpi .sge v8 c2_i32_236
  let v357 : BitVec 32 := Scalar.extui v356
  let c0_i32_237 : BitVec 32 := 0#32
  let v358 : BitVec 1 := Scalar.cmpi .ne v357 c0_i32_237
  v358

def k0_off86 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_968 : BitVec 32 := 0#32
  ![v1343.toNat, 0]
def k0_dev99 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev100 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_238 : BitVec 32 := 2#32
  let v359 : BitVec 1 := Scalar.cmpi .sge v8 c2_i32_238
  let c3_i32_239 : BitVec 32 := 3#32
  let v360 : BitVec 1 := Scalar.cmpi .slt v8 c3_i32_239
  let v361 : BitVec 1 := Scalar.andi v359 v360
  let v362 : BitVec 32 := Scalar.extui v361
  let c0_i32_240 : BitVec 32 := 0#32
  let v363 : BitVec 1 := Scalar.cmpi .ne v362 c0_i32_240
  v363

def k0_off87 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_968 : BitVec 32 := 0#32
  ![v1343.toNat, 0]
def k0_dev101 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_241 : BitVec 32 := 2#32
  let v364 : BitVec 32 := Scalar.addi v8 c2_i32_241
  let c3_i32_242 : BitVec 32 := 3#32
  let v365 : BitVec 1 := Scalar.cmpi .sle v364 c3_i32_242
  let v366 : BitVec 32 := Scalar.extui v365
  let c0_i32_243 : BitVec 32 := 0#32
  let v367 : BitVec 1 := Scalar.cmpi .ne v366 c0_i32_243
  v367

def k0_off88 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_968 : BitVec 32 := 0#32
  ![v1343.toNat, 0]
def k0_dev102 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev103 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_244 : BitVec 32 := 2#32
  let v368 : BitVec 32 := Scalar.addi v8 c2_i32_244
  let c3_i32_245 : BitVec 32 := 3#32
  let v369 : BitVec 1 := Scalar.cmpi .sle v368 c3_i32_245
  let c0_i32_246 : BitVec 32 := 0#32
  let v370 : BitVec 1 := Scalar.cmpi .sgt v8 c0_i32_246
  let v371 : BitVec 1 := Scalar.andi v369 v370
  let v372 : BitVec 32 := Scalar.extui v371
  let c0_i32_247 : BitVec 32 := 0#32
  let v373 : BitVec 1 := Scalar.cmpi .ne v372 c0_i32_247
  v373

def k0_off89 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_968 : BitVec 32 := 0#32
  ![v1343.toNat, 0]
def k0_dev104 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_248 : BitVec 32 := 2#32
  let v374 : BitVec 1 := Scalar.cmpi .sge v8 c2_i32_248
  let v375 : BitVec 32 := Scalar.extui v374
  let c0_i32_249 : BitVec 32 := 0#32
  let v376 : BitVec 1 := Scalar.cmpi .ne v375 c0_i32_249
  v376

def k0_off90 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_968 : BitVec 32 := 0#32
  ![v1343.toNat, 0]
def k0_dev105 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev106 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_250 : BitVec 32 := 2#32
  let v377 : BitVec 1 := Scalar.cmpi .sge v8 c2_i32_250
  let c3_i32_251 : BitVec 32 := 3#32
  let v378 : BitVec 1 := Scalar.cmpi .slt v8 c3_i32_251
  let v379 : BitVec 1 := Scalar.andi v377 v378
  let v380 : BitVec 32 := Scalar.extui v379
  let c0_i32_252 : BitVec 32 := 0#32
  let v381 : BitVec 1 := Scalar.cmpi .ne v380 c0_i32_252
  v381

def k0_off91 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_968 : BitVec 32 := 0#32
  ![v1343.toNat, 0]
def k0_dev107 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_253 : BitVec 32 := 2#32
  let v382 : BitVec 32 := Scalar.addi v8 c2_i32_253
  let c3_i32_254 : BitVec 32 := 3#32
  let v383 : BitVec 1 := Scalar.cmpi .sle v382 c3_i32_254
  let v384 : BitVec 32 := Scalar.extui v383
  let c0_i32_255 : BitVec 32 := 0#32
  let v385 : BitVec 1 := Scalar.cmpi .ne v384 c0_i32_255
  v385

def k0_off92 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_968 : BitVec 32 := 0#32
  ![v1343.toNat, 0]
def k0_dev108 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev109 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_256 : BitVec 32 := 2#32
  let v386 : BitVec 32 := Scalar.addi v8 c2_i32_256
  let c3_i32_257 : BitVec 32 := 3#32
  let v387 : BitVec 1 := Scalar.cmpi .sle v386 c3_i32_257
  let c0_i32_258 : BitVec 32 := 0#32
  let v388 : BitVec 1 := Scalar.cmpi .sgt v8 c0_i32_258
  let v389 : BitVec 1 := Scalar.andi v387 v388
  let v390 : BitVec 32 := Scalar.extui v389
  let c0_i32_259 : BitVec 32 := 0#32
  let v391 : BitVec 1 := Scalar.cmpi .ne v390 c0_i32_259
  v391

def k0_off93 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_968 : BitVec 32 := 0#32
  ![v1343.toNat, 0]
def k0_dev110 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond77 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_260 : BitVec 32 := 2#32
  let v392 : BitVec 1 := Scalar.cmpi .sge v8 c2_i32_260
  let v393 : BitVec 32 := Scalar.extui v392
  let c0_i32_261 : BitVec 32 := 0#32
  let v394 : BitVec 1 := Scalar.cmpi .ne v393 c0_i32_261
  v394

def k0_off94 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_968 : BitVec 32 := 0#32
  ![v1343.toNat, 0]
def k0_dev111 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev112 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond78 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_262 : BitVec 32 := 2#32
  let v395 : BitVec 1 := Scalar.cmpi .sge v8 c2_i32_262
  let c3_i32_263 : BitVec 32 := 3#32
  let v396 : BitVec 1 := Scalar.cmpi .slt v8 c3_i32_263
  let v397 : BitVec 1 := Scalar.andi v395 v396
  let v398 : BitVec 32 := Scalar.extui v397
  let c0_i32_264 : BitVec 32 := 0#32
  let v399 : BitVec 1 := Scalar.cmpi .ne v398 c0_i32_264
  v399

def k0_off95 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_968 : BitVec 32 := 0#32
  ![v1343.toNat, 0]
def k0_dev113 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c1_i32_967 : BitVec 32 := 1#32
  let v1348 : BitVec 32 := Scalar.muli v43 c1_i32_967
  let v1349 : BitVec 32 := Scalar.addi v1347 v1348
  v1349.toNat
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v400 : BitVec 32 := Scalar.addi v8 c2_i32_265
  let c3_i32_266 : BitVec 32 := 3#32
  let v401 : BitVec 1 := Scalar.cmpi .sle v400 c3_i32_266
  let v402 : BitVec 32 := Scalar.extui v401
  let c0_i32_267 : BitVec 32 := 0#32
  let v403 : BitVec 1 := Scalar.cmpi .ne v402 c0_i32_267
  v403

def k0_off96 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_968 : BitVec 32 := 0#32
  ![v1343.toNat, 0]
def k0_dev114 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev115 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_268 : BitVec 32 := 2#32
  let v404 : BitVec 32 := Scalar.addi v8 c2_i32_268
  let c3_i32_269 : BitVec 32 := 3#32
  let v405 : BitVec 1 := Scalar.cmpi .sle v404 c3_i32_269
  let c0_i32_270 : BitVec 32 := 0#32
  let v406 : BitVec 1 := Scalar.cmpi .sgt v8 c0_i32_270
  let v407 : BitVec 1 := Scalar.andi v405 v406
  let v408 : BitVec 32 := Scalar.extui v407
  let c0_i32_271 : BitVec 32 := 0#32
  let v409 : BitVec 1 := Scalar.cmpi .ne v408 c0_i32_271
  v409

def k0_off97 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_968 : BitVec 32 := 0#32
  ![v1343.toNat, 0]
def k0_dev116 (d0 : Dev nD) : Nat :=
  let c0_i32_965 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_964 : BitVec 32 := 8#32
  let v1344 : BitVec 32 := Scalar.muli v2 c8_i32_964
  let v1345 : BitVec 32 := Scalar.addi c0_i32_965 v1344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_966 : BitVec 32 := 4#32
  let v1346 : BitVec 32 := Scalar.muli v5 c4_i32_966
  let v1347 : BitVec 32 := Scalar.addi v1345 v1346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.subi v8 c1_i32_24
  let c1_i32_967 : BitVec 32 := 1#32
  let v1348 : BitVec 32 := Scalar.muli v44 c1_i32_967
  let v1349 : BitVec 32 := Scalar.addi v1347 v1348
  v1349.toNat
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_272 : BitVec 32 := 3#32
  let v410 : BitVec 1 := Scalar.cmpi .sge v8 c3_i32_272
  let v411 : BitVec 32 := Scalar.extui v410
  let c0_i32_273 : BitVec 32 := 0#32
  let v412 : BitVec 1 := Scalar.cmpi .ne v411 c0_i32_273
  v412

def k0_off98 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.subi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_969 : BitVec 32 := 0#32
  ![v1343.toNat, 0]
def k0_dev117 (d0 : Dev nD) : Nat :=
  let c0_i32_977 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_976 : BitVec 32 := 8#32
  let v1358 : BitVec 32 := Scalar.muli v45 c8_i32_976
  let v1359 : BitVec 32 := Scalar.addi c0_i32_977 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_978 : BitVec 32 := 4#32
  let v1360 : BitVec 32 := Scalar.muli v5 c4_i32_978
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_979 : BitVec 32 := 1#32
  let v1362 : BitVec 32 := Scalar.muli v8 c1_i32_979
  let v1363 : BitVec 32 := Scalar.addi v1361 v1362
  v1363.toNat
def k0_dev118 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_987 : BitVec 32 := 8#32
  let v1374 : BitVec 32 := Scalar.muli v2 c8_i32_987
  let v1375 : BitVec 32 := Scalar.addi c0_i32_988 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_989 : BitVec 32 := 4#32
  let v1376 : BitVec 32 := Scalar.muli v46 c4_i32_989
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1378 : BitVec 32 := Scalar.muli v8 c1_i32_990
  let v1379 : BitVec 32 := Scalar.addi v1377 v1378
  v1379.toNat
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_274 : BitVec 32 := 3#32
  let v413 : BitVec 32 := Scalar.addi v8 c3_i32_274
  let c3_i32_275 : BitVec 32 := 3#32
  let v414 : BitVec 1 := Scalar.cmpi .sle v413 c3_i32_275
  let v415 : BitVec 32 := Scalar.extui v414
  let c0_i32_276 : BitVec 32 := 0#32
  let v416 : BitVec 1 := Scalar.cmpi .ne v415 c0_i32_276
  v416

def k0_off99 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.addi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_969 : BitVec 32 := 0#32
  ![v1343.toNat, 0]
def k0_dev119 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev120 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_277 : BitVec 32 := 3#32
  let v417 : BitVec 1 := Scalar.cmpi .sge v8 c3_i32_277
  let v418 : BitVec 32 := Scalar.extui v417
  let c0_i32_278 : BitVec 32 := 0#32
  let v419 : BitVec 1 := Scalar.cmpi .ne v418 c0_i32_278
  v419

def k0_off100 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.subi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_968 : BitVec 32 := 0#32
  ![v1343.toNat, 0]
def k0_dev121 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev122 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_279 : BitVec 32 := 3#32
  let v420 : BitVec 32 := Scalar.addi v8 c3_i32_279
  let c3_i32_280 : BitVec 32 := 3#32
  let v421 : BitVec 1 := Scalar.cmpi .sle v420 c3_i32_280
  let v422 : BitVec 32 := Scalar.extui v421
  let c0_i32_281 : BitVec 32 := 0#32
  let v423 : BitVec 1 := Scalar.cmpi .ne v422 c0_i32_281
  v423

def k0_off101 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.addi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_968 : BitVec 32 := 0#32
  ![v1343.toNat, 0]
def k0_dev123 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev124 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_282 : BitVec 32 := 3#32
  let v424 : BitVec 1 := Scalar.cmpi .sge v8 c3_i32_282
  let v425 : BitVec 32 := Scalar.extui v424
  let c0_i32_283 : BitVec 32 := 0#32
  let v426 : BitVec 1 := Scalar.cmpi .ne v425 c0_i32_283
  v426

def k0_off102 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.subi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_968 : BitVec 32 := 0#32
  ![v1343.toNat, 0]
def k0_dev125 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev126 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_284 : BitVec 32 := 3#32
  let v427 : BitVec 32 := Scalar.addi v8 c3_i32_284
  let c3_i32_285 : BitVec 32 := 3#32
  let v428 : BitVec 1 := Scalar.cmpi .sle v427 c3_i32_285
  let v429 : BitVec 32 := Scalar.extui v428
  let c0_i32_286 : BitVec 32 := 0#32
  let v430 : BitVec 1 := Scalar.cmpi .ne v429 c0_i32_286
  v430

def k0_off103 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.addi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_968 : BitVec 32 := 0#32
  ![v1343.toNat, 0]
def k0_dev127 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev128 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond87 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_287 : BitVec 32 := 3#32
  let v431 : BitVec 1 := Scalar.cmpi .sge v8 c3_i32_287
  let v432 : BitVec 32 := Scalar.extui v431
  let c0_i32_288 : BitVec 32 := 0#32
  let v433 : BitVec 1 := Scalar.cmpi .ne v432 c0_i32_288
  v433

def k0_off104 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.subi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_968 : BitVec 32 := 0#32
  ![v1343.toNat, 0]
def k0_dev129 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev130 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond88 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_289 : BitVec 32 := 3#32
  let v434 : BitVec 32 := Scalar.addi v8 c3_i32_289
  let c3_i32_290 : BitVec 32 := 3#32
  let v435 : BitVec 1 := Scalar.cmpi .sle v434 c3_i32_290
  let v436 : BitVec 32 := Scalar.extui v435
  let c0_i32_291 : BitVec 32 := 0#32
  let v437 : BitVec 1 := Scalar.cmpi .ne v436 c0_i32_291
  v437

def k0_off105 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.addi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_968 : BitVec 32 := 0#32
  ![v1343.toNat, 0]
def k0_dev131 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev132 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_292 : BitVec 32 := 3#32
  let v438 : BitVec 1 := Scalar.cmpi .sge v8 c3_i32_292
  let v439 : BitVec 32 := Scalar.extui v438
  let c0_i32_293 : BitVec 32 := 0#32
  let v440 : BitVec 1 := Scalar.cmpi .ne v439 c0_i32_293
  v440

def k0_off106 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.subi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_968 : BitVec 32 := 0#32
  ![v1343.toNat, 0]
def k0_dev133 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev134 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_294 : BitVec 32 := 3#32
  let v441 : BitVec 32 := Scalar.addi v8 c3_i32_294
  let c3_i32_295 : BitVec 32 := 3#32
  let v442 : BitVec 1 := Scalar.cmpi .sle v441 c3_i32_295
  let v443 : BitVec 32 := Scalar.extui v442
  let c0_i32_296 : BitVec 32 := 0#32
  let v444 : BitVec 1 := Scalar.cmpi .ne v443 c0_i32_296
  v444

def k0_off107 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.addi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_968 : BitVec 32 := 0#32
  ![v1343.toNat, 0]
def k0_dev135 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev136 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_297 : BitVec 32 := 3#32
  let v445 : BitVec 1 := Scalar.cmpi .sge v8 c3_i32_297
  let v446 : BitVec 32 := Scalar.extui v445
  let c0_i32_298 : BitVec 32 := 0#32
  let v447 : BitVec 1 := Scalar.cmpi .ne v446 c0_i32_298
  v447

def k0_off108 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.subi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_968 : BitVec 32 := 0#32
  ![v1343.toNat, 0]
def k0_dev137 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev138 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_299 : BitVec 32 := 3#32
  let v448 : BitVec 32 := Scalar.addi v8 c3_i32_299
  let c3_i32_300 : BitVec 32 := 3#32
  let v449 : BitVec 1 := Scalar.cmpi .sle v448 c3_i32_300
  let v450 : BitVec 32 := Scalar.extui v449
  let c0_i32_301 : BitVec 32 := 0#32
  let v451 : BitVec 1 := Scalar.cmpi .ne v450 c0_i32_301
  v451

def k0_off109 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.addi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_968 : BitVec 32 := 0#32
  ![v1343.toNat, 0]
def k0_dev139 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev140 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond93 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_302 : BitVec 32 := 3#32
  let v452 : BitVec 1 := Scalar.cmpi .sge v8 c3_i32_302
  let v453 : BitVec 32 := Scalar.extui v452
  let c0_i32_303 : BitVec 32 := 0#32
  let v454 : BitVec 1 := Scalar.cmpi .ne v453 c0_i32_303
  v454

def k0_off110 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.subi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_968 : BitVec 32 := 0#32
  ![v1343.toNat, 0]
def k0_dev141 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev142 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond94 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_304 : BitVec 32 := 3#32
  let v455 : BitVec 32 := Scalar.addi v8 c3_i32_304
  let c3_i32_305 : BitVec 32 := 3#32
  let v456 : BitVec 1 := Scalar.cmpi .sle v455 c3_i32_305
  let v457 : BitVec 32 := Scalar.extui v456
  let c0_i32_306 : BitVec 32 := 0#32
  let v458 : BitVec 1 := Scalar.cmpi .ne v457 c0_i32_306
  v458

def k0_off111 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.addi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_968 : BitVec 32 := 0#32
  ![v1343.toNat, 0]
def k0_dev143 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev144 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond95 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_307 : BitVec 32 := 3#32
  let v459 : BitVec 1 := Scalar.cmpi .sge v8 c3_i32_307
  let v460 : BitVec 32 := Scalar.extui v459
  let c0_i32_308 : BitVec 32 := 0#32
  let v461 : BitVec 1 := Scalar.cmpi .ne v460 c0_i32_308
  v461

def k0_off112 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.subi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_968 : BitVec 32 := 0#32
  ![v1343.toNat, 0]
def k0_dev145 (d0 : Dev nD) : Nat :=
  let c0_i32_976 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_975 : BitVec 32 := 8#32
  let v1358 : BitVec 32 := Scalar.muli v45 c8_i32_975
  let v1359 : BitVec 32 := Scalar.addi c0_i32_976 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_977 : BitVec 32 := 4#32
  let v1360 : BitVec 32 := Scalar.muli v5 c4_i32_977
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1362 : BitVec 32 := Scalar.muli v8 c1_i32_978
  let v1363 : BitVec 32 := Scalar.addi v1361 v1362
  v1363.toNat
def k0_dev146 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1374 : BitVec 32 := Scalar.muli v2 c8_i32_986
  let v1375 : BitVec 32 := Scalar.addi c0_i32_987 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_988 : BitVec 32 := 4#32
  let v1376 : BitVec 32 := Scalar.muli v46 c4_i32_988
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1378 : BitVec 32 := Scalar.muli v8 c1_i32_989
  let v1379 : BitVec 32 := Scalar.addi v1377 v1378
  v1379.toNat
def k0_cond96 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_309 : BitVec 32 := 3#32
  let v462 : BitVec 32 := Scalar.addi v8 c3_i32_309
  let c3_i32_310 : BitVec 32 := 3#32
  let v463 : BitVec 1 := Scalar.cmpi .sle v462 c3_i32_310
  let v464 : BitVec 32 := Scalar.extui v463
  let c0_i32_311 : BitVec 32 := 0#32
  let v465 : BitVec 1 := Scalar.cmpi .ne v464 c0_i32_311
  v465

def k0_off113 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_961 : BitVec 32 := 3#32
  let v1339 : BitVec 32 := Scalar.addi v8 c3_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_968 : BitVec 32 := 0#32
  ![v1343.toNat, 0]
def k0_dev147 (d0 : Dev nD) : Nat :=
  let c0_i32_975 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_974 : BitVec 32 := 8#32
  let v1358 : BitVec 32 := Scalar.muli v45 c8_i32_974
  let v1359 : BitVec 32 := Scalar.addi c0_i32_975 v1358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_976 : BitVec 32 := 4#32
  let v1360 : BitVec 32 := Scalar.muli v5 c4_i32_976
  let v1361 : BitVec 32 := Scalar.addi v1359 v1360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1362 : BitVec 32 := Scalar.muli v8 c1_i32_977
  let v1363 : BitVec 32 := Scalar.addi v1361 v1362
  v1363.toNat
def k0_dev148 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1374 : BitVec 32 := Scalar.muli v2 c8_i32_985
  let v1375 : BitVec 32 := Scalar.addi c0_i32_986 v1374
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_987 : BitVec 32 := 4#32
  let v1376 : BitVec 32 := Scalar.muli v46 c4_i32_987
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1378 : BitVec 32 := Scalar.muli v8 c1_i32_988
  let v1379 : BitVec 32 := Scalar.addi v1377 v1378
  v1379.toNat
def k0_cond97 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v468 : BitVec 1 := Scalar.cmpi .sge v8 c1_i32_314
  let v469 : BitVec 32 := Scalar.extui v468
  let c0_i32_315 : BitVec 32 := 0#32
  let v470 : BitVec 1 := Scalar.cmpi .ne v469 c0_i32_315
  v470

def k0_off114 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_312 : BitVec 32 := 1#32
  let v466 : BitVec 32 := Scalar.subi v8 c1_i32_312
  let c4096_i32_961 : BitVec 32 := 4096#32
  let v1339 : BitVec 32 := Scalar.muli v466 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c0_i32_962 : BitVec 32 := 0#32
  let v1342 : BitVec 32 := Scalar.addi v1341 c0_i32_962
  let c0_i32_969 : BitVec 32 := 0#32
  ![v1342.toNat, 0]
def k0_off115 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_312 : BitVec 32 := 1#32
  let v466 : BitVec 32 := Scalar.subi v8 c1_i32_312
  let c4096_i32_975 : BitVec 32 := 4096#32
  let v1358 : BitVec 32 := Scalar.muli v466 c4096_i32_975
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_976 : BitVec 32 := 1024#32
  let v1359 : BitVec 32 := Scalar.muli v13 c1024_i32_976
  let v1360 : BitVec 32 := Scalar.addi v1358 v1359
  let c0_i32_977 : BitVec 32 := 0#32
  let v1361 : BitVec 32 := Scalar.addi v1360 c0_i32_977
  let c0_i32_978 : BitVec 32 := 0#32
  let v1362 : BitVec 32 := Scalar.addi v1361 c0_i32_978
  let c0_i32_985 : BitVec 32 := 0#32
  ![v1362.toNat, 0]
def k0_dev149 (d0 : Dev nD) : Nat :=
  let c0_i32_982 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_981 : BitVec 32 := 8#32
  let v1363 : BitVec 32 := Scalar.muli v2 c8_i32_981
  let v1364 : BitVec 32 := Scalar.addi c0_i32_982 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_983 : BitVec 32 := 4#32
  let v1365 : BitVec 32 := Scalar.muli v46 c4_i32_983
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_984 : BitVec 32 := 1#32
  let v1367 : BitVec 32 := Scalar.muli v8 c1_i32_984
  let v1368 : BitVec 32 := Scalar.addi v1366 v1367
  v1368.toNat
def k0_off116 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_312 : BitVec 32 := 1#32
  let v466 : BitVec 32 := Scalar.subi v8 c1_i32_312
  let c4096_i32_987 : BitVec 32 := 4096#32
  let v1375 : BitVec 32 := Scalar.muli v466 c4096_i32_987
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_988 : BitVec 32 := 1024#32
  let v1376 : BitVec 32 := Scalar.muli v16 c1024_i32_988
  let v1377 : BitVec 32 := Scalar.addi v1375 v1376
  let c0_i32_989 : BitVec 32 := 0#32
  let v1378 : BitVec 32 := Scalar.addi v1377 c0_i32_989
  let c0_i32_996 : BitVec 32 := 0#32
  ![v1378.toNat, 0]
def k0_off117 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_312 : BitVec 32 := 1#32
  let v466 : BitVec 32 := Scalar.subi v8 c1_i32_312
  let c4096_i32_1001 : BitVec 32 := 4096#32
  let v1394 : BitVec 32 := Scalar.muli v466 c4096_i32_1001
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1002 : BitVec 32 := 1024#32
  let v1395 : BitVec 32 := Scalar.muli v16 c1024_i32_1002
  let v1396 : BitVec 32 := Scalar.addi v1394 v1395
  let c0_i32_1003 : BitVec 32 := 0#32
  let v1397 : BitVec 32 := Scalar.addi v1396 c0_i32_1003
  let c64_i32_1004 : BitVec 32 := 64#32
  let v1398 : BitVec 32 := Scalar.addi v1397 c64_i32_1004
  let c0_i32_1011 : BitVec 32 := 0#32
  ![v1398.toNat, 0]
def k0_dev150 (d0 : Dev nD) : Nat :=
  let c0_i32_1008 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1007 : BitVec 32 := 8#32
  let v1399 : BitVec 32 := Scalar.muli v45 c8_i32_1007
  let v1400 : BitVec 32 := Scalar.addi c0_i32_1008 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1009 : BitVec 32 := 4#32
  let v1401 : BitVec 32 := Scalar.muli v5 c4_i32_1009
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1010 : BitVec 32 := 1#32
  let v1403 : BitVec 32 := Scalar.muli v8 c1_i32_1010
  let v1404 : BitVec 32 := Scalar.addi v1402 v1403
  v1404.toNat
def k0_cond98 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v471 : BitVec 32 := Scalar.addi v8 c1_i32_316
  let c3_i32_317 : BitVec 32 := 3#32
  let v472 : BitVec 1 := Scalar.cmpi .sle v471 c3_i32_317
  let v473 : BitVec 32 := Scalar.extui v472
  let c0_i32_318 : BitVec 32 := 0#32
  let v474 : BitVec 1 := Scalar.cmpi .ne v473 c0_i32_318
  v474

def k0_off118 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v467 : BitVec 32 := Scalar.addi v8 c1_i32_313
  let c4096_i32_961 : BitVec 32 := 4096#32
  let v1339 : BitVec 32 := Scalar.muli v467 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c0_i32_962 : BitVec 32 := 0#32
  let v1342 : BitVec 32 := Scalar.addi v1341 c0_i32_962
  let c0_i32_968 : BitVec 32 := 0#32
  ![v1342.toNat, 0]
def k0_off119 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v467 : BitVec 32 := Scalar.addi v8 c1_i32_313
  let c4096_i32_974 : BitVec 32 := 4096#32
  let v1358 : BitVec 32 := Scalar.muli v467 c4096_i32_974
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_975 : BitVec 32 := 1024#32
  let v1359 : BitVec 32 := Scalar.muli v13 c1024_i32_975
  let v1360 : BitVec 32 := Scalar.addi v1358 v1359
  let c0_i32_976 : BitVec 32 := 0#32
  let v1361 : BitVec 32 := Scalar.addi v1360 c0_i32_976
  let c0_i32_977 : BitVec 32 := 0#32
  let v1362 : BitVec 32 := Scalar.addi v1361 c0_i32_977
  let c0_i32_984 : BitVec 32 := 0#32
  ![v1362.toNat, 0]
def k0_dev151 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_980 : BitVec 32 := 8#32
  let v1363 : BitVec 32 := Scalar.muli v2 c8_i32_980
  let v1364 : BitVec 32 := Scalar.addi c0_i32_981 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_982 : BitVec 32 := 4#32
  let v1365 : BitVec 32 := Scalar.muli v46 c4_i32_982
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_983 : BitVec 32 := 1#32
  let v1367 : BitVec 32 := Scalar.muli v8 c1_i32_983
  let v1368 : BitVec 32 := Scalar.addi v1366 v1367
  v1368.toNat
def k0_off120 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v467 : BitVec 32 := Scalar.addi v8 c1_i32_313
  let c4096_i32_986 : BitVec 32 := 4096#32
  let v1375 : BitVec 32 := Scalar.muli v467 c4096_i32_986
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_987 : BitVec 32 := 1024#32
  let v1376 : BitVec 32 := Scalar.muli v16 c1024_i32_987
  let v1377 : BitVec 32 := Scalar.addi v1375 v1376
  let c0_i32_988 : BitVec 32 := 0#32
  let v1378 : BitVec 32 := Scalar.addi v1377 c0_i32_988
  let c0_i32_995 : BitVec 32 := 0#32
  ![v1378.toNat, 0]
def k0_off121 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v467 : BitVec 32 := Scalar.addi v8 c1_i32_313
  let c4096_i32_1000 : BitVec 32 := 4096#32
  let v1394 : BitVec 32 := Scalar.muli v467 c4096_i32_1000
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1001 : BitVec 32 := 1024#32
  let v1395 : BitVec 32 := Scalar.muli v16 c1024_i32_1001
  let v1396 : BitVec 32 := Scalar.addi v1394 v1395
  let c0_i32_1002 : BitVec 32 := 0#32
  let v1397 : BitVec 32 := Scalar.addi v1396 c0_i32_1002
  let c64_i32_1003 : BitVec 32 := 64#32
  let v1398 : BitVec 32 := Scalar.addi v1397 c64_i32_1003
  let c0_i32_1010 : BitVec 32 := 0#32
  ![v1398.toNat, 0]
def k0_dev152 (d0 : Dev nD) : Nat :=
  let c0_i32_1007 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1006 : BitVec 32 := 8#32
  let v1399 : BitVec 32 := Scalar.muli v45 c8_i32_1006
  let v1400 : BitVec 32 := Scalar.addi c0_i32_1007 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1008 : BitVec 32 := 4#32
  let v1401 : BitVec 32 := Scalar.muli v5 c4_i32_1008
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1403 : BitVec 32 := Scalar.muli v8 c1_i32_1009
  let v1404 : BitVec 32 := Scalar.addi v1402 v1403
  v1404.toNat
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_321 : BitVec 32 := 1#32
  let v477 : BitVec 1 := Scalar.cmpi .sge v8 c1_i32_321
  let v478 : BitVec 32 := Scalar.extui v477
  let c0_i32_322 : BitVec 32 := 0#32
  let v479 : BitVec 1 := Scalar.cmpi .ne v478 c0_i32_322
  v479

def k0_off122 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v475 : BitVec 32 := Scalar.subi v8 c1_i32_319
  let c4096_i32_961 : BitVec 32 := 4096#32
  let v1339 : BitVec 32 := Scalar.muli v475 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c128_i32 : BitVec 32 := 128#32
  let v1342 : BitVec 32 := Scalar.addi v1341 c128_i32
  let c0_i32_968 : BitVec 32 := 0#32
  ![v1342.toNat, 0]
def k0_off123 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v475 : BitVec 32 := Scalar.subi v8 c1_i32_319
  let c4096_i32_974 : BitVec 32 := 4096#32
  let v1358 : BitVec 32 := Scalar.muli v475 c4096_i32_974
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_975 : BitVec 32 := 1024#32
  let v1359 : BitVec 32 := Scalar.muli v13 c1024_i32_975
  let v1360 : BitVec 32 := Scalar.addi v1358 v1359
  let c128_i32_976 : BitVec 32 := 128#32
  let v1361 : BitVec 32 := Scalar.addi v1360 c128_i32_976
  let c0_i32_977 : BitVec 32 := 0#32
  let v1362 : BitVec 32 := Scalar.addi v1361 c0_i32_977
  let c0_i32_984 : BitVec 32 := 0#32
  ![v1362.toNat, 0]
def k0_dev153 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_980 : BitVec 32 := 8#32
  let v1363 : BitVec 32 := Scalar.muli v2 c8_i32_980
  let v1364 : BitVec 32 := Scalar.addi c0_i32_981 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_982 : BitVec 32 := 4#32
  let v1365 : BitVec 32 := Scalar.muli v46 c4_i32_982
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_983 : BitVec 32 := 1#32
  let v1367 : BitVec 32 := Scalar.muli v8 c1_i32_983
  let v1368 : BitVec 32 := Scalar.addi v1366 v1367
  v1368.toNat
def k0_off124 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v475 : BitVec 32 := Scalar.subi v8 c1_i32_319
  let c4096_i32_986 : BitVec 32 := 4096#32
  let v1375 : BitVec 32 := Scalar.muli v475 c4096_i32_986
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_987 : BitVec 32 := 1024#32
  let v1376 : BitVec 32 := Scalar.muli v16 c1024_i32_987
  let v1377 : BitVec 32 := Scalar.addi v1375 v1376
  let c128_i32_988 : BitVec 32 := 128#32
  let v1378 : BitVec 32 := Scalar.addi v1377 c128_i32_988
  let c0_i32_995 : BitVec 32 := 0#32
  ![v1378.toNat, 0]
def k0_off125 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v475 : BitVec 32 := Scalar.subi v8 c1_i32_319
  let c4096_i32_1000 : BitVec 32 := 4096#32
  let v1394 : BitVec 32 := Scalar.muli v475 c4096_i32_1000
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1001 : BitVec 32 := 1024#32
  let v1395 : BitVec 32 := Scalar.muli v16 c1024_i32_1001
  let v1396 : BitVec 32 := Scalar.addi v1394 v1395
  let c128_i32_1002 : BitVec 32 := 128#32
  let v1397 : BitVec 32 := Scalar.addi v1396 c128_i32_1002
  let c64_i32_1003 : BitVec 32 := 64#32
  let v1398 : BitVec 32 := Scalar.addi v1397 c64_i32_1003
  let c0_i32_1010 : BitVec 32 := 0#32
  ![v1398.toNat, 0]
def k0_dev154 (d0 : Dev nD) : Nat :=
  let c0_i32_1007 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1006 : BitVec 32 := 8#32
  let v1399 : BitVec 32 := Scalar.muli v45 c8_i32_1006
  let v1400 : BitVec 32 := Scalar.addi c0_i32_1007 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1008 : BitVec 32 := 4#32
  let v1401 : BitVec 32 := Scalar.muli v5 c4_i32_1008
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1403 : BitVec 32 := Scalar.muli v8 c1_i32_1009
  let v1404 : BitVec 32 := Scalar.addi v1402 v1403
  v1404.toNat
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_323 : BitVec 32 := 1#32
  let v480 : BitVec 32 := Scalar.addi v8 c1_i32_323
  let c3_i32_324 : BitVec 32 := 3#32
  let v481 : BitVec 1 := Scalar.cmpi .sle v480 c3_i32_324
  let v482 : BitVec 32 := Scalar.extui v481
  let c0_i32_325 : BitVec 32 := 0#32
  let v483 : BitVec 1 := Scalar.cmpi .ne v482 c0_i32_325
  v483

def k0_off126 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_320 : BitVec 32 := 1#32
  let v476 : BitVec 32 := Scalar.addi v8 c1_i32_320
  let c4096_i32_961 : BitVec 32 := 4096#32
  let v1339 : BitVec 32 := Scalar.muli v476 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c128_i32 : BitVec 32 := 128#32
  let v1342 : BitVec 32 := Scalar.addi v1341 c128_i32
  let c0_i32_967 : BitVec 32 := 0#32
  ![v1342.toNat, 0]
def k0_off127 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_320 : BitVec 32 := 1#32
  let v476 : BitVec 32 := Scalar.addi v8 c1_i32_320
  let c4096_i32_973 : BitVec 32 := 4096#32
  let v1358 : BitVec 32 := Scalar.muli v476 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c128_i32_975 : BitVec 32 := 128#32
  let v1361 : BitVec 32 := Scalar.addi v1360 c128_i32_975
  let c0_i32_976 : BitVec 32 := 0#32
  let v1362 : BitVec 32 := Scalar.addi v1361 c0_i32_976
  let c0_i32_983 : BitVec 32 := 0#32
  ![v1362.toNat, 0]
def k0_dev155 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off128 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_320 : BitVec 32 := 1#32
  let v476 : BitVec 32 := Scalar.addi v8 c1_i32_320
  let c4096_i32_985 : BitVec 32 := 4096#32
  let v1375 : BitVec 32 := Scalar.muli v476 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c128_i32_987 : BitVec 32 := 128#32
  let v1378 : BitVec 32 := Scalar.addi v1377 c128_i32_987
  let c0_i32_994 : BitVec 32 := 0#32
  ![v1378.toNat, 0]
def k0_off129 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_320 : BitVec 32 := 1#32
  let v476 : BitVec 32 := Scalar.addi v8 c1_i32_320
  let c4096_i32_999 : BitVec 32 := 4096#32
  let v1394 : BitVec 32 := Scalar.muli v476 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c128_i32_1001 : BitVec 32 := 128#32
  let v1397 : BitVec 32 := Scalar.addi v1396 c128_i32_1001
  let c64_i32_1002 : BitVec 32 := 64#32
  let v1398 : BitVec 32 := Scalar.addi v1397 c64_i32_1002
  let c0_i32_1009 : BitVec 32 := 0#32
  ![v1398.toNat, 0]
def k0_dev156 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_328 : BitVec 32 := 1#32
  let v486 : BitVec 1 := Scalar.cmpi .sge v8 c1_i32_328
  let v487 : BitVec 32 := Scalar.extui v486
  let c0_i32_329 : BitVec 32 := 0#32
  let v488 : BitVec 1 := Scalar.cmpi .ne v487 c0_i32_329
  v488

def k0_off130 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v484 : BitVec 32 := Scalar.subi v8 c1_i32_326
  let c4096_i32_961 : BitVec 32 := 4096#32
  let v1339 : BitVec 32 := Scalar.muli v484 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c256_i32 : BitVec 32 := 256#32
  let v1342 : BitVec 32 := Scalar.addi v1341 c256_i32
  let c0_i32_968 : BitVec 32 := 0#32
  ![v1342.toNat, 0]
def k0_off131 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v484 : BitVec 32 := Scalar.subi v8 c1_i32_326
  let c4096_i32_974 : BitVec 32 := 4096#32
  let v1358 : BitVec 32 := Scalar.muli v484 c4096_i32_974
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_975 : BitVec 32 := 1024#32
  let v1359 : BitVec 32 := Scalar.muli v13 c1024_i32_975
  let v1360 : BitVec 32 := Scalar.addi v1358 v1359
  let c256_i32_976 : BitVec 32 := 256#32
  let v1361 : BitVec 32 := Scalar.addi v1360 c256_i32_976
  let c0_i32_977 : BitVec 32 := 0#32
  let v1362 : BitVec 32 := Scalar.addi v1361 c0_i32_977
  let c0_i32_984 : BitVec 32 := 0#32
  ![v1362.toNat, 0]
def k0_dev157 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_980 : BitVec 32 := 8#32
  let v1363 : BitVec 32 := Scalar.muli v2 c8_i32_980
  let v1364 : BitVec 32 := Scalar.addi c0_i32_981 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_982 : BitVec 32 := 4#32
  let v1365 : BitVec 32 := Scalar.muli v46 c4_i32_982
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_983 : BitVec 32 := 1#32
  let v1367 : BitVec 32 := Scalar.muli v8 c1_i32_983
  let v1368 : BitVec 32 := Scalar.addi v1366 v1367
  v1368.toNat
def k0_off132 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v484 : BitVec 32 := Scalar.subi v8 c1_i32_326
  let c4096_i32_986 : BitVec 32 := 4096#32
  let v1375 : BitVec 32 := Scalar.muli v484 c4096_i32_986
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_987 : BitVec 32 := 1024#32
  let v1376 : BitVec 32 := Scalar.muli v16 c1024_i32_987
  let v1377 : BitVec 32 := Scalar.addi v1375 v1376
  let c256_i32_988 : BitVec 32 := 256#32
  let v1378 : BitVec 32 := Scalar.addi v1377 c256_i32_988
  let c0_i32_995 : BitVec 32 := 0#32
  ![v1378.toNat, 0]
def k0_off133 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v484 : BitVec 32 := Scalar.subi v8 c1_i32_326
  let c4096_i32_1000 : BitVec 32 := 4096#32
  let v1394 : BitVec 32 := Scalar.muli v484 c4096_i32_1000
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1001 : BitVec 32 := 1024#32
  let v1395 : BitVec 32 := Scalar.muli v16 c1024_i32_1001
  let v1396 : BitVec 32 := Scalar.addi v1394 v1395
  let c256_i32_1002 : BitVec 32 := 256#32
  let v1397 : BitVec 32 := Scalar.addi v1396 c256_i32_1002
  let c64_i32_1003 : BitVec 32 := 64#32
  let v1398 : BitVec 32 := Scalar.addi v1397 c64_i32_1003
  let c0_i32_1010 : BitVec 32 := 0#32
  ![v1398.toNat, 0]
def k0_dev158 (d0 : Dev nD) : Nat :=
  let c0_i32_1007 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1006 : BitVec 32 := 8#32
  let v1399 : BitVec 32 := Scalar.muli v45 c8_i32_1006
  let v1400 : BitVec 32 := Scalar.addi c0_i32_1007 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1008 : BitVec 32 := 4#32
  let v1401 : BitVec 32 := Scalar.muli v5 c4_i32_1008
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1403 : BitVec 32 := Scalar.muli v8 c1_i32_1009
  let v1404 : BitVec 32 := Scalar.addi v1402 v1403
  v1404.toNat
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v489 : BitVec 32 := Scalar.addi v8 c1_i32_330
  let c3_i32_331 : BitVec 32 := 3#32
  let v490 : BitVec 1 := Scalar.cmpi .sle v489 c3_i32_331
  let v491 : BitVec 32 := Scalar.extui v490
  let c0_i32_332 : BitVec 32 := 0#32
  let v492 : BitVec 1 := Scalar.cmpi .ne v491 c0_i32_332
  v492

def k0_off134 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v485 : BitVec 32 := Scalar.addi v8 c1_i32_327
  let c4096_i32_961 : BitVec 32 := 4096#32
  let v1339 : BitVec 32 := Scalar.muli v485 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c256_i32 : BitVec 32 := 256#32
  let v1342 : BitVec 32 := Scalar.addi v1341 c256_i32
  let c0_i32_967 : BitVec 32 := 0#32
  ![v1342.toNat, 0]
def k0_off135 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v485 : BitVec 32 := Scalar.addi v8 c1_i32_327
  let c4096_i32_973 : BitVec 32 := 4096#32
  let v1358 : BitVec 32 := Scalar.muli v485 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c256_i32_975 : BitVec 32 := 256#32
  let v1361 : BitVec 32 := Scalar.addi v1360 c256_i32_975
  let c0_i32_976 : BitVec 32 := 0#32
  let v1362 : BitVec 32 := Scalar.addi v1361 c0_i32_976
  let c0_i32_983 : BitVec 32 := 0#32
  ![v1362.toNat, 0]
def k0_dev159 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off136 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v485 : BitVec 32 := Scalar.addi v8 c1_i32_327
  let c4096_i32_985 : BitVec 32 := 4096#32
  let v1375 : BitVec 32 := Scalar.muli v485 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c256_i32_987 : BitVec 32 := 256#32
  let v1378 : BitVec 32 := Scalar.addi v1377 c256_i32_987
  let c0_i32_994 : BitVec 32 := 0#32
  ![v1378.toNat, 0]
def k0_off137 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v485 : BitVec 32 := Scalar.addi v8 c1_i32_327
  let c4096_i32_999 : BitVec 32 := 4096#32
  let v1394 : BitVec 32 := Scalar.muli v485 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c256_i32_1001 : BitVec 32 := 256#32
  let v1397 : BitVec 32 := Scalar.addi v1396 c256_i32_1001
  let c64_i32_1002 : BitVec 32 := 64#32
  let v1398 : BitVec 32 := Scalar.addi v1397 c64_i32_1002
  let c0_i32_1009 : BitVec 32 := 0#32
  ![v1398.toNat, 0]
def k0_dev160 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_335 : BitVec 32 := 1#32
  let v495 : BitVec 1 := Scalar.cmpi .sge v8 c1_i32_335
  let v496 : BitVec 32 := Scalar.extui v495
  let c0_i32_336 : BitVec 32 := 0#32
  let v497 : BitVec 1 := Scalar.cmpi .ne v496 c0_i32_336
  v497

def k0_off138 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v493 : BitVec 32 := Scalar.subi v8 c1_i32_333
  let c4096_i32_961 : BitVec 32 := 4096#32
  let v1339 : BitVec 32 := Scalar.muli v493 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c384_i32 : BitVec 32 := 384#32
  let v1342 : BitVec 32 := Scalar.addi v1341 c384_i32
  let c0_i32_968 : BitVec 32 := 0#32
  ![v1342.toNat, 0]
def k0_off139 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v493 : BitVec 32 := Scalar.subi v8 c1_i32_333
  let c4096_i32_974 : BitVec 32 := 4096#32
  let v1358 : BitVec 32 := Scalar.muli v493 c4096_i32_974
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_975 : BitVec 32 := 1024#32
  let v1359 : BitVec 32 := Scalar.muli v13 c1024_i32_975
  let v1360 : BitVec 32 := Scalar.addi v1358 v1359
  let c384_i32_976 : BitVec 32 := 384#32
  let v1361 : BitVec 32 := Scalar.addi v1360 c384_i32_976
  let c0_i32_977 : BitVec 32 := 0#32
  let v1362 : BitVec 32 := Scalar.addi v1361 c0_i32_977
  let c0_i32_984 : BitVec 32 := 0#32
  ![v1362.toNat, 0]
def k0_dev161 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_980 : BitVec 32 := 8#32
  let v1363 : BitVec 32 := Scalar.muli v2 c8_i32_980
  let v1364 : BitVec 32 := Scalar.addi c0_i32_981 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_982 : BitVec 32 := 4#32
  let v1365 : BitVec 32 := Scalar.muli v46 c4_i32_982
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_983 : BitVec 32 := 1#32
  let v1367 : BitVec 32 := Scalar.muli v8 c1_i32_983
  let v1368 : BitVec 32 := Scalar.addi v1366 v1367
  v1368.toNat
def k0_off140 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v493 : BitVec 32 := Scalar.subi v8 c1_i32_333
  let c4096_i32_986 : BitVec 32 := 4096#32
  let v1375 : BitVec 32 := Scalar.muli v493 c4096_i32_986
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_987 : BitVec 32 := 1024#32
  let v1376 : BitVec 32 := Scalar.muli v16 c1024_i32_987
  let v1377 : BitVec 32 := Scalar.addi v1375 v1376
  let c384_i32_988 : BitVec 32 := 384#32
  let v1378 : BitVec 32 := Scalar.addi v1377 c384_i32_988
  let c0_i32_995 : BitVec 32 := 0#32
  ![v1378.toNat, 0]
def k0_off141 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v493 : BitVec 32 := Scalar.subi v8 c1_i32_333
  let c4096_i32_1000 : BitVec 32 := 4096#32
  let v1394 : BitVec 32 := Scalar.muli v493 c4096_i32_1000
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1001 : BitVec 32 := 1024#32
  let v1395 : BitVec 32 := Scalar.muli v16 c1024_i32_1001
  let v1396 : BitVec 32 := Scalar.addi v1394 v1395
  let c384_i32_1002 : BitVec 32 := 384#32
  let v1397 : BitVec 32 := Scalar.addi v1396 c384_i32_1002
  let c64_i32_1003 : BitVec 32 := 64#32
  let v1398 : BitVec 32 := Scalar.addi v1397 c64_i32_1003
  let c0_i32_1010 : BitVec 32 := 0#32
  ![v1398.toNat, 0]
def k0_dev162 (d0 : Dev nD) : Nat :=
  let c0_i32_1007 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1006 : BitVec 32 := 8#32
  let v1399 : BitVec 32 := Scalar.muli v45 c8_i32_1006
  let v1400 : BitVec 32 := Scalar.addi c0_i32_1007 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1008 : BitVec 32 := 4#32
  let v1401 : BitVec 32 := Scalar.muli v5 c4_i32_1008
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1403 : BitVec 32 := Scalar.muli v8 c1_i32_1009
  let v1404 : BitVec 32 := Scalar.addi v1402 v1403
  v1404.toNat
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_337 : BitVec 32 := 1#32
  let v498 : BitVec 32 := Scalar.addi v8 c1_i32_337
  let c3_i32_338 : BitVec 32 := 3#32
  let v499 : BitVec 1 := Scalar.cmpi .sle v498 c3_i32_338
  let v500 : BitVec 32 := Scalar.extui v499
  let c0_i32_339 : BitVec 32 := 0#32
  let v501 : BitVec 1 := Scalar.cmpi .ne v500 c0_i32_339
  v501

def k0_off142 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v494 : BitVec 32 := Scalar.addi v8 c1_i32_334
  let c4096_i32_961 : BitVec 32 := 4096#32
  let v1339 : BitVec 32 := Scalar.muli v494 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c384_i32 : BitVec 32 := 384#32
  let v1342 : BitVec 32 := Scalar.addi v1341 c384_i32
  let c0_i32_967 : BitVec 32 := 0#32
  ![v1342.toNat, 0]
def k0_off143 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v494 : BitVec 32 := Scalar.addi v8 c1_i32_334
  let c4096_i32_973 : BitVec 32 := 4096#32
  let v1358 : BitVec 32 := Scalar.muli v494 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c384_i32_975 : BitVec 32 := 384#32
  let v1361 : BitVec 32 := Scalar.addi v1360 c384_i32_975
  let c0_i32_976 : BitVec 32 := 0#32
  let v1362 : BitVec 32 := Scalar.addi v1361 c0_i32_976
  let c0_i32_983 : BitVec 32 := 0#32
  ![v1362.toNat, 0]
def k0_dev163 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off144 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v494 : BitVec 32 := Scalar.addi v8 c1_i32_334
  let c4096_i32_985 : BitVec 32 := 4096#32
  let v1375 : BitVec 32 := Scalar.muli v494 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c384_i32_987 : BitVec 32 := 384#32
  let v1378 : BitVec 32 := Scalar.addi v1377 c384_i32_987
  let c0_i32_994 : BitVec 32 := 0#32
  ![v1378.toNat, 0]
def k0_off145 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v494 : BitVec 32 := Scalar.addi v8 c1_i32_334
  let c4096_i32_999 : BitVec 32 := 4096#32
  let v1394 : BitVec 32 := Scalar.muli v494 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c384_i32_1001 : BitVec 32 := 384#32
  let v1397 : BitVec 32 := Scalar.addi v1396 c384_i32_1001
  let c64_i32_1002 : BitVec 32 := 64#32
  let v1398 : BitVec 32 := Scalar.addi v1397 c64_i32_1002
  let c0_i32_1009 : BitVec 32 := 0#32
  ![v1398.toNat, 0]
def k0_dev164 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond105 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_342 : BitVec 32 := 1#32
  let v504 : BitVec 1 := Scalar.cmpi .sge v8 c1_i32_342
  let v505 : BitVec 32 := Scalar.extui v504
  let c0_i32_343 : BitVec 32 := 0#32
  let v506 : BitVec 1 := Scalar.cmpi .ne v505 c0_i32_343
  v506

def k0_off146 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v502 : BitVec 32 := Scalar.subi v8 c1_i32_340
  let c4096_i32_961 : BitVec 32 := 4096#32
  let v1339 : BitVec 32 := Scalar.muli v502 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c512_i32 : BitVec 32 := 512#32
  let v1342 : BitVec 32 := Scalar.addi v1341 c512_i32
  let c0_i32_968 : BitVec 32 := 0#32
  ![v1342.toNat, 0]
def k0_off147 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v502 : BitVec 32 := Scalar.subi v8 c1_i32_340
  let c4096_i32_974 : BitVec 32 := 4096#32
  let v1358 : BitVec 32 := Scalar.muli v502 c4096_i32_974
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_975 : BitVec 32 := 1024#32
  let v1359 : BitVec 32 := Scalar.muli v13 c1024_i32_975
  let v1360 : BitVec 32 := Scalar.addi v1358 v1359
  let c512_i32_976 : BitVec 32 := 512#32
  let v1361 : BitVec 32 := Scalar.addi v1360 c512_i32_976
  let c0_i32_977 : BitVec 32 := 0#32
  let v1362 : BitVec 32 := Scalar.addi v1361 c0_i32_977
  let c0_i32_984 : BitVec 32 := 0#32
  ![v1362.toNat, 0]
def k0_dev165 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_980 : BitVec 32 := 8#32
  let v1363 : BitVec 32 := Scalar.muli v2 c8_i32_980
  let v1364 : BitVec 32 := Scalar.addi c0_i32_981 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_982 : BitVec 32 := 4#32
  let v1365 : BitVec 32 := Scalar.muli v46 c4_i32_982
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_983 : BitVec 32 := 1#32
  let v1367 : BitVec 32 := Scalar.muli v8 c1_i32_983
  let v1368 : BitVec 32 := Scalar.addi v1366 v1367
  v1368.toNat
def k0_off148 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v502 : BitVec 32 := Scalar.subi v8 c1_i32_340
  let c4096_i32_986 : BitVec 32 := 4096#32
  let v1375 : BitVec 32 := Scalar.muli v502 c4096_i32_986
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_987 : BitVec 32 := 1024#32
  let v1376 : BitVec 32 := Scalar.muli v16 c1024_i32_987
  let v1377 : BitVec 32 := Scalar.addi v1375 v1376
  let c512_i32_988 : BitVec 32 := 512#32
  let v1378 : BitVec 32 := Scalar.addi v1377 c512_i32_988
  let c0_i32_995 : BitVec 32 := 0#32
  ![v1378.toNat, 0]
def k0_off149 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v502 : BitVec 32 := Scalar.subi v8 c1_i32_340
  let c4096_i32_1000 : BitVec 32 := 4096#32
  let v1394 : BitVec 32 := Scalar.muli v502 c4096_i32_1000
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1001 : BitVec 32 := 1024#32
  let v1395 : BitVec 32 := Scalar.muli v16 c1024_i32_1001
  let v1396 : BitVec 32 := Scalar.addi v1394 v1395
  let c512_i32_1002 : BitVec 32 := 512#32
  let v1397 : BitVec 32 := Scalar.addi v1396 c512_i32_1002
  let c64_i32_1003 : BitVec 32 := 64#32
  let v1398 : BitVec 32 := Scalar.addi v1397 c64_i32_1003
  let c0_i32_1010 : BitVec 32 := 0#32
  ![v1398.toNat, 0]
def k0_dev166 (d0 : Dev nD) : Nat :=
  let c0_i32_1007 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1006 : BitVec 32 := 8#32
  let v1399 : BitVec 32 := Scalar.muli v45 c8_i32_1006
  let v1400 : BitVec 32 := Scalar.addi c0_i32_1007 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1008 : BitVec 32 := 4#32
  let v1401 : BitVec 32 := Scalar.muli v5 c4_i32_1008
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1403 : BitVec 32 := Scalar.muli v8 c1_i32_1009
  let v1404 : BitVec 32 := Scalar.addi v1402 v1403
  v1404.toNat
def k0_cond106 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v507 : BitVec 32 := Scalar.addi v8 c1_i32_344
  let c3_i32_345 : BitVec 32 := 3#32
  let v508 : BitVec 1 := Scalar.cmpi .sle v507 c3_i32_345
  let v509 : BitVec 32 := Scalar.extui v508
  let c0_i32_346 : BitVec 32 := 0#32
  let v510 : BitVec 1 := Scalar.cmpi .ne v509 c0_i32_346
  v510

def k0_off150 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v503 : BitVec 32 := Scalar.addi v8 c1_i32_341
  let c4096_i32_961 : BitVec 32 := 4096#32
  let v1339 : BitVec 32 := Scalar.muli v503 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c512_i32 : BitVec 32 := 512#32
  let v1342 : BitVec 32 := Scalar.addi v1341 c512_i32
  let c0_i32_967 : BitVec 32 := 0#32
  ![v1342.toNat, 0]
def k0_off151 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v503 : BitVec 32 := Scalar.addi v8 c1_i32_341
  let c4096_i32_973 : BitVec 32 := 4096#32
  let v1358 : BitVec 32 := Scalar.muli v503 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c512_i32_975 : BitVec 32 := 512#32
  let v1361 : BitVec 32 := Scalar.addi v1360 c512_i32_975
  let c0_i32_976 : BitVec 32 := 0#32
  let v1362 : BitVec 32 := Scalar.addi v1361 c0_i32_976
  let c0_i32_983 : BitVec 32 := 0#32
  ![v1362.toNat, 0]
def k0_dev167 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off152 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v503 : BitVec 32 := Scalar.addi v8 c1_i32_341
  let c4096_i32_985 : BitVec 32 := 4096#32
  let v1375 : BitVec 32 := Scalar.muli v503 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c512_i32_987 : BitVec 32 := 512#32
  let v1378 : BitVec 32 := Scalar.addi v1377 c512_i32_987
  let c0_i32_994 : BitVec 32 := 0#32
  ![v1378.toNat, 0]
def k0_off153 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v503 : BitVec 32 := Scalar.addi v8 c1_i32_341
  let c4096_i32_999 : BitVec 32 := 4096#32
  let v1394 : BitVec 32 := Scalar.muli v503 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c512_i32_1001 : BitVec 32 := 512#32
  let v1397 : BitVec 32 := Scalar.addi v1396 c512_i32_1001
  let c64_i32_1002 : BitVec 32 := 64#32
  let v1398 : BitVec 32 := Scalar.addi v1397 c64_i32_1002
  let c0_i32_1009 : BitVec 32 := 0#32
  ![v1398.toNat, 0]
def k0_dev168 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_349 : BitVec 32 := 1#32
  let v513 : BitVec 1 := Scalar.cmpi .sge v8 c1_i32_349
  let v514 : BitVec 32 := Scalar.extui v513
  let c0_i32_350 : BitVec 32 := 0#32
  let v515 : BitVec 1 := Scalar.cmpi .ne v514 c0_i32_350
  v515

def k0_off154 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v511 : BitVec 32 := Scalar.subi v8 c1_i32_347
  let c4096_i32_961 : BitVec 32 := 4096#32
  let v1339 : BitVec 32 := Scalar.muli v511 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c640_i32 : BitVec 32 := 640#32
  let v1342 : BitVec 32 := Scalar.addi v1341 c640_i32
  let c0_i32_967 : BitVec 32 := 0#32
  ![v1342.toNat, 0]
def k0_off155 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v511 : BitVec 32 := Scalar.subi v8 c1_i32_347
  let c4096_i32_973 : BitVec 32 := 4096#32
  let v1358 : BitVec 32 := Scalar.muli v511 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c640_i32_975 : BitVec 32 := 640#32
  let v1361 : BitVec 32 := Scalar.addi v1360 c640_i32_975
  let c0_i32_976 : BitVec 32 := 0#32
  let v1362 : BitVec 32 := Scalar.addi v1361 c0_i32_976
  let c0_i32_983 : BitVec 32 := 0#32
  ![v1362.toNat, 0]
def k0_dev169 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off156 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v511 : BitVec 32 := Scalar.subi v8 c1_i32_347
  let c4096_i32_985 : BitVec 32 := 4096#32
  let v1375 : BitVec 32 := Scalar.muli v511 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c640_i32_987 : BitVec 32 := 640#32
  let v1378 : BitVec 32 := Scalar.addi v1377 c640_i32_987
  let c0_i32_994 : BitVec 32 := 0#32
  ![v1378.toNat, 0]
def k0_off157 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v511 : BitVec 32 := Scalar.subi v8 c1_i32_347
  let c4096_i32_999 : BitVec 32 := 4096#32
  let v1394 : BitVec 32 := Scalar.muli v511 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c640_i32_1001 : BitVec 32 := 640#32
  let v1397 : BitVec 32 := Scalar.addi v1396 c640_i32_1001
  let c64_i32_1002 : BitVec 32 := 64#32
  let v1398 : BitVec 32 := Scalar.addi v1397 c64_i32_1002
  let c0_i32_1009 : BitVec 32 := 0#32
  ![v1398.toNat, 0]
def k0_dev170 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond108 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_351 : BitVec 32 := 1#32
  let v516 : BitVec 32 := Scalar.addi v8 c1_i32_351
  let c3_i32_352 : BitVec 32 := 3#32
  let v517 : BitVec 1 := Scalar.cmpi .sle v516 c3_i32_352
  let v518 : BitVec 32 := Scalar.extui v517
  let c0_i32_353 : BitVec 32 := 0#32
  let v519 : BitVec 1 := Scalar.cmpi .ne v518 c0_i32_353
  v519

def k0_off158 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v512 : BitVec 32 := Scalar.addi v8 c1_i32_348
  let c4096_i32_961 : BitVec 32 := 4096#32
  let v1339 : BitVec 32 := Scalar.muli v512 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c640_i32 : BitVec 32 := 640#32
  let v1342 : BitVec 32 := Scalar.addi v1341 c640_i32
  let c0_i32_967 : BitVec 32 := 0#32
  ![v1342.toNat, 0]
def k0_off159 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v512 : BitVec 32 := Scalar.addi v8 c1_i32_348
  let c4096_i32_973 : BitVec 32 := 4096#32
  let v1358 : BitVec 32 := Scalar.muli v512 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c640_i32_975 : BitVec 32 := 640#32
  let v1361 : BitVec 32 := Scalar.addi v1360 c640_i32_975
  let c0_i32_976 : BitVec 32 := 0#32
  let v1362 : BitVec 32 := Scalar.addi v1361 c0_i32_976
  let c0_i32_983 : BitVec 32 := 0#32
  ![v1362.toNat, 0]
def k0_dev171 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off160 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v512 : BitVec 32 := Scalar.addi v8 c1_i32_348
  let c4096_i32_985 : BitVec 32 := 4096#32
  let v1375 : BitVec 32 := Scalar.muli v512 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c640_i32_987 : BitVec 32 := 640#32
  let v1378 : BitVec 32 := Scalar.addi v1377 c640_i32_987
  let c0_i32_994 : BitVec 32 := 0#32
  ![v1378.toNat, 0]
def k0_off161 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v512 : BitVec 32 := Scalar.addi v8 c1_i32_348
  let c4096_i32_999 : BitVec 32 := 4096#32
  let v1394 : BitVec 32 := Scalar.muli v512 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c640_i32_1001 : BitVec 32 := 640#32
  let v1397 : BitVec 32 := Scalar.addi v1396 c640_i32_1001
  let c64_i32_1002 : BitVec 32 := 64#32
  let v1398 : BitVec 32 := Scalar.addi v1397 c64_i32_1002
  let c0_i32_1009 : BitVec 32 := 0#32
  ![v1398.toNat, 0]
def k0_dev172 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond109 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_356 : BitVec 32 := 1#32
  let v522 : BitVec 1 := Scalar.cmpi .sge v8 c1_i32_356
  let v523 : BitVec 32 := Scalar.extui v522
  let c0_i32_357 : BitVec 32 := 0#32
  let v524 : BitVec 1 := Scalar.cmpi .ne v523 c0_i32_357
  v524

def k0_off162 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_354 : BitVec 32 := 1#32
  let v520 : BitVec 32 := Scalar.subi v8 c1_i32_354
  let c4096_i32_961 : BitVec 32 := 4096#32
  let v1339 : BitVec 32 := Scalar.muli v520 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c768_i32 : BitVec 32 := 768#32
  let v1342 : BitVec 32 := Scalar.addi v1341 c768_i32
  let c0_i32_967 : BitVec 32 := 0#32
  ![v1342.toNat, 0]
def k0_off163 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_354 : BitVec 32 := 1#32
  let v520 : BitVec 32 := Scalar.subi v8 c1_i32_354
  let c4096_i32_973 : BitVec 32 := 4096#32
  let v1358 : BitVec 32 := Scalar.muli v520 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c768_i32_975 : BitVec 32 := 768#32
  let v1361 : BitVec 32 := Scalar.addi v1360 c768_i32_975
  let c0_i32_976 : BitVec 32 := 0#32
  let v1362 : BitVec 32 := Scalar.addi v1361 c0_i32_976
  let c0_i32_983 : BitVec 32 := 0#32
  ![v1362.toNat, 0]
def k0_dev173 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off164 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_354 : BitVec 32 := 1#32
  let v520 : BitVec 32 := Scalar.subi v8 c1_i32_354
  let c4096_i32_985 : BitVec 32 := 4096#32
  let v1375 : BitVec 32 := Scalar.muli v520 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c768_i32_987 : BitVec 32 := 768#32
  let v1378 : BitVec 32 := Scalar.addi v1377 c768_i32_987
  let c0_i32_994 : BitVec 32 := 0#32
  ![v1378.toNat, 0]
def k0_off165 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_354 : BitVec 32 := 1#32
  let v520 : BitVec 32 := Scalar.subi v8 c1_i32_354
  let c4096_i32_999 : BitVec 32 := 4096#32
  let v1394 : BitVec 32 := Scalar.muli v520 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c768_i32_1001 : BitVec 32 := 768#32
  let v1397 : BitVec 32 := Scalar.addi v1396 c768_i32_1001
  let c64_i32_1002 : BitVec 32 := 64#32
  let v1398 : BitVec 32 := Scalar.addi v1397 c64_i32_1002
  let c0_i32_1009 : BitVec 32 := 0#32
  ![v1398.toNat, 0]
def k0_dev174 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond110 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_358 : BitVec 32 := 1#32
  let v525 : BitVec 32 := Scalar.addi v8 c1_i32_358
  let c3_i32_359 : BitVec 32 := 3#32
  let v526 : BitVec 1 := Scalar.cmpi .sle v525 c3_i32_359
  let v527 : BitVec 32 := Scalar.extui v526
  let c0_i32_360 : BitVec 32 := 0#32
  let v528 : BitVec 1 := Scalar.cmpi .ne v527 c0_i32_360
  v528

def k0_off166 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v521 : BitVec 32 := Scalar.addi v8 c1_i32_355
  let c4096_i32_961 : BitVec 32 := 4096#32
  let v1339 : BitVec 32 := Scalar.muli v521 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c768_i32 : BitVec 32 := 768#32
  let v1342 : BitVec 32 := Scalar.addi v1341 c768_i32
  let c0_i32_967 : BitVec 32 := 0#32
  ![v1342.toNat, 0]
def k0_off167 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v521 : BitVec 32 := Scalar.addi v8 c1_i32_355
  let c4096_i32_973 : BitVec 32 := 4096#32
  let v1358 : BitVec 32 := Scalar.muli v521 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c768_i32_975 : BitVec 32 := 768#32
  let v1361 : BitVec 32 := Scalar.addi v1360 c768_i32_975
  let c0_i32_976 : BitVec 32 := 0#32
  let v1362 : BitVec 32 := Scalar.addi v1361 c0_i32_976
  let c0_i32_983 : BitVec 32 := 0#32
  ![v1362.toNat, 0]
def k0_dev175 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off168 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v521 : BitVec 32 := Scalar.addi v8 c1_i32_355
  let c4096_i32_985 : BitVec 32 := 4096#32
  let v1375 : BitVec 32 := Scalar.muli v521 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c768_i32_987 : BitVec 32 := 768#32
  let v1378 : BitVec 32 := Scalar.addi v1377 c768_i32_987
  let c0_i32_994 : BitVec 32 := 0#32
  ![v1378.toNat, 0]
def k0_off169 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v521 : BitVec 32 := Scalar.addi v8 c1_i32_355
  let c4096_i32_999 : BitVec 32 := 4096#32
  let v1394 : BitVec 32 := Scalar.muli v521 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c768_i32_1001 : BitVec 32 := 768#32
  let v1397 : BitVec 32 := Scalar.addi v1396 c768_i32_1001
  let c64_i32_1002 : BitVec 32 := 64#32
  let v1398 : BitVec 32 := Scalar.addi v1397 c64_i32_1002
  let c0_i32_1009 : BitVec 32 := 0#32
  ![v1398.toNat, 0]
def k0_dev176 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v531 : BitVec 1 := Scalar.cmpi .sge v8 c1_i32_363
  let v532 : BitVec 32 := Scalar.extui v531
  let c0_i32_364 : BitVec 32 := 0#32
  let v533 : BitVec 1 := Scalar.cmpi .ne v532 c0_i32_364
  v533

def k0_off170 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_361 : BitVec 32 := 1#32
  let v529 : BitVec 32 := Scalar.subi v8 c1_i32_361
  let c4096_i32_961 : BitVec 32 := 4096#32
  let v1339 : BitVec 32 := Scalar.muli v529 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c896_i32 : BitVec 32 := 896#32
  let v1342 : BitVec 32 := Scalar.addi v1341 c896_i32
  let c0_i32_967 : BitVec 32 := 0#32
  ![v1342.toNat, 0]
def k0_off171 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_361 : BitVec 32 := 1#32
  let v529 : BitVec 32 := Scalar.subi v8 c1_i32_361
  let c4096_i32_973 : BitVec 32 := 4096#32
  let v1358 : BitVec 32 := Scalar.muli v529 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c896_i32_975 : BitVec 32 := 896#32
  let v1361 : BitVec 32 := Scalar.addi v1360 c896_i32_975
  let c0_i32_976 : BitVec 32 := 0#32
  let v1362 : BitVec 32 := Scalar.addi v1361 c0_i32_976
  let c0_i32_983 : BitVec 32 := 0#32
  ![v1362.toNat, 0]
def k0_dev177 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off172 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_361 : BitVec 32 := 1#32
  let v529 : BitVec 32 := Scalar.subi v8 c1_i32_361
  let c4096_i32_985 : BitVec 32 := 4096#32
  let v1375 : BitVec 32 := Scalar.muli v529 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c896_i32_987 : BitVec 32 := 896#32
  let v1378 : BitVec 32 := Scalar.addi v1377 c896_i32_987
  let c0_i32_994 : BitVec 32 := 0#32
  ![v1378.toNat, 0]
def k0_off173 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_361 : BitVec 32 := 1#32
  let v529 : BitVec 32 := Scalar.subi v8 c1_i32_361
  let c4096_i32_999 : BitVec 32 := 4096#32
  let v1394 : BitVec 32 := Scalar.muli v529 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c896_i32_1001 : BitVec 32 := 896#32
  let v1397 : BitVec 32 := Scalar.addi v1396 c896_i32_1001
  let c64_i32_1002 : BitVec 32 := 64#32
  let v1398 : BitVec 32 := Scalar.addi v1397 c64_i32_1002
  let c0_i32_1009 : BitVec 32 := 0#32
  ![v1398.toNat, 0]
def k0_dev178 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_365 : BitVec 32 := 1#32
  let v534 : BitVec 32 := Scalar.addi v8 c1_i32_365
  let c3_i32_366 : BitVec 32 := 3#32
  let v535 : BitVec 1 := Scalar.cmpi .sle v534 c3_i32_366
  let v536 : BitVec 32 := Scalar.extui v535
  let c0_i32_367 : BitVec 32 := 0#32
  let v537 : BitVec 1 := Scalar.cmpi .ne v536 c0_i32_367
  v537

def k0_off174 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v530 : BitVec 32 := Scalar.addi v8 c1_i32_362
  let c4096_i32_961 : BitVec 32 := 4096#32
  let v1339 : BitVec 32 := Scalar.muli v530 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c896_i32 : BitVec 32 := 896#32
  let v1342 : BitVec 32 := Scalar.addi v1341 c896_i32
  let c0_i32_967 : BitVec 32 := 0#32
  ![v1342.toNat, 0]
def k0_off175 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v530 : BitVec 32 := Scalar.addi v8 c1_i32_362
  let c4096_i32_973 : BitVec 32 := 4096#32
  let v1358 : BitVec 32 := Scalar.muli v530 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c896_i32_975 : BitVec 32 := 896#32
  let v1361 : BitVec 32 := Scalar.addi v1360 c896_i32_975
  let c0_i32_976 : BitVec 32 := 0#32
  let v1362 : BitVec 32 := Scalar.addi v1361 c0_i32_976
  let c0_i32_983 : BitVec 32 := 0#32
  ![v1362.toNat, 0]
def k0_dev179 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off176 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v530 : BitVec 32 := Scalar.addi v8 c1_i32_362
  let c4096_i32_985 : BitVec 32 := 4096#32
  let v1375 : BitVec 32 := Scalar.muli v530 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c896_i32_987 : BitVec 32 := 896#32
  let v1378 : BitVec 32 := Scalar.addi v1377 c896_i32_987
  let c0_i32_994 : BitVec 32 := 0#32
  ![v1378.toNat, 0]
def k0_off177 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v530 : BitVec 32 := Scalar.addi v8 c1_i32_362
  let c4096_i32_999 : BitVec 32 := 4096#32
  let v1394 : BitVec 32 := Scalar.muli v530 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c896_i32_1001 : BitVec 32 := 896#32
  let v1397 : BitVec 32 := Scalar.addi v1396 c896_i32_1001
  let c64_i32_1002 : BitVec 32 := 64#32
  let v1398 : BitVec 32 := Scalar.addi v1397 c64_i32_1002
  let c0_i32_1009 : BitVec 32 := 0#32
  ![v1398.toNat, 0]
def k0_dev180 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_370 : BitVec 32 := 2#32
  let v540 : BitVec 1 := Scalar.cmpi .sge v8 c2_i32_370
  let v541 : BitVec 32 := Scalar.extui v540
  let c0_i32_371 : BitVec 32 := 0#32
  let v542 : BitVec 1 := Scalar.cmpi .ne v541 c0_i32_371
  v542

def k0_off178 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_368 : BitVec 32 := 2#32
  let v538 : BitVec 32 := Scalar.subi v8 c2_i32_368
  let c4096_i32_961 : BitVec 32 := 4096#32
  let v1339 : BitVec 32 := Scalar.muli v538 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c0_i32_962 : BitVec 32 := 0#32
  let v1342 : BitVec 32 := Scalar.addi v1341 c0_i32_962
  let c0_i32_969 : BitVec 32 := 0#32
  ![v1342.toNat, 0]
def k0_off179 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_368 : BitVec 32 := 2#32
  let v538 : BitVec 32 := Scalar.subi v8 c2_i32_368
  let c4096_i32_975 : BitVec 32 := 4096#32
  let v1358 : BitVec 32 := Scalar.muli v538 c4096_i32_975
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_976 : BitVec 32 := 1024#32
  let v1359 : BitVec 32 := Scalar.muli v13 c1024_i32_976
  let v1360 : BitVec 32 := Scalar.addi v1358 v1359
  let c0_i32_977 : BitVec 32 := 0#32
  let v1361 : BitVec 32 := Scalar.addi v1360 c0_i32_977
  let c0_i32_978 : BitVec 32 := 0#32
  let v1362 : BitVec 32 := Scalar.addi v1361 c0_i32_978
  let c0_i32_985 : BitVec 32 := 0#32
  ![v1362.toNat, 0]
def k0_dev181 (d0 : Dev nD) : Nat :=
  let c0_i32_982 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_981 : BitVec 32 := 8#32
  let v1363 : BitVec 32 := Scalar.muli v2 c8_i32_981
  let v1364 : BitVec 32 := Scalar.addi c0_i32_982 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_983 : BitVec 32 := 4#32
  let v1365 : BitVec 32 := Scalar.muli v46 c4_i32_983
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_984 : BitVec 32 := 1#32
  let v1367 : BitVec 32 := Scalar.muli v8 c1_i32_984
  let v1368 : BitVec 32 := Scalar.addi v1366 v1367
  v1368.toNat
def k0_off180 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_368 : BitVec 32 := 2#32
  let v538 : BitVec 32 := Scalar.subi v8 c2_i32_368
  let c4096_i32_987 : BitVec 32 := 4096#32
  let v1375 : BitVec 32 := Scalar.muli v538 c4096_i32_987
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_988 : BitVec 32 := 1024#32
  let v1376 : BitVec 32 := Scalar.muli v16 c1024_i32_988
  let v1377 : BitVec 32 := Scalar.addi v1375 v1376
  let c0_i32_989 : BitVec 32 := 0#32
  let v1378 : BitVec 32 := Scalar.addi v1377 c0_i32_989
  let c0_i32_996 : BitVec 32 := 0#32
  ![v1378.toNat, 0]
def k0_off181 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_368 : BitVec 32 := 2#32
  let v538 : BitVec 32 := Scalar.subi v8 c2_i32_368
  let c4096_i32_1001 : BitVec 32 := 4096#32
  let v1394 : BitVec 32 := Scalar.muli v538 c4096_i32_1001
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1002 : BitVec 32 := 1024#32
  let v1395 : BitVec 32 := Scalar.muli v16 c1024_i32_1002
  let v1396 : BitVec 32 := Scalar.addi v1394 v1395
  let c0_i32_1003 : BitVec 32 := 0#32
  let v1397 : BitVec 32 := Scalar.addi v1396 c0_i32_1003
  let c64_i32_1004 : BitVec 32 := 64#32
  let v1398 : BitVec 32 := Scalar.addi v1397 c64_i32_1004
  let c0_i32_1011 : BitVec 32 := 0#32
  ![v1398.toNat, 0]
def k0_dev182 (d0 : Dev nD) : Nat :=
  let c0_i32_1008 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1007 : BitVec 32 := 8#32
  let v1399 : BitVec 32 := Scalar.muli v45 c8_i32_1007
  let v1400 : BitVec 32 := Scalar.addi c0_i32_1008 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1009 : BitVec 32 := 4#32
  let v1401 : BitVec 32 := Scalar.muli v5 c4_i32_1009
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1010 : BitVec 32 := 1#32
  let v1403 : BitVec 32 := Scalar.muli v8 c1_i32_1010
  let v1404 : BitVec 32 := Scalar.addi v1402 v1403
  v1404.toNat
def k0_cond114 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_372 : BitVec 32 := 2#32
  let v543 : BitVec 32 := Scalar.addi v8 c2_i32_372
  let c3_i32_373 : BitVec 32 := 3#32
  let v544 : BitVec 1 := Scalar.cmpi .sle v543 c3_i32_373
  let v545 : BitVec 32 := Scalar.extui v544
  let c0_i32_374 : BitVec 32 := 0#32
  let v546 : BitVec 1 := Scalar.cmpi .ne v545 c0_i32_374
  v546

def k0_off182 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_369 : BitVec 32 := 2#32
  let v539 : BitVec 32 := Scalar.addi v8 c2_i32_369
  let c4096_i32_961 : BitVec 32 := 4096#32
  let v1339 : BitVec 32 := Scalar.muli v539 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c0_i32_962 : BitVec 32 := 0#32
  let v1342 : BitVec 32 := Scalar.addi v1341 c0_i32_962
  let c0_i32_968 : BitVec 32 := 0#32
  ![v1342.toNat, 0]
def k0_off183 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_369 : BitVec 32 := 2#32
  let v539 : BitVec 32 := Scalar.addi v8 c2_i32_369
  let c4096_i32_974 : BitVec 32 := 4096#32
  let v1358 : BitVec 32 := Scalar.muli v539 c4096_i32_974
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_975 : BitVec 32 := 1024#32
  let v1359 : BitVec 32 := Scalar.muli v13 c1024_i32_975
  let v1360 : BitVec 32 := Scalar.addi v1358 v1359
  let c0_i32_976 : BitVec 32 := 0#32
  let v1361 : BitVec 32 := Scalar.addi v1360 c0_i32_976
  let c0_i32_977 : BitVec 32 := 0#32
  let v1362 : BitVec 32 := Scalar.addi v1361 c0_i32_977
  let c0_i32_984 : BitVec 32 := 0#32
  ![v1362.toNat, 0]
def k0_dev183 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_980 : BitVec 32 := 8#32
  let v1363 : BitVec 32 := Scalar.muli v2 c8_i32_980
  let v1364 : BitVec 32 := Scalar.addi c0_i32_981 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_982 : BitVec 32 := 4#32
  let v1365 : BitVec 32 := Scalar.muli v46 c4_i32_982
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_983 : BitVec 32 := 1#32
  let v1367 : BitVec 32 := Scalar.muli v8 c1_i32_983
  let v1368 : BitVec 32 := Scalar.addi v1366 v1367
  v1368.toNat
def k0_off184 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_369 : BitVec 32 := 2#32
  let v539 : BitVec 32 := Scalar.addi v8 c2_i32_369
  let c4096_i32_986 : BitVec 32 := 4096#32
  let v1375 : BitVec 32 := Scalar.muli v539 c4096_i32_986
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_987 : BitVec 32 := 1024#32
  let v1376 : BitVec 32 := Scalar.muli v16 c1024_i32_987
  let v1377 : BitVec 32 := Scalar.addi v1375 v1376
  let c0_i32_988 : BitVec 32 := 0#32
  let v1378 : BitVec 32 := Scalar.addi v1377 c0_i32_988
  let c0_i32_995 : BitVec 32 := 0#32
  ![v1378.toNat, 0]
def k0_off185 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_369 : BitVec 32 := 2#32
  let v539 : BitVec 32 := Scalar.addi v8 c2_i32_369
  let c4096_i32_1000 : BitVec 32 := 4096#32
  let v1394 : BitVec 32 := Scalar.muli v539 c4096_i32_1000
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1001 : BitVec 32 := 1024#32
  let v1395 : BitVec 32 := Scalar.muli v16 c1024_i32_1001
  let v1396 : BitVec 32 := Scalar.addi v1394 v1395
  let c0_i32_1002 : BitVec 32 := 0#32
  let v1397 : BitVec 32 := Scalar.addi v1396 c0_i32_1002
  let c64_i32_1003 : BitVec 32 := 64#32
  let v1398 : BitVec 32 := Scalar.addi v1397 c64_i32_1003
  let c0_i32_1010 : BitVec 32 := 0#32
  ![v1398.toNat, 0]
def k0_dev184 (d0 : Dev nD) : Nat :=
  let c0_i32_1007 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1006 : BitVec 32 := 8#32
  let v1399 : BitVec 32 := Scalar.muli v45 c8_i32_1006
  let v1400 : BitVec 32 := Scalar.addi c0_i32_1007 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1008 : BitVec 32 := 4#32
  let v1401 : BitVec 32 := Scalar.muli v5 c4_i32_1008
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1403 : BitVec 32 := Scalar.muli v8 c1_i32_1009
  let v1404 : BitVec 32 := Scalar.addi v1402 v1403
  v1404.toNat
def k0_cond115 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_377 : BitVec 32 := 2#32
  let v549 : BitVec 1 := Scalar.cmpi .sge v8 c2_i32_377
  let v550 : BitVec 32 := Scalar.extui v549
  let c0_i32_378 : BitVec 32 := 0#32
  let v551 : BitVec 1 := Scalar.cmpi .ne v550 c0_i32_378
  v551

def k0_off186 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_375 : BitVec 32 := 2#32
  let v547 : BitVec 32 := Scalar.subi v8 c2_i32_375
  let c4096_i32_961 : BitVec 32 := 4096#32
  let v1339 : BitVec 32 := Scalar.muli v547 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c128_i32 : BitVec 32 := 128#32
  let v1342 : BitVec 32 := Scalar.addi v1341 c128_i32
  let c0_i32_967 : BitVec 32 := 0#32
  ![v1342.toNat, 0]
def k0_off187 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_375 : BitVec 32 := 2#32
  let v547 : BitVec 32 := Scalar.subi v8 c2_i32_375
  let c4096_i32_973 : BitVec 32 := 4096#32
  let v1358 : BitVec 32 := Scalar.muli v547 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c128_i32_975 : BitVec 32 := 128#32
  let v1361 : BitVec 32 := Scalar.addi v1360 c128_i32_975
  let c0_i32_976 : BitVec 32 := 0#32
  let v1362 : BitVec 32 := Scalar.addi v1361 c0_i32_976
  let c0_i32_983 : BitVec 32 := 0#32
  ![v1362.toNat, 0]
def k0_dev185 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off188 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_375 : BitVec 32 := 2#32
  let v547 : BitVec 32 := Scalar.subi v8 c2_i32_375
  let c4096_i32_985 : BitVec 32 := 4096#32
  let v1375 : BitVec 32 := Scalar.muli v547 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c128_i32_987 : BitVec 32 := 128#32
  let v1378 : BitVec 32 := Scalar.addi v1377 c128_i32_987
  let c0_i32_994 : BitVec 32 := 0#32
  ![v1378.toNat, 0]
def k0_off189 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_375 : BitVec 32 := 2#32
  let v547 : BitVec 32 := Scalar.subi v8 c2_i32_375
  let c4096_i32_999 : BitVec 32 := 4096#32
  let v1394 : BitVec 32 := Scalar.muli v547 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c128_i32_1001 : BitVec 32 := 128#32
  let v1397 : BitVec 32 := Scalar.addi v1396 c128_i32_1001
  let c64_i32_1002 : BitVec 32 := 64#32
  let v1398 : BitVec 32 := Scalar.addi v1397 c64_i32_1002
  let c0_i32_1009 : BitVec 32 := 0#32
  ![v1398.toNat, 0]
def k0_dev186 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond116 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_379 : BitVec 32 := 2#32
  let v552 : BitVec 32 := Scalar.addi v8 c2_i32_379
  let c3_i32_380 : BitVec 32 := 3#32
  let v553 : BitVec 1 := Scalar.cmpi .sle v552 c3_i32_380
  let v554 : BitVec 32 := Scalar.extui v553
  let c0_i32_381 : BitVec 32 := 0#32
  let v555 : BitVec 1 := Scalar.cmpi .ne v554 c0_i32_381
  v555

def k0_off190 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_376 : BitVec 32 := 2#32
  let v548 : BitVec 32 := Scalar.addi v8 c2_i32_376
  let c4096_i32_961 : BitVec 32 := 4096#32
  let v1339 : BitVec 32 := Scalar.muli v548 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c128_i32 : BitVec 32 := 128#32
  let v1342 : BitVec 32 := Scalar.addi v1341 c128_i32
  let c0_i32_967 : BitVec 32 := 0#32
  ![v1342.toNat, 0]
def k0_off191 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_376 : BitVec 32 := 2#32
  let v548 : BitVec 32 := Scalar.addi v8 c2_i32_376
  let c4096_i32_973 : BitVec 32 := 4096#32
  let v1358 : BitVec 32 := Scalar.muli v548 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c128_i32_975 : BitVec 32 := 128#32
  let v1361 : BitVec 32 := Scalar.addi v1360 c128_i32_975
  let c0_i32_976 : BitVec 32 := 0#32
  let v1362 : BitVec 32 := Scalar.addi v1361 c0_i32_976
  let c0_i32_983 : BitVec 32 := 0#32
  ![v1362.toNat, 0]
def k0_dev187 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off192 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_376 : BitVec 32 := 2#32
  let v548 : BitVec 32 := Scalar.addi v8 c2_i32_376
  let c4096_i32_985 : BitVec 32 := 4096#32
  let v1375 : BitVec 32 := Scalar.muli v548 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c128_i32_987 : BitVec 32 := 128#32
  let v1378 : BitVec 32 := Scalar.addi v1377 c128_i32_987
  let c0_i32_994 : BitVec 32 := 0#32
  ![v1378.toNat, 0]
def k0_off193 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_376 : BitVec 32 := 2#32
  let v548 : BitVec 32 := Scalar.addi v8 c2_i32_376
  let c4096_i32_999 : BitVec 32 := 4096#32
  let v1394 : BitVec 32 := Scalar.muli v548 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c128_i32_1001 : BitVec 32 := 128#32
  let v1397 : BitVec 32 := Scalar.addi v1396 c128_i32_1001
  let c64_i32_1002 : BitVec 32 := 64#32
  let v1398 : BitVec 32 := Scalar.addi v1397 c64_i32_1002
  let c0_i32_1009 : BitVec 32 := 0#32
  ![v1398.toNat, 0]
def k0_dev188 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond117 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_384 : BitVec 32 := 2#32
  let v558 : BitVec 1 := Scalar.cmpi .sge v8 c2_i32_384
  let v559 : BitVec 32 := Scalar.extui v558
  let c0_i32_385 : BitVec 32 := 0#32
  let v560 : BitVec 1 := Scalar.cmpi .ne v559 c0_i32_385
  v560

def k0_off194 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_382 : BitVec 32 := 2#32
  let v556 : BitVec 32 := Scalar.subi v8 c2_i32_382
  let c4096_i32_961 : BitVec 32 := 4096#32
  let v1339 : BitVec 32 := Scalar.muli v556 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c256_i32 : BitVec 32 := 256#32
  let v1342 : BitVec 32 := Scalar.addi v1341 c256_i32
  let c0_i32_967 : BitVec 32 := 0#32
  ![v1342.toNat, 0]
def k0_off195 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_382 : BitVec 32 := 2#32
  let v556 : BitVec 32 := Scalar.subi v8 c2_i32_382
  let c4096_i32_973 : BitVec 32 := 4096#32
  let v1358 : BitVec 32 := Scalar.muli v556 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c256_i32_975 : BitVec 32 := 256#32
  let v1361 : BitVec 32 := Scalar.addi v1360 c256_i32_975
  let c0_i32_976 : BitVec 32 := 0#32
  let v1362 : BitVec 32 := Scalar.addi v1361 c0_i32_976
  let c0_i32_983 : BitVec 32 := 0#32
  ![v1362.toNat, 0]
def k0_dev189 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off196 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_382 : BitVec 32 := 2#32
  let v556 : BitVec 32 := Scalar.subi v8 c2_i32_382
  let c4096_i32_985 : BitVec 32 := 4096#32
  let v1375 : BitVec 32 := Scalar.muli v556 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c256_i32_987 : BitVec 32 := 256#32
  let v1378 : BitVec 32 := Scalar.addi v1377 c256_i32_987
  let c0_i32_994 : BitVec 32 := 0#32
  ![v1378.toNat, 0]
def k0_off197 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_382 : BitVec 32 := 2#32
  let v556 : BitVec 32 := Scalar.subi v8 c2_i32_382
  let c4096_i32_999 : BitVec 32 := 4096#32
  let v1394 : BitVec 32 := Scalar.muli v556 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c256_i32_1001 : BitVec 32 := 256#32
  let v1397 : BitVec 32 := Scalar.addi v1396 c256_i32_1001
  let c64_i32_1002 : BitVec 32 := 64#32
  let v1398 : BitVec 32 := Scalar.addi v1397 c64_i32_1002
  let c0_i32_1009 : BitVec 32 := 0#32
  ![v1398.toNat, 0]
def k0_dev190 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond118 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_386 : BitVec 32 := 2#32
  let v561 : BitVec 32 := Scalar.addi v8 c2_i32_386
  let c3_i32_387 : BitVec 32 := 3#32
  let v562 : BitVec 1 := Scalar.cmpi .sle v561 c3_i32_387
  let v563 : BitVec 32 := Scalar.extui v562
  let c0_i32_388 : BitVec 32 := 0#32
  let v564 : BitVec 1 := Scalar.cmpi .ne v563 c0_i32_388
  v564

def k0_off198 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_383 : BitVec 32 := 2#32
  let v557 : BitVec 32 := Scalar.addi v8 c2_i32_383
  let c4096_i32_961 : BitVec 32 := 4096#32
  let v1339 : BitVec 32 := Scalar.muli v557 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c256_i32 : BitVec 32 := 256#32
  let v1342 : BitVec 32 := Scalar.addi v1341 c256_i32
  let c0_i32_967 : BitVec 32 := 0#32
  ![v1342.toNat, 0]
def k0_off199 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_383 : BitVec 32 := 2#32
  let v557 : BitVec 32 := Scalar.addi v8 c2_i32_383
  let c4096_i32_973 : BitVec 32 := 4096#32
  let v1358 : BitVec 32 := Scalar.muli v557 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c256_i32_975 : BitVec 32 := 256#32
  let v1361 : BitVec 32 := Scalar.addi v1360 c256_i32_975
  let c0_i32_976 : BitVec 32 := 0#32
  let v1362 : BitVec 32 := Scalar.addi v1361 c0_i32_976
  let c0_i32_983 : BitVec 32 := 0#32
  ![v1362.toNat, 0]
def k0_dev191 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off200 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_383 : BitVec 32 := 2#32
  let v557 : BitVec 32 := Scalar.addi v8 c2_i32_383
  let c4096_i32_985 : BitVec 32 := 4096#32
  let v1375 : BitVec 32 := Scalar.muli v557 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c256_i32_987 : BitVec 32 := 256#32
  let v1378 : BitVec 32 := Scalar.addi v1377 c256_i32_987
  let c0_i32_994 : BitVec 32 := 0#32
  ![v1378.toNat, 0]
def k0_off201 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_383 : BitVec 32 := 2#32
  let v557 : BitVec 32 := Scalar.addi v8 c2_i32_383
  let c4096_i32_999 : BitVec 32 := 4096#32
  let v1394 : BitVec 32 := Scalar.muli v557 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c256_i32_1001 : BitVec 32 := 256#32
  let v1397 : BitVec 32 := Scalar.addi v1396 c256_i32_1001
  let c64_i32_1002 : BitVec 32 := 64#32
  let v1398 : BitVec 32 := Scalar.addi v1397 c64_i32_1002
  let c0_i32_1009 : BitVec 32 := 0#32
  ![v1398.toNat, 0]
def k0_dev192 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond119 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_391 : BitVec 32 := 2#32
  let v567 : BitVec 1 := Scalar.cmpi .sge v8 c2_i32_391
  let v568 : BitVec 32 := Scalar.extui v567
  let c0_i32_392 : BitVec 32 := 0#32
  let v569 : BitVec 1 := Scalar.cmpi .ne v568 c0_i32_392
  v569

def k0_off202 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_389 : BitVec 32 := 2#32
  let v565 : BitVec 32 := Scalar.subi v8 c2_i32_389
  let c4096_i32_961 : BitVec 32 := 4096#32
  let v1339 : BitVec 32 := Scalar.muli v565 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c384_i32 : BitVec 32 := 384#32
  let v1342 : BitVec 32 := Scalar.addi v1341 c384_i32
  let c0_i32_967 : BitVec 32 := 0#32
  ![v1342.toNat, 0]
def k0_off203 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_389 : BitVec 32 := 2#32
  let v565 : BitVec 32 := Scalar.subi v8 c2_i32_389
  let c4096_i32_973 : BitVec 32 := 4096#32
  let v1358 : BitVec 32 := Scalar.muli v565 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c384_i32_975 : BitVec 32 := 384#32
  let v1361 : BitVec 32 := Scalar.addi v1360 c384_i32_975
  let c0_i32_976 : BitVec 32 := 0#32
  let v1362 : BitVec 32 := Scalar.addi v1361 c0_i32_976
  let c0_i32_983 : BitVec 32 := 0#32
  ![v1362.toNat, 0]
def k0_dev193 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off204 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_389 : BitVec 32 := 2#32
  let v565 : BitVec 32 := Scalar.subi v8 c2_i32_389
  let c4096_i32_985 : BitVec 32 := 4096#32
  let v1375 : BitVec 32 := Scalar.muli v565 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c384_i32_987 : BitVec 32 := 384#32
  let v1378 : BitVec 32 := Scalar.addi v1377 c384_i32_987
  let c0_i32_994 : BitVec 32 := 0#32
  ![v1378.toNat, 0]
def k0_off205 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_389 : BitVec 32 := 2#32
  let v565 : BitVec 32 := Scalar.subi v8 c2_i32_389
  let c4096_i32_999 : BitVec 32 := 4096#32
  let v1394 : BitVec 32 := Scalar.muli v565 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c384_i32_1001 : BitVec 32 := 384#32
  let v1397 : BitVec 32 := Scalar.addi v1396 c384_i32_1001
  let c64_i32_1002 : BitVec 32 := 64#32
  let v1398 : BitVec 32 := Scalar.addi v1397 c64_i32_1002
  let c0_i32_1009 : BitVec 32 := 0#32
  ![v1398.toNat, 0]
def k0_dev194 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond120 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_393 : BitVec 32 := 2#32
  let v570 : BitVec 32 := Scalar.addi v8 c2_i32_393
  let c3_i32_394 : BitVec 32 := 3#32
  let v571 : BitVec 1 := Scalar.cmpi .sle v570 c3_i32_394
  let v572 : BitVec 32 := Scalar.extui v571
  let c0_i32_395 : BitVec 32 := 0#32
  let v573 : BitVec 1 := Scalar.cmpi .ne v572 c0_i32_395
  v573

def k0_off206 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_390 : BitVec 32 := 2#32
  let v566 : BitVec 32 := Scalar.addi v8 c2_i32_390
  let c4096_i32_961 : BitVec 32 := 4096#32
  let v1339 : BitVec 32 := Scalar.muli v566 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c384_i32 : BitVec 32 := 384#32
  let v1342 : BitVec 32 := Scalar.addi v1341 c384_i32
  let c0_i32_967 : BitVec 32 := 0#32
  ![v1342.toNat, 0]
def k0_off207 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_390 : BitVec 32 := 2#32
  let v566 : BitVec 32 := Scalar.addi v8 c2_i32_390
  let c4096_i32_973 : BitVec 32 := 4096#32
  let v1358 : BitVec 32 := Scalar.muli v566 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c384_i32_975 : BitVec 32 := 384#32
  let v1361 : BitVec 32 := Scalar.addi v1360 c384_i32_975
  let c0_i32_976 : BitVec 32 := 0#32
  let v1362 : BitVec 32 := Scalar.addi v1361 c0_i32_976
  let c0_i32_983 : BitVec 32 := 0#32
  ![v1362.toNat, 0]
def k0_dev195 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off208 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_390 : BitVec 32 := 2#32
  let v566 : BitVec 32 := Scalar.addi v8 c2_i32_390
  let c4096_i32_985 : BitVec 32 := 4096#32
  let v1375 : BitVec 32 := Scalar.muli v566 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c384_i32_987 : BitVec 32 := 384#32
  let v1378 : BitVec 32 := Scalar.addi v1377 c384_i32_987
  let c0_i32_994 : BitVec 32 := 0#32
  ![v1378.toNat, 0]
def k0_off209 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_390 : BitVec 32 := 2#32
  let v566 : BitVec 32 := Scalar.addi v8 c2_i32_390
  let c4096_i32_999 : BitVec 32 := 4096#32
  let v1394 : BitVec 32 := Scalar.muli v566 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c384_i32_1001 : BitVec 32 := 384#32
  let v1397 : BitVec 32 := Scalar.addi v1396 c384_i32_1001
  let c64_i32_1002 : BitVec 32 := 64#32
  let v1398 : BitVec 32 := Scalar.addi v1397 c64_i32_1002
  let c0_i32_1009 : BitVec 32 := 0#32
  ![v1398.toNat, 0]
def k0_dev196 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond121 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_398 : BitVec 32 := 2#32
  let v576 : BitVec 1 := Scalar.cmpi .sge v8 c2_i32_398
  let v577 : BitVec 32 := Scalar.extui v576
  let c0_i32_399 : BitVec 32 := 0#32
  let v578 : BitVec 1 := Scalar.cmpi .ne v577 c0_i32_399
  v578

def k0_off210 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_396 : BitVec 32 := 2#32
  let v574 : BitVec 32 := Scalar.subi v8 c2_i32_396
  let c4096_i32_961 : BitVec 32 := 4096#32
  let v1339 : BitVec 32 := Scalar.muli v574 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c512_i32 : BitVec 32 := 512#32
  let v1342 : BitVec 32 := Scalar.addi v1341 c512_i32
  let c0_i32_967 : BitVec 32 := 0#32
  ![v1342.toNat, 0]
def k0_off211 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_396 : BitVec 32 := 2#32
  let v574 : BitVec 32 := Scalar.subi v8 c2_i32_396
  let c4096_i32_973 : BitVec 32 := 4096#32
  let v1358 : BitVec 32 := Scalar.muli v574 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c512_i32_975 : BitVec 32 := 512#32
  let v1361 : BitVec 32 := Scalar.addi v1360 c512_i32_975
  let c0_i32_976 : BitVec 32 := 0#32
  let v1362 : BitVec 32 := Scalar.addi v1361 c0_i32_976
  let c0_i32_983 : BitVec 32 := 0#32
  ![v1362.toNat, 0]
def k0_dev197 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off212 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_396 : BitVec 32 := 2#32
  let v574 : BitVec 32 := Scalar.subi v8 c2_i32_396
  let c4096_i32_985 : BitVec 32 := 4096#32
  let v1375 : BitVec 32 := Scalar.muli v574 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c512_i32_987 : BitVec 32 := 512#32
  let v1378 : BitVec 32 := Scalar.addi v1377 c512_i32_987
  let c0_i32_994 : BitVec 32 := 0#32
  ![v1378.toNat, 0]
def k0_off213 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_396 : BitVec 32 := 2#32
  let v574 : BitVec 32 := Scalar.subi v8 c2_i32_396
  let c4096_i32_999 : BitVec 32 := 4096#32
  let v1394 : BitVec 32 := Scalar.muli v574 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c512_i32_1001 : BitVec 32 := 512#32
  let v1397 : BitVec 32 := Scalar.addi v1396 c512_i32_1001
  let c64_i32_1002 : BitVec 32 := 64#32
  let v1398 : BitVec 32 := Scalar.addi v1397 c64_i32_1002
  let c0_i32_1009 : BitVec 32 := 0#32
  ![v1398.toNat, 0]
def k0_dev198 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond122 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_400 : BitVec 32 := 2#32
  let v579 : BitVec 32 := Scalar.addi v8 c2_i32_400
  let c3_i32_401 : BitVec 32 := 3#32
  let v580 : BitVec 1 := Scalar.cmpi .sle v579 c3_i32_401
  let v581 : BitVec 32 := Scalar.extui v580
  let c0_i32_402 : BitVec 32 := 0#32
  let v582 : BitVec 1 := Scalar.cmpi .ne v581 c0_i32_402
  v582

def k0_off214 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_397 : BitVec 32 := 2#32
  let v575 : BitVec 32 := Scalar.addi v8 c2_i32_397
  let c4096_i32_961 : BitVec 32 := 4096#32
  let v1339 : BitVec 32 := Scalar.muli v575 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c512_i32 : BitVec 32 := 512#32
  let v1342 : BitVec 32 := Scalar.addi v1341 c512_i32
  let c0_i32_967 : BitVec 32 := 0#32
  ![v1342.toNat, 0]
def k0_off215 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_397 : BitVec 32 := 2#32
  let v575 : BitVec 32 := Scalar.addi v8 c2_i32_397
  let c4096_i32_973 : BitVec 32 := 4096#32
  let v1358 : BitVec 32 := Scalar.muli v575 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c512_i32_975 : BitVec 32 := 512#32
  let v1361 : BitVec 32 := Scalar.addi v1360 c512_i32_975
  let c0_i32_976 : BitVec 32 := 0#32
  let v1362 : BitVec 32 := Scalar.addi v1361 c0_i32_976
  let c0_i32_983 : BitVec 32 := 0#32
  ![v1362.toNat, 0]
def k0_dev199 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off216 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_397 : BitVec 32 := 2#32
  let v575 : BitVec 32 := Scalar.addi v8 c2_i32_397
  let c4096_i32_985 : BitVec 32 := 4096#32
  let v1375 : BitVec 32 := Scalar.muli v575 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c512_i32_987 : BitVec 32 := 512#32
  let v1378 : BitVec 32 := Scalar.addi v1377 c512_i32_987
  let c0_i32_994 : BitVec 32 := 0#32
  ![v1378.toNat, 0]
def k0_off217 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_397 : BitVec 32 := 2#32
  let v575 : BitVec 32 := Scalar.addi v8 c2_i32_397
  let c4096_i32_999 : BitVec 32 := 4096#32
  let v1394 : BitVec 32 := Scalar.muli v575 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c512_i32_1001 : BitVec 32 := 512#32
  let v1397 : BitVec 32 := Scalar.addi v1396 c512_i32_1001
  let c64_i32_1002 : BitVec 32 := 64#32
  let v1398 : BitVec 32 := Scalar.addi v1397 c64_i32_1002
  let c0_i32_1009 : BitVec 32 := 0#32
  ![v1398.toNat, 0]
def k0_dev200 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond123 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_405 : BitVec 32 := 2#32
  let v585 : BitVec 1 := Scalar.cmpi .sge v8 c2_i32_405
  let v586 : BitVec 32 := Scalar.extui v585
  let c0_i32_406 : BitVec 32 := 0#32
  let v587 : BitVec 1 := Scalar.cmpi .ne v586 c0_i32_406
  v587

def k0_off218 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_403 : BitVec 32 := 2#32
  let v583 : BitVec 32 := Scalar.subi v8 c2_i32_403
  let c4096_i32_961 : BitVec 32 := 4096#32
  let v1339 : BitVec 32 := Scalar.muli v583 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c640_i32 : BitVec 32 := 640#32
  let v1342 : BitVec 32 := Scalar.addi v1341 c640_i32
  let c0_i32_967 : BitVec 32 := 0#32
  ![v1342.toNat, 0]
def k0_off219 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_403 : BitVec 32 := 2#32
  let v583 : BitVec 32 := Scalar.subi v8 c2_i32_403
  let c4096_i32_973 : BitVec 32 := 4096#32
  let v1358 : BitVec 32 := Scalar.muli v583 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c640_i32_975 : BitVec 32 := 640#32
  let v1361 : BitVec 32 := Scalar.addi v1360 c640_i32_975
  let c0_i32_976 : BitVec 32 := 0#32
  let v1362 : BitVec 32 := Scalar.addi v1361 c0_i32_976
  let c0_i32_983 : BitVec 32 := 0#32
  ![v1362.toNat, 0]
def k0_dev201 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off220 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_403 : BitVec 32 := 2#32
  let v583 : BitVec 32 := Scalar.subi v8 c2_i32_403
  let c4096_i32_985 : BitVec 32 := 4096#32
  let v1375 : BitVec 32 := Scalar.muli v583 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c640_i32_987 : BitVec 32 := 640#32
  let v1378 : BitVec 32 := Scalar.addi v1377 c640_i32_987
  let c0_i32_994 : BitVec 32 := 0#32
  ![v1378.toNat, 0]
def k0_off221 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_403 : BitVec 32 := 2#32
  let v583 : BitVec 32 := Scalar.subi v8 c2_i32_403
  let c4096_i32_999 : BitVec 32 := 4096#32
  let v1394 : BitVec 32 := Scalar.muli v583 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c640_i32_1001 : BitVec 32 := 640#32
  let v1397 : BitVec 32 := Scalar.addi v1396 c640_i32_1001
  let c64_i32_1002 : BitVec 32 := 64#32
  let v1398 : BitVec 32 := Scalar.addi v1397 c64_i32_1002
  let c0_i32_1009 : BitVec 32 := 0#32
  ![v1398.toNat, 0]
def k0_dev202 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond124 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_407 : BitVec 32 := 2#32
  let v588 : BitVec 32 := Scalar.addi v8 c2_i32_407
  let c3_i32_408 : BitVec 32 := 3#32
  let v589 : BitVec 1 := Scalar.cmpi .sle v588 c3_i32_408
  let v590 : BitVec 32 := Scalar.extui v589
  let c0_i32_409 : BitVec 32 := 0#32
  let v591 : BitVec 1 := Scalar.cmpi .ne v590 c0_i32_409
  v591

def k0_off222 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_404 : BitVec 32 := 2#32
  let v584 : BitVec 32 := Scalar.addi v8 c2_i32_404
  let c4096_i32_961 : BitVec 32 := 4096#32
  let v1339 : BitVec 32 := Scalar.muli v584 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c640_i32 : BitVec 32 := 640#32
  let v1342 : BitVec 32 := Scalar.addi v1341 c640_i32
  let c0_i32_967 : BitVec 32 := 0#32
  ![v1342.toNat, 0]
def k0_off223 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_404 : BitVec 32 := 2#32
  let v584 : BitVec 32 := Scalar.addi v8 c2_i32_404
  let c4096_i32_973 : BitVec 32 := 4096#32
  let v1358 : BitVec 32 := Scalar.muli v584 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c640_i32_975 : BitVec 32 := 640#32
  let v1361 : BitVec 32 := Scalar.addi v1360 c640_i32_975
  let c0_i32_976 : BitVec 32 := 0#32
  let v1362 : BitVec 32 := Scalar.addi v1361 c0_i32_976
  let c0_i32_983 : BitVec 32 := 0#32
  ![v1362.toNat, 0]
def k0_dev203 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off224 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_404 : BitVec 32 := 2#32
  let v584 : BitVec 32 := Scalar.addi v8 c2_i32_404
  let c4096_i32_985 : BitVec 32 := 4096#32
  let v1375 : BitVec 32 := Scalar.muli v584 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c640_i32_987 : BitVec 32 := 640#32
  let v1378 : BitVec 32 := Scalar.addi v1377 c640_i32_987
  let c0_i32_994 : BitVec 32 := 0#32
  ![v1378.toNat, 0]
def k0_off225 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_404 : BitVec 32 := 2#32
  let v584 : BitVec 32 := Scalar.addi v8 c2_i32_404
  let c4096_i32_999 : BitVec 32 := 4096#32
  let v1394 : BitVec 32 := Scalar.muli v584 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c640_i32_1001 : BitVec 32 := 640#32
  let v1397 : BitVec 32 := Scalar.addi v1396 c640_i32_1001
  let c64_i32_1002 : BitVec 32 := 64#32
  let v1398 : BitVec 32 := Scalar.addi v1397 c64_i32_1002
  let c0_i32_1009 : BitVec 32 := 0#32
  ![v1398.toNat, 0]
def k0_dev204 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond125 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_412 : BitVec 32 := 2#32
  let v594 : BitVec 1 := Scalar.cmpi .sge v8 c2_i32_412
  let v595 : BitVec 32 := Scalar.extui v594
  let c0_i32_413 : BitVec 32 := 0#32
  let v596 : BitVec 1 := Scalar.cmpi .ne v595 c0_i32_413
  v596

def k0_off226 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_410 : BitVec 32 := 2#32
  let v592 : BitVec 32 := Scalar.subi v8 c2_i32_410
  let c4096_i32_961 : BitVec 32 := 4096#32
  let v1339 : BitVec 32 := Scalar.muli v592 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c768_i32 : BitVec 32 := 768#32
  let v1342 : BitVec 32 := Scalar.addi v1341 c768_i32
  let c0_i32_967 : BitVec 32 := 0#32
  ![v1342.toNat, 0]
def k0_off227 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_410 : BitVec 32 := 2#32
  let v592 : BitVec 32 := Scalar.subi v8 c2_i32_410
  let c4096_i32_973 : BitVec 32 := 4096#32
  let v1358 : BitVec 32 := Scalar.muli v592 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c768_i32_975 : BitVec 32 := 768#32
  let v1361 : BitVec 32 := Scalar.addi v1360 c768_i32_975
  let c0_i32_976 : BitVec 32 := 0#32
  let v1362 : BitVec 32 := Scalar.addi v1361 c0_i32_976
  let c0_i32_983 : BitVec 32 := 0#32
  ![v1362.toNat, 0]
def k0_dev205 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off228 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_410 : BitVec 32 := 2#32
  let v592 : BitVec 32 := Scalar.subi v8 c2_i32_410
  let c4096_i32_985 : BitVec 32 := 4096#32
  let v1375 : BitVec 32 := Scalar.muli v592 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c768_i32_987 : BitVec 32 := 768#32
  let v1378 : BitVec 32 := Scalar.addi v1377 c768_i32_987
  let c0_i32_994 : BitVec 32 := 0#32
  ![v1378.toNat, 0]
def k0_off229 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_410 : BitVec 32 := 2#32
  let v592 : BitVec 32 := Scalar.subi v8 c2_i32_410
  let c4096_i32_999 : BitVec 32 := 4096#32
  let v1394 : BitVec 32 := Scalar.muli v592 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c768_i32_1001 : BitVec 32 := 768#32
  let v1397 : BitVec 32 := Scalar.addi v1396 c768_i32_1001
  let c64_i32_1002 : BitVec 32 := 64#32
  let v1398 : BitVec 32 := Scalar.addi v1397 c64_i32_1002
  let c0_i32_1009 : BitVec 32 := 0#32
  ![v1398.toNat, 0]
def k0_dev206 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond126 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_414 : BitVec 32 := 2#32
  let v597 : BitVec 32 := Scalar.addi v8 c2_i32_414
  let c3_i32_415 : BitVec 32 := 3#32
  let v598 : BitVec 1 := Scalar.cmpi .sle v597 c3_i32_415
  let v599 : BitVec 32 := Scalar.extui v598
  let c0_i32_416 : BitVec 32 := 0#32
  let v600 : BitVec 1 := Scalar.cmpi .ne v599 c0_i32_416
  v600

def k0_off230 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_411 : BitVec 32 := 2#32
  let v593 : BitVec 32 := Scalar.addi v8 c2_i32_411
  let c4096_i32_961 : BitVec 32 := 4096#32
  let v1339 : BitVec 32 := Scalar.muli v593 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c768_i32 : BitVec 32 := 768#32
  let v1342 : BitVec 32 := Scalar.addi v1341 c768_i32
  let c0_i32_967 : BitVec 32 := 0#32
  ![v1342.toNat, 0]
def k0_off231 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_411 : BitVec 32 := 2#32
  let v593 : BitVec 32 := Scalar.addi v8 c2_i32_411
  let c4096_i32_973 : BitVec 32 := 4096#32
  let v1358 : BitVec 32 := Scalar.muli v593 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c768_i32_975 : BitVec 32 := 768#32
  let v1361 : BitVec 32 := Scalar.addi v1360 c768_i32_975
  let c0_i32_976 : BitVec 32 := 0#32
  let v1362 : BitVec 32 := Scalar.addi v1361 c0_i32_976
  let c0_i32_983 : BitVec 32 := 0#32
  ![v1362.toNat, 0]
def k0_dev207 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off232 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_411 : BitVec 32 := 2#32
  let v593 : BitVec 32 := Scalar.addi v8 c2_i32_411
  let c4096_i32_985 : BitVec 32 := 4096#32
  let v1375 : BitVec 32 := Scalar.muli v593 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c768_i32_987 : BitVec 32 := 768#32
  let v1378 : BitVec 32 := Scalar.addi v1377 c768_i32_987
  let c0_i32_994 : BitVec 32 := 0#32
  ![v1378.toNat, 0]
def k0_off233 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_411 : BitVec 32 := 2#32
  let v593 : BitVec 32 := Scalar.addi v8 c2_i32_411
  let c4096_i32_999 : BitVec 32 := 4096#32
  let v1394 : BitVec 32 := Scalar.muli v593 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c768_i32_1001 : BitVec 32 := 768#32
  let v1397 : BitVec 32 := Scalar.addi v1396 c768_i32_1001
  let c64_i32_1002 : BitVec 32 := 64#32
  let v1398 : BitVec 32 := Scalar.addi v1397 c64_i32_1002
  let c0_i32_1009 : BitVec 32 := 0#32
  ![v1398.toNat, 0]
def k0_dev208 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond127 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_419 : BitVec 32 := 2#32
  let v603 : BitVec 1 := Scalar.cmpi .sge v8 c2_i32_419
  let v604 : BitVec 32 := Scalar.extui v603
  let c0_i32_420 : BitVec 32 := 0#32
  let v605 : BitVec 1 := Scalar.cmpi .ne v604 c0_i32_420
  v605

def k0_off234 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_417 : BitVec 32 := 2#32
  let v601 : BitVec 32 := Scalar.subi v8 c2_i32_417
  let c4096_i32_961 : BitVec 32 := 4096#32
  let v1339 : BitVec 32 := Scalar.muli v601 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c896_i32 : BitVec 32 := 896#32
  let v1342 : BitVec 32 := Scalar.addi v1341 c896_i32
  let c0_i32_967 : BitVec 32 := 0#32
  ![v1342.toNat, 0]
def k0_off235 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_417 : BitVec 32 := 2#32
  let v601 : BitVec 32 := Scalar.subi v8 c2_i32_417
  let c4096_i32_973 : BitVec 32 := 4096#32
  let v1358 : BitVec 32 := Scalar.muli v601 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c896_i32_975 : BitVec 32 := 896#32
  let v1361 : BitVec 32 := Scalar.addi v1360 c896_i32_975
  let c0_i32_976 : BitVec 32 := 0#32
  let v1362 : BitVec 32 := Scalar.addi v1361 c0_i32_976
  let c0_i32_983 : BitVec 32 := 0#32
  ![v1362.toNat, 0]
def k0_dev209 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off236 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_417 : BitVec 32 := 2#32
  let v601 : BitVec 32 := Scalar.subi v8 c2_i32_417
  let c4096_i32_985 : BitVec 32 := 4096#32
  let v1375 : BitVec 32 := Scalar.muli v601 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c896_i32_987 : BitVec 32 := 896#32
  let v1378 : BitVec 32 := Scalar.addi v1377 c896_i32_987
  let c0_i32_994 : BitVec 32 := 0#32
  ![v1378.toNat, 0]
def k0_off237 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_417 : BitVec 32 := 2#32
  let v601 : BitVec 32 := Scalar.subi v8 c2_i32_417
  let c4096_i32_999 : BitVec 32 := 4096#32
  let v1394 : BitVec 32 := Scalar.muli v601 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c896_i32_1001 : BitVec 32 := 896#32
  let v1397 : BitVec 32 := Scalar.addi v1396 c896_i32_1001
  let c64_i32_1002 : BitVec 32 := 64#32
  let v1398 : BitVec 32 := Scalar.addi v1397 c64_i32_1002
  let c0_i32_1009 : BitVec 32 := 0#32
  ![v1398.toNat, 0]
def k0_dev210 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond128 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_421 : BitVec 32 := 2#32
  let v606 : BitVec 32 := Scalar.addi v8 c2_i32_421
  let c3_i32_422 : BitVec 32 := 3#32
  let v607 : BitVec 1 := Scalar.cmpi .sle v606 c3_i32_422
  let v608 : BitVec 32 := Scalar.extui v607
  let c0_i32_423 : BitVec 32 := 0#32
  let v609 : BitVec 1 := Scalar.cmpi .ne v608 c0_i32_423
  v609

def k0_off238 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_418 : BitVec 32 := 2#32
  let v602 : BitVec 32 := Scalar.addi v8 c2_i32_418
  let c4096_i32_961 : BitVec 32 := 4096#32
  let v1339 : BitVec 32 := Scalar.muli v602 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c896_i32 : BitVec 32 := 896#32
  let v1342 : BitVec 32 := Scalar.addi v1341 c896_i32
  let c0_i32_967 : BitVec 32 := 0#32
  ![v1342.toNat, 0]
def k0_off239 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_418 : BitVec 32 := 2#32
  let v602 : BitVec 32 := Scalar.addi v8 c2_i32_418
  let c4096_i32_973 : BitVec 32 := 4096#32
  let v1358 : BitVec 32 := Scalar.muli v602 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c896_i32_975 : BitVec 32 := 896#32
  let v1361 : BitVec 32 := Scalar.addi v1360 c896_i32_975
  let c0_i32_976 : BitVec 32 := 0#32
  let v1362 : BitVec 32 := Scalar.addi v1361 c0_i32_976
  let c0_i32_983 : BitVec 32 := 0#32
  ![v1362.toNat, 0]
def k0_dev211 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off240 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_418 : BitVec 32 := 2#32
  let v602 : BitVec 32 := Scalar.addi v8 c2_i32_418
  let c4096_i32_985 : BitVec 32 := 4096#32
  let v1375 : BitVec 32 := Scalar.muli v602 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c896_i32_987 : BitVec 32 := 896#32
  let v1378 : BitVec 32 := Scalar.addi v1377 c896_i32_987
  let c0_i32_994 : BitVec 32 := 0#32
  ![v1378.toNat, 0]
def k0_off241 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_418 : BitVec 32 := 2#32
  let v602 : BitVec 32 := Scalar.addi v8 c2_i32_418
  let c4096_i32_999 : BitVec 32 := 4096#32
  let v1394 : BitVec 32 := Scalar.muli v602 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c896_i32_1001 : BitVec 32 := 896#32
  let v1397 : BitVec 32 := Scalar.addi v1396 c896_i32_1001
  let c64_i32_1002 : BitVec 32 := 64#32
  let v1398 : BitVec 32 := Scalar.addi v1397 c64_i32_1002
  let c0_i32_1009 : BitVec 32 := 0#32
  ![v1398.toNat, 0]
def k0_dev212 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond129 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_426 : BitVec 32 := 3#32
  let v612 : BitVec 1 := Scalar.cmpi .sge v8 c3_i32_426
  let v613 : BitVec 32 := Scalar.extui v612
  let c0_i32_427 : BitVec 32 := 0#32
  let v614 : BitVec 1 := Scalar.cmpi .ne v613 c0_i32_427
  v614

def k0_off242 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_424 : BitVec 32 := 3#32
  let v610 : BitVec 32 := Scalar.subi v8 c3_i32_424
  let c4096_i32_961 : BitVec 32 := 4096#32
  let v1339 : BitVec 32 := Scalar.muli v610 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c0_i32_962 : BitVec 32 := 0#32
  let v1342 : BitVec 32 := Scalar.addi v1341 c0_i32_962
  let c0_i32_968 : BitVec 32 := 0#32
  ![v1342.toNat, 0]
def k0_off243 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_424 : BitVec 32 := 3#32
  let v610 : BitVec 32 := Scalar.subi v8 c3_i32_424
  let c4096_i32_974 : BitVec 32 := 4096#32
  let v1358 : BitVec 32 := Scalar.muli v610 c4096_i32_974
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_975 : BitVec 32 := 1024#32
  let v1359 : BitVec 32 := Scalar.muli v13 c1024_i32_975
  let v1360 : BitVec 32 := Scalar.addi v1358 v1359
  let c0_i32_976 : BitVec 32 := 0#32
  let v1361 : BitVec 32 := Scalar.addi v1360 c0_i32_976
  let c0_i32_977 : BitVec 32 := 0#32
  let v1362 : BitVec 32 := Scalar.addi v1361 c0_i32_977
  let c0_i32_984 : BitVec 32 := 0#32
  ![v1362.toNat, 0]
def k0_dev213 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_980 : BitVec 32 := 8#32
  let v1363 : BitVec 32 := Scalar.muli v2 c8_i32_980
  let v1364 : BitVec 32 := Scalar.addi c0_i32_981 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_982 : BitVec 32 := 4#32
  let v1365 : BitVec 32 := Scalar.muli v46 c4_i32_982
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_983 : BitVec 32 := 1#32
  let v1367 : BitVec 32 := Scalar.muli v8 c1_i32_983
  let v1368 : BitVec 32 := Scalar.addi v1366 v1367
  v1368.toNat
def k0_off244 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_424 : BitVec 32 := 3#32
  let v610 : BitVec 32 := Scalar.subi v8 c3_i32_424
  let c4096_i32_986 : BitVec 32 := 4096#32
  let v1375 : BitVec 32 := Scalar.muli v610 c4096_i32_986
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_987 : BitVec 32 := 1024#32
  let v1376 : BitVec 32 := Scalar.muli v16 c1024_i32_987
  let v1377 : BitVec 32 := Scalar.addi v1375 v1376
  let c0_i32_988 : BitVec 32 := 0#32
  let v1378 : BitVec 32 := Scalar.addi v1377 c0_i32_988
  let c0_i32_995 : BitVec 32 := 0#32
  ![v1378.toNat, 0]
def k0_off245 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_424 : BitVec 32 := 3#32
  let v610 : BitVec 32 := Scalar.subi v8 c3_i32_424
  let c4096_i32_1000 : BitVec 32 := 4096#32
  let v1394 : BitVec 32 := Scalar.muli v610 c4096_i32_1000
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1001 : BitVec 32 := 1024#32
  let v1395 : BitVec 32 := Scalar.muli v16 c1024_i32_1001
  let v1396 : BitVec 32 := Scalar.addi v1394 v1395
  let c0_i32_1002 : BitVec 32 := 0#32
  let v1397 : BitVec 32 := Scalar.addi v1396 c0_i32_1002
  let c64_i32_1003 : BitVec 32 := 64#32
  let v1398 : BitVec 32 := Scalar.addi v1397 c64_i32_1003
  let c0_i32_1010 : BitVec 32 := 0#32
  ![v1398.toNat, 0]
def k0_dev214 (d0 : Dev nD) : Nat :=
  let c0_i32_1007 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1006 : BitVec 32 := 8#32
  let v1399 : BitVec 32 := Scalar.muli v45 c8_i32_1006
  let v1400 : BitVec 32 := Scalar.addi c0_i32_1007 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1008 : BitVec 32 := 4#32
  let v1401 : BitVec 32 := Scalar.muli v5 c4_i32_1008
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1403 : BitVec 32 := Scalar.muli v8 c1_i32_1009
  let v1404 : BitVec 32 := Scalar.addi v1402 v1403
  v1404.toNat
def k0_cond130 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_428 : BitVec 32 := 3#32
  let v615 : BitVec 32 := Scalar.addi v8 c3_i32_428
  let c3_i32_429 : BitVec 32 := 3#32
  let v616 : BitVec 1 := Scalar.cmpi .sle v615 c3_i32_429
  let v617 : BitVec 32 := Scalar.extui v616
  let c0_i32_430 : BitVec 32 := 0#32
  let v618 : BitVec 1 := Scalar.cmpi .ne v617 c0_i32_430
  v618

def k0_off246 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_425 : BitVec 32 := 3#32
  let v611 : BitVec 32 := Scalar.addi v8 c3_i32_425
  let c4096_i32_961 : BitVec 32 := 4096#32
  let v1339 : BitVec 32 := Scalar.muli v611 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c0_i32_962 : BitVec 32 := 0#32
  let v1342 : BitVec 32 := Scalar.addi v1341 c0_i32_962
  let c0_i32_968 : BitVec 32 := 0#32
  ![v1342.toNat, 0]
def k0_off247 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_425 : BitVec 32 := 3#32
  let v611 : BitVec 32 := Scalar.addi v8 c3_i32_425
  let c4096_i32_974 : BitVec 32 := 4096#32
  let v1358 : BitVec 32 := Scalar.muli v611 c4096_i32_974
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_975 : BitVec 32 := 1024#32
  let v1359 : BitVec 32 := Scalar.muli v13 c1024_i32_975
  let v1360 : BitVec 32 := Scalar.addi v1358 v1359
  let c0_i32_976 : BitVec 32 := 0#32
  let v1361 : BitVec 32 := Scalar.addi v1360 c0_i32_976
  let c0_i32_977 : BitVec 32 := 0#32
  let v1362 : BitVec 32 := Scalar.addi v1361 c0_i32_977
  let c0_i32_984 : BitVec 32 := 0#32
  ![v1362.toNat, 0]
def k0_dev215 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_980 : BitVec 32 := 8#32
  let v1363 : BitVec 32 := Scalar.muli v2 c8_i32_980
  let v1364 : BitVec 32 := Scalar.addi c0_i32_981 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_982 : BitVec 32 := 4#32
  let v1365 : BitVec 32 := Scalar.muli v46 c4_i32_982
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_983 : BitVec 32 := 1#32
  let v1367 : BitVec 32 := Scalar.muli v8 c1_i32_983
  let v1368 : BitVec 32 := Scalar.addi v1366 v1367
  v1368.toNat
def k0_off248 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_425 : BitVec 32 := 3#32
  let v611 : BitVec 32 := Scalar.addi v8 c3_i32_425
  let c4096_i32_986 : BitVec 32 := 4096#32
  let v1375 : BitVec 32 := Scalar.muli v611 c4096_i32_986
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_987 : BitVec 32 := 1024#32
  let v1376 : BitVec 32 := Scalar.muli v16 c1024_i32_987
  let v1377 : BitVec 32 := Scalar.addi v1375 v1376
  let c0_i32_988 : BitVec 32 := 0#32
  let v1378 : BitVec 32 := Scalar.addi v1377 c0_i32_988
  let c0_i32_995 : BitVec 32 := 0#32
  ![v1378.toNat, 0]
def k0_off249 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_425 : BitVec 32 := 3#32
  let v611 : BitVec 32 := Scalar.addi v8 c3_i32_425
  let c4096_i32_1000 : BitVec 32 := 4096#32
  let v1394 : BitVec 32 := Scalar.muli v611 c4096_i32_1000
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1001 : BitVec 32 := 1024#32
  let v1395 : BitVec 32 := Scalar.muli v16 c1024_i32_1001
  let v1396 : BitVec 32 := Scalar.addi v1394 v1395
  let c0_i32_1002 : BitVec 32 := 0#32
  let v1397 : BitVec 32 := Scalar.addi v1396 c0_i32_1002
  let c64_i32_1003 : BitVec 32 := 64#32
  let v1398 : BitVec 32 := Scalar.addi v1397 c64_i32_1003
  let c0_i32_1010 : BitVec 32 := 0#32
  ![v1398.toNat, 0]
def k0_dev216 (d0 : Dev nD) : Nat :=
  let c0_i32_1007 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1006 : BitVec 32 := 8#32
  let v1399 : BitVec 32 := Scalar.muli v45 c8_i32_1006
  let v1400 : BitVec 32 := Scalar.addi c0_i32_1007 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1008 : BitVec 32 := 4#32
  let v1401 : BitVec 32 := Scalar.muli v5 c4_i32_1008
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1403 : BitVec 32 := Scalar.muli v8 c1_i32_1009
  let v1404 : BitVec 32 := Scalar.addi v1402 v1403
  v1404.toNat
def k0_cond131 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_433 : BitVec 32 := 3#32
  let v621 : BitVec 1 := Scalar.cmpi .sge v8 c3_i32_433
  let v622 : BitVec 32 := Scalar.extui v621
  let c0_i32_434 : BitVec 32 := 0#32
  let v623 : BitVec 1 := Scalar.cmpi .ne v622 c0_i32_434
  v623

def k0_off250 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_431 : BitVec 32 := 3#32
  let v619 : BitVec 32 := Scalar.subi v8 c3_i32_431
  let c4096_i32_961 : BitVec 32 := 4096#32
  let v1339 : BitVec 32 := Scalar.muli v619 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c128_i32 : BitVec 32 := 128#32
  let v1342 : BitVec 32 := Scalar.addi v1341 c128_i32
  let c0_i32_967 : BitVec 32 := 0#32
  ![v1342.toNat, 0]
def k0_off251 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_431 : BitVec 32 := 3#32
  let v619 : BitVec 32 := Scalar.subi v8 c3_i32_431
  let c4096_i32_973 : BitVec 32 := 4096#32
  let v1358 : BitVec 32 := Scalar.muli v619 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c128_i32_975 : BitVec 32 := 128#32
  let v1361 : BitVec 32 := Scalar.addi v1360 c128_i32_975
  let c0_i32_976 : BitVec 32 := 0#32
  let v1362 : BitVec 32 := Scalar.addi v1361 c0_i32_976
  let c0_i32_983 : BitVec 32 := 0#32
  ![v1362.toNat, 0]
def k0_dev217 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off252 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_431 : BitVec 32 := 3#32
  let v619 : BitVec 32 := Scalar.subi v8 c3_i32_431
  let c4096_i32_985 : BitVec 32 := 4096#32
  let v1375 : BitVec 32 := Scalar.muli v619 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c128_i32_987 : BitVec 32 := 128#32
  let v1378 : BitVec 32 := Scalar.addi v1377 c128_i32_987
  let c0_i32_994 : BitVec 32 := 0#32
  ![v1378.toNat, 0]
def k0_off253 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_431 : BitVec 32 := 3#32
  let v619 : BitVec 32 := Scalar.subi v8 c3_i32_431
  let c4096_i32_999 : BitVec 32 := 4096#32
  let v1394 : BitVec 32 := Scalar.muli v619 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c128_i32_1001 : BitVec 32 := 128#32
  let v1397 : BitVec 32 := Scalar.addi v1396 c128_i32_1001
  let c64_i32_1002 : BitVec 32 := 64#32
  let v1398 : BitVec 32 := Scalar.addi v1397 c64_i32_1002
  let c0_i32_1009 : BitVec 32 := 0#32
  ![v1398.toNat, 0]
def k0_dev218 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond132 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_435 : BitVec 32 := 3#32
  let v624 : BitVec 32 := Scalar.addi v8 c3_i32_435
  let c3_i32_436 : BitVec 32 := 3#32
  let v625 : BitVec 1 := Scalar.cmpi .sle v624 c3_i32_436
  let v626 : BitVec 32 := Scalar.extui v625
  let c0_i32_437 : BitVec 32 := 0#32
  let v627 : BitVec 1 := Scalar.cmpi .ne v626 c0_i32_437
  v627

def k0_off254 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_432 : BitVec 32 := 3#32
  let v620 : BitVec 32 := Scalar.addi v8 c3_i32_432
  let c4096_i32_961 : BitVec 32 := 4096#32
  let v1339 : BitVec 32 := Scalar.muli v620 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c128_i32 : BitVec 32 := 128#32
  let v1342 : BitVec 32 := Scalar.addi v1341 c128_i32
  let c0_i32_967 : BitVec 32 := 0#32
  ![v1342.toNat, 0]
def k0_off255 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_432 : BitVec 32 := 3#32
  let v620 : BitVec 32 := Scalar.addi v8 c3_i32_432
  let c4096_i32_973 : BitVec 32 := 4096#32
  let v1358 : BitVec 32 := Scalar.muli v620 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c128_i32_975 : BitVec 32 := 128#32
  let v1361 : BitVec 32 := Scalar.addi v1360 c128_i32_975
  let c0_i32_976 : BitVec 32 := 0#32
  let v1362 : BitVec 32 := Scalar.addi v1361 c0_i32_976
  let c0_i32_983 : BitVec 32 := 0#32
  ![v1362.toNat, 0]
def k0_dev219 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off256 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_432 : BitVec 32 := 3#32
  let v620 : BitVec 32 := Scalar.addi v8 c3_i32_432
  let c4096_i32_985 : BitVec 32 := 4096#32
  let v1375 : BitVec 32 := Scalar.muli v620 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c128_i32_987 : BitVec 32 := 128#32
  let v1378 : BitVec 32 := Scalar.addi v1377 c128_i32_987
  let c0_i32_994 : BitVec 32 := 0#32
  ![v1378.toNat, 0]
def k0_off257 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_432 : BitVec 32 := 3#32
  let v620 : BitVec 32 := Scalar.addi v8 c3_i32_432
  let c4096_i32_999 : BitVec 32 := 4096#32
  let v1394 : BitVec 32 := Scalar.muli v620 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c128_i32_1001 : BitVec 32 := 128#32
  let v1397 : BitVec 32 := Scalar.addi v1396 c128_i32_1001
  let c64_i32_1002 : BitVec 32 := 64#32
  let v1398 : BitVec 32 := Scalar.addi v1397 c64_i32_1002
  let c0_i32_1009 : BitVec 32 := 0#32
  ![v1398.toNat, 0]
def k0_dev220 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond133 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_440 : BitVec 32 := 3#32
  let v630 : BitVec 1 := Scalar.cmpi .sge v8 c3_i32_440
  let v631 : BitVec 32 := Scalar.extui v630
  let c0_i32_441 : BitVec 32 := 0#32
  let v632 : BitVec 1 := Scalar.cmpi .ne v631 c0_i32_441
  v632

def k0_off258 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_438 : BitVec 32 := 3#32
  let v628 : BitVec 32 := Scalar.subi v8 c3_i32_438
  let c4096_i32_961 : BitVec 32 := 4096#32
  let v1339 : BitVec 32 := Scalar.muli v628 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c256_i32 : BitVec 32 := 256#32
  let v1342 : BitVec 32 := Scalar.addi v1341 c256_i32
  let c0_i32_967 : BitVec 32 := 0#32
  ![v1342.toNat, 0]
def k0_off259 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_438 : BitVec 32 := 3#32
  let v628 : BitVec 32 := Scalar.subi v8 c3_i32_438
  let c4096_i32_973 : BitVec 32 := 4096#32
  let v1358 : BitVec 32 := Scalar.muli v628 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c256_i32_975 : BitVec 32 := 256#32
  let v1361 : BitVec 32 := Scalar.addi v1360 c256_i32_975
  let c0_i32_976 : BitVec 32 := 0#32
  let v1362 : BitVec 32 := Scalar.addi v1361 c0_i32_976
  let c0_i32_983 : BitVec 32 := 0#32
  ![v1362.toNat, 0]
def k0_dev221 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off260 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_438 : BitVec 32 := 3#32
  let v628 : BitVec 32 := Scalar.subi v8 c3_i32_438
  let c4096_i32_985 : BitVec 32 := 4096#32
  let v1375 : BitVec 32 := Scalar.muli v628 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c256_i32_987 : BitVec 32 := 256#32
  let v1378 : BitVec 32 := Scalar.addi v1377 c256_i32_987
  let c0_i32_994 : BitVec 32 := 0#32
  ![v1378.toNat, 0]
def k0_off261 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_438 : BitVec 32 := 3#32
  let v628 : BitVec 32 := Scalar.subi v8 c3_i32_438
  let c4096_i32_999 : BitVec 32 := 4096#32
  let v1394 : BitVec 32 := Scalar.muli v628 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c256_i32_1001 : BitVec 32 := 256#32
  let v1397 : BitVec 32 := Scalar.addi v1396 c256_i32_1001
  let c64_i32_1002 : BitVec 32 := 64#32
  let v1398 : BitVec 32 := Scalar.addi v1397 c64_i32_1002
  let c0_i32_1009 : BitVec 32 := 0#32
  ![v1398.toNat, 0]
def k0_dev222 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond134 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_442 : BitVec 32 := 3#32
  let v633 : BitVec 32 := Scalar.addi v8 c3_i32_442
  let c3_i32_443 : BitVec 32 := 3#32
  let v634 : BitVec 1 := Scalar.cmpi .sle v633 c3_i32_443
  let v635 : BitVec 32 := Scalar.extui v634
  let c0_i32_444 : BitVec 32 := 0#32
  let v636 : BitVec 1 := Scalar.cmpi .ne v635 c0_i32_444
  v636

def k0_off262 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_439 : BitVec 32 := 3#32
  let v629 : BitVec 32 := Scalar.addi v8 c3_i32_439
  let c4096_i32_961 : BitVec 32 := 4096#32
  let v1339 : BitVec 32 := Scalar.muli v629 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c256_i32 : BitVec 32 := 256#32
  let v1342 : BitVec 32 := Scalar.addi v1341 c256_i32
  let c0_i32_967 : BitVec 32 := 0#32
  ![v1342.toNat, 0]
def k0_off263 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_439 : BitVec 32 := 3#32
  let v629 : BitVec 32 := Scalar.addi v8 c3_i32_439
  let c4096_i32_973 : BitVec 32 := 4096#32
  let v1358 : BitVec 32 := Scalar.muli v629 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c256_i32_975 : BitVec 32 := 256#32
  let v1361 : BitVec 32 := Scalar.addi v1360 c256_i32_975
  let c0_i32_976 : BitVec 32 := 0#32
  let v1362 : BitVec 32 := Scalar.addi v1361 c0_i32_976
  let c0_i32_983 : BitVec 32 := 0#32
  ![v1362.toNat, 0]
def k0_dev223 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off264 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_439 : BitVec 32 := 3#32
  let v629 : BitVec 32 := Scalar.addi v8 c3_i32_439
  let c4096_i32_985 : BitVec 32 := 4096#32
  let v1375 : BitVec 32 := Scalar.muli v629 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c256_i32_987 : BitVec 32 := 256#32
  let v1378 : BitVec 32 := Scalar.addi v1377 c256_i32_987
  let c0_i32_994 : BitVec 32 := 0#32
  ![v1378.toNat, 0]
def k0_off265 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_439 : BitVec 32 := 3#32
  let v629 : BitVec 32 := Scalar.addi v8 c3_i32_439
  let c4096_i32_999 : BitVec 32 := 4096#32
  let v1394 : BitVec 32 := Scalar.muli v629 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c256_i32_1001 : BitVec 32 := 256#32
  let v1397 : BitVec 32 := Scalar.addi v1396 c256_i32_1001
  let c64_i32_1002 : BitVec 32 := 64#32
  let v1398 : BitVec 32 := Scalar.addi v1397 c64_i32_1002
  let c0_i32_1009 : BitVec 32 := 0#32
  ![v1398.toNat, 0]
def k0_dev224 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond135 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_447 : BitVec 32 := 3#32
  let v639 : BitVec 1 := Scalar.cmpi .sge v8 c3_i32_447
  let v640 : BitVec 32 := Scalar.extui v639
  let c0_i32_448 : BitVec 32 := 0#32
  let v641 : BitVec 1 := Scalar.cmpi .ne v640 c0_i32_448
  v641

def k0_off266 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_445 : BitVec 32 := 3#32
  let v637 : BitVec 32 := Scalar.subi v8 c3_i32_445
  let c4096_i32_961 : BitVec 32 := 4096#32
  let v1339 : BitVec 32 := Scalar.muli v637 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c384_i32 : BitVec 32 := 384#32
  let v1342 : BitVec 32 := Scalar.addi v1341 c384_i32
  let c0_i32_967 : BitVec 32 := 0#32
  ![v1342.toNat, 0]
def k0_off267 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_445 : BitVec 32 := 3#32
  let v637 : BitVec 32 := Scalar.subi v8 c3_i32_445
  let c4096_i32_973 : BitVec 32 := 4096#32
  let v1358 : BitVec 32 := Scalar.muli v637 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c384_i32_975 : BitVec 32 := 384#32
  let v1361 : BitVec 32 := Scalar.addi v1360 c384_i32_975
  let c0_i32_976 : BitVec 32 := 0#32
  let v1362 : BitVec 32 := Scalar.addi v1361 c0_i32_976
  let c0_i32_983 : BitVec 32 := 0#32
  ![v1362.toNat, 0]
def k0_dev225 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off268 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_445 : BitVec 32 := 3#32
  let v637 : BitVec 32 := Scalar.subi v8 c3_i32_445
  let c4096_i32_985 : BitVec 32 := 4096#32
  let v1375 : BitVec 32 := Scalar.muli v637 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c384_i32_987 : BitVec 32 := 384#32
  let v1378 : BitVec 32 := Scalar.addi v1377 c384_i32_987
  let c0_i32_994 : BitVec 32 := 0#32
  ![v1378.toNat, 0]
def k0_off269 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_445 : BitVec 32 := 3#32
  let v637 : BitVec 32 := Scalar.subi v8 c3_i32_445
  let c4096_i32_999 : BitVec 32 := 4096#32
  let v1394 : BitVec 32 := Scalar.muli v637 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c384_i32_1001 : BitVec 32 := 384#32
  let v1397 : BitVec 32 := Scalar.addi v1396 c384_i32_1001
  let c64_i32_1002 : BitVec 32 := 64#32
  let v1398 : BitVec 32 := Scalar.addi v1397 c64_i32_1002
  let c0_i32_1009 : BitVec 32 := 0#32
  ![v1398.toNat, 0]
def k0_dev226 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond136 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_449 : BitVec 32 := 3#32
  let v642 : BitVec 32 := Scalar.addi v8 c3_i32_449
  let c3_i32_450 : BitVec 32 := 3#32
  let v643 : BitVec 1 := Scalar.cmpi .sle v642 c3_i32_450
  let v644 : BitVec 32 := Scalar.extui v643
  let c0_i32_451 : BitVec 32 := 0#32
  let v645 : BitVec 1 := Scalar.cmpi .ne v644 c0_i32_451
  v645

def k0_off270 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_446 : BitVec 32 := 3#32
  let v638 : BitVec 32 := Scalar.addi v8 c3_i32_446
  let c4096_i32_961 : BitVec 32 := 4096#32
  let v1339 : BitVec 32 := Scalar.muli v638 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c384_i32 : BitVec 32 := 384#32
  let v1342 : BitVec 32 := Scalar.addi v1341 c384_i32
  let c0_i32_967 : BitVec 32 := 0#32
  ![v1342.toNat, 0]
def k0_off271 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_446 : BitVec 32 := 3#32
  let v638 : BitVec 32 := Scalar.addi v8 c3_i32_446
  let c4096_i32_973 : BitVec 32 := 4096#32
  let v1358 : BitVec 32 := Scalar.muli v638 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c384_i32_975 : BitVec 32 := 384#32
  let v1361 : BitVec 32 := Scalar.addi v1360 c384_i32_975
  let c0_i32_976 : BitVec 32 := 0#32
  let v1362 : BitVec 32 := Scalar.addi v1361 c0_i32_976
  let c0_i32_983 : BitVec 32 := 0#32
  ![v1362.toNat, 0]
def k0_dev227 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off272 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_446 : BitVec 32 := 3#32
  let v638 : BitVec 32 := Scalar.addi v8 c3_i32_446
  let c4096_i32_985 : BitVec 32 := 4096#32
  let v1375 : BitVec 32 := Scalar.muli v638 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c384_i32_987 : BitVec 32 := 384#32
  let v1378 : BitVec 32 := Scalar.addi v1377 c384_i32_987
  let c0_i32_994 : BitVec 32 := 0#32
  ![v1378.toNat, 0]
def k0_off273 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_446 : BitVec 32 := 3#32
  let v638 : BitVec 32 := Scalar.addi v8 c3_i32_446
  let c4096_i32_999 : BitVec 32 := 4096#32
  let v1394 : BitVec 32 := Scalar.muli v638 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c384_i32_1001 : BitVec 32 := 384#32
  let v1397 : BitVec 32 := Scalar.addi v1396 c384_i32_1001
  let c64_i32_1002 : BitVec 32 := 64#32
  let v1398 : BitVec 32 := Scalar.addi v1397 c64_i32_1002
  let c0_i32_1009 : BitVec 32 := 0#32
  ![v1398.toNat, 0]
def k0_dev228 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond137 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_454 : BitVec 32 := 3#32
  let v648 : BitVec 1 := Scalar.cmpi .sge v8 c3_i32_454
  let v649 : BitVec 32 := Scalar.extui v648
  let c0_i32_455 : BitVec 32 := 0#32
  let v650 : BitVec 1 := Scalar.cmpi .ne v649 c0_i32_455
  v650

def k0_off274 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_452 : BitVec 32 := 3#32
  let v646 : BitVec 32 := Scalar.subi v8 c3_i32_452
  let c4096_i32_961 : BitVec 32 := 4096#32
  let v1339 : BitVec 32 := Scalar.muli v646 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c512_i32 : BitVec 32 := 512#32
  let v1342 : BitVec 32 := Scalar.addi v1341 c512_i32
  let c0_i32_967 : BitVec 32 := 0#32
  ![v1342.toNat, 0]
def k0_off275 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_452 : BitVec 32 := 3#32
  let v646 : BitVec 32 := Scalar.subi v8 c3_i32_452
  let c4096_i32_973 : BitVec 32 := 4096#32
  let v1358 : BitVec 32 := Scalar.muli v646 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c512_i32_975 : BitVec 32 := 512#32
  let v1361 : BitVec 32 := Scalar.addi v1360 c512_i32_975
  let c0_i32_976 : BitVec 32 := 0#32
  let v1362 : BitVec 32 := Scalar.addi v1361 c0_i32_976
  let c0_i32_983 : BitVec 32 := 0#32
  ![v1362.toNat, 0]
def k0_dev229 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off276 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_452 : BitVec 32 := 3#32
  let v646 : BitVec 32 := Scalar.subi v8 c3_i32_452
  let c4096_i32_985 : BitVec 32 := 4096#32
  let v1375 : BitVec 32 := Scalar.muli v646 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c512_i32_987 : BitVec 32 := 512#32
  let v1378 : BitVec 32 := Scalar.addi v1377 c512_i32_987
  let c0_i32_994 : BitVec 32 := 0#32
  ![v1378.toNat, 0]
def k0_off277 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_452 : BitVec 32 := 3#32
  let v646 : BitVec 32 := Scalar.subi v8 c3_i32_452
  let c4096_i32_999 : BitVec 32 := 4096#32
  let v1394 : BitVec 32 := Scalar.muli v646 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c512_i32_1001 : BitVec 32 := 512#32
  let v1397 : BitVec 32 := Scalar.addi v1396 c512_i32_1001
  let c64_i32_1002 : BitVec 32 := 64#32
  let v1398 : BitVec 32 := Scalar.addi v1397 c64_i32_1002
  let c0_i32_1009 : BitVec 32 := 0#32
  ![v1398.toNat, 0]
def k0_dev230 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond138 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_456 : BitVec 32 := 3#32
  let v651 : BitVec 32 := Scalar.addi v8 c3_i32_456
  let c3_i32_457 : BitVec 32 := 3#32
  let v652 : BitVec 1 := Scalar.cmpi .sle v651 c3_i32_457
  let v653 : BitVec 32 := Scalar.extui v652
  let c0_i32_458 : BitVec 32 := 0#32
  let v654 : BitVec 1 := Scalar.cmpi .ne v653 c0_i32_458
  v654

def k0_off278 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_453 : BitVec 32 := 3#32
  let v647 : BitVec 32 := Scalar.addi v8 c3_i32_453
  let c4096_i32_961 : BitVec 32 := 4096#32
  let v1339 : BitVec 32 := Scalar.muli v647 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c512_i32 : BitVec 32 := 512#32
  let v1342 : BitVec 32 := Scalar.addi v1341 c512_i32
  let c0_i32_967 : BitVec 32 := 0#32
  ![v1342.toNat, 0]
def k0_off279 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_453 : BitVec 32 := 3#32
  let v647 : BitVec 32 := Scalar.addi v8 c3_i32_453
  let c4096_i32_973 : BitVec 32 := 4096#32
  let v1358 : BitVec 32 := Scalar.muli v647 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c512_i32_975 : BitVec 32 := 512#32
  let v1361 : BitVec 32 := Scalar.addi v1360 c512_i32_975
  let c0_i32_976 : BitVec 32 := 0#32
  let v1362 : BitVec 32 := Scalar.addi v1361 c0_i32_976
  let c0_i32_983 : BitVec 32 := 0#32
  ![v1362.toNat, 0]
def k0_dev231 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off280 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_453 : BitVec 32 := 3#32
  let v647 : BitVec 32 := Scalar.addi v8 c3_i32_453
  let c4096_i32_985 : BitVec 32 := 4096#32
  let v1375 : BitVec 32 := Scalar.muli v647 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c512_i32_987 : BitVec 32 := 512#32
  let v1378 : BitVec 32 := Scalar.addi v1377 c512_i32_987
  let c0_i32_994 : BitVec 32 := 0#32
  ![v1378.toNat, 0]
def k0_off281 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_453 : BitVec 32 := 3#32
  let v647 : BitVec 32 := Scalar.addi v8 c3_i32_453
  let c4096_i32_999 : BitVec 32 := 4096#32
  let v1394 : BitVec 32 := Scalar.muli v647 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c512_i32_1001 : BitVec 32 := 512#32
  let v1397 : BitVec 32 := Scalar.addi v1396 c512_i32_1001
  let c64_i32_1002 : BitVec 32 := 64#32
  let v1398 : BitVec 32 := Scalar.addi v1397 c64_i32_1002
  let c0_i32_1009 : BitVec 32 := 0#32
  ![v1398.toNat, 0]
def k0_dev232 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond139 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_461 : BitVec 32 := 3#32
  let v657 : BitVec 1 := Scalar.cmpi .sge v8 c3_i32_461
  let v658 : BitVec 32 := Scalar.extui v657
  let c0_i32_462 : BitVec 32 := 0#32
  let v659 : BitVec 1 := Scalar.cmpi .ne v658 c0_i32_462
  v659

def k0_off282 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_459 : BitVec 32 := 3#32
  let v655 : BitVec 32 := Scalar.subi v8 c3_i32_459
  let c4096_i32_961 : BitVec 32 := 4096#32
  let v1339 : BitVec 32 := Scalar.muli v655 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c640_i32 : BitVec 32 := 640#32
  let v1342 : BitVec 32 := Scalar.addi v1341 c640_i32
  let c0_i32_967 : BitVec 32 := 0#32
  ![v1342.toNat, 0]
def k0_off283 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_459 : BitVec 32 := 3#32
  let v655 : BitVec 32 := Scalar.subi v8 c3_i32_459
  let c4096_i32_973 : BitVec 32 := 4096#32
  let v1358 : BitVec 32 := Scalar.muli v655 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c640_i32_975 : BitVec 32 := 640#32
  let v1361 : BitVec 32 := Scalar.addi v1360 c640_i32_975
  let c0_i32_976 : BitVec 32 := 0#32
  let v1362 : BitVec 32 := Scalar.addi v1361 c0_i32_976
  let c0_i32_983 : BitVec 32 := 0#32
  ![v1362.toNat, 0]
def k0_dev233 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off284 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_459 : BitVec 32 := 3#32
  let v655 : BitVec 32 := Scalar.subi v8 c3_i32_459
  let c4096_i32_985 : BitVec 32 := 4096#32
  let v1375 : BitVec 32 := Scalar.muli v655 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c640_i32_987 : BitVec 32 := 640#32
  let v1378 : BitVec 32 := Scalar.addi v1377 c640_i32_987
  let c0_i32_994 : BitVec 32 := 0#32
  ![v1378.toNat, 0]
def k0_off285 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_459 : BitVec 32 := 3#32
  let v655 : BitVec 32 := Scalar.subi v8 c3_i32_459
  let c4096_i32_999 : BitVec 32 := 4096#32
  let v1394 : BitVec 32 := Scalar.muli v655 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c640_i32_1001 : BitVec 32 := 640#32
  let v1397 : BitVec 32 := Scalar.addi v1396 c640_i32_1001
  let c64_i32_1002 : BitVec 32 := 64#32
  let v1398 : BitVec 32 := Scalar.addi v1397 c64_i32_1002
  let c0_i32_1009 : BitVec 32 := 0#32
  ![v1398.toNat, 0]
def k0_dev234 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond140 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_463 : BitVec 32 := 3#32
  let v660 : BitVec 32 := Scalar.addi v8 c3_i32_463
  let c3_i32_464 : BitVec 32 := 3#32
  let v661 : BitVec 1 := Scalar.cmpi .sle v660 c3_i32_464
  let v662 : BitVec 32 := Scalar.extui v661
  let c0_i32_465 : BitVec 32 := 0#32
  let v663 : BitVec 1 := Scalar.cmpi .ne v662 c0_i32_465
  v663

def k0_off286 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_460 : BitVec 32 := 3#32
  let v656 : BitVec 32 := Scalar.addi v8 c3_i32_460
  let c4096_i32_961 : BitVec 32 := 4096#32
  let v1339 : BitVec 32 := Scalar.muli v656 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c640_i32 : BitVec 32 := 640#32
  let v1342 : BitVec 32 := Scalar.addi v1341 c640_i32
  let c0_i32_967 : BitVec 32 := 0#32
  ![v1342.toNat, 0]
def k0_off287 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_460 : BitVec 32 := 3#32
  let v656 : BitVec 32 := Scalar.addi v8 c3_i32_460
  let c4096_i32_973 : BitVec 32 := 4096#32
  let v1358 : BitVec 32 := Scalar.muli v656 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c640_i32_975 : BitVec 32 := 640#32
  let v1361 : BitVec 32 := Scalar.addi v1360 c640_i32_975
  let c0_i32_976 : BitVec 32 := 0#32
  let v1362 : BitVec 32 := Scalar.addi v1361 c0_i32_976
  let c0_i32_983 : BitVec 32 := 0#32
  ![v1362.toNat, 0]
def k0_dev235 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off288 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_460 : BitVec 32 := 3#32
  let v656 : BitVec 32 := Scalar.addi v8 c3_i32_460
  let c4096_i32_985 : BitVec 32 := 4096#32
  let v1375 : BitVec 32 := Scalar.muli v656 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c640_i32_987 : BitVec 32 := 640#32
  let v1378 : BitVec 32 := Scalar.addi v1377 c640_i32_987
  let c0_i32_994 : BitVec 32 := 0#32
  ![v1378.toNat, 0]
def k0_off289 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_460 : BitVec 32 := 3#32
  let v656 : BitVec 32 := Scalar.addi v8 c3_i32_460
  let c4096_i32_999 : BitVec 32 := 4096#32
  let v1394 : BitVec 32 := Scalar.muli v656 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c640_i32_1001 : BitVec 32 := 640#32
  let v1397 : BitVec 32 := Scalar.addi v1396 c640_i32_1001
  let c64_i32_1002 : BitVec 32 := 64#32
  let v1398 : BitVec 32 := Scalar.addi v1397 c64_i32_1002
  let c0_i32_1009 : BitVec 32 := 0#32
  ![v1398.toNat, 0]
def k0_dev236 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond141 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_468 : BitVec 32 := 3#32
  let v666 : BitVec 1 := Scalar.cmpi .sge v8 c3_i32_468
  let v667 : BitVec 32 := Scalar.extui v666
  let c0_i32_469 : BitVec 32 := 0#32
  let v668 : BitVec 1 := Scalar.cmpi .ne v667 c0_i32_469
  v668

def k0_off290 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_466 : BitVec 32 := 3#32
  let v664 : BitVec 32 := Scalar.subi v8 c3_i32_466
  let c4096_i32_961 : BitVec 32 := 4096#32
  let v1339 : BitVec 32 := Scalar.muli v664 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c768_i32 : BitVec 32 := 768#32
  let v1342 : BitVec 32 := Scalar.addi v1341 c768_i32
  let c0_i32_967 : BitVec 32 := 0#32
  ![v1342.toNat, 0]
def k0_off291 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_466 : BitVec 32 := 3#32
  let v664 : BitVec 32 := Scalar.subi v8 c3_i32_466
  let c4096_i32_973 : BitVec 32 := 4096#32
  let v1358 : BitVec 32 := Scalar.muli v664 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c768_i32_975 : BitVec 32 := 768#32
  let v1361 : BitVec 32 := Scalar.addi v1360 c768_i32_975
  let c0_i32_976 : BitVec 32 := 0#32
  let v1362 : BitVec 32 := Scalar.addi v1361 c0_i32_976
  let c0_i32_983 : BitVec 32 := 0#32
  ![v1362.toNat, 0]
def k0_dev237 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off292 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_466 : BitVec 32 := 3#32
  let v664 : BitVec 32 := Scalar.subi v8 c3_i32_466
  let c4096_i32_985 : BitVec 32 := 4096#32
  let v1375 : BitVec 32 := Scalar.muli v664 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c768_i32_987 : BitVec 32 := 768#32
  let v1378 : BitVec 32 := Scalar.addi v1377 c768_i32_987
  let c0_i32_994 : BitVec 32 := 0#32
  ![v1378.toNat, 0]
def k0_off293 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_466 : BitVec 32 := 3#32
  let v664 : BitVec 32 := Scalar.subi v8 c3_i32_466
  let c4096_i32_999 : BitVec 32 := 4096#32
  let v1394 : BitVec 32 := Scalar.muli v664 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c768_i32_1001 : BitVec 32 := 768#32
  let v1397 : BitVec 32 := Scalar.addi v1396 c768_i32_1001
  let c64_i32_1002 : BitVec 32 := 64#32
  let v1398 : BitVec 32 := Scalar.addi v1397 c64_i32_1002
  let c0_i32_1009 : BitVec 32 := 0#32
  ![v1398.toNat, 0]
def k0_dev238 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond142 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_470 : BitVec 32 := 3#32
  let v669 : BitVec 32 := Scalar.addi v8 c3_i32_470
  let c3_i32_471 : BitVec 32 := 3#32
  let v670 : BitVec 1 := Scalar.cmpi .sle v669 c3_i32_471
  let v671 : BitVec 32 := Scalar.extui v670
  let c0_i32_472 : BitVec 32 := 0#32
  let v672 : BitVec 1 := Scalar.cmpi .ne v671 c0_i32_472
  v672

def k0_off294 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_467 : BitVec 32 := 3#32
  let v665 : BitVec 32 := Scalar.addi v8 c3_i32_467
  let c4096_i32_961 : BitVec 32 := 4096#32
  let v1339 : BitVec 32 := Scalar.muli v665 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c768_i32 : BitVec 32 := 768#32
  let v1342 : BitVec 32 := Scalar.addi v1341 c768_i32
  let c0_i32_967 : BitVec 32 := 0#32
  ![v1342.toNat, 0]
def k0_off295 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_467 : BitVec 32 := 3#32
  let v665 : BitVec 32 := Scalar.addi v8 c3_i32_467
  let c4096_i32_973 : BitVec 32 := 4096#32
  let v1358 : BitVec 32 := Scalar.muli v665 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c768_i32_975 : BitVec 32 := 768#32
  let v1361 : BitVec 32 := Scalar.addi v1360 c768_i32_975
  let c0_i32_976 : BitVec 32 := 0#32
  let v1362 : BitVec 32 := Scalar.addi v1361 c0_i32_976
  let c0_i32_983 : BitVec 32 := 0#32
  ![v1362.toNat, 0]
def k0_dev239 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off296 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_467 : BitVec 32 := 3#32
  let v665 : BitVec 32 := Scalar.addi v8 c3_i32_467
  let c4096_i32_985 : BitVec 32 := 4096#32
  let v1375 : BitVec 32 := Scalar.muli v665 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c768_i32_987 : BitVec 32 := 768#32
  let v1378 : BitVec 32 := Scalar.addi v1377 c768_i32_987
  let c0_i32_994 : BitVec 32 := 0#32
  ![v1378.toNat, 0]
def k0_off297 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_467 : BitVec 32 := 3#32
  let v665 : BitVec 32 := Scalar.addi v8 c3_i32_467
  let c4096_i32_999 : BitVec 32 := 4096#32
  let v1394 : BitVec 32 := Scalar.muli v665 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c768_i32_1001 : BitVec 32 := 768#32
  let v1397 : BitVec 32 := Scalar.addi v1396 c768_i32_1001
  let c64_i32_1002 : BitVec 32 := 64#32
  let v1398 : BitVec 32 := Scalar.addi v1397 c64_i32_1002
  let c0_i32_1009 : BitVec 32 := 0#32
  ![v1398.toNat, 0]
def k0_dev240 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond143 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_475 : BitVec 32 := 3#32
  let v675 : BitVec 1 := Scalar.cmpi .sge v8 c3_i32_475
  let v676 : BitVec 32 := Scalar.extui v675
  let c0_i32_476 : BitVec 32 := 0#32
  let v677 : BitVec 1 := Scalar.cmpi .ne v676 c0_i32_476
  v677

def k0_off298 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_473 : BitVec 32 := 3#32
  let v673 : BitVec 32 := Scalar.subi v8 c3_i32_473
  let c4096_i32_961 : BitVec 32 := 4096#32
  let v1339 : BitVec 32 := Scalar.muli v673 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c896_i32 : BitVec 32 := 896#32
  let v1342 : BitVec 32 := Scalar.addi v1341 c896_i32
  let c0_i32_967 : BitVec 32 := 0#32
  ![v1342.toNat, 0]
def k0_off299 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_473 : BitVec 32 := 3#32
  let v673 : BitVec 32 := Scalar.subi v8 c3_i32_473
  let c4096_i32_973 : BitVec 32 := 4096#32
  let v1358 : BitVec 32 := Scalar.muli v673 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c896_i32_975 : BitVec 32 := 896#32
  let v1361 : BitVec 32 := Scalar.addi v1360 c896_i32_975
  let c0_i32_976 : BitVec 32 := 0#32
  let v1362 : BitVec 32 := Scalar.addi v1361 c0_i32_976
  let c0_i32_983 : BitVec 32 := 0#32
  ![v1362.toNat, 0]
def k0_dev241 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off300 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_473 : BitVec 32 := 3#32
  let v673 : BitVec 32 := Scalar.subi v8 c3_i32_473
  let c4096_i32_985 : BitVec 32 := 4096#32
  let v1375 : BitVec 32 := Scalar.muli v673 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c896_i32_987 : BitVec 32 := 896#32
  let v1378 : BitVec 32 := Scalar.addi v1377 c896_i32_987
  let c0_i32_994 : BitVec 32 := 0#32
  ![v1378.toNat, 0]
def k0_off301 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_473 : BitVec 32 := 3#32
  let v673 : BitVec 32 := Scalar.subi v8 c3_i32_473
  let c4096_i32_999 : BitVec 32 := 4096#32
  let v1394 : BitVec 32 := Scalar.muli v673 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c896_i32_1001 : BitVec 32 := 896#32
  let v1397 : BitVec 32 := Scalar.addi v1396 c896_i32_1001
  let c64_i32_1002 : BitVec 32 := 64#32
  let v1398 : BitVec 32 := Scalar.addi v1397 c64_i32_1002
  let c0_i32_1009 : BitVec 32 := 0#32
  ![v1398.toNat, 0]
def k0_dev242 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond144 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_477 : BitVec 32 := 3#32
  let v678 : BitVec 32 := Scalar.addi v8 c3_i32_477
  let c3_i32_478 : BitVec 32 := 3#32
  let v679 : BitVec 1 := Scalar.cmpi .sle v678 c3_i32_478
  let v680 : BitVec 32 := Scalar.extui v679
  let c0_i32_479 : BitVec 32 := 0#32
  let v681 : BitVec 1 := Scalar.cmpi .ne v680 c0_i32_479
  v681

def k0_off302 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_474 : BitVec 32 := 3#32
  let v674 : BitVec 32 := Scalar.addi v8 c3_i32_474
  let c4096_i32_961 : BitVec 32 := 4096#32
  let v1339 : BitVec 32 := Scalar.muli v674 c4096_i32_961
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32 : BitVec 32 := 1024#32
  let v1340 : BitVec 32 := Scalar.muli v13 c1024_i32
  let v1341 : BitVec 32 := Scalar.addi v1339 v1340
  let c896_i32 : BitVec 32 := 896#32
  let v1342 : BitVec 32 := Scalar.addi v1341 c896_i32
  let c0_i32_967 : BitVec 32 := 0#32
  ![v1342.toNat, 0]
def k0_off303 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_474 : BitVec 32 := 3#32
  let v674 : BitVec 32 := Scalar.addi v8 c3_i32_474
  let c4096_i32_973 : BitVec 32 := 4096#32
  let v1358 : BitVec 32 := Scalar.muli v674 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1359 : BitVec 32 := Scalar.muli v13 c1024_i32_974
  let v1360 : BitVec 32 := Scalar.addi v1358 v1359
  let c896_i32_975 : BitVec 32 := 896#32
  let v1361 : BitVec 32 := Scalar.addi v1360 c896_i32_975
  let c0_i32_976 : BitVec 32 := 0#32
  let v1362 : BitVec 32 := Scalar.addi v1361 c0_i32_976
  let c0_i32_983 : BitVec 32 := 0#32
  ![v1362.toNat, 0]
def k0_dev243 (d0 : Dev nD) : Nat :=
  let c0_i32_980 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_979 : BitVec 32 := 8#32
  let v1363 : BitVec 32 := Scalar.muli v2 c8_i32_979
  let v1364 : BitVec 32 := Scalar.addi c0_i32_980 v1363
  let c1_i32_26 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_26 v5
  let c4_i32_981 : BitVec 32 := 4#32
  let v1365 : BitVec 32 := Scalar.muli v46 c4_i32_981
  let v1366 : BitVec 32 := Scalar.addi v1364 v1365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_982 : BitVec 32 := 1#32
  let v1367 : BitVec 32 := Scalar.muli v8 c1_i32_982
  let v1368 : BitVec 32 := Scalar.addi v1366 v1367
  v1368.toNat
def k0_off304 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_474 : BitVec 32 := 3#32
  let v674 : BitVec 32 := Scalar.addi v8 c3_i32_474
  let c4096_i32_985 : BitVec 32 := 4096#32
  let v1375 : BitVec 32 := Scalar.muli v674 c4096_i32_985
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_986 : BitVec 32 := 1024#32
  let v1376 : BitVec 32 := Scalar.muli v16 c1024_i32_986
  let v1377 : BitVec 32 := Scalar.addi v1375 v1376
  let c896_i32_987 : BitVec 32 := 896#32
  let v1378 : BitVec 32 := Scalar.addi v1377 c896_i32_987
  let c0_i32_994 : BitVec 32 := 0#32
  ![v1378.toNat, 0]
def k0_off305 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_474 : BitVec 32 := 3#32
  let v674 : BitVec 32 := Scalar.addi v8 c3_i32_474
  let c4096_i32_999 : BitVec 32 := 4096#32
  let v1394 : BitVec 32 := Scalar.muli v674 c4096_i32_999
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_1000 : BitVec 32 := 1024#32
  let v1395 : BitVec 32 := Scalar.muli v16 c1024_i32_1000
  let v1396 : BitVec 32 := Scalar.addi v1394 v1395
  let c896_i32_1001 : BitVec 32 := 896#32
  let v1397 : BitVec 32 := Scalar.addi v1396 c896_i32_1001
  let c64_i32_1002 : BitVec 32 := 64#32
  let v1398 : BitVec 32 := Scalar.addi v1397 c64_i32_1002
  let c0_i32_1009 : BitVec 32 := 0#32
  ![v1398.toNat, 0]
def k0_dev244 (d0 : Dev nD) : Nat :=
  let c0_i32_1006 : BitVec 32 := 0#32
  let c1_i32_25 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_25 v2
  let c8_i32_1005 : BitVec 32 := 8#32
  let v1399 : BitVec 32 := Scalar.muli v45 c8_i32_1005
  let v1400 : BitVec 32 := Scalar.addi c0_i32_1006 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1007 : BitVec 32 := 4#32
  let v1401 : BitVec 32 := Scalar.muli v5 c4_i32_1007
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1403 : BitVec 32 := Scalar.muli v8 c1_i32_1008
  let v1404 : BitVec 32 := Scalar.addi v1402 v1403
  v1404.toNat
def k0_cond145 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_482 : BitVec 32 := 1#32
  let v684 : BitVec 1 := Scalar.cmpi .sge v8 c1_i32_482
  let v685 : BitVec 32 := Scalar.extui v684
  let c0_i32_483 : BitVec 32 := 0#32
  let v686 : BitVec 1 := Scalar.cmpi .ne v685 c0_i32_483
  v686

def k0_off306 (d0 : Dev nD) (c0_i32_963 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_480 : BitVec 32 := 1#32
  let v682 : BitVec 32 := Scalar.subi v8 c1_i32_480
  let c4096_i32_961 : BitVec 32 := 4096#32
  let v1339 : BitVec 32 := Scalar.muli v682 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c0_i32_962 : BitVec 32 := 0#32
  let v1342 : BitVec 32 := Scalar.addi v1341 c0_i32_962
  let v1343 : BitVec 32 := Scalar.addi v1342 c0_i32_963
  let c0_i32_970 : BitVec 32 := 0#32
  ![v1343.toNat, 0]
def k0_cond146 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v687 : BitVec 32 := Scalar.addi v8 c1_i32_484
  let c3_i32_485 : BitVec 32 := 3#32
  let v688 : BitVec 1 := Scalar.cmpi .sle v687 c3_i32_485
  let v689 : BitVec 32 := Scalar.extui v688
  let c0_i32_486 : BitVec 32 := 0#32
  let v690 : BitVec 1 := Scalar.cmpi .ne v689 c0_i32_486
  v690

def k0_off307 (d0 : Dev nD) (c0_i32_963 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_481 : BitVec 32 := 1#32
  let v683 : BitVec 32 := Scalar.addi v8 c1_i32_481
  let c4096_i32_961 : BitVec 32 := 4096#32
  let v1339 : BitVec 32 := Scalar.muli v683 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c0_i32_962 : BitVec 32 := 0#32
  let v1342 : BitVec 32 := Scalar.addi v1341 c0_i32_962
  let v1343 : BitVec 32 := Scalar.addi v1342 c0_i32_963
  let c0_i32_969 : BitVec 32 := 0#32
  ![v1343.toNat, 0]
def k0_cond147 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_489 : BitVec 32 := 1#32
  let v693 : BitVec 1 := Scalar.cmpi .sge v8 c1_i32_489
  let v694 : BitVec 32 := Scalar.extui v693
  let c0_i32_490 : BitVec 32 := 0#32
  let v695 : BitVec 1 := Scalar.cmpi .ne v694 c0_i32_490
  v695

def k0_off308 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_487 : BitVec 32 := 1#32
  let v691 : BitVec 32 := Scalar.subi v8 c1_i32_487
  let c4096_i32_961 : BitVec 32 := 4096#32
  let v1339 : BitVec 32 := Scalar.muli v691 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c128_i32 : BitVec 32 := 128#32
  let v1342 : BitVec 32 := Scalar.addi v1341 c128_i32
  let v1343 : BitVec 32 := Scalar.addi v1342 c0_i32_962
  let c0_i32_969 : BitVec 32 := 0#32
  ![v1343.toNat, 0]
def k0_cond148 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_491 : BitVec 32 := 1#32
  let v696 : BitVec 32 := Scalar.addi v8 c1_i32_491
  let c3_i32_492 : BitVec 32 := 3#32
  let v697 : BitVec 1 := Scalar.cmpi .sle v696 c3_i32_492
  let v698 : BitVec 32 := Scalar.extui v697
  let c0_i32_493 : BitVec 32 := 0#32
  let v699 : BitVec 1 := Scalar.cmpi .ne v698 c0_i32_493
  v699

def k0_off309 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_488 : BitVec 32 := 1#32
  let v692 : BitVec 32 := Scalar.addi v8 c1_i32_488
  let c4096_i32_961 : BitVec 32 := 4096#32
  let v1339 : BitVec 32 := Scalar.muli v692 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c128_i32 : BitVec 32 := 128#32
  let v1342 : BitVec 32 := Scalar.addi v1341 c128_i32
  let v1343 : BitVec 32 := Scalar.addi v1342 c0_i32_962
  let c0_i32_968 : BitVec 32 := 0#32
  ![v1343.toNat, 0]
def k0_cond149 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_496 : BitVec 32 := 1#32
  let v702 : BitVec 1 := Scalar.cmpi .sge v8 c1_i32_496
  let v703 : BitVec 32 := Scalar.extui v702
  let c0_i32_497 : BitVec 32 := 0#32
  let v704 : BitVec 1 := Scalar.cmpi .ne v703 c0_i32_497
  v704

def k0_off310 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v700 : BitVec 32 := Scalar.subi v8 c1_i32_494
  let c4096_i32_961 : BitVec 32 := 4096#32
  let v1339 : BitVec 32 := Scalar.muli v700 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c256_i32 : BitVec 32 := 256#32
  let v1342 : BitVec 32 := Scalar.addi v1341 c256_i32
  let v1343 : BitVec 32 := Scalar.addi v1342 c0_i32_962
  let c0_i32_969 : BitVec 32 := 0#32
  ![v1343.toNat, 0]
def k0_cond150 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_498 : BitVec 32 := 1#32
  let v705 : BitVec 32 := Scalar.addi v8 c1_i32_498
  let c3_i32_499 : BitVec 32 := 3#32
  let v706 : BitVec 1 := Scalar.cmpi .sle v705 c3_i32_499
  let v707 : BitVec 32 := Scalar.extui v706
  let c0_i32_500 : BitVec 32 := 0#32
  let v708 : BitVec 1 := Scalar.cmpi .ne v707 c0_i32_500
  v708

def k0_off311 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_495 : BitVec 32 := 1#32
  let v701 : BitVec 32 := Scalar.addi v8 c1_i32_495
  let c4096_i32_961 : BitVec 32 := 4096#32
  let v1339 : BitVec 32 := Scalar.muli v701 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c256_i32 : BitVec 32 := 256#32
  let v1342 : BitVec 32 := Scalar.addi v1341 c256_i32
  let v1343 : BitVec 32 := Scalar.addi v1342 c0_i32_962
  let c0_i32_968 : BitVec 32 := 0#32
  ![v1343.toNat, 0]
def k0_cond151 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_503 : BitVec 32 := 1#32
  let v711 : BitVec 1 := Scalar.cmpi .sge v8 c1_i32_503
  let v712 : BitVec 32 := Scalar.extui v711
  let c0_i32_504 : BitVec 32 := 0#32
  let v713 : BitVec 1 := Scalar.cmpi .ne v712 c0_i32_504
  v713

def k0_off312 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_501 : BitVec 32 := 1#32
  let v709 : BitVec 32 := Scalar.subi v8 c1_i32_501
  let c4096_i32_961 : BitVec 32 := 4096#32
  let v1339 : BitVec 32 := Scalar.muli v709 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c384_i32 : BitVec 32 := 384#32
  let v1342 : BitVec 32 := Scalar.addi v1341 c384_i32
  let v1343 : BitVec 32 := Scalar.addi v1342 c0_i32_962
  let c0_i32_969 : BitVec 32 := 0#32
  ![v1343.toNat, 0]
def k0_cond152 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_505 : BitVec 32 := 1#32
  let v714 : BitVec 32 := Scalar.addi v8 c1_i32_505
  let c3_i32_506 : BitVec 32 := 3#32
  let v715 : BitVec 1 := Scalar.cmpi .sle v714 c3_i32_506
  let v716 : BitVec 32 := Scalar.extui v715
  let c0_i32_507 : BitVec 32 := 0#32
  let v717 : BitVec 1 := Scalar.cmpi .ne v716 c0_i32_507
  v717

def k0_off313 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_502 : BitVec 32 := 1#32
  let v710 : BitVec 32 := Scalar.addi v8 c1_i32_502
  let c4096_i32_961 : BitVec 32 := 4096#32
  let v1339 : BitVec 32 := Scalar.muli v710 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c384_i32 : BitVec 32 := 384#32
  let v1342 : BitVec 32 := Scalar.addi v1341 c384_i32
  let v1343 : BitVec 32 := Scalar.addi v1342 c0_i32_962
  let c0_i32_968 : BitVec 32 := 0#32
  ![v1343.toNat, 0]
def k0_cond153 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_510 : BitVec 32 := 1#32
  let v720 : BitVec 1 := Scalar.cmpi .sge v8 c1_i32_510
  let v721 : BitVec 32 := Scalar.extui v720
  let c0_i32_511 : BitVec 32 := 0#32
  let v722 : BitVec 1 := Scalar.cmpi .ne v721 c0_i32_511
  v722

def k0_off314 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v718 : BitVec 32 := Scalar.subi v8 c1_i32_508
  let c4096_i32_961 : BitVec 32 := 4096#32
  let v1339 : BitVec 32 := Scalar.muli v718 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c512_i32 : BitVec 32 := 512#32
  let v1342 : BitVec 32 := Scalar.addi v1341 c512_i32
  let v1343 : BitVec 32 := Scalar.addi v1342 c0_i32_962
  let c0_i32_969 : BitVec 32 := 0#32
  ![v1343.toNat, 0]
def k0_cond154 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_512 : BitVec 32 := 1#32
  let v723 : BitVec 32 := Scalar.addi v8 c1_i32_512
  let c3_i32_513 : BitVec 32 := 3#32
  let v724 : BitVec 1 := Scalar.cmpi .sle v723 c3_i32_513
  let v725 : BitVec 32 := Scalar.extui v724
  let c0_i32_514 : BitVec 32 := 0#32
  let v726 : BitVec 1 := Scalar.cmpi .ne v725 c0_i32_514
  v726

def k0_off315 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_509 : BitVec 32 := 1#32
  let v719 : BitVec 32 := Scalar.addi v8 c1_i32_509
  let c4096_i32_961 : BitVec 32 := 4096#32
  let v1339 : BitVec 32 := Scalar.muli v719 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c512_i32 : BitVec 32 := 512#32
  let v1342 : BitVec 32 := Scalar.addi v1341 c512_i32
  let v1343 : BitVec 32 := Scalar.addi v1342 c0_i32_962
  let c0_i32_968 : BitVec 32 := 0#32
  ![v1343.toNat, 0]
def k0_cond155 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_517 : BitVec 32 := 1#32
  let v729 : BitVec 1 := Scalar.cmpi .sge v8 c1_i32_517
  let v730 : BitVec 32 := Scalar.extui v729
  let c0_i32_518 : BitVec 32 := 0#32
  let v731 : BitVec 1 := Scalar.cmpi .ne v730 c0_i32_518
  v731

def k0_off316 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_515 : BitVec 32 := 1#32
  let v727 : BitVec 32 := Scalar.subi v8 c1_i32_515
  let c4096_i32_961 : BitVec 32 := 4096#32
  let v1339 : BitVec 32 := Scalar.muli v727 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c640_i32 : BitVec 32 := 640#32
  let v1342 : BitVec 32 := Scalar.addi v1341 c640_i32
  let v1343 : BitVec 32 := Scalar.addi v1342 c0_i32_962
  let c0_i32_968 : BitVec 32 := 0#32
  ![v1343.toNat, 0]
def k0_cond156 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_519 : BitVec 32 := 1#32
  let v732 : BitVec 32 := Scalar.addi v8 c1_i32_519
  let c3_i32_520 : BitVec 32 := 3#32
  let v733 : BitVec 1 := Scalar.cmpi .sle v732 c3_i32_520
  let v734 : BitVec 32 := Scalar.extui v733
  let c0_i32_521 : BitVec 32 := 0#32
  let v735 : BitVec 1 := Scalar.cmpi .ne v734 c0_i32_521
  v735

def k0_off317 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_516 : BitVec 32 := 1#32
  let v728 : BitVec 32 := Scalar.addi v8 c1_i32_516
  let c4096_i32_961 : BitVec 32 := 4096#32
  let v1339 : BitVec 32 := Scalar.muli v728 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c640_i32 : BitVec 32 := 640#32
  let v1342 : BitVec 32 := Scalar.addi v1341 c640_i32
  let v1343 : BitVec 32 := Scalar.addi v1342 c0_i32_962
  let c0_i32_968 : BitVec 32 := 0#32
  ![v1343.toNat, 0]
def k0_cond157 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_524 : BitVec 32 := 1#32
  let v738 : BitVec 1 := Scalar.cmpi .sge v8 c1_i32_524
  let v739 : BitVec 32 := Scalar.extui v738
  let c0_i32_525 : BitVec 32 := 0#32
  let v740 : BitVec 1 := Scalar.cmpi .ne v739 c0_i32_525
  v740

def k0_off318 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_522 : BitVec 32 := 1#32
  let v736 : BitVec 32 := Scalar.subi v8 c1_i32_522
  let c4096_i32_961 : BitVec 32 := 4096#32
  let v1339 : BitVec 32 := Scalar.muli v736 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c768_i32 : BitVec 32 := 768#32
  let v1342 : BitVec 32 := Scalar.addi v1341 c768_i32
  let v1343 : BitVec 32 := Scalar.addi v1342 c0_i32_962
  let c0_i32_968 : BitVec 32 := 0#32
  ![v1343.toNat, 0]
def k0_cond158 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_526 : BitVec 32 := 1#32
  let v741 : BitVec 32 := Scalar.addi v8 c1_i32_526
  let c3_i32_527 : BitVec 32 := 3#32
  let v742 : BitVec 1 := Scalar.cmpi .sle v741 c3_i32_527
  let v743 : BitVec 32 := Scalar.extui v742
  let c0_i32_528 : BitVec 32 := 0#32
  let v744 : BitVec 1 := Scalar.cmpi .ne v743 c0_i32_528
  v744

def k0_off319 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v737 : BitVec 32 := Scalar.addi v8 c1_i32_523
  let c4096_i32_961 : BitVec 32 := 4096#32
  let v1339 : BitVec 32 := Scalar.muli v737 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c768_i32 : BitVec 32 := 768#32
  let v1342 : BitVec 32 := Scalar.addi v1341 c768_i32
  let v1343 : BitVec 32 := Scalar.addi v1342 c0_i32_962
  let c0_i32_968 : BitVec 32 := 0#32
  ![v1343.toNat, 0]
def k0_cond159 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_531 : BitVec 32 := 1#32
  let v747 : BitVec 1 := Scalar.cmpi .sge v8 c1_i32_531
  let v748 : BitVec 32 := Scalar.extui v747
  let c0_i32_532 : BitVec 32 := 0#32
  let v749 : BitVec 1 := Scalar.cmpi .ne v748 c0_i32_532
  v749

def k0_off320 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_529 : BitVec 32 := 1#32
  let v745 : BitVec 32 := Scalar.subi v8 c1_i32_529
  let c4096_i32_961 : BitVec 32 := 4096#32
  let v1339 : BitVec 32 := Scalar.muli v745 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c896_i32 : BitVec 32 := 896#32
  let v1342 : BitVec 32 := Scalar.addi v1341 c896_i32
  let v1343 : BitVec 32 := Scalar.addi v1342 c0_i32_962
  let c0_i32_968 : BitVec 32 := 0#32
  ![v1343.toNat, 0]
def k0_cond160 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_533 : BitVec 32 := 1#32
  let v750 : BitVec 32 := Scalar.addi v8 c1_i32_533
  let c3_i32_534 : BitVec 32 := 3#32
  let v751 : BitVec 1 := Scalar.cmpi .sle v750 c3_i32_534
  let v752 : BitVec 32 := Scalar.extui v751
  let c0_i32_535 : BitVec 32 := 0#32
  let v753 : BitVec 1 := Scalar.cmpi .ne v752 c0_i32_535
  v753

def k0_off321 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_530 : BitVec 32 := 1#32
  let v746 : BitVec 32 := Scalar.addi v8 c1_i32_530
  let c4096_i32_961 : BitVec 32 := 4096#32
  let v1339 : BitVec 32 := Scalar.muli v746 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c896_i32 : BitVec 32 := 896#32
  let v1342 : BitVec 32 := Scalar.addi v1341 c896_i32
  let v1343 : BitVec 32 := Scalar.addi v1342 c0_i32_962
  let c0_i32_968 : BitVec 32 := 0#32
  ![v1343.toNat, 0]
def k0_cond161 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_538 : BitVec 32 := 2#32
  let v756 : BitVec 1 := Scalar.cmpi .sge v8 c2_i32_538
  let v757 : BitVec 32 := Scalar.extui v756
  let c0_i32_539 : BitVec 32 := 0#32
  let v758 : BitVec 1 := Scalar.cmpi .ne v757 c0_i32_539
  v758

def k0_off322 (d0 : Dev nD) (c0_i32_963 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_536 : BitVec 32 := 2#32
  let v754 : BitVec 32 := Scalar.subi v8 c2_i32_536
  let c4096_i32_961 : BitVec 32 := 4096#32
  let v1339 : BitVec 32 := Scalar.muli v754 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c0_i32_962 : BitVec 32 := 0#32
  let v1342 : BitVec 32 := Scalar.addi v1341 c0_i32_962
  let v1343 : BitVec 32 := Scalar.addi v1342 c0_i32_963
  let c0_i32_970 : BitVec 32 := 0#32
  ![v1343.toNat, 0]
def k0_cond162 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_540 : BitVec 32 := 2#32
  let v759 : BitVec 32 := Scalar.addi v8 c2_i32_540
  let c3_i32_541 : BitVec 32 := 3#32
  let v760 : BitVec 1 := Scalar.cmpi .sle v759 c3_i32_541
  let v761 : BitVec 32 := Scalar.extui v760
  let c0_i32_542 : BitVec 32 := 0#32
  let v762 : BitVec 1 := Scalar.cmpi .ne v761 c0_i32_542
  v762

def k0_off323 (d0 : Dev nD) (c0_i32_963 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_537 : BitVec 32 := 2#32
  let v755 : BitVec 32 := Scalar.addi v8 c2_i32_537
  let c4096_i32_961 : BitVec 32 := 4096#32
  let v1339 : BitVec 32 := Scalar.muli v755 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c0_i32_962 : BitVec 32 := 0#32
  let v1342 : BitVec 32 := Scalar.addi v1341 c0_i32_962
  let v1343 : BitVec 32 := Scalar.addi v1342 c0_i32_963
  let c0_i32_969 : BitVec 32 := 0#32
  ![v1343.toNat, 0]
def k0_cond163 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_545 : BitVec 32 := 2#32
  let v765 : BitVec 1 := Scalar.cmpi .sge v8 c2_i32_545
  let v766 : BitVec 32 := Scalar.extui v765
  let c0_i32_546 : BitVec 32 := 0#32
  let v767 : BitVec 1 := Scalar.cmpi .ne v766 c0_i32_546
  v767

def k0_off324 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_543 : BitVec 32 := 2#32
  let v763 : BitVec 32 := Scalar.subi v8 c2_i32_543
  let c4096_i32_961 : BitVec 32 := 4096#32
  let v1339 : BitVec 32 := Scalar.muli v763 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c128_i32 : BitVec 32 := 128#32
  let v1342 : BitVec 32 := Scalar.addi v1341 c128_i32
  let v1343 : BitVec 32 := Scalar.addi v1342 c0_i32_962
  let c0_i32_968 : BitVec 32 := 0#32
  ![v1343.toNat, 0]
def k0_cond164 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_547 : BitVec 32 := 2#32
  let v768 : BitVec 32 := Scalar.addi v8 c2_i32_547
  let c3_i32_548 : BitVec 32 := 3#32
  let v769 : BitVec 1 := Scalar.cmpi .sle v768 c3_i32_548
  let v770 : BitVec 32 := Scalar.extui v769
  let c0_i32_549 : BitVec 32 := 0#32
  let v771 : BitVec 1 := Scalar.cmpi .ne v770 c0_i32_549
  v771

def k0_off325 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_544 : BitVec 32 := 2#32
  let v764 : BitVec 32 := Scalar.addi v8 c2_i32_544
  let c4096_i32_961 : BitVec 32 := 4096#32
  let v1339 : BitVec 32 := Scalar.muli v764 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c128_i32 : BitVec 32 := 128#32
  let v1342 : BitVec 32 := Scalar.addi v1341 c128_i32
  let v1343 : BitVec 32 := Scalar.addi v1342 c0_i32_962
  let c0_i32_968 : BitVec 32 := 0#32
  ![v1343.toNat, 0]
def k0_cond165 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_552 : BitVec 32 := 2#32
  let v774 : BitVec 1 := Scalar.cmpi .sge v8 c2_i32_552
  let v775 : BitVec 32 := Scalar.extui v774
  let c0_i32_553 : BitVec 32 := 0#32
  let v776 : BitVec 1 := Scalar.cmpi .ne v775 c0_i32_553
  v776

def k0_off326 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_550 : BitVec 32 := 2#32
  let v772 : BitVec 32 := Scalar.subi v8 c2_i32_550
  let c4096_i32_961 : BitVec 32 := 4096#32
  let v1339 : BitVec 32 := Scalar.muli v772 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c256_i32 : BitVec 32 := 256#32
  let v1342 : BitVec 32 := Scalar.addi v1341 c256_i32
  let v1343 : BitVec 32 := Scalar.addi v1342 c0_i32_962
  let c0_i32_968 : BitVec 32 := 0#32
  ![v1343.toNat, 0]
def k0_cond166 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_554 : BitVec 32 := 2#32
  let v777 : BitVec 32 := Scalar.addi v8 c2_i32_554
  let c3_i32_555 : BitVec 32 := 3#32
  let v778 : BitVec 1 := Scalar.cmpi .sle v777 c3_i32_555
  let v779 : BitVec 32 := Scalar.extui v778
  let c0_i32_556 : BitVec 32 := 0#32
  let v780 : BitVec 1 := Scalar.cmpi .ne v779 c0_i32_556
  v780

def k0_off327 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_551 : BitVec 32 := 2#32
  let v773 : BitVec 32 := Scalar.addi v8 c2_i32_551
  let c4096_i32_961 : BitVec 32 := 4096#32
  let v1339 : BitVec 32 := Scalar.muli v773 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c256_i32 : BitVec 32 := 256#32
  let v1342 : BitVec 32 := Scalar.addi v1341 c256_i32
  let v1343 : BitVec 32 := Scalar.addi v1342 c0_i32_962
  let c0_i32_968 : BitVec 32 := 0#32
  ![v1343.toNat, 0]
def k0_cond167 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_559 : BitVec 32 := 2#32
  let v783 : BitVec 1 := Scalar.cmpi .sge v8 c2_i32_559
  let v784 : BitVec 32 := Scalar.extui v783
  let c0_i32_560 : BitVec 32 := 0#32
  let v785 : BitVec 1 := Scalar.cmpi .ne v784 c0_i32_560
  v785

def k0_off328 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_557 : BitVec 32 := 2#32
  let v781 : BitVec 32 := Scalar.subi v8 c2_i32_557
  let c4096_i32_961 : BitVec 32 := 4096#32
  let v1339 : BitVec 32 := Scalar.muli v781 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c384_i32 : BitVec 32 := 384#32
  let v1342 : BitVec 32 := Scalar.addi v1341 c384_i32
  let v1343 : BitVec 32 := Scalar.addi v1342 c0_i32_962
  let c0_i32_968 : BitVec 32 := 0#32
  ![v1343.toNat, 0]
def k0_cond168 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_561 : BitVec 32 := 2#32
  let v786 : BitVec 32 := Scalar.addi v8 c2_i32_561
  let c3_i32_562 : BitVec 32 := 3#32
  let v787 : BitVec 1 := Scalar.cmpi .sle v786 c3_i32_562
  let v788 : BitVec 32 := Scalar.extui v787
  let c0_i32_563 : BitVec 32 := 0#32
  let v789 : BitVec 1 := Scalar.cmpi .ne v788 c0_i32_563
  v789

def k0_off329 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_558 : BitVec 32 := 2#32
  let v782 : BitVec 32 := Scalar.addi v8 c2_i32_558
  let c4096_i32_961 : BitVec 32 := 4096#32
  let v1339 : BitVec 32 := Scalar.muli v782 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c384_i32 : BitVec 32 := 384#32
  let v1342 : BitVec 32 := Scalar.addi v1341 c384_i32
  let v1343 : BitVec 32 := Scalar.addi v1342 c0_i32_962
  let c0_i32_968 : BitVec 32 := 0#32
  ![v1343.toNat, 0]
def k0_cond169 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_566 : BitVec 32 := 2#32
  let v792 : BitVec 1 := Scalar.cmpi .sge v8 c2_i32_566
  let v793 : BitVec 32 := Scalar.extui v792
  let c0_i32_567 : BitVec 32 := 0#32
  let v794 : BitVec 1 := Scalar.cmpi .ne v793 c0_i32_567
  v794

def k0_off330 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_564 : BitVec 32 := 2#32
  let v790 : BitVec 32 := Scalar.subi v8 c2_i32_564
  let c4096_i32_961 : BitVec 32 := 4096#32
  let v1339 : BitVec 32 := Scalar.muli v790 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c512_i32 : BitVec 32 := 512#32
  let v1342 : BitVec 32 := Scalar.addi v1341 c512_i32
  let v1343 : BitVec 32 := Scalar.addi v1342 c0_i32_962
  let c0_i32_968 : BitVec 32 := 0#32
  ![v1343.toNat, 0]
def k0_cond170 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_568 : BitVec 32 := 2#32
  let v795 : BitVec 32 := Scalar.addi v8 c2_i32_568
  let c3_i32_569 : BitVec 32 := 3#32
  let v796 : BitVec 1 := Scalar.cmpi .sle v795 c3_i32_569
  let v797 : BitVec 32 := Scalar.extui v796
  let c0_i32_570 : BitVec 32 := 0#32
  let v798 : BitVec 1 := Scalar.cmpi .ne v797 c0_i32_570
  v798

def k0_off331 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_565 : BitVec 32 := 2#32
  let v791 : BitVec 32 := Scalar.addi v8 c2_i32_565
  let c4096_i32_961 : BitVec 32 := 4096#32
  let v1339 : BitVec 32 := Scalar.muli v791 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c512_i32 : BitVec 32 := 512#32
  let v1342 : BitVec 32 := Scalar.addi v1341 c512_i32
  let v1343 : BitVec 32 := Scalar.addi v1342 c0_i32_962
  let c0_i32_968 : BitVec 32 := 0#32
  ![v1343.toNat, 0]
def k0_cond171 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_573 : BitVec 32 := 2#32
  let v801 : BitVec 1 := Scalar.cmpi .sge v8 c2_i32_573
  let v802 : BitVec 32 := Scalar.extui v801
  let c0_i32_574 : BitVec 32 := 0#32
  let v803 : BitVec 1 := Scalar.cmpi .ne v802 c0_i32_574
  v803

def k0_off332 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_571 : BitVec 32 := 2#32
  let v799 : BitVec 32 := Scalar.subi v8 c2_i32_571
  let c4096_i32_961 : BitVec 32 := 4096#32
  let v1339 : BitVec 32 := Scalar.muli v799 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c640_i32 : BitVec 32 := 640#32
  let v1342 : BitVec 32 := Scalar.addi v1341 c640_i32
  let v1343 : BitVec 32 := Scalar.addi v1342 c0_i32_962
  let c0_i32_968 : BitVec 32 := 0#32
  ![v1343.toNat, 0]
def k0_cond172 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_575 : BitVec 32 := 2#32
  let v804 : BitVec 32 := Scalar.addi v8 c2_i32_575
  let c3_i32_576 : BitVec 32 := 3#32
  let v805 : BitVec 1 := Scalar.cmpi .sle v804 c3_i32_576
  let v806 : BitVec 32 := Scalar.extui v805
  let c0_i32_577 : BitVec 32 := 0#32
  let v807 : BitVec 1 := Scalar.cmpi .ne v806 c0_i32_577
  v807

def k0_off333 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_572 : BitVec 32 := 2#32
  let v800 : BitVec 32 := Scalar.addi v8 c2_i32_572
  let c4096_i32_961 : BitVec 32 := 4096#32
  let v1339 : BitVec 32 := Scalar.muli v800 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c640_i32 : BitVec 32 := 640#32
  let v1342 : BitVec 32 := Scalar.addi v1341 c640_i32
  let v1343 : BitVec 32 := Scalar.addi v1342 c0_i32_962
  let c0_i32_968 : BitVec 32 := 0#32
  ![v1343.toNat, 0]
def k0_cond173 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_580 : BitVec 32 := 2#32
  let v810 : BitVec 1 := Scalar.cmpi .sge v8 c2_i32_580
  let v811 : BitVec 32 := Scalar.extui v810
  let c0_i32_581 : BitVec 32 := 0#32
  let v812 : BitVec 1 := Scalar.cmpi .ne v811 c0_i32_581
  v812

def k0_off334 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_578 : BitVec 32 := 2#32
  let v808 : BitVec 32 := Scalar.subi v8 c2_i32_578
  let c4096_i32_961 : BitVec 32 := 4096#32
  let v1339 : BitVec 32 := Scalar.muli v808 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c768_i32 : BitVec 32 := 768#32
  let v1342 : BitVec 32 := Scalar.addi v1341 c768_i32
  let v1343 : BitVec 32 := Scalar.addi v1342 c0_i32_962
  let c0_i32_968 : BitVec 32 := 0#32
  ![v1343.toNat, 0]
def k0_cond174 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_582 : BitVec 32 := 2#32
  let v813 : BitVec 32 := Scalar.addi v8 c2_i32_582
  let c3_i32_583 : BitVec 32 := 3#32
  let v814 : BitVec 1 := Scalar.cmpi .sle v813 c3_i32_583
  let v815 : BitVec 32 := Scalar.extui v814
  let c0_i32_584 : BitVec 32 := 0#32
  let v816 : BitVec 1 := Scalar.cmpi .ne v815 c0_i32_584
  v816

def k0_off335 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_579 : BitVec 32 := 2#32
  let v809 : BitVec 32 := Scalar.addi v8 c2_i32_579
  let c4096_i32_961 : BitVec 32 := 4096#32
  let v1339 : BitVec 32 := Scalar.muli v809 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c768_i32 : BitVec 32 := 768#32
  let v1342 : BitVec 32 := Scalar.addi v1341 c768_i32
  let v1343 : BitVec 32 := Scalar.addi v1342 c0_i32_962
  let c0_i32_968 : BitVec 32 := 0#32
  ![v1343.toNat, 0]
def k0_cond175 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_587 : BitVec 32 := 2#32
  let v819 : BitVec 1 := Scalar.cmpi .sge v8 c2_i32_587
  let v820 : BitVec 32 := Scalar.extui v819
  let c0_i32_588 : BitVec 32 := 0#32
  let v821 : BitVec 1 := Scalar.cmpi .ne v820 c0_i32_588
  v821

def k0_off336 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_585 : BitVec 32 := 2#32
  let v817 : BitVec 32 := Scalar.subi v8 c2_i32_585
  let c4096_i32_961 : BitVec 32 := 4096#32
  let v1339 : BitVec 32 := Scalar.muli v817 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c896_i32 : BitVec 32 := 896#32
  let v1342 : BitVec 32 := Scalar.addi v1341 c896_i32
  let v1343 : BitVec 32 := Scalar.addi v1342 c0_i32_962
  let c0_i32_968 : BitVec 32 := 0#32
  ![v1343.toNat, 0]
def k0_cond176 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_589 : BitVec 32 := 2#32
  let v822 : BitVec 32 := Scalar.addi v8 c2_i32_589
  let c3_i32_590 : BitVec 32 := 3#32
  let v823 : BitVec 1 := Scalar.cmpi .sle v822 c3_i32_590
  let v824 : BitVec 32 := Scalar.extui v823
  let c0_i32_591 : BitVec 32 := 0#32
  let v825 : BitVec 1 := Scalar.cmpi .ne v824 c0_i32_591
  v825

def k0_off337 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_586 : BitVec 32 := 2#32
  let v818 : BitVec 32 := Scalar.addi v8 c2_i32_586
  let c4096_i32_961 : BitVec 32 := 4096#32
  let v1339 : BitVec 32 := Scalar.muli v818 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c896_i32 : BitVec 32 := 896#32
  let v1342 : BitVec 32 := Scalar.addi v1341 c896_i32
  let v1343 : BitVec 32 := Scalar.addi v1342 c0_i32_962
  let c0_i32_968 : BitVec 32 := 0#32
  ![v1343.toNat, 0]
def k0_cond177 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_594 : BitVec 32 := 3#32
  let v828 : BitVec 1 := Scalar.cmpi .sge v8 c3_i32_594
  let v829 : BitVec 32 := Scalar.extui v828
  let c0_i32_595 : BitVec 32 := 0#32
  let v830 : BitVec 1 := Scalar.cmpi .ne v829 c0_i32_595
  v830

def k0_off338 (d0 : Dev nD) (c0_i32_963 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_592 : BitVec 32 := 3#32
  let v826 : BitVec 32 := Scalar.subi v8 c3_i32_592
  let c4096_i32_961 : BitVec 32 := 4096#32
  let v1339 : BitVec 32 := Scalar.muli v826 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c0_i32_962 : BitVec 32 := 0#32
  let v1342 : BitVec 32 := Scalar.addi v1341 c0_i32_962
  let v1343 : BitVec 32 := Scalar.addi v1342 c0_i32_963
  let c0_i32_969 : BitVec 32 := 0#32
  ![v1343.toNat, 0]
def k0_cond178 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_596 : BitVec 32 := 3#32
  let v831 : BitVec 32 := Scalar.addi v8 c3_i32_596
  let c3_i32_597 : BitVec 32 := 3#32
  let v832 : BitVec 1 := Scalar.cmpi .sle v831 c3_i32_597
  let v833 : BitVec 32 := Scalar.extui v832
  let c0_i32_598 : BitVec 32 := 0#32
  let v834 : BitVec 1 := Scalar.cmpi .ne v833 c0_i32_598
  v834

def k0_off339 (d0 : Dev nD) (c0_i32_963 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_593 : BitVec 32 := 3#32
  let v827 : BitVec 32 := Scalar.addi v8 c3_i32_593
  let c4096_i32_961 : BitVec 32 := 4096#32
  let v1339 : BitVec 32 := Scalar.muli v827 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c0_i32_962 : BitVec 32 := 0#32
  let v1342 : BitVec 32 := Scalar.addi v1341 c0_i32_962
  let v1343 : BitVec 32 := Scalar.addi v1342 c0_i32_963
  let c0_i32_969 : BitVec 32 := 0#32
  ![v1343.toNat, 0]
def k0_cond179 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_601 : BitVec 32 := 3#32
  let v837 : BitVec 1 := Scalar.cmpi .sge v8 c3_i32_601
  let v838 : BitVec 32 := Scalar.extui v837
  let c0_i32_602 : BitVec 32 := 0#32
  let v839 : BitVec 1 := Scalar.cmpi .ne v838 c0_i32_602
  v839

def k0_off340 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_599 : BitVec 32 := 3#32
  let v835 : BitVec 32 := Scalar.subi v8 c3_i32_599
  let c4096_i32_961 : BitVec 32 := 4096#32
  let v1339 : BitVec 32 := Scalar.muli v835 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c128_i32 : BitVec 32 := 128#32
  let v1342 : BitVec 32 := Scalar.addi v1341 c128_i32
  let v1343 : BitVec 32 := Scalar.addi v1342 c0_i32_962
  let c0_i32_968 : BitVec 32 := 0#32
  ![v1343.toNat, 0]
def k0_cond180 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_603 : BitVec 32 := 3#32
  let v840 : BitVec 32 := Scalar.addi v8 c3_i32_603
  let c3_i32_604 : BitVec 32 := 3#32
  let v841 : BitVec 1 := Scalar.cmpi .sle v840 c3_i32_604
  let v842 : BitVec 32 := Scalar.extui v841
  let c0_i32_605 : BitVec 32 := 0#32
  let v843 : BitVec 1 := Scalar.cmpi .ne v842 c0_i32_605
  v843

def k0_off341 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_600 : BitVec 32 := 3#32
  let v836 : BitVec 32 := Scalar.addi v8 c3_i32_600
  let c4096_i32_961 : BitVec 32 := 4096#32
  let v1339 : BitVec 32 := Scalar.muli v836 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c128_i32 : BitVec 32 := 128#32
  let v1342 : BitVec 32 := Scalar.addi v1341 c128_i32
  let v1343 : BitVec 32 := Scalar.addi v1342 c0_i32_962
  let c0_i32_968 : BitVec 32 := 0#32
  ![v1343.toNat, 0]
def k0_cond181 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_608 : BitVec 32 := 3#32
  let v846 : BitVec 1 := Scalar.cmpi .sge v8 c3_i32_608
  let v847 : BitVec 32 := Scalar.extui v846
  let c0_i32_609 : BitVec 32 := 0#32
  let v848 : BitVec 1 := Scalar.cmpi .ne v847 c0_i32_609
  v848

def k0_off342 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_606 : BitVec 32 := 3#32
  let v844 : BitVec 32 := Scalar.subi v8 c3_i32_606
  let c4096_i32_961 : BitVec 32 := 4096#32
  let v1339 : BitVec 32 := Scalar.muli v844 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c256_i32 : BitVec 32 := 256#32
  let v1342 : BitVec 32 := Scalar.addi v1341 c256_i32
  let v1343 : BitVec 32 := Scalar.addi v1342 c0_i32_962
  let c0_i32_968 : BitVec 32 := 0#32
  ![v1343.toNat, 0]
def k0_cond182 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_610 : BitVec 32 := 3#32
  let v849 : BitVec 32 := Scalar.addi v8 c3_i32_610
  let c3_i32_611 : BitVec 32 := 3#32
  let v850 : BitVec 1 := Scalar.cmpi .sle v849 c3_i32_611
  let v851 : BitVec 32 := Scalar.extui v850
  let c0_i32_612 : BitVec 32 := 0#32
  let v852 : BitVec 1 := Scalar.cmpi .ne v851 c0_i32_612
  v852

def k0_off343 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_607 : BitVec 32 := 3#32
  let v845 : BitVec 32 := Scalar.addi v8 c3_i32_607
  let c4096_i32_961 : BitVec 32 := 4096#32
  let v1339 : BitVec 32 := Scalar.muli v845 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c256_i32 : BitVec 32 := 256#32
  let v1342 : BitVec 32 := Scalar.addi v1341 c256_i32
  let v1343 : BitVec 32 := Scalar.addi v1342 c0_i32_962
  let c0_i32_968 : BitVec 32 := 0#32
  ![v1343.toNat, 0]
def k0_cond183 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_615 : BitVec 32 := 3#32
  let v855 : BitVec 1 := Scalar.cmpi .sge v8 c3_i32_615
  let v856 : BitVec 32 := Scalar.extui v855
  let c0_i32_616 : BitVec 32 := 0#32
  let v857 : BitVec 1 := Scalar.cmpi .ne v856 c0_i32_616
  v857

def k0_off344 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_613 : BitVec 32 := 3#32
  let v853 : BitVec 32 := Scalar.subi v8 c3_i32_613
  let c4096_i32_961 : BitVec 32 := 4096#32
  let v1339 : BitVec 32 := Scalar.muli v853 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c384_i32 : BitVec 32 := 384#32
  let v1342 : BitVec 32 := Scalar.addi v1341 c384_i32
  let v1343 : BitVec 32 := Scalar.addi v1342 c0_i32_962
  let c0_i32_968 : BitVec 32 := 0#32
  ![v1343.toNat, 0]
def k0_cond184 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_617 : BitVec 32 := 3#32
  let v858 : BitVec 32 := Scalar.addi v8 c3_i32_617
  let c3_i32_618 : BitVec 32 := 3#32
  let v859 : BitVec 1 := Scalar.cmpi .sle v858 c3_i32_618
  let v860 : BitVec 32 := Scalar.extui v859
  let c0_i32_619 : BitVec 32 := 0#32
  let v861 : BitVec 1 := Scalar.cmpi .ne v860 c0_i32_619
  v861

def k0_off345 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_614 : BitVec 32 := 3#32
  let v854 : BitVec 32 := Scalar.addi v8 c3_i32_614
  let c4096_i32_961 : BitVec 32 := 4096#32
  let v1339 : BitVec 32 := Scalar.muli v854 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c384_i32 : BitVec 32 := 384#32
  let v1342 : BitVec 32 := Scalar.addi v1341 c384_i32
  let v1343 : BitVec 32 := Scalar.addi v1342 c0_i32_962
  let c0_i32_968 : BitVec 32 := 0#32
  ![v1343.toNat, 0]
def k0_cond185 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_622 : BitVec 32 := 3#32
  let v864 : BitVec 1 := Scalar.cmpi .sge v8 c3_i32_622
  let v865 : BitVec 32 := Scalar.extui v864
  let c0_i32_623 : BitVec 32 := 0#32
  let v866 : BitVec 1 := Scalar.cmpi .ne v865 c0_i32_623
  v866

def k0_off346 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_620 : BitVec 32 := 3#32
  let v862 : BitVec 32 := Scalar.subi v8 c3_i32_620
  let c4096_i32_961 : BitVec 32 := 4096#32
  let v1339 : BitVec 32 := Scalar.muli v862 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c512_i32 : BitVec 32 := 512#32
  let v1342 : BitVec 32 := Scalar.addi v1341 c512_i32
  let v1343 : BitVec 32 := Scalar.addi v1342 c0_i32_962
  let c0_i32_968 : BitVec 32 := 0#32
  ![v1343.toNat, 0]
def k0_cond186 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_624 : BitVec 32 := 3#32
  let v867 : BitVec 32 := Scalar.addi v8 c3_i32_624
  let c3_i32_625 : BitVec 32 := 3#32
  let v868 : BitVec 1 := Scalar.cmpi .sle v867 c3_i32_625
  let v869 : BitVec 32 := Scalar.extui v868
  let c0_i32_626 : BitVec 32 := 0#32
  let v870 : BitVec 1 := Scalar.cmpi .ne v869 c0_i32_626
  v870

def k0_off347 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_621 : BitVec 32 := 3#32
  let v863 : BitVec 32 := Scalar.addi v8 c3_i32_621
  let c4096_i32_961 : BitVec 32 := 4096#32
  let v1339 : BitVec 32 := Scalar.muli v863 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c512_i32 : BitVec 32 := 512#32
  let v1342 : BitVec 32 := Scalar.addi v1341 c512_i32
  let v1343 : BitVec 32 := Scalar.addi v1342 c0_i32_962
  let c0_i32_968 : BitVec 32 := 0#32
  ![v1343.toNat, 0]
def k0_cond187 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_629 : BitVec 32 := 3#32
  let v873 : BitVec 1 := Scalar.cmpi .sge v8 c3_i32_629
  let v874 : BitVec 32 := Scalar.extui v873
  let c0_i32_630 : BitVec 32 := 0#32
  let v875 : BitVec 1 := Scalar.cmpi .ne v874 c0_i32_630
  v875

def k0_off348 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_627 : BitVec 32 := 3#32
  let v871 : BitVec 32 := Scalar.subi v8 c3_i32_627
  let c4096_i32_961 : BitVec 32 := 4096#32
  let v1339 : BitVec 32 := Scalar.muli v871 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c640_i32 : BitVec 32 := 640#32
  let v1342 : BitVec 32 := Scalar.addi v1341 c640_i32
  let v1343 : BitVec 32 := Scalar.addi v1342 c0_i32_962
  let c0_i32_968 : BitVec 32 := 0#32
  ![v1343.toNat, 0]
def k0_cond188 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_631 : BitVec 32 := 3#32
  let v876 : BitVec 32 := Scalar.addi v8 c3_i32_631
  let c3_i32_632 : BitVec 32 := 3#32
  let v877 : BitVec 1 := Scalar.cmpi .sle v876 c3_i32_632
  let v878 : BitVec 32 := Scalar.extui v877
  let c0_i32_633 : BitVec 32 := 0#32
  let v879 : BitVec 1 := Scalar.cmpi .ne v878 c0_i32_633
  v879

def k0_off349 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_628 : BitVec 32 := 3#32
  let v872 : BitVec 32 := Scalar.addi v8 c3_i32_628
  let c4096_i32_961 : BitVec 32 := 4096#32
  let v1339 : BitVec 32 := Scalar.muli v872 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c640_i32 : BitVec 32 := 640#32
  let v1342 : BitVec 32 := Scalar.addi v1341 c640_i32
  let v1343 : BitVec 32 := Scalar.addi v1342 c0_i32_962
  let c0_i32_968 : BitVec 32 := 0#32
  ![v1343.toNat, 0]
def k0_cond189 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_636 : BitVec 32 := 3#32
  let v882 : BitVec 1 := Scalar.cmpi .sge v8 c3_i32_636
  let v883 : BitVec 32 := Scalar.extui v882
  let c0_i32_637 : BitVec 32 := 0#32
  let v884 : BitVec 1 := Scalar.cmpi .ne v883 c0_i32_637
  v884

def k0_off350 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_634 : BitVec 32 := 3#32
  let v880 : BitVec 32 := Scalar.subi v8 c3_i32_634
  let c4096_i32_961 : BitVec 32 := 4096#32
  let v1339 : BitVec 32 := Scalar.muli v880 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c768_i32 : BitVec 32 := 768#32
  let v1342 : BitVec 32 := Scalar.addi v1341 c768_i32
  let v1343 : BitVec 32 := Scalar.addi v1342 c0_i32_962
  let c0_i32_968 : BitVec 32 := 0#32
  ![v1343.toNat, 0]
def k0_cond190 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_638 : BitVec 32 := 3#32
  let v885 : BitVec 32 := Scalar.addi v8 c3_i32_638
  let c3_i32_639 : BitVec 32 := 3#32
  let v886 : BitVec 1 := Scalar.cmpi .sle v885 c3_i32_639
  let v887 : BitVec 32 := Scalar.extui v886
  let c0_i32_640 : BitVec 32 := 0#32
  let v888 : BitVec 1 := Scalar.cmpi .ne v887 c0_i32_640
  v888

def k0_off351 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_635 : BitVec 32 := 3#32
  let v881 : BitVec 32 := Scalar.addi v8 c3_i32_635
  let c4096_i32_961 : BitVec 32 := 4096#32
  let v1339 : BitVec 32 := Scalar.muli v881 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c768_i32 : BitVec 32 := 768#32
  let v1342 : BitVec 32 := Scalar.addi v1341 c768_i32
  let v1343 : BitVec 32 := Scalar.addi v1342 c0_i32_962
  let c0_i32_968 : BitVec 32 := 0#32
  ![v1343.toNat, 0]
def k0_cond191 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_643 : BitVec 32 := 3#32
  let v891 : BitVec 1 := Scalar.cmpi .sge v8 c3_i32_643
  let v892 : BitVec 32 := Scalar.extui v891
  let c0_i32_644 : BitVec 32 := 0#32
  let v893 : BitVec 1 := Scalar.cmpi .ne v892 c0_i32_644
  v893

def k0_off352 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_641 : BitVec 32 := 3#32
  let v889 : BitVec 32 := Scalar.subi v8 c3_i32_641
  let c4096_i32_961 : BitVec 32 := 4096#32
  let v1339 : BitVec 32 := Scalar.muli v889 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c896_i32 : BitVec 32 := 896#32
  let v1342 : BitVec 32 := Scalar.addi v1341 c896_i32
  let v1343 : BitVec 32 := Scalar.addi v1342 c0_i32_962
  let c0_i32_968 : BitVec 32 := 0#32
  ![v1343.toNat, 0]
def k0_cond192 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_645 : BitVec 32 := 3#32
  let v894 : BitVec 32 := Scalar.addi v8 c3_i32_645
  let c3_i32_646 : BitVec 32 := 3#32
  let v895 : BitVec 1 := Scalar.cmpi .sle v894 c3_i32_646
  let v896 : BitVec 32 := Scalar.extui v895
  let c0_i32_647 : BitVec 32 := 0#32
  let v897 : BitVec 1 := Scalar.cmpi .ne v896 c0_i32_647
  v897

def k0_off353 (d0 : Dev nD) (c0_i32_962 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_642 : BitVec 32 := 3#32
  let v890 : BitVec 32 := Scalar.addi v8 c3_i32_642
  let c4096_i32_961 : BitVec 32 := 4096#32
  let v1339 : BitVec 32 := Scalar.muli v890 c4096_i32_961
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32 : BitVec 32 := 1024#32
  let v1340 : BitVec 32 := Scalar.muli v20 c1024_i32
  let v1341 : BitVec 32 := Scalar.addi v1339 v1340
  let c896_i32 : BitVec 32 := 896#32
  let v1342 : BitVec 32 := Scalar.addi v1341 c896_i32
  let v1343 : BitVec 32 := Scalar.addi v1342 c0_i32_962
  let c0_i32_968 : BitVec 32 := 0#32
  ![v1343.toNat, 0]
def k0_cond193 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_648 : BitVec 32 := 3#32
  let v898 : BitVec 1 := Scalar.cmpi .slt v8 c3_i32_648
  let v899 : BitVec 32 := Scalar.extui v898
  let c0_i32_649 : BitVec 32 := 0#32
  let v900 : BitVec 1 := Scalar.cmpi .ne v899 c0_i32_649
  v900

def k0_off354 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c0_i32_961 : BitVec 32 := 0#32
  let v1340 : BitVec 32 := Scalar.addi v1339 c0_i32_961
  let c0_i32_967 : BitVec 32 := 0#32
  ![v1340.toNat, 0]
def k0_cond194 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_650 : BitVec 32 := 0#32
  let v901 : BitVec 1 := Scalar.cmpi .sgt v8 c0_i32_650
  let v902 : BitVec 32 := Scalar.extui v901
  let c0_i32_651 : BitVec 32 := 0#32
  let v903 : BitVec 1 := Scalar.cmpi .ne v902 c0_i32_651
  v903

def k0_off355 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c0_i32_961 : BitVec 32 := 0#32
  let v1340 : BitVec 32 := Scalar.addi v1339 c0_i32_961
  let c0_i32_967 : BitVec 32 := 0#32
  ![v1340.toNat, 0]
def k0_cond195 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_652 : BitVec 32 := 3#32
  let v904 : BitVec 1 := Scalar.cmpi .slt v8 c3_i32_652
  let v905 : BitVec 32 := Scalar.extui v904
  let c0_i32_653 : BitVec 32 := 0#32
  let v906 : BitVec 1 := Scalar.cmpi .ne v905 c0_i32_653
  v906

def k0_off356 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c128_i32 : BitVec 32 := 128#32
  let v1340 : BitVec 32 := Scalar.addi v1339 c128_i32
  let c0_i32_966 : BitVec 32 := 0#32
  ![v1340.toNat, 0]
def k0_cond196 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_654 : BitVec 32 := 0#32
  let v907 : BitVec 1 := Scalar.cmpi .sgt v8 c0_i32_654
  let v908 : BitVec 32 := Scalar.extui v907
  let c0_i32_655 : BitVec 32 := 0#32
  let v909 : BitVec 1 := Scalar.cmpi .ne v908 c0_i32_655
  v909

def k0_off357 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c128_i32 : BitVec 32 := 128#32
  let v1340 : BitVec 32 := Scalar.addi v1339 c128_i32
  let c0_i32_966 : BitVec 32 := 0#32
  ![v1340.toNat, 0]
def k0_cond197 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_656 : BitVec 32 := 3#32
  let v910 : BitVec 1 := Scalar.cmpi .slt v8 c3_i32_656
  let v911 : BitVec 32 := Scalar.extui v910
  let c0_i32_657 : BitVec 32 := 0#32
  let v912 : BitVec 1 := Scalar.cmpi .ne v911 c0_i32_657
  v912

def k0_off358 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c256_i32 : BitVec 32 := 256#32
  let v1340 : BitVec 32 := Scalar.addi v1339 c256_i32
  let c0_i32_966 : BitVec 32 := 0#32
  ![v1340.toNat, 0]
def k0_cond198 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_658 : BitVec 32 := 0#32
  let v913 : BitVec 1 := Scalar.cmpi .sgt v8 c0_i32_658
  let v914 : BitVec 32 := Scalar.extui v913
  let c0_i32_659 : BitVec 32 := 0#32
  let v915 : BitVec 1 := Scalar.cmpi .ne v914 c0_i32_659
  v915

def k0_off359 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c256_i32 : BitVec 32 := 256#32
  let v1340 : BitVec 32 := Scalar.addi v1339 c256_i32
  let c0_i32_966 : BitVec 32 := 0#32
  ![v1340.toNat, 0]
def k0_cond199 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_660 : BitVec 32 := 3#32
  let v916 : BitVec 1 := Scalar.cmpi .slt v8 c3_i32_660
  let v917 : BitVec 32 := Scalar.extui v916
  let c0_i32_661 : BitVec 32 := 0#32
  let v918 : BitVec 1 := Scalar.cmpi .ne v917 c0_i32_661
  v918

def k0_off360 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c384_i32 : BitVec 32 := 384#32
  let v1340 : BitVec 32 := Scalar.addi v1339 c384_i32
  let c0_i32_966 : BitVec 32 := 0#32
  ![v1340.toNat, 0]
def k0_cond200 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_662 : BitVec 32 := 0#32
  let v919 : BitVec 1 := Scalar.cmpi .sgt v8 c0_i32_662
  let v920 : BitVec 32 := Scalar.extui v919
  let c0_i32_663 : BitVec 32 := 0#32
  let v921 : BitVec 1 := Scalar.cmpi .ne v920 c0_i32_663
  v921

def k0_off361 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c384_i32 : BitVec 32 := 384#32
  let v1340 : BitVec 32 := Scalar.addi v1339 c384_i32
  let c0_i32_966 : BitVec 32 := 0#32
  ![v1340.toNat, 0]
def k0_cond201 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_664 : BitVec 32 := 3#32
  let v922 : BitVec 1 := Scalar.cmpi .slt v8 c3_i32_664
  let v923 : BitVec 32 := Scalar.extui v922
  let c0_i32_665 : BitVec 32 := 0#32
  let v924 : BitVec 1 := Scalar.cmpi .ne v923 c0_i32_665
  v924

def k0_off362 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c512_i32 : BitVec 32 := 512#32
  let v1340 : BitVec 32 := Scalar.addi v1339 c512_i32
  let c0_i32_966 : BitVec 32 := 0#32
  ![v1340.toNat, 0]
def k0_cond202 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_666 : BitVec 32 := 0#32
  let v925 : BitVec 1 := Scalar.cmpi .sgt v8 c0_i32_666
  let v926 : BitVec 32 := Scalar.extui v925
  let c0_i32_667 : BitVec 32 := 0#32
  let v927 : BitVec 1 := Scalar.cmpi .ne v926 c0_i32_667
  v927

def k0_off363 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c512_i32 : BitVec 32 := 512#32
  let v1340 : BitVec 32 := Scalar.addi v1339 c512_i32
  let c0_i32_966 : BitVec 32 := 0#32
  ![v1340.toNat, 0]
def k0_cond203 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_668 : BitVec 32 := 3#32
  let v928 : BitVec 1 := Scalar.cmpi .slt v8 c3_i32_668
  let v929 : BitVec 32 := Scalar.extui v928
  let c0_i32_669 : BitVec 32 := 0#32
  let v930 : BitVec 1 := Scalar.cmpi .ne v929 c0_i32_669
  v930

def k0_off364 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c640_i32 : BitVec 32 := 640#32
  let v1340 : BitVec 32 := Scalar.addi v1339 c640_i32
  let c0_i32_965 : BitVec 32 := 0#32
  ![v1340.toNat, 0]
def k0_cond204 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_670 : BitVec 32 := 0#32
  let v931 : BitVec 1 := Scalar.cmpi .sgt v8 c0_i32_670
  let v932 : BitVec 32 := Scalar.extui v931
  let c0_i32_671 : BitVec 32 := 0#32
  let v933 : BitVec 1 := Scalar.cmpi .ne v932 c0_i32_671
  v933

def k0_off365 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c640_i32 : BitVec 32 := 640#32
  let v1340 : BitVec 32 := Scalar.addi v1339 c640_i32
  let c0_i32_965 : BitVec 32 := 0#32
  ![v1340.toNat, 0]
def k0_cond205 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_672 : BitVec 32 := 3#32
  let v934 : BitVec 1 := Scalar.cmpi .slt v8 c3_i32_672
  let v935 : BitVec 32 := Scalar.extui v934
  let c0_i32_673 : BitVec 32 := 0#32
  let v936 : BitVec 1 := Scalar.cmpi .ne v935 c0_i32_673
  v936

def k0_off366 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c768_i32 : BitVec 32 := 768#32
  let v1340 : BitVec 32 := Scalar.addi v1339 c768_i32
  let c0_i32_965 : BitVec 32 := 0#32
  ![v1340.toNat, 0]
def k0_cond206 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_674 : BitVec 32 := 0#32
  let v937 : BitVec 1 := Scalar.cmpi .sgt v8 c0_i32_674
  let v938 : BitVec 32 := Scalar.extui v937
  let c0_i32_675 : BitVec 32 := 0#32
  let v939 : BitVec 1 := Scalar.cmpi .ne v938 c0_i32_675
  v939

def k0_off367 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c768_i32 : BitVec 32 := 768#32
  let v1340 : BitVec 32 := Scalar.addi v1339 c768_i32
  let c0_i32_965 : BitVec 32 := 0#32
  ![v1340.toNat, 0]
def k0_cond207 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_676 : BitVec 32 := 3#32
  let v940 : BitVec 1 := Scalar.cmpi .slt v8 c3_i32_676
  let v941 : BitVec 32 := Scalar.extui v940
  let c0_i32_677 : BitVec 32 := 0#32
  let v942 : BitVec 1 := Scalar.cmpi .ne v941 c0_i32_677
  v942

def k0_off368 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c896_i32 : BitVec 32 := 896#32
  let v1340 : BitVec 32 := Scalar.addi v1339 c896_i32
  let c0_i32_965 : BitVec 32 := 0#32
  ![v1340.toNat, 0]
def k0_cond208 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_678 : BitVec 32 := 0#32
  let v943 : BitVec 1 := Scalar.cmpi .sgt v8 c0_i32_678
  let v944 : BitVec 32 := Scalar.extui v943
  let c0_i32_679 : BitVec 32 := 0#32
  let v945 : BitVec 1 := Scalar.cmpi .ne v944 c0_i32_679
  v945

def k0_off369 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1339 : BitVec 32 := Scalar.muli v10 c1024_i32
  let c896_i32 : BitVec 32 := 896#32
  let v1340 : BitVec 32 := Scalar.addi v1339 c896_i32
  let c0_i32_965 : BitVec 32 := 0#32
  ![v1340.toNat, 0]
def k0_cond209 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_680 : BitVec 32 := 1#32
  let v946 : BitVec 1 := Scalar.cmpi .sge v8 c1_i32_680
  let c3_i32_681 : BitVec 32 := 3#32
  let v947 : BitVec 1 := Scalar.cmpi .slt v8 c3_i32_681
  let v948 : BitVec 1 := Scalar.andi v946 v947
  let v949 : BitVec 32 := Scalar.extui v948
  let c0_i32_682 : BitVec 32 := 0#32
  let v950 : BitVec 1 := Scalar.cmpi .ne v949 c0_i32_682
  v950

def k0_off370 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_967 : BitVec 32 := 0#32
  ![v1343.toNat, 0]
def k0_cond210 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_683 : BitVec 32 := 1#32
  let v951 : BitVec 32 := Scalar.addi v8 c1_i32_683
  let c3_i32_684 : BitVec 32 := 3#32
  let v952 : BitVec 1 := Scalar.cmpi .sle v951 c3_i32_684
  let c0_i32_685 : BitVec 32 := 0#32
  let v953 : BitVec 1 := Scalar.cmpi .sgt v8 c0_i32_685
  let v954 : BitVec 1 := Scalar.andi v952 v953
  let v955 : BitVec 32 := Scalar.extui v954
  let c0_i32_686 : BitVec 32 := 0#32
  let v956 : BitVec 1 := Scalar.cmpi .ne v955 c0_i32_686
  v956

def k0_off371 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_967 : BitVec 32 := 0#32
  ![v1343.toNat, 0]
def k0_cond211 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_689 : BitVec 32 := 1#32
  let v959 : BitVec 1 := Scalar.cmpi .sge v8 c1_i32_689
  let v960 : BitVec 32 := Scalar.extui v959
  let c0_i32_690 : BitVec 32 := 0#32
  let v961 : BitVec 1 := Scalar.cmpi .ne v960 c0_i32_690
  v961

def k0_off372 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_687 : BitVec 32 := 1#32
  let v957 : BitVec 32 := Scalar.subi v8 c1_i32_687
  let c4096_i32_961 : BitVec 32 := 4096#32
  let v1339 : BitVec 32 := Scalar.muli v957 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c0_i32_962 : BitVec 32 := 0#32
  let v1342 : BitVec 32 := Scalar.addi v1341 c0_i32_962
  let c0_i32_966 : BitVec 32 := 0#32
  ![v1342.toNat, 0]
def k0_off373 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_687 : BitVec 32 := 1#32
  let v957 : BitVec 32 := Scalar.subi v8 c1_i32_687
  let c4096_i32_973 : BitVec 32 := 4096#32
  let v1351 : BitVec 32 := Scalar.muli v957 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1352 : BitVec 32 := Scalar.muli v13 c1024_i32_974
  let v1353 : BitVec 32 := Scalar.addi v1351 v1352
  let c0_i32_975 : BitVec 32 := 0#32
  let v1354 : BitVec 32 := Scalar.addi v1353 c0_i32_975
  let c0_i32_976 : BitVec 32 := 0#32
  let v1355 : BitVec 32 := Scalar.addi v1354 c0_i32_976
  let c0_i32_980 : BitVec 32 := 0#32
  ![v1355.toNat, 0]
def k0_off374 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_687 : BitVec 32 := 1#32
  let v957 : BitVec 32 := Scalar.subi v8 c1_i32_687
  let c4096_i32_982 : BitVec 32 := 4096#32
  let v1360 : BitVec 32 := Scalar.muli v957 c4096_i32_982
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_983 : BitVec 32 := 1024#32
  let v1361 : BitVec 32 := Scalar.muli v16 c1024_i32_983
  let v1362 : BitVec 32 := Scalar.addi v1360 v1361
  let c0_i32_984 : BitVec 32 := 0#32
  let v1363 : BitVec 32 := Scalar.addi v1362 c0_i32_984
  let c64_i32 : BitVec 32 := 64#32
  let v1364 : BitVec 32 := Scalar.addi v1363 c64_i32
  let c0_i32_988 : BitVec 32 := 0#32
  ![v1364.toNat, 0]
def k0_cond212 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_691 : BitVec 32 := 1#32
  let v962 : BitVec 32 := Scalar.addi v8 c1_i32_691
  let c3_i32_692 : BitVec 32 := 3#32
  let v963 : BitVec 1 := Scalar.cmpi .sle v962 c3_i32_692
  let v964 : BitVec 32 := Scalar.extui v963
  let c0_i32_693 : BitVec 32 := 0#32
  let v965 : BitVec 1 := Scalar.cmpi .ne v964 c0_i32_693
  v965

def k0_off375 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_688 : BitVec 32 := 1#32
  let v958 : BitVec 32 := Scalar.addi v8 c1_i32_688
  let c4096_i32_961 : BitVec 32 := 4096#32
  let v1339 : BitVec 32 := Scalar.muli v958 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c0_i32_962 : BitVec 32 := 0#32
  let v1342 : BitVec 32 := Scalar.addi v1341 c0_i32_962
  let c0_i32_965 : BitVec 32 := 0#32
  ![v1342.toNat, 0]
def k0_off376 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_688 : BitVec 32 := 1#32
  let v958 : BitVec 32 := Scalar.addi v8 c1_i32_688
  let c4096_i32_972 : BitVec 32 := 4096#32
  let v1351 : BitVec 32 := Scalar.muli v958 c4096_i32_972
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_973 : BitVec 32 := 1024#32
  let v1352 : BitVec 32 := Scalar.muli v13 c1024_i32_973
  let v1353 : BitVec 32 := Scalar.addi v1351 v1352
  let c0_i32_974 : BitVec 32 := 0#32
  let v1354 : BitVec 32 := Scalar.addi v1353 c0_i32_974
  let c0_i32_975 : BitVec 32 := 0#32
  let v1355 : BitVec 32 := Scalar.addi v1354 c0_i32_975
  let c0_i32_979 : BitVec 32 := 0#32
  ![v1355.toNat, 0]
def k0_off377 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_688 : BitVec 32 := 1#32
  let v958 : BitVec 32 := Scalar.addi v8 c1_i32_688
  let c4096_i32_981 : BitVec 32 := 4096#32
  let v1360 : BitVec 32 := Scalar.muli v958 c4096_i32_981
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_982 : BitVec 32 := 1024#32
  let v1361 : BitVec 32 := Scalar.muli v16 c1024_i32_982
  let v1362 : BitVec 32 := Scalar.addi v1360 v1361
  let c0_i32_983 : BitVec 32 := 0#32
  let v1363 : BitVec 32 := Scalar.addi v1362 c0_i32_983
  let c64_i32 : BitVec 32 := 64#32
  let v1364 : BitVec 32 := Scalar.addi v1363 c64_i32
  let c0_i32_987 : BitVec 32 := 0#32
  ![v1364.toNat, 0]
def k0_cond213 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_694 : BitVec 32 := 1#32
  let v966 : BitVec 1 := Scalar.cmpi .sge v8 c1_i32_694
  let c3_i32_695 : BitVec 32 := 3#32
  let v967 : BitVec 1 := Scalar.cmpi .slt v8 c3_i32_695
  let v968 : BitVec 1 := Scalar.andi v966 v967
  let v969 : BitVec 32 := Scalar.extui v968
  let c0_i32_696 : BitVec 32 := 0#32
  let v970 : BitVec 1 := Scalar.cmpi .ne v969 c0_i32_696
  v970

def k0_off378 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_965 : BitVec 32 := 0#32
  ![v1343.toNat, 0]
def k0_cond214 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_697 : BitVec 32 := 1#32
  let v971 : BitVec 32 := Scalar.addi v8 c1_i32_697
  let c3_i32_698 : BitVec 32 := 3#32
  let v972 : BitVec 1 := Scalar.cmpi .sle v971 c3_i32_698
  let c0_i32_699 : BitVec 32 := 0#32
  let v973 : BitVec 1 := Scalar.cmpi .sgt v8 c0_i32_699
  let v974 : BitVec 1 := Scalar.andi v972 v973
  let v975 : BitVec 32 := Scalar.extui v974
  let c0_i32_700 : BitVec 32 := 0#32
  let v976 : BitVec 1 := Scalar.cmpi .ne v975 c0_i32_700
  v976

def k0_off379 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_965 : BitVec 32 := 0#32
  ![v1343.toNat, 0]
def k0_cond215 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_703 : BitVec 32 := 1#32
  let v979 : BitVec 1 := Scalar.cmpi .sge v8 c1_i32_703
  let v980 : BitVec 32 := Scalar.extui v979
  let c0_i32_704 : BitVec 32 := 0#32
  let v981 : BitVec 1 := Scalar.cmpi .ne v980 c0_i32_704
  v981

def k0_off380 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_701 : BitVec 32 := 1#32
  let v977 : BitVec 32 := Scalar.subi v8 c1_i32_701
  let c4096_i32_961 : BitVec 32 := 4096#32
  let v1339 : BitVec 32 := Scalar.muli v977 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c128_i32 : BitVec 32 := 128#32
  let v1342 : BitVec 32 := Scalar.addi v1341 c128_i32
  let c0_i32_965 : BitVec 32 := 0#32
  ![v1342.toNat, 0]
def k0_off381 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_701 : BitVec 32 := 1#32
  let v977 : BitVec 32 := Scalar.subi v8 c1_i32_701
  let c4096_i32_972 : BitVec 32 := 4096#32
  let v1351 : BitVec 32 := Scalar.muli v977 c4096_i32_972
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_973 : BitVec 32 := 1024#32
  let v1352 : BitVec 32 := Scalar.muli v13 c1024_i32_973
  let v1353 : BitVec 32 := Scalar.addi v1351 v1352
  let c128_i32_974 : BitVec 32 := 128#32
  let v1354 : BitVec 32 := Scalar.addi v1353 c128_i32_974
  let c0_i32_975 : BitVec 32 := 0#32
  let v1355 : BitVec 32 := Scalar.addi v1354 c0_i32_975
  let c0_i32_979 : BitVec 32 := 0#32
  ![v1355.toNat, 0]
def k0_off382 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_701 : BitVec 32 := 1#32
  let v977 : BitVec 32 := Scalar.subi v8 c1_i32_701
  let c4096_i32_981 : BitVec 32 := 4096#32
  let v1360 : BitVec 32 := Scalar.muli v977 c4096_i32_981
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_982 : BitVec 32 := 1024#32
  let v1361 : BitVec 32 := Scalar.muli v16 c1024_i32_982
  let v1362 : BitVec 32 := Scalar.addi v1360 v1361
  let c128_i32_983 : BitVec 32 := 128#32
  let v1363 : BitVec 32 := Scalar.addi v1362 c128_i32_983
  let c64_i32 : BitVec 32 := 64#32
  let v1364 : BitVec 32 := Scalar.addi v1363 c64_i32
  let c0_i32_987 : BitVec 32 := 0#32
  ![v1364.toNat, 0]
def k0_cond216 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_705 : BitVec 32 := 1#32
  let v982 : BitVec 32 := Scalar.addi v8 c1_i32_705
  let c3_i32_706 : BitVec 32 := 3#32
  let v983 : BitVec 1 := Scalar.cmpi .sle v982 c3_i32_706
  let v984 : BitVec 32 := Scalar.extui v983
  let c0_i32_707 : BitVec 32 := 0#32
  let v985 : BitVec 1 := Scalar.cmpi .ne v984 c0_i32_707
  v985

def k0_off383 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_702 : BitVec 32 := 1#32
  let v978 : BitVec 32 := Scalar.addi v8 c1_i32_702
  let c4096_i32_961 : BitVec 32 := 4096#32
  let v1339 : BitVec 32 := Scalar.muli v978 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c128_i32 : BitVec 32 := 128#32
  let v1342 : BitVec 32 := Scalar.addi v1341 c128_i32
  let c0_i32_964 : BitVec 32 := 0#32
  ![v1342.toNat, 0]
def k0_off384 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_702 : BitVec 32 := 1#32
  let v978 : BitVec 32 := Scalar.addi v8 c1_i32_702
  let c4096_i32_971 : BitVec 32 := 4096#32
  let v1351 : BitVec 32 := Scalar.muli v978 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c128_i32_973 : BitVec 32 := 128#32
  let v1354 : BitVec 32 := Scalar.addi v1353 c128_i32_973
  let c0_i32_974 : BitVec 32 := 0#32
  let v1355 : BitVec 32 := Scalar.addi v1354 c0_i32_974
  let c0_i32_978 : BitVec 32 := 0#32
  ![v1355.toNat, 0]
def k0_off385 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_702 : BitVec 32 := 1#32
  let v978 : BitVec 32 := Scalar.addi v8 c1_i32_702
  let c4096_i32_980 : BitVec 32 := 4096#32
  let v1360 : BitVec 32 := Scalar.muli v978 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c128_i32_982 : BitVec 32 := 128#32
  let v1363 : BitVec 32 := Scalar.addi v1362 c128_i32_982
  let c64_i32 : BitVec 32 := 64#32
  let v1364 : BitVec 32 := Scalar.addi v1363 c64_i32
  let c0_i32_986 : BitVec 32 := 0#32
  ![v1364.toNat, 0]
def k0_cond217 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_708 : BitVec 32 := 1#32
  let v986 : BitVec 1 := Scalar.cmpi .sge v8 c1_i32_708
  let c3_i32_709 : BitVec 32 := 3#32
  let v987 : BitVec 1 := Scalar.cmpi .slt v8 c3_i32_709
  let v988 : BitVec 1 := Scalar.andi v986 v987
  let v989 : BitVec 32 := Scalar.extui v988
  let c0_i32_710 : BitVec 32 := 0#32
  let v990 : BitVec 1 := Scalar.cmpi .ne v989 c0_i32_710
  v990

def k0_off386 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_965 : BitVec 32 := 0#32
  ![v1343.toNat, 0]
def k0_cond218 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_711 : BitVec 32 := 1#32
  let v991 : BitVec 32 := Scalar.addi v8 c1_i32_711
  let c3_i32_712 : BitVec 32 := 3#32
  let v992 : BitVec 1 := Scalar.cmpi .sle v991 c3_i32_712
  let c0_i32_713 : BitVec 32 := 0#32
  let v993 : BitVec 1 := Scalar.cmpi .sgt v8 c0_i32_713
  let v994 : BitVec 1 := Scalar.andi v992 v993
  let v995 : BitVec 32 := Scalar.extui v994
  let c0_i32_714 : BitVec 32 := 0#32
  let v996 : BitVec 1 := Scalar.cmpi .ne v995 c0_i32_714
  v996

def k0_off387 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_965 : BitVec 32 := 0#32
  ![v1343.toNat, 0]
def k0_cond219 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_717 : BitVec 32 := 1#32
  let v999 : BitVec 1 := Scalar.cmpi .sge v8 c1_i32_717
  let v1000 : BitVec 32 := Scalar.extui v999
  let c0_i32_718 : BitVec 32 := 0#32
  let v1001 : BitVec 1 := Scalar.cmpi .ne v1000 c0_i32_718
  v1001

def k0_off388 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_715 : BitVec 32 := 1#32
  let v997 : BitVec 32 := Scalar.subi v8 c1_i32_715
  let c4096_i32_961 : BitVec 32 := 4096#32
  let v1339 : BitVec 32 := Scalar.muli v997 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c256_i32 : BitVec 32 := 256#32
  let v1342 : BitVec 32 := Scalar.addi v1341 c256_i32
  let c0_i32_965 : BitVec 32 := 0#32
  ![v1342.toNat, 0]
def k0_off389 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_715 : BitVec 32 := 1#32
  let v997 : BitVec 32 := Scalar.subi v8 c1_i32_715
  let c4096_i32_972 : BitVec 32 := 4096#32
  let v1351 : BitVec 32 := Scalar.muli v997 c4096_i32_972
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_973 : BitVec 32 := 1024#32
  let v1352 : BitVec 32 := Scalar.muli v13 c1024_i32_973
  let v1353 : BitVec 32 := Scalar.addi v1351 v1352
  let c256_i32_974 : BitVec 32 := 256#32
  let v1354 : BitVec 32 := Scalar.addi v1353 c256_i32_974
  let c0_i32_975 : BitVec 32 := 0#32
  let v1355 : BitVec 32 := Scalar.addi v1354 c0_i32_975
  let c0_i32_979 : BitVec 32 := 0#32
  ![v1355.toNat, 0]
def k0_off390 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_715 : BitVec 32 := 1#32
  let v997 : BitVec 32 := Scalar.subi v8 c1_i32_715
  let c4096_i32_981 : BitVec 32 := 4096#32
  let v1360 : BitVec 32 := Scalar.muli v997 c4096_i32_981
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_982 : BitVec 32 := 1024#32
  let v1361 : BitVec 32 := Scalar.muli v16 c1024_i32_982
  let v1362 : BitVec 32 := Scalar.addi v1360 v1361
  let c256_i32_983 : BitVec 32 := 256#32
  let v1363 : BitVec 32 := Scalar.addi v1362 c256_i32_983
  let c64_i32 : BitVec 32 := 64#32
  let v1364 : BitVec 32 := Scalar.addi v1363 c64_i32
  let c0_i32_987 : BitVec 32 := 0#32
  ![v1364.toNat, 0]
def k0_cond220 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_719 : BitVec 32 := 1#32
  let v1002 : BitVec 32 := Scalar.addi v8 c1_i32_719
  let c3_i32_720 : BitVec 32 := 3#32
  let v1003 : BitVec 1 := Scalar.cmpi .sle v1002 c3_i32_720
  let v1004 : BitVec 32 := Scalar.extui v1003
  let c0_i32_721 : BitVec 32 := 0#32
  let v1005 : BitVec 1 := Scalar.cmpi .ne v1004 c0_i32_721
  v1005

def k0_off391 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_716 : BitVec 32 := 1#32
  let v998 : BitVec 32 := Scalar.addi v8 c1_i32_716
  let c4096_i32_961 : BitVec 32 := 4096#32
  let v1339 : BitVec 32 := Scalar.muli v998 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c256_i32 : BitVec 32 := 256#32
  let v1342 : BitVec 32 := Scalar.addi v1341 c256_i32
  let c0_i32_964 : BitVec 32 := 0#32
  ![v1342.toNat, 0]
def k0_off392 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_716 : BitVec 32 := 1#32
  let v998 : BitVec 32 := Scalar.addi v8 c1_i32_716
  let c4096_i32_971 : BitVec 32 := 4096#32
  let v1351 : BitVec 32 := Scalar.muli v998 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c256_i32_973 : BitVec 32 := 256#32
  let v1354 : BitVec 32 := Scalar.addi v1353 c256_i32_973
  let c0_i32_974 : BitVec 32 := 0#32
  let v1355 : BitVec 32 := Scalar.addi v1354 c0_i32_974
  let c0_i32_978 : BitVec 32 := 0#32
  ![v1355.toNat, 0]
def k0_off393 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_716 : BitVec 32 := 1#32
  let v998 : BitVec 32 := Scalar.addi v8 c1_i32_716
  let c4096_i32_980 : BitVec 32 := 4096#32
  let v1360 : BitVec 32 := Scalar.muli v998 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c256_i32_982 : BitVec 32 := 256#32
  let v1363 : BitVec 32 := Scalar.addi v1362 c256_i32_982
  let c64_i32 : BitVec 32 := 64#32
  let v1364 : BitVec 32 := Scalar.addi v1363 c64_i32
  let c0_i32_986 : BitVec 32 := 0#32
  ![v1364.toNat, 0]
def k0_cond221 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_722 : BitVec 32 := 1#32
  let v1006 : BitVec 1 := Scalar.cmpi .sge v8 c1_i32_722
  let c3_i32_723 : BitVec 32 := 3#32
  let v1007 : BitVec 1 := Scalar.cmpi .slt v8 c3_i32_723
  let v1008 : BitVec 1 := Scalar.andi v1006 v1007
  let v1009 : BitVec 32 := Scalar.extui v1008
  let c0_i32_724 : BitVec 32 := 0#32
  let v1010 : BitVec 1 := Scalar.cmpi .ne v1009 c0_i32_724
  v1010

def k0_off394 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_965 : BitVec 32 := 0#32
  ![v1343.toNat, 0]
def k0_cond222 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_725 : BitVec 32 := 1#32
  let v1011 : BitVec 32 := Scalar.addi v8 c1_i32_725
  let c3_i32_726 : BitVec 32 := 3#32
  let v1012 : BitVec 1 := Scalar.cmpi .sle v1011 c3_i32_726
  let c0_i32_727 : BitVec 32 := 0#32
  let v1013 : BitVec 1 := Scalar.cmpi .sgt v8 c0_i32_727
  let v1014 : BitVec 1 := Scalar.andi v1012 v1013
  let v1015 : BitVec 32 := Scalar.extui v1014
  let c0_i32_728 : BitVec 32 := 0#32
  let v1016 : BitVec 1 := Scalar.cmpi .ne v1015 c0_i32_728
  v1016

def k0_off395 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_965 : BitVec 32 := 0#32
  ![v1343.toNat, 0]
def k0_cond223 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_731 : BitVec 32 := 1#32
  let v1019 : BitVec 1 := Scalar.cmpi .sge v8 c1_i32_731
  let v1020 : BitVec 32 := Scalar.extui v1019
  let c0_i32_732 : BitVec 32 := 0#32
  let v1021 : BitVec 1 := Scalar.cmpi .ne v1020 c0_i32_732
  v1021

def k0_off396 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_729 : BitVec 32 := 1#32
  let v1017 : BitVec 32 := Scalar.subi v8 c1_i32_729
  let c4096_i32_961 : BitVec 32 := 4096#32
  let v1339 : BitVec 32 := Scalar.muli v1017 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c384_i32 : BitVec 32 := 384#32
  let v1342 : BitVec 32 := Scalar.addi v1341 c384_i32
  let c0_i32_965 : BitVec 32 := 0#32
  ![v1342.toNat, 0]
def k0_off397 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_729 : BitVec 32 := 1#32
  let v1017 : BitVec 32 := Scalar.subi v8 c1_i32_729
  let c4096_i32_972 : BitVec 32 := 4096#32
  let v1351 : BitVec 32 := Scalar.muli v1017 c4096_i32_972
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_973 : BitVec 32 := 1024#32
  let v1352 : BitVec 32 := Scalar.muli v13 c1024_i32_973
  let v1353 : BitVec 32 := Scalar.addi v1351 v1352
  let c384_i32_974 : BitVec 32 := 384#32
  let v1354 : BitVec 32 := Scalar.addi v1353 c384_i32_974
  let c0_i32_975 : BitVec 32 := 0#32
  let v1355 : BitVec 32 := Scalar.addi v1354 c0_i32_975
  let c0_i32_979 : BitVec 32 := 0#32
  ![v1355.toNat, 0]
def k0_off398 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_729 : BitVec 32 := 1#32
  let v1017 : BitVec 32 := Scalar.subi v8 c1_i32_729
  let c4096_i32_981 : BitVec 32 := 4096#32
  let v1360 : BitVec 32 := Scalar.muli v1017 c4096_i32_981
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_982 : BitVec 32 := 1024#32
  let v1361 : BitVec 32 := Scalar.muli v16 c1024_i32_982
  let v1362 : BitVec 32 := Scalar.addi v1360 v1361
  let c384_i32_983 : BitVec 32 := 384#32
  let v1363 : BitVec 32 := Scalar.addi v1362 c384_i32_983
  let c64_i32 : BitVec 32 := 64#32
  let v1364 : BitVec 32 := Scalar.addi v1363 c64_i32
  let c0_i32_987 : BitVec 32 := 0#32
  ![v1364.toNat, 0]
def k0_cond224 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_733 : BitVec 32 := 1#32
  let v1022 : BitVec 32 := Scalar.addi v8 c1_i32_733
  let c3_i32_734 : BitVec 32 := 3#32
  let v1023 : BitVec 1 := Scalar.cmpi .sle v1022 c3_i32_734
  let v1024 : BitVec 32 := Scalar.extui v1023
  let c0_i32_735 : BitVec 32 := 0#32
  let v1025 : BitVec 1 := Scalar.cmpi .ne v1024 c0_i32_735
  v1025

def k0_off399 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_730 : BitVec 32 := 1#32
  let v1018 : BitVec 32 := Scalar.addi v8 c1_i32_730
  let c4096_i32_961 : BitVec 32 := 4096#32
  let v1339 : BitVec 32 := Scalar.muli v1018 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c384_i32 : BitVec 32 := 384#32
  let v1342 : BitVec 32 := Scalar.addi v1341 c384_i32
  let c0_i32_964 : BitVec 32 := 0#32
  ![v1342.toNat, 0]
def k0_off400 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_730 : BitVec 32 := 1#32
  let v1018 : BitVec 32 := Scalar.addi v8 c1_i32_730
  let c4096_i32_971 : BitVec 32 := 4096#32
  let v1351 : BitVec 32 := Scalar.muli v1018 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c384_i32_973 : BitVec 32 := 384#32
  let v1354 : BitVec 32 := Scalar.addi v1353 c384_i32_973
  let c0_i32_974 : BitVec 32 := 0#32
  let v1355 : BitVec 32 := Scalar.addi v1354 c0_i32_974
  let c0_i32_978 : BitVec 32 := 0#32
  ![v1355.toNat, 0]
def k0_off401 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_730 : BitVec 32 := 1#32
  let v1018 : BitVec 32 := Scalar.addi v8 c1_i32_730
  let c4096_i32_980 : BitVec 32 := 4096#32
  let v1360 : BitVec 32 := Scalar.muli v1018 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c384_i32_982 : BitVec 32 := 384#32
  let v1363 : BitVec 32 := Scalar.addi v1362 c384_i32_982
  let c64_i32 : BitVec 32 := 64#32
  let v1364 : BitVec 32 := Scalar.addi v1363 c64_i32
  let c0_i32_986 : BitVec 32 := 0#32
  ![v1364.toNat, 0]
def k0_cond225 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_736 : BitVec 32 := 1#32
  let v1026 : BitVec 1 := Scalar.cmpi .sge v8 c1_i32_736
  let c3_i32_737 : BitVec 32 := 3#32
  let v1027 : BitVec 1 := Scalar.cmpi .slt v8 c3_i32_737
  let v1028 : BitVec 1 := Scalar.andi v1026 v1027
  let v1029 : BitVec 32 := Scalar.extui v1028
  let c0_i32_738 : BitVec 32 := 0#32
  let v1030 : BitVec 1 := Scalar.cmpi .ne v1029 c0_i32_738
  v1030

def k0_off402 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_965 : BitVec 32 := 0#32
  ![v1343.toNat, 0]
def k0_cond226 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1031 : BitVec 32 := Scalar.addi v8 c1_i32_739
  let c3_i32_740 : BitVec 32 := 3#32
  let v1032 : BitVec 1 := Scalar.cmpi .sle v1031 c3_i32_740
  let c0_i32_741 : BitVec 32 := 0#32
  let v1033 : BitVec 1 := Scalar.cmpi .sgt v8 c0_i32_741
  let v1034 : BitVec 1 := Scalar.andi v1032 v1033
  let v1035 : BitVec 32 := Scalar.extui v1034
  let c0_i32_742 : BitVec 32 := 0#32
  let v1036 : BitVec 1 := Scalar.cmpi .ne v1035 c0_i32_742
  v1036

def k0_off403 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_965 : BitVec 32 := 0#32
  ![v1343.toNat, 0]
def k0_cond227 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_745 : BitVec 32 := 1#32
  let v1039 : BitVec 1 := Scalar.cmpi .sge v8 c1_i32_745
  let v1040 : BitVec 32 := Scalar.extui v1039
  let c0_i32_746 : BitVec 32 := 0#32
  let v1041 : BitVec 1 := Scalar.cmpi .ne v1040 c0_i32_746
  v1041

def k0_off404 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_743 : BitVec 32 := 1#32
  let v1037 : BitVec 32 := Scalar.subi v8 c1_i32_743
  let c4096_i32_961 : BitVec 32 := 4096#32
  let v1339 : BitVec 32 := Scalar.muli v1037 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c512_i32 : BitVec 32 := 512#32
  let v1342 : BitVec 32 := Scalar.addi v1341 c512_i32
  let c0_i32_965 : BitVec 32 := 0#32
  ![v1342.toNat, 0]
def k0_off405 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_743 : BitVec 32 := 1#32
  let v1037 : BitVec 32 := Scalar.subi v8 c1_i32_743
  let c4096_i32_972 : BitVec 32 := 4096#32
  let v1351 : BitVec 32 := Scalar.muli v1037 c4096_i32_972
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_973 : BitVec 32 := 1024#32
  let v1352 : BitVec 32 := Scalar.muli v13 c1024_i32_973
  let v1353 : BitVec 32 := Scalar.addi v1351 v1352
  let c512_i32_974 : BitVec 32 := 512#32
  let v1354 : BitVec 32 := Scalar.addi v1353 c512_i32_974
  let c0_i32_975 : BitVec 32 := 0#32
  let v1355 : BitVec 32 := Scalar.addi v1354 c0_i32_975
  let c0_i32_979 : BitVec 32 := 0#32
  ![v1355.toNat, 0]
def k0_off406 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_743 : BitVec 32 := 1#32
  let v1037 : BitVec 32 := Scalar.subi v8 c1_i32_743
  let c4096_i32_981 : BitVec 32 := 4096#32
  let v1360 : BitVec 32 := Scalar.muli v1037 c4096_i32_981
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_982 : BitVec 32 := 1024#32
  let v1361 : BitVec 32 := Scalar.muli v16 c1024_i32_982
  let v1362 : BitVec 32 := Scalar.addi v1360 v1361
  let c512_i32_983 : BitVec 32 := 512#32
  let v1363 : BitVec 32 := Scalar.addi v1362 c512_i32_983
  let c64_i32 : BitVec 32 := 64#32
  let v1364 : BitVec 32 := Scalar.addi v1363 c64_i32
  let c0_i32_987 : BitVec 32 := 0#32
  ![v1364.toNat, 0]
def k0_cond228 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_747 : BitVec 32 := 1#32
  let v1042 : BitVec 32 := Scalar.addi v8 c1_i32_747
  let c3_i32_748 : BitVec 32 := 3#32
  let v1043 : BitVec 1 := Scalar.cmpi .sle v1042 c3_i32_748
  let v1044 : BitVec 32 := Scalar.extui v1043
  let c0_i32_749 : BitVec 32 := 0#32
  let v1045 : BitVec 1 := Scalar.cmpi .ne v1044 c0_i32_749
  v1045

def k0_off407 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_744 : BitVec 32 := 1#32
  let v1038 : BitVec 32 := Scalar.addi v8 c1_i32_744
  let c4096_i32_961 : BitVec 32 := 4096#32
  let v1339 : BitVec 32 := Scalar.muli v1038 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c512_i32 : BitVec 32 := 512#32
  let v1342 : BitVec 32 := Scalar.addi v1341 c512_i32
  let c0_i32_964 : BitVec 32 := 0#32
  ![v1342.toNat, 0]
def k0_off408 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_744 : BitVec 32 := 1#32
  let v1038 : BitVec 32 := Scalar.addi v8 c1_i32_744
  let c4096_i32_971 : BitVec 32 := 4096#32
  let v1351 : BitVec 32 := Scalar.muli v1038 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c512_i32_973 : BitVec 32 := 512#32
  let v1354 : BitVec 32 := Scalar.addi v1353 c512_i32_973
  let c0_i32_974 : BitVec 32 := 0#32
  let v1355 : BitVec 32 := Scalar.addi v1354 c0_i32_974
  let c0_i32_978 : BitVec 32 := 0#32
  ![v1355.toNat, 0]
def k0_off409 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_744 : BitVec 32 := 1#32
  let v1038 : BitVec 32 := Scalar.addi v8 c1_i32_744
  let c4096_i32_980 : BitVec 32 := 4096#32
  let v1360 : BitVec 32 := Scalar.muli v1038 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c512_i32_982 : BitVec 32 := 512#32
  let v1363 : BitVec 32 := Scalar.addi v1362 c512_i32_982
  let c64_i32 : BitVec 32 := 64#32
  let v1364 : BitVec 32 := Scalar.addi v1363 c64_i32
  let c0_i32_986 : BitVec 32 := 0#32
  ![v1364.toNat, 0]
def k0_cond229 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_750 : BitVec 32 := 1#32
  let v1046 : BitVec 1 := Scalar.cmpi .sge v8 c1_i32_750
  let c3_i32_751 : BitVec 32 := 3#32
  let v1047 : BitVec 1 := Scalar.cmpi .slt v8 c3_i32_751
  let v1048 : BitVec 1 := Scalar.andi v1046 v1047
  let v1049 : BitVec 32 := Scalar.extui v1048
  let c0_i32_752 : BitVec 32 := 0#32
  let v1050 : BitVec 1 := Scalar.cmpi .ne v1049 c0_i32_752
  v1050

def k0_off410 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_965 : BitVec 32 := 0#32
  ![v1343.toNat, 0]
def k0_cond230 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_753 : BitVec 32 := 1#32
  let v1051 : BitVec 32 := Scalar.addi v8 c1_i32_753
  let c3_i32_754 : BitVec 32 := 3#32
  let v1052 : BitVec 1 := Scalar.cmpi .sle v1051 c3_i32_754
  let c0_i32_755 : BitVec 32 := 0#32
  let v1053 : BitVec 1 := Scalar.cmpi .sgt v8 c0_i32_755
  let v1054 : BitVec 1 := Scalar.andi v1052 v1053
  let v1055 : BitVec 32 := Scalar.extui v1054
  let c0_i32_756 : BitVec 32 := 0#32
  let v1056 : BitVec 1 := Scalar.cmpi .ne v1055 c0_i32_756
  v1056

def k0_off411 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_965 : BitVec 32 := 0#32
  ![v1343.toNat, 0]
def k0_cond231 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_759 : BitVec 32 := 1#32
  let v1059 : BitVec 1 := Scalar.cmpi .sge v8 c1_i32_759
  let v1060 : BitVec 32 := Scalar.extui v1059
  let c0_i32_760 : BitVec 32 := 0#32
  let v1061 : BitVec 1 := Scalar.cmpi .ne v1060 c0_i32_760
  v1061

def k0_off412 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_757 : BitVec 32 := 1#32
  let v1057 : BitVec 32 := Scalar.subi v8 c1_i32_757
  let c4096_i32_961 : BitVec 32 := 4096#32
  let v1339 : BitVec 32 := Scalar.muli v1057 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c640_i32 : BitVec 32 := 640#32
  let v1342 : BitVec 32 := Scalar.addi v1341 c640_i32
  let c0_i32_964 : BitVec 32 := 0#32
  ![v1342.toNat, 0]
def k0_off413 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_757 : BitVec 32 := 1#32
  let v1057 : BitVec 32 := Scalar.subi v8 c1_i32_757
  let c4096_i32_971 : BitVec 32 := 4096#32
  let v1351 : BitVec 32 := Scalar.muli v1057 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c640_i32_973 : BitVec 32 := 640#32
  let v1354 : BitVec 32 := Scalar.addi v1353 c640_i32_973
  let c0_i32_974 : BitVec 32 := 0#32
  let v1355 : BitVec 32 := Scalar.addi v1354 c0_i32_974
  let c0_i32_978 : BitVec 32 := 0#32
  ![v1355.toNat, 0]
def k0_off414 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_757 : BitVec 32 := 1#32
  let v1057 : BitVec 32 := Scalar.subi v8 c1_i32_757
  let c4096_i32_980 : BitVec 32 := 4096#32
  let v1360 : BitVec 32 := Scalar.muli v1057 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c640_i32_982 : BitVec 32 := 640#32
  let v1363 : BitVec 32 := Scalar.addi v1362 c640_i32_982
  let c64_i32 : BitVec 32 := 64#32
  let v1364 : BitVec 32 := Scalar.addi v1363 c64_i32
  let c0_i32_986 : BitVec 32 := 0#32
  ![v1364.toNat, 0]
def k0_cond232 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_761 : BitVec 32 := 1#32
  let v1062 : BitVec 32 := Scalar.addi v8 c1_i32_761
  let c3_i32_762 : BitVec 32 := 3#32
  let v1063 : BitVec 1 := Scalar.cmpi .sle v1062 c3_i32_762
  let v1064 : BitVec 32 := Scalar.extui v1063
  let c0_i32_763 : BitVec 32 := 0#32
  let v1065 : BitVec 1 := Scalar.cmpi .ne v1064 c0_i32_763
  v1065

def k0_off415 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v1058 : BitVec 32 := Scalar.addi v8 c1_i32_758
  let c4096_i32_961 : BitVec 32 := 4096#32
  let v1339 : BitVec 32 := Scalar.muli v1058 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c640_i32 : BitVec 32 := 640#32
  let v1342 : BitVec 32 := Scalar.addi v1341 c640_i32
  let c0_i32_964 : BitVec 32 := 0#32
  ![v1342.toNat, 0]
def k0_off416 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v1058 : BitVec 32 := Scalar.addi v8 c1_i32_758
  let c4096_i32_971 : BitVec 32 := 4096#32
  let v1351 : BitVec 32 := Scalar.muli v1058 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c640_i32_973 : BitVec 32 := 640#32
  let v1354 : BitVec 32 := Scalar.addi v1353 c640_i32_973
  let c0_i32_974 : BitVec 32 := 0#32
  let v1355 : BitVec 32 := Scalar.addi v1354 c0_i32_974
  let c0_i32_978 : BitVec 32 := 0#32
  ![v1355.toNat, 0]
def k0_off417 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v1058 : BitVec 32 := Scalar.addi v8 c1_i32_758
  let c4096_i32_980 : BitVec 32 := 4096#32
  let v1360 : BitVec 32 := Scalar.muli v1058 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c640_i32_982 : BitVec 32 := 640#32
  let v1363 : BitVec 32 := Scalar.addi v1362 c640_i32_982
  let c64_i32 : BitVec 32 := 64#32
  let v1364 : BitVec 32 := Scalar.addi v1363 c64_i32
  let c0_i32_986 : BitVec 32 := 0#32
  ![v1364.toNat, 0]
def k0_cond233 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_764 : BitVec 32 := 1#32
  let v1066 : BitVec 1 := Scalar.cmpi .sge v8 c1_i32_764
  let c3_i32_765 : BitVec 32 := 3#32
  let v1067 : BitVec 1 := Scalar.cmpi .slt v8 c3_i32_765
  let v1068 : BitVec 1 := Scalar.andi v1066 v1067
  let v1069 : BitVec 32 := Scalar.extui v1068
  let c0_i32_766 : BitVec 32 := 0#32
  let v1070 : BitVec 1 := Scalar.cmpi .ne v1069 c0_i32_766
  v1070

def k0_off418 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_965 : BitVec 32 := 0#32
  ![v1343.toNat, 0]
def k0_cond234 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v1071 : BitVec 32 := Scalar.addi v8 c1_i32_767
  let c3_i32_768 : BitVec 32 := 3#32
  let v1072 : BitVec 1 := Scalar.cmpi .sle v1071 c3_i32_768
  let c0_i32_769 : BitVec 32 := 0#32
  let v1073 : BitVec 1 := Scalar.cmpi .sgt v8 c0_i32_769
  let v1074 : BitVec 1 := Scalar.andi v1072 v1073
  let v1075 : BitVec 32 := Scalar.extui v1074
  let c0_i32_770 : BitVec 32 := 0#32
  let v1076 : BitVec 1 := Scalar.cmpi .ne v1075 c0_i32_770
  v1076

def k0_off419 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_965 : BitVec 32 := 0#32
  ![v1343.toNat, 0]
def k0_cond235 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_773 : BitVec 32 := 1#32
  let v1079 : BitVec 1 := Scalar.cmpi .sge v8 c1_i32_773
  let v1080 : BitVec 32 := Scalar.extui v1079
  let c0_i32_774 : BitVec 32 := 0#32
  let v1081 : BitVec 1 := Scalar.cmpi .ne v1080 c0_i32_774
  v1081

def k0_off420 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_771 : BitVec 32 := 1#32
  let v1077 : BitVec 32 := Scalar.subi v8 c1_i32_771
  let c4096_i32_961 : BitVec 32 := 4096#32
  let v1339 : BitVec 32 := Scalar.muli v1077 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c768_i32 : BitVec 32 := 768#32
  let v1342 : BitVec 32 := Scalar.addi v1341 c768_i32
  let c0_i32_964 : BitVec 32 := 0#32
  ![v1342.toNat, 0]
def k0_off421 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_771 : BitVec 32 := 1#32
  let v1077 : BitVec 32 := Scalar.subi v8 c1_i32_771
  let c4096_i32_971 : BitVec 32 := 4096#32
  let v1351 : BitVec 32 := Scalar.muli v1077 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c768_i32_973 : BitVec 32 := 768#32
  let v1354 : BitVec 32 := Scalar.addi v1353 c768_i32_973
  let c0_i32_974 : BitVec 32 := 0#32
  let v1355 : BitVec 32 := Scalar.addi v1354 c0_i32_974
  let c0_i32_978 : BitVec 32 := 0#32
  ![v1355.toNat, 0]
def k0_off422 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_771 : BitVec 32 := 1#32
  let v1077 : BitVec 32 := Scalar.subi v8 c1_i32_771
  let c4096_i32_980 : BitVec 32 := 4096#32
  let v1360 : BitVec 32 := Scalar.muli v1077 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c768_i32_982 : BitVec 32 := 768#32
  let v1363 : BitVec 32 := Scalar.addi v1362 c768_i32_982
  let c64_i32 : BitVec 32 := 64#32
  let v1364 : BitVec 32 := Scalar.addi v1363 c64_i32
  let c0_i32_986 : BitVec 32 := 0#32
  ![v1364.toNat, 0]
def k0_cond236 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_775 : BitVec 32 := 1#32
  let v1082 : BitVec 32 := Scalar.addi v8 c1_i32_775
  let c3_i32_776 : BitVec 32 := 3#32
  let v1083 : BitVec 1 := Scalar.cmpi .sle v1082 c3_i32_776
  let v1084 : BitVec 32 := Scalar.extui v1083
  let c0_i32_777 : BitVec 32 := 0#32
  let v1085 : BitVec 1 := Scalar.cmpi .ne v1084 c0_i32_777
  v1085

def k0_off423 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_772 : BitVec 32 := 1#32
  let v1078 : BitVec 32 := Scalar.addi v8 c1_i32_772
  let c4096_i32_961 : BitVec 32 := 4096#32
  let v1339 : BitVec 32 := Scalar.muli v1078 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c768_i32 : BitVec 32 := 768#32
  let v1342 : BitVec 32 := Scalar.addi v1341 c768_i32
  let c0_i32_964 : BitVec 32 := 0#32
  ![v1342.toNat, 0]
def k0_off424 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_772 : BitVec 32 := 1#32
  let v1078 : BitVec 32 := Scalar.addi v8 c1_i32_772
  let c4096_i32_971 : BitVec 32 := 4096#32
  let v1351 : BitVec 32 := Scalar.muli v1078 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c768_i32_973 : BitVec 32 := 768#32
  let v1354 : BitVec 32 := Scalar.addi v1353 c768_i32_973
  let c0_i32_974 : BitVec 32 := 0#32
  let v1355 : BitVec 32 := Scalar.addi v1354 c0_i32_974
  let c0_i32_978 : BitVec 32 := 0#32
  ![v1355.toNat, 0]
def k0_off425 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_772 : BitVec 32 := 1#32
  let v1078 : BitVec 32 := Scalar.addi v8 c1_i32_772
  let c4096_i32_980 : BitVec 32 := 4096#32
  let v1360 : BitVec 32 := Scalar.muli v1078 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c768_i32_982 : BitVec 32 := 768#32
  let v1363 : BitVec 32 := Scalar.addi v1362 c768_i32_982
  let c64_i32 : BitVec 32 := 64#32
  let v1364 : BitVec 32 := Scalar.addi v1363 c64_i32
  let c0_i32_986 : BitVec 32 := 0#32
  ![v1364.toNat, 0]
def k0_cond237 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_778 : BitVec 32 := 1#32
  let v1086 : BitVec 1 := Scalar.cmpi .sge v8 c1_i32_778
  let c3_i32_779 : BitVec 32 := 3#32
  let v1087 : BitVec 1 := Scalar.cmpi .slt v8 c3_i32_779
  let v1088 : BitVec 1 := Scalar.andi v1086 v1087
  let v1089 : BitVec 32 := Scalar.extui v1088
  let c0_i32_780 : BitVec 32 := 0#32
  let v1090 : BitVec 1 := Scalar.cmpi .ne v1089 c0_i32_780
  v1090

def k0_off426 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.subi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_965 : BitVec 32 := 0#32
  ![v1343.toNat, 0]
def k0_cond238 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_781 : BitVec 32 := 1#32
  let v1091 : BitVec 32 := Scalar.addi v8 c1_i32_781
  let c3_i32_782 : BitVec 32 := 3#32
  let v1092 : BitVec 1 := Scalar.cmpi .sle v1091 c3_i32_782
  let c0_i32_783 : BitVec 32 := 0#32
  let v1093 : BitVec 1 := Scalar.cmpi .sgt v8 c0_i32_783
  let v1094 : BitVec 1 := Scalar.andi v1092 v1093
  let v1095 : BitVec 32 := Scalar.extui v1094
  let c0_i32_784 : BitVec 32 := 0#32
  let v1096 : BitVec 1 := Scalar.cmpi .ne v1095 c0_i32_784
  v1096

def k0_off427 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1339 : BitVec 32 := Scalar.addi v8 c1_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_965 : BitVec 32 := 0#32
  ![v1343.toNat, 0]
def k0_cond239 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_787 : BitVec 32 := 1#32
  let v1099 : BitVec 1 := Scalar.cmpi .sge v8 c1_i32_787
  let v1100 : BitVec 32 := Scalar.extui v1099
  let c0_i32_788 : BitVec 32 := 0#32
  let v1101 : BitVec 1 := Scalar.cmpi .ne v1100 c0_i32_788
  v1101

def k0_off428 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_785 : BitVec 32 := 1#32
  let v1097 : BitVec 32 := Scalar.subi v8 c1_i32_785
  let c4096_i32_961 : BitVec 32 := 4096#32
  let v1339 : BitVec 32 := Scalar.muli v1097 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c896_i32 : BitVec 32 := 896#32
  let v1342 : BitVec 32 := Scalar.addi v1341 c896_i32
  let c0_i32_964 : BitVec 32 := 0#32
  ![v1342.toNat, 0]
def k0_off429 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_785 : BitVec 32 := 1#32
  let v1097 : BitVec 32 := Scalar.subi v8 c1_i32_785
  let c4096_i32_971 : BitVec 32 := 4096#32
  let v1351 : BitVec 32 := Scalar.muli v1097 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c896_i32_973 : BitVec 32 := 896#32
  let v1354 : BitVec 32 := Scalar.addi v1353 c896_i32_973
  let c0_i32_974 : BitVec 32 := 0#32
  let v1355 : BitVec 32 := Scalar.addi v1354 c0_i32_974
  let c0_i32_978 : BitVec 32 := 0#32
  ![v1355.toNat, 0]
def k0_off430 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_785 : BitVec 32 := 1#32
  let v1097 : BitVec 32 := Scalar.subi v8 c1_i32_785
  let c4096_i32_980 : BitVec 32 := 4096#32
  let v1360 : BitVec 32 := Scalar.muli v1097 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c896_i32_982 : BitVec 32 := 896#32
  let v1363 : BitVec 32 := Scalar.addi v1362 c896_i32_982
  let c64_i32 : BitVec 32 := 64#32
  let v1364 : BitVec 32 := Scalar.addi v1363 c64_i32
  let c0_i32_986 : BitVec 32 := 0#32
  ![v1364.toNat, 0]
def k0_cond240 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_789 : BitVec 32 := 1#32
  let v1102 : BitVec 32 := Scalar.addi v8 c1_i32_789
  let c3_i32_790 : BitVec 32 := 3#32
  let v1103 : BitVec 1 := Scalar.cmpi .sle v1102 c3_i32_790
  let v1104 : BitVec 32 := Scalar.extui v1103
  let c0_i32_791 : BitVec 32 := 0#32
  let v1105 : BitVec 1 := Scalar.cmpi .ne v1104 c0_i32_791
  v1105

def k0_off431 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_786 : BitVec 32 := 1#32
  let v1098 : BitVec 32 := Scalar.addi v8 c1_i32_786
  let c4096_i32_961 : BitVec 32 := 4096#32
  let v1339 : BitVec 32 := Scalar.muli v1098 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c896_i32 : BitVec 32 := 896#32
  let v1342 : BitVec 32 := Scalar.addi v1341 c896_i32
  let c0_i32_964 : BitVec 32 := 0#32
  ![v1342.toNat, 0]
def k0_off432 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_786 : BitVec 32 := 1#32
  let v1098 : BitVec 32 := Scalar.addi v8 c1_i32_786
  let c4096_i32_971 : BitVec 32 := 4096#32
  let v1351 : BitVec 32 := Scalar.muli v1098 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c896_i32_973 : BitVec 32 := 896#32
  let v1354 : BitVec 32 := Scalar.addi v1353 c896_i32_973
  let c0_i32_974 : BitVec 32 := 0#32
  let v1355 : BitVec 32 := Scalar.addi v1354 c0_i32_974
  let c0_i32_978 : BitVec 32 := 0#32
  ![v1355.toNat, 0]
def k0_off433 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_786 : BitVec 32 := 1#32
  let v1098 : BitVec 32 := Scalar.addi v8 c1_i32_786
  let c4096_i32_980 : BitVec 32 := 4096#32
  let v1360 : BitVec 32 := Scalar.muli v1098 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c896_i32_982 : BitVec 32 := 896#32
  let v1363 : BitVec 32 := Scalar.addi v1362 c896_i32_982
  let c64_i32 : BitVec 32 := 64#32
  let v1364 : BitVec 32 := Scalar.addi v1363 c64_i32
  let c0_i32_986 : BitVec 32 := 0#32
  ![v1364.toNat, 0]
def k0_cond241 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_792 : BitVec 32 := 2#32
  let v1106 : BitVec 1 := Scalar.cmpi .sge v8 c2_i32_792
  let c3_i32_793 : BitVec 32 := 3#32
  let v1107 : BitVec 1 := Scalar.cmpi .slt v8 c3_i32_793
  let v1108 : BitVec 1 := Scalar.andi v1106 v1107
  let v1109 : BitVec 32 := Scalar.extui v1108
  let c0_i32_794 : BitVec 32 := 0#32
  let v1110 : BitVec 1 := Scalar.cmpi .ne v1109 c0_i32_794
  v1110

def k0_off434 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_966 : BitVec 32 := 0#32
  ![v1343.toNat, 0]
def k0_cond242 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v1111 : BitVec 32 := Scalar.addi v8 c2_i32_795
  let c3_i32_796 : BitVec 32 := 3#32
  let v1112 : BitVec 1 := Scalar.cmpi .sle v1111 c3_i32_796
  let c0_i32_797 : BitVec 32 := 0#32
  let v1113 : BitVec 1 := Scalar.cmpi .sgt v8 c0_i32_797
  let v1114 : BitVec 1 := Scalar.andi v1112 v1113
  let v1115 : BitVec 32 := Scalar.extui v1114
  let c0_i32_798 : BitVec 32 := 0#32
  let v1116 : BitVec 1 := Scalar.cmpi .ne v1115 c0_i32_798
  v1116

def k0_off435 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c0_i32_963 : BitVec 32 := 0#32
  let v1343 : BitVec 32 := Scalar.addi v1342 c0_i32_963
  let c0_i32_966 : BitVec 32 := 0#32
  ![v1343.toNat, 0]
def k0_cond243 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_801 : BitVec 32 := 2#32
  let v1119 : BitVec 1 := Scalar.cmpi .sge v8 c2_i32_801
  let v1120 : BitVec 32 := Scalar.extui v1119
  let c0_i32_802 : BitVec 32 := 0#32
  let v1121 : BitVec 1 := Scalar.cmpi .ne v1120 c0_i32_802
  v1121

def k0_off436 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_799 : BitVec 32 := 2#32
  let v1117 : BitVec 32 := Scalar.subi v8 c2_i32_799
  let c4096_i32_961 : BitVec 32 := 4096#32
  let v1339 : BitVec 32 := Scalar.muli v1117 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c0_i32_962 : BitVec 32 := 0#32
  let v1342 : BitVec 32 := Scalar.addi v1341 c0_i32_962
  let c0_i32_966 : BitVec 32 := 0#32
  ![v1342.toNat, 0]
def k0_off437 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_799 : BitVec 32 := 2#32
  let v1117 : BitVec 32 := Scalar.subi v8 c2_i32_799
  let c4096_i32_973 : BitVec 32 := 4096#32
  let v1351 : BitVec 32 := Scalar.muli v1117 c4096_i32_973
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_974 : BitVec 32 := 1024#32
  let v1352 : BitVec 32 := Scalar.muli v13 c1024_i32_974
  let v1353 : BitVec 32 := Scalar.addi v1351 v1352
  let c0_i32_975 : BitVec 32 := 0#32
  let v1354 : BitVec 32 := Scalar.addi v1353 c0_i32_975
  let c0_i32_976 : BitVec 32 := 0#32
  let v1355 : BitVec 32 := Scalar.addi v1354 c0_i32_976
  let c0_i32_980 : BitVec 32 := 0#32
  ![v1355.toNat, 0]
def k0_off438 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_799 : BitVec 32 := 2#32
  let v1117 : BitVec 32 := Scalar.subi v8 c2_i32_799
  let c4096_i32_982 : BitVec 32 := 4096#32
  let v1360 : BitVec 32 := Scalar.muli v1117 c4096_i32_982
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_983 : BitVec 32 := 1024#32
  let v1361 : BitVec 32 := Scalar.muli v16 c1024_i32_983
  let v1362 : BitVec 32 := Scalar.addi v1360 v1361
  let c0_i32_984 : BitVec 32 := 0#32
  let v1363 : BitVec 32 := Scalar.addi v1362 c0_i32_984
  let c64_i32 : BitVec 32 := 64#32
  let v1364 : BitVec 32 := Scalar.addi v1363 c64_i32
  let c0_i32_988 : BitVec 32 := 0#32
  ![v1364.toNat, 0]
def k0_cond244 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_803 : BitVec 32 := 2#32
  let v1122 : BitVec 32 := Scalar.addi v8 c2_i32_803
  let c3_i32_804 : BitVec 32 := 3#32
  let v1123 : BitVec 1 := Scalar.cmpi .sle v1122 c3_i32_804
  let v1124 : BitVec 32 := Scalar.extui v1123
  let c0_i32_805 : BitVec 32 := 0#32
  let v1125 : BitVec 1 := Scalar.cmpi .ne v1124 c0_i32_805
  v1125

def k0_off439 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_800 : BitVec 32 := 2#32
  let v1118 : BitVec 32 := Scalar.addi v8 c2_i32_800
  let c4096_i32_961 : BitVec 32 := 4096#32
  let v1339 : BitVec 32 := Scalar.muli v1118 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c0_i32_962 : BitVec 32 := 0#32
  let v1342 : BitVec 32 := Scalar.addi v1341 c0_i32_962
  let c0_i32_965 : BitVec 32 := 0#32
  ![v1342.toNat, 0]
def k0_off440 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_800 : BitVec 32 := 2#32
  let v1118 : BitVec 32 := Scalar.addi v8 c2_i32_800
  let c4096_i32_972 : BitVec 32 := 4096#32
  let v1351 : BitVec 32 := Scalar.muli v1118 c4096_i32_972
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_973 : BitVec 32 := 1024#32
  let v1352 : BitVec 32 := Scalar.muli v13 c1024_i32_973
  let v1353 : BitVec 32 := Scalar.addi v1351 v1352
  let c0_i32_974 : BitVec 32 := 0#32
  let v1354 : BitVec 32 := Scalar.addi v1353 c0_i32_974
  let c0_i32_975 : BitVec 32 := 0#32
  let v1355 : BitVec 32 := Scalar.addi v1354 c0_i32_975
  let c0_i32_979 : BitVec 32 := 0#32
  ![v1355.toNat, 0]
def k0_off441 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_800 : BitVec 32 := 2#32
  let v1118 : BitVec 32 := Scalar.addi v8 c2_i32_800
  let c4096_i32_981 : BitVec 32 := 4096#32
  let v1360 : BitVec 32 := Scalar.muli v1118 c4096_i32_981
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_982 : BitVec 32 := 1024#32
  let v1361 : BitVec 32 := Scalar.muli v16 c1024_i32_982
  let v1362 : BitVec 32 := Scalar.addi v1360 v1361
  let c0_i32_983 : BitVec 32 := 0#32
  let v1363 : BitVec 32 := Scalar.addi v1362 c0_i32_983
  let c64_i32 : BitVec 32 := 64#32
  let v1364 : BitVec 32 := Scalar.addi v1363 c64_i32
  let c0_i32_987 : BitVec 32 := 0#32
  ![v1364.toNat, 0]
def k0_cond245 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_806 : BitVec 32 := 2#32
  let v1126 : BitVec 1 := Scalar.cmpi .sge v8 c2_i32_806
  let c3_i32_807 : BitVec 32 := 3#32
  let v1127 : BitVec 1 := Scalar.cmpi .slt v8 c3_i32_807
  let v1128 : BitVec 1 := Scalar.andi v1126 v1127
  let v1129 : BitVec 32 := Scalar.extui v1128
  let c0_i32_808 : BitVec 32 := 0#32
  let v1130 : BitVec 1 := Scalar.cmpi .ne v1129 c0_i32_808
  v1130

def k0_off442 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_965 : BitVec 32 := 0#32
  ![v1343.toNat, 0]
def k0_cond246 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_809 : BitVec 32 := 2#32
  let v1131 : BitVec 32 := Scalar.addi v8 c2_i32_809
  let c3_i32_810 : BitVec 32 := 3#32
  let v1132 : BitVec 1 := Scalar.cmpi .sle v1131 c3_i32_810
  let c0_i32_811 : BitVec 32 := 0#32
  let v1133 : BitVec 1 := Scalar.cmpi .sgt v8 c0_i32_811
  let v1134 : BitVec 1 := Scalar.andi v1132 v1133
  let v1135 : BitVec 32 := Scalar.extui v1134
  let c0_i32_812 : BitVec 32 := 0#32
  let v1136 : BitVec 1 := Scalar.cmpi .ne v1135 c0_i32_812
  v1136

def k0_off443 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c128_i32 : BitVec 32 := 128#32
  let v1343 : BitVec 32 := Scalar.addi v1342 c128_i32
  let c0_i32_965 : BitVec 32 := 0#32
  ![v1343.toNat, 0]
def k0_cond247 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_815 : BitVec 32 := 2#32
  let v1139 : BitVec 1 := Scalar.cmpi .sge v8 c2_i32_815
  let v1140 : BitVec 32 := Scalar.extui v1139
  let c0_i32_816 : BitVec 32 := 0#32
  let v1141 : BitVec 1 := Scalar.cmpi .ne v1140 c0_i32_816
  v1141

def k0_off444 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_813 : BitVec 32 := 2#32
  let v1137 : BitVec 32 := Scalar.subi v8 c2_i32_813
  let c4096_i32_961 : BitVec 32 := 4096#32
  let v1339 : BitVec 32 := Scalar.muli v1137 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c128_i32 : BitVec 32 := 128#32
  let v1342 : BitVec 32 := Scalar.addi v1341 c128_i32
  let c0_i32_964 : BitVec 32 := 0#32
  ![v1342.toNat, 0]
def k0_off445 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_813 : BitVec 32 := 2#32
  let v1137 : BitVec 32 := Scalar.subi v8 c2_i32_813
  let c4096_i32_971 : BitVec 32 := 4096#32
  let v1351 : BitVec 32 := Scalar.muli v1137 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c128_i32_973 : BitVec 32 := 128#32
  let v1354 : BitVec 32 := Scalar.addi v1353 c128_i32_973
  let c0_i32_974 : BitVec 32 := 0#32
  let v1355 : BitVec 32 := Scalar.addi v1354 c0_i32_974
  let c0_i32_978 : BitVec 32 := 0#32
  ![v1355.toNat, 0]
def k0_off446 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_813 : BitVec 32 := 2#32
  let v1137 : BitVec 32 := Scalar.subi v8 c2_i32_813
  let c4096_i32_980 : BitVec 32 := 4096#32
  let v1360 : BitVec 32 := Scalar.muli v1137 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c128_i32_982 : BitVec 32 := 128#32
  let v1363 : BitVec 32 := Scalar.addi v1362 c128_i32_982
  let c64_i32 : BitVec 32 := 64#32
  let v1364 : BitVec 32 := Scalar.addi v1363 c64_i32
  let c0_i32_986 : BitVec 32 := 0#32
  ![v1364.toNat, 0]
def k0_cond248 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_817 : BitVec 32 := 2#32
  let v1142 : BitVec 32 := Scalar.addi v8 c2_i32_817
  let c3_i32_818 : BitVec 32 := 3#32
  let v1143 : BitVec 1 := Scalar.cmpi .sle v1142 c3_i32_818
  let v1144 : BitVec 32 := Scalar.extui v1143
  let c0_i32_819 : BitVec 32 := 0#32
  let v1145 : BitVec 1 := Scalar.cmpi .ne v1144 c0_i32_819
  v1145

def k0_off447 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_814 : BitVec 32 := 2#32
  let v1138 : BitVec 32 := Scalar.addi v8 c2_i32_814
  let c4096_i32_961 : BitVec 32 := 4096#32
  let v1339 : BitVec 32 := Scalar.muli v1138 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c128_i32 : BitVec 32 := 128#32
  let v1342 : BitVec 32 := Scalar.addi v1341 c128_i32
  let c0_i32_964 : BitVec 32 := 0#32
  ![v1342.toNat, 0]
def k0_off448 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_814 : BitVec 32 := 2#32
  let v1138 : BitVec 32 := Scalar.addi v8 c2_i32_814
  let c4096_i32_971 : BitVec 32 := 4096#32
  let v1351 : BitVec 32 := Scalar.muli v1138 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c128_i32_973 : BitVec 32 := 128#32
  let v1354 : BitVec 32 := Scalar.addi v1353 c128_i32_973
  let c0_i32_974 : BitVec 32 := 0#32
  let v1355 : BitVec 32 := Scalar.addi v1354 c0_i32_974
  let c0_i32_978 : BitVec 32 := 0#32
  ![v1355.toNat, 0]
def k0_off449 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_814 : BitVec 32 := 2#32
  let v1138 : BitVec 32 := Scalar.addi v8 c2_i32_814
  let c4096_i32_980 : BitVec 32 := 4096#32
  let v1360 : BitVec 32 := Scalar.muli v1138 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c128_i32_982 : BitVec 32 := 128#32
  let v1363 : BitVec 32 := Scalar.addi v1362 c128_i32_982
  let c64_i32 : BitVec 32 := 64#32
  let v1364 : BitVec 32 := Scalar.addi v1363 c64_i32
  let c0_i32_986 : BitVec 32 := 0#32
  ![v1364.toNat, 0]
def k0_cond249 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_820 : BitVec 32 := 2#32
  let v1146 : BitVec 1 := Scalar.cmpi .sge v8 c2_i32_820
  let c3_i32_821 : BitVec 32 := 3#32
  let v1147 : BitVec 1 := Scalar.cmpi .slt v8 c3_i32_821
  let v1148 : BitVec 1 := Scalar.andi v1146 v1147
  let v1149 : BitVec 32 := Scalar.extui v1148
  let c0_i32_822 : BitVec 32 := 0#32
  let v1150 : BitVec 1 := Scalar.cmpi .ne v1149 c0_i32_822
  v1150

def k0_off450 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_965 : BitVec 32 := 0#32
  ![v1343.toNat, 0]
def k0_cond250 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_823 : BitVec 32 := 2#32
  let v1151 : BitVec 32 := Scalar.addi v8 c2_i32_823
  let c3_i32_824 : BitVec 32 := 3#32
  let v1152 : BitVec 1 := Scalar.cmpi .sle v1151 c3_i32_824
  let c0_i32_825 : BitVec 32 := 0#32
  let v1153 : BitVec 1 := Scalar.cmpi .sgt v8 c0_i32_825
  let v1154 : BitVec 1 := Scalar.andi v1152 v1153
  let v1155 : BitVec 32 := Scalar.extui v1154
  let c0_i32_826 : BitVec 32 := 0#32
  let v1156 : BitVec 1 := Scalar.cmpi .ne v1155 c0_i32_826
  v1156

def k0_off451 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c256_i32 : BitVec 32 := 256#32
  let v1343 : BitVec 32 := Scalar.addi v1342 c256_i32
  let c0_i32_965 : BitVec 32 := 0#32
  ![v1343.toNat, 0]
def k0_cond251 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_829 : BitVec 32 := 2#32
  let v1159 : BitVec 1 := Scalar.cmpi .sge v8 c2_i32_829
  let v1160 : BitVec 32 := Scalar.extui v1159
  let c0_i32_830 : BitVec 32 := 0#32
  let v1161 : BitVec 1 := Scalar.cmpi .ne v1160 c0_i32_830
  v1161

def k0_off452 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_827 : BitVec 32 := 2#32
  let v1157 : BitVec 32 := Scalar.subi v8 c2_i32_827
  let c4096_i32_961 : BitVec 32 := 4096#32
  let v1339 : BitVec 32 := Scalar.muli v1157 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c256_i32 : BitVec 32 := 256#32
  let v1342 : BitVec 32 := Scalar.addi v1341 c256_i32
  let c0_i32_964 : BitVec 32 := 0#32
  ![v1342.toNat, 0]
def k0_off453 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_827 : BitVec 32 := 2#32
  let v1157 : BitVec 32 := Scalar.subi v8 c2_i32_827
  let c4096_i32_971 : BitVec 32 := 4096#32
  let v1351 : BitVec 32 := Scalar.muli v1157 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c256_i32_973 : BitVec 32 := 256#32
  let v1354 : BitVec 32 := Scalar.addi v1353 c256_i32_973
  let c0_i32_974 : BitVec 32 := 0#32
  let v1355 : BitVec 32 := Scalar.addi v1354 c0_i32_974
  let c0_i32_978 : BitVec 32 := 0#32
  ![v1355.toNat, 0]
def k0_off454 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_827 : BitVec 32 := 2#32
  let v1157 : BitVec 32 := Scalar.subi v8 c2_i32_827
  let c4096_i32_980 : BitVec 32 := 4096#32
  let v1360 : BitVec 32 := Scalar.muli v1157 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c256_i32_982 : BitVec 32 := 256#32
  let v1363 : BitVec 32 := Scalar.addi v1362 c256_i32_982
  let c64_i32 : BitVec 32 := 64#32
  let v1364 : BitVec 32 := Scalar.addi v1363 c64_i32
  let c0_i32_986 : BitVec 32 := 0#32
  ![v1364.toNat, 0]
def k0_cond252 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_831 : BitVec 32 := 2#32
  let v1162 : BitVec 32 := Scalar.addi v8 c2_i32_831
  let c3_i32_832 : BitVec 32 := 3#32
  let v1163 : BitVec 1 := Scalar.cmpi .sle v1162 c3_i32_832
  let v1164 : BitVec 32 := Scalar.extui v1163
  let c0_i32_833 : BitVec 32 := 0#32
  let v1165 : BitVec 1 := Scalar.cmpi .ne v1164 c0_i32_833
  v1165

def k0_off455 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_828 : BitVec 32 := 2#32
  let v1158 : BitVec 32 := Scalar.addi v8 c2_i32_828
  let c4096_i32_961 : BitVec 32 := 4096#32
  let v1339 : BitVec 32 := Scalar.muli v1158 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c256_i32 : BitVec 32 := 256#32
  let v1342 : BitVec 32 := Scalar.addi v1341 c256_i32
  let c0_i32_964 : BitVec 32 := 0#32
  ![v1342.toNat, 0]
def k0_off456 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_828 : BitVec 32 := 2#32
  let v1158 : BitVec 32 := Scalar.addi v8 c2_i32_828
  let c4096_i32_971 : BitVec 32 := 4096#32
  let v1351 : BitVec 32 := Scalar.muli v1158 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c256_i32_973 : BitVec 32 := 256#32
  let v1354 : BitVec 32 := Scalar.addi v1353 c256_i32_973
  let c0_i32_974 : BitVec 32 := 0#32
  let v1355 : BitVec 32 := Scalar.addi v1354 c0_i32_974
  let c0_i32_978 : BitVec 32 := 0#32
  ![v1355.toNat, 0]
def k0_off457 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_828 : BitVec 32 := 2#32
  let v1158 : BitVec 32 := Scalar.addi v8 c2_i32_828
  let c4096_i32_980 : BitVec 32 := 4096#32
  let v1360 : BitVec 32 := Scalar.muli v1158 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c256_i32_982 : BitVec 32 := 256#32
  let v1363 : BitVec 32 := Scalar.addi v1362 c256_i32_982
  let c64_i32 : BitVec 32 := 64#32
  let v1364 : BitVec 32 := Scalar.addi v1363 c64_i32
  let c0_i32_986 : BitVec 32 := 0#32
  ![v1364.toNat, 0]
def k0_cond253 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_834 : BitVec 32 := 2#32
  let v1166 : BitVec 1 := Scalar.cmpi .sge v8 c2_i32_834
  let c3_i32_835 : BitVec 32 := 3#32
  let v1167 : BitVec 1 := Scalar.cmpi .slt v8 c3_i32_835
  let v1168 : BitVec 1 := Scalar.andi v1166 v1167
  let v1169 : BitVec 32 := Scalar.extui v1168
  let c0_i32_836 : BitVec 32 := 0#32
  let v1170 : BitVec 1 := Scalar.cmpi .ne v1169 c0_i32_836
  v1170

def k0_off458 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_965 : BitVec 32 := 0#32
  ![v1343.toNat, 0]
def k0_cond254 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_837 : BitVec 32 := 2#32
  let v1171 : BitVec 32 := Scalar.addi v8 c2_i32_837
  let c3_i32_838 : BitVec 32 := 3#32
  let v1172 : BitVec 1 := Scalar.cmpi .sle v1171 c3_i32_838
  let c0_i32_839 : BitVec 32 := 0#32
  let v1173 : BitVec 1 := Scalar.cmpi .sgt v8 c0_i32_839
  let v1174 : BitVec 1 := Scalar.andi v1172 v1173
  let v1175 : BitVec 32 := Scalar.extui v1174
  let c0_i32_840 : BitVec 32 := 0#32
  let v1176 : BitVec 1 := Scalar.cmpi .ne v1175 c0_i32_840
  v1176

def k0_off459 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c384_i32 : BitVec 32 := 384#32
  let v1343 : BitVec 32 := Scalar.addi v1342 c384_i32
  let c0_i32_965 : BitVec 32 := 0#32
  ![v1343.toNat, 0]
def k0_cond255 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_843 : BitVec 32 := 2#32
  let v1179 : BitVec 1 := Scalar.cmpi .sge v8 c2_i32_843
  let v1180 : BitVec 32 := Scalar.extui v1179
  let c0_i32_844 : BitVec 32 := 0#32
  let v1181 : BitVec 1 := Scalar.cmpi .ne v1180 c0_i32_844
  v1181

def k0_off460 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_841 : BitVec 32 := 2#32
  let v1177 : BitVec 32 := Scalar.subi v8 c2_i32_841
  let c4096_i32_961 : BitVec 32 := 4096#32
  let v1339 : BitVec 32 := Scalar.muli v1177 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c384_i32 : BitVec 32 := 384#32
  let v1342 : BitVec 32 := Scalar.addi v1341 c384_i32
  let c0_i32_964 : BitVec 32 := 0#32
  ![v1342.toNat, 0]
def k0_off461 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_841 : BitVec 32 := 2#32
  let v1177 : BitVec 32 := Scalar.subi v8 c2_i32_841
  let c4096_i32_971 : BitVec 32 := 4096#32
  let v1351 : BitVec 32 := Scalar.muli v1177 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c384_i32_973 : BitVec 32 := 384#32
  let v1354 : BitVec 32 := Scalar.addi v1353 c384_i32_973
  let c0_i32_974 : BitVec 32 := 0#32
  let v1355 : BitVec 32 := Scalar.addi v1354 c0_i32_974
  let c0_i32_978 : BitVec 32 := 0#32
  ![v1355.toNat, 0]
def k0_off462 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_841 : BitVec 32 := 2#32
  let v1177 : BitVec 32 := Scalar.subi v8 c2_i32_841
  let c4096_i32_980 : BitVec 32 := 4096#32
  let v1360 : BitVec 32 := Scalar.muli v1177 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c384_i32_982 : BitVec 32 := 384#32
  let v1363 : BitVec 32 := Scalar.addi v1362 c384_i32_982
  let c64_i32 : BitVec 32 := 64#32
  let v1364 : BitVec 32 := Scalar.addi v1363 c64_i32
  let c0_i32_986 : BitVec 32 := 0#32
  ![v1364.toNat, 0]
def k0_cond256 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_845 : BitVec 32 := 2#32
  let v1182 : BitVec 32 := Scalar.addi v8 c2_i32_845
  let c3_i32_846 : BitVec 32 := 3#32
  let v1183 : BitVec 1 := Scalar.cmpi .sle v1182 c3_i32_846
  let v1184 : BitVec 32 := Scalar.extui v1183
  let c0_i32_847 : BitVec 32 := 0#32
  let v1185 : BitVec 1 := Scalar.cmpi .ne v1184 c0_i32_847
  v1185

def k0_off463 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_842 : BitVec 32 := 2#32
  let v1178 : BitVec 32 := Scalar.addi v8 c2_i32_842
  let c4096_i32_961 : BitVec 32 := 4096#32
  let v1339 : BitVec 32 := Scalar.muli v1178 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c384_i32 : BitVec 32 := 384#32
  let v1342 : BitVec 32 := Scalar.addi v1341 c384_i32
  let c0_i32_964 : BitVec 32 := 0#32
  ![v1342.toNat, 0]
def k0_off464 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_842 : BitVec 32 := 2#32
  let v1178 : BitVec 32 := Scalar.addi v8 c2_i32_842
  let c4096_i32_971 : BitVec 32 := 4096#32
  let v1351 : BitVec 32 := Scalar.muli v1178 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c384_i32_973 : BitVec 32 := 384#32
  let v1354 : BitVec 32 := Scalar.addi v1353 c384_i32_973
  let c0_i32_974 : BitVec 32 := 0#32
  let v1355 : BitVec 32 := Scalar.addi v1354 c0_i32_974
  let c0_i32_978 : BitVec 32 := 0#32
  ![v1355.toNat, 0]
def k0_off465 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_842 : BitVec 32 := 2#32
  let v1178 : BitVec 32 := Scalar.addi v8 c2_i32_842
  let c4096_i32_980 : BitVec 32 := 4096#32
  let v1360 : BitVec 32 := Scalar.muli v1178 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c384_i32_982 : BitVec 32 := 384#32
  let v1363 : BitVec 32 := Scalar.addi v1362 c384_i32_982
  let c64_i32 : BitVec 32 := 64#32
  let v1364 : BitVec 32 := Scalar.addi v1363 c64_i32
  let c0_i32_986 : BitVec 32 := 0#32
  ![v1364.toNat, 0]
def k0_cond257 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_848 : BitVec 32 := 2#32
  let v1186 : BitVec 1 := Scalar.cmpi .sge v8 c2_i32_848
  let c3_i32_849 : BitVec 32 := 3#32
  let v1187 : BitVec 1 := Scalar.cmpi .slt v8 c3_i32_849
  let v1188 : BitVec 1 := Scalar.andi v1186 v1187
  let v1189 : BitVec 32 := Scalar.extui v1188
  let c0_i32_850 : BitVec 32 := 0#32
  let v1190 : BitVec 1 := Scalar.cmpi .ne v1189 c0_i32_850
  v1190

def k0_off466 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_965 : BitVec 32 := 0#32
  ![v1343.toNat, 0]
def k0_cond258 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_851 : BitVec 32 := 2#32
  let v1191 : BitVec 32 := Scalar.addi v8 c2_i32_851
  let c3_i32_852 : BitVec 32 := 3#32
  let v1192 : BitVec 1 := Scalar.cmpi .sle v1191 c3_i32_852
  let c0_i32_853 : BitVec 32 := 0#32
  let v1193 : BitVec 1 := Scalar.cmpi .sgt v8 c0_i32_853
  let v1194 : BitVec 1 := Scalar.andi v1192 v1193
  let v1195 : BitVec 32 := Scalar.extui v1194
  let c0_i32_854 : BitVec 32 := 0#32
  let v1196 : BitVec 1 := Scalar.cmpi .ne v1195 c0_i32_854
  v1196

def k0_off467 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c512_i32 : BitVec 32 := 512#32
  let v1343 : BitVec 32 := Scalar.addi v1342 c512_i32
  let c0_i32_965 : BitVec 32 := 0#32
  ![v1343.toNat, 0]
def k0_cond259 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_857 : BitVec 32 := 2#32
  let v1199 : BitVec 1 := Scalar.cmpi .sge v8 c2_i32_857
  let v1200 : BitVec 32 := Scalar.extui v1199
  let c0_i32_858 : BitVec 32 := 0#32
  let v1201 : BitVec 1 := Scalar.cmpi .ne v1200 c0_i32_858
  v1201

def k0_off468 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_855 : BitVec 32 := 2#32
  let v1197 : BitVec 32 := Scalar.subi v8 c2_i32_855
  let c4096_i32_961 : BitVec 32 := 4096#32
  let v1339 : BitVec 32 := Scalar.muli v1197 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c512_i32 : BitVec 32 := 512#32
  let v1342 : BitVec 32 := Scalar.addi v1341 c512_i32
  let c0_i32_964 : BitVec 32 := 0#32
  ![v1342.toNat, 0]
def k0_off469 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_855 : BitVec 32 := 2#32
  let v1197 : BitVec 32 := Scalar.subi v8 c2_i32_855
  let c4096_i32_971 : BitVec 32 := 4096#32
  let v1351 : BitVec 32 := Scalar.muli v1197 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c512_i32_973 : BitVec 32 := 512#32
  let v1354 : BitVec 32 := Scalar.addi v1353 c512_i32_973
  let c0_i32_974 : BitVec 32 := 0#32
  let v1355 : BitVec 32 := Scalar.addi v1354 c0_i32_974
  let c0_i32_978 : BitVec 32 := 0#32
  ![v1355.toNat, 0]
def k0_off470 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_855 : BitVec 32 := 2#32
  let v1197 : BitVec 32 := Scalar.subi v8 c2_i32_855
  let c4096_i32_980 : BitVec 32 := 4096#32
  let v1360 : BitVec 32 := Scalar.muli v1197 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c512_i32_982 : BitVec 32 := 512#32
  let v1363 : BitVec 32 := Scalar.addi v1362 c512_i32_982
  let c64_i32 : BitVec 32 := 64#32
  let v1364 : BitVec 32 := Scalar.addi v1363 c64_i32
  let c0_i32_986 : BitVec 32 := 0#32
  ![v1364.toNat, 0]
def k0_cond260 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_859 : BitVec 32 := 2#32
  let v1202 : BitVec 32 := Scalar.addi v8 c2_i32_859
  let c3_i32_860 : BitVec 32 := 3#32
  let v1203 : BitVec 1 := Scalar.cmpi .sle v1202 c3_i32_860
  let v1204 : BitVec 32 := Scalar.extui v1203
  let c0_i32_861 : BitVec 32 := 0#32
  let v1205 : BitVec 1 := Scalar.cmpi .ne v1204 c0_i32_861
  v1205

def k0_off471 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_856 : BitVec 32 := 2#32
  let v1198 : BitVec 32 := Scalar.addi v8 c2_i32_856
  let c4096_i32_961 : BitVec 32 := 4096#32
  let v1339 : BitVec 32 := Scalar.muli v1198 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c512_i32 : BitVec 32 := 512#32
  let v1342 : BitVec 32 := Scalar.addi v1341 c512_i32
  let c0_i32_964 : BitVec 32 := 0#32
  ![v1342.toNat, 0]
def k0_off472 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_856 : BitVec 32 := 2#32
  let v1198 : BitVec 32 := Scalar.addi v8 c2_i32_856
  let c4096_i32_971 : BitVec 32 := 4096#32
  let v1351 : BitVec 32 := Scalar.muli v1198 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c512_i32_973 : BitVec 32 := 512#32
  let v1354 : BitVec 32 := Scalar.addi v1353 c512_i32_973
  let c0_i32_974 : BitVec 32 := 0#32
  let v1355 : BitVec 32 := Scalar.addi v1354 c0_i32_974
  let c0_i32_978 : BitVec 32 := 0#32
  ![v1355.toNat, 0]
def k0_off473 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_856 : BitVec 32 := 2#32
  let v1198 : BitVec 32 := Scalar.addi v8 c2_i32_856
  let c4096_i32_980 : BitVec 32 := 4096#32
  let v1360 : BitVec 32 := Scalar.muli v1198 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c512_i32_982 : BitVec 32 := 512#32
  let v1363 : BitVec 32 := Scalar.addi v1362 c512_i32_982
  let c64_i32 : BitVec 32 := 64#32
  let v1364 : BitVec 32 := Scalar.addi v1363 c64_i32
  let c0_i32_986 : BitVec 32 := 0#32
  ![v1364.toNat, 0]
def k0_cond261 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_862 : BitVec 32 := 2#32
  let v1206 : BitVec 1 := Scalar.cmpi .sge v8 c2_i32_862
  let c3_i32_863 : BitVec 32 := 3#32
  let v1207 : BitVec 1 := Scalar.cmpi .slt v8 c3_i32_863
  let v1208 : BitVec 1 := Scalar.andi v1206 v1207
  let v1209 : BitVec 32 := Scalar.extui v1208
  let c0_i32_864 : BitVec 32 := 0#32
  let v1210 : BitVec 1 := Scalar.cmpi .ne v1209 c0_i32_864
  v1210

def k0_off474 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_965 : BitVec 32 := 0#32
  ![v1343.toNat, 0]
def k0_cond262 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_865 : BitVec 32 := 2#32
  let v1211 : BitVec 32 := Scalar.addi v8 c2_i32_865
  let c3_i32_866 : BitVec 32 := 3#32
  let v1212 : BitVec 1 := Scalar.cmpi .sle v1211 c3_i32_866
  let c0_i32_867 : BitVec 32 := 0#32
  let v1213 : BitVec 1 := Scalar.cmpi .sgt v8 c0_i32_867
  let v1214 : BitVec 1 := Scalar.andi v1212 v1213
  let v1215 : BitVec 32 := Scalar.extui v1214
  let c0_i32_868 : BitVec 32 := 0#32
  let v1216 : BitVec 1 := Scalar.cmpi .ne v1215 c0_i32_868
  v1216

def k0_off475 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c640_i32 : BitVec 32 := 640#32
  let v1343 : BitVec 32 := Scalar.addi v1342 c640_i32
  let c0_i32_965 : BitVec 32 := 0#32
  ![v1343.toNat, 0]
def k0_cond263 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_871 : BitVec 32 := 2#32
  let v1219 : BitVec 1 := Scalar.cmpi .sge v8 c2_i32_871
  let v1220 : BitVec 32 := Scalar.extui v1219
  let c0_i32_872 : BitVec 32 := 0#32
  let v1221 : BitVec 1 := Scalar.cmpi .ne v1220 c0_i32_872
  v1221

def k0_off476 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_869 : BitVec 32 := 2#32
  let v1217 : BitVec 32 := Scalar.subi v8 c2_i32_869
  let c4096_i32_961 : BitVec 32 := 4096#32
  let v1339 : BitVec 32 := Scalar.muli v1217 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c640_i32 : BitVec 32 := 640#32
  let v1342 : BitVec 32 := Scalar.addi v1341 c640_i32
  let c0_i32_964 : BitVec 32 := 0#32
  ![v1342.toNat, 0]
def k0_off477 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_869 : BitVec 32 := 2#32
  let v1217 : BitVec 32 := Scalar.subi v8 c2_i32_869
  let c4096_i32_971 : BitVec 32 := 4096#32
  let v1351 : BitVec 32 := Scalar.muli v1217 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c640_i32_973 : BitVec 32 := 640#32
  let v1354 : BitVec 32 := Scalar.addi v1353 c640_i32_973
  let c0_i32_974 : BitVec 32 := 0#32
  let v1355 : BitVec 32 := Scalar.addi v1354 c0_i32_974
  let c0_i32_978 : BitVec 32 := 0#32
  ![v1355.toNat, 0]
def k0_off478 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_869 : BitVec 32 := 2#32
  let v1217 : BitVec 32 := Scalar.subi v8 c2_i32_869
  let c4096_i32_980 : BitVec 32 := 4096#32
  let v1360 : BitVec 32 := Scalar.muli v1217 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c640_i32_982 : BitVec 32 := 640#32
  let v1363 : BitVec 32 := Scalar.addi v1362 c640_i32_982
  let c64_i32 : BitVec 32 := 64#32
  let v1364 : BitVec 32 := Scalar.addi v1363 c64_i32
  let c0_i32_986 : BitVec 32 := 0#32
  ![v1364.toNat, 0]
def k0_cond264 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_873 : BitVec 32 := 2#32
  let v1222 : BitVec 32 := Scalar.addi v8 c2_i32_873
  let c3_i32_874 : BitVec 32 := 3#32
  let v1223 : BitVec 1 := Scalar.cmpi .sle v1222 c3_i32_874
  let v1224 : BitVec 32 := Scalar.extui v1223
  let c0_i32_875 : BitVec 32 := 0#32
  let v1225 : BitVec 1 := Scalar.cmpi .ne v1224 c0_i32_875
  v1225

def k0_off479 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_870 : BitVec 32 := 2#32
  let v1218 : BitVec 32 := Scalar.addi v8 c2_i32_870
  let c4096_i32_961 : BitVec 32 := 4096#32
  let v1339 : BitVec 32 := Scalar.muli v1218 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c640_i32 : BitVec 32 := 640#32
  let v1342 : BitVec 32 := Scalar.addi v1341 c640_i32
  let c0_i32_964 : BitVec 32 := 0#32
  ![v1342.toNat, 0]
def k0_off480 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_870 : BitVec 32 := 2#32
  let v1218 : BitVec 32 := Scalar.addi v8 c2_i32_870
  let c4096_i32_971 : BitVec 32 := 4096#32
  let v1351 : BitVec 32 := Scalar.muli v1218 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c640_i32_973 : BitVec 32 := 640#32
  let v1354 : BitVec 32 := Scalar.addi v1353 c640_i32_973
  let c0_i32_974 : BitVec 32 := 0#32
  let v1355 : BitVec 32 := Scalar.addi v1354 c0_i32_974
  let c0_i32_978 : BitVec 32 := 0#32
  ![v1355.toNat, 0]
def k0_off481 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_870 : BitVec 32 := 2#32
  let v1218 : BitVec 32 := Scalar.addi v8 c2_i32_870
  let c4096_i32_980 : BitVec 32 := 4096#32
  let v1360 : BitVec 32 := Scalar.muli v1218 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c640_i32_982 : BitVec 32 := 640#32
  let v1363 : BitVec 32 := Scalar.addi v1362 c640_i32_982
  let c64_i32 : BitVec 32 := 64#32
  let v1364 : BitVec 32 := Scalar.addi v1363 c64_i32
  let c0_i32_986 : BitVec 32 := 0#32
  ![v1364.toNat, 0]
def k0_cond265 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_876 : BitVec 32 := 2#32
  let v1226 : BitVec 1 := Scalar.cmpi .sge v8 c2_i32_876
  let c3_i32_877 : BitVec 32 := 3#32
  let v1227 : BitVec 1 := Scalar.cmpi .slt v8 c3_i32_877
  let v1228 : BitVec 1 := Scalar.andi v1226 v1227
  let v1229 : BitVec 32 := Scalar.extui v1228
  let c0_i32_878 : BitVec 32 := 0#32
  let v1230 : BitVec 1 := Scalar.cmpi .ne v1229 c0_i32_878
  v1230

def k0_off482 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_965 : BitVec 32 := 0#32
  ![v1343.toNat, 0]
def k0_cond266 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_879 : BitVec 32 := 2#32
  let v1231 : BitVec 32 := Scalar.addi v8 c2_i32_879
  let c3_i32_880 : BitVec 32 := 3#32
  let v1232 : BitVec 1 := Scalar.cmpi .sle v1231 c3_i32_880
  let c0_i32_881 : BitVec 32 := 0#32
  let v1233 : BitVec 1 := Scalar.cmpi .sgt v8 c0_i32_881
  let v1234 : BitVec 1 := Scalar.andi v1232 v1233
  let v1235 : BitVec 32 := Scalar.extui v1234
  let c0_i32_882 : BitVec 32 := 0#32
  let v1236 : BitVec 1 := Scalar.cmpi .ne v1235 c0_i32_882
  v1236

def k0_off483 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c768_i32 : BitVec 32 := 768#32
  let v1343 : BitVec 32 := Scalar.addi v1342 c768_i32
  let c0_i32_965 : BitVec 32 := 0#32
  ![v1343.toNat, 0]
def k0_cond267 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_885 : BitVec 32 := 2#32
  let v1239 : BitVec 1 := Scalar.cmpi .sge v8 c2_i32_885
  let v1240 : BitVec 32 := Scalar.extui v1239
  let c0_i32_886 : BitVec 32 := 0#32
  let v1241 : BitVec 1 := Scalar.cmpi .ne v1240 c0_i32_886
  v1241

def k0_off484 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_883 : BitVec 32 := 2#32
  let v1237 : BitVec 32 := Scalar.subi v8 c2_i32_883
  let c4096_i32_961 : BitVec 32 := 4096#32
  let v1339 : BitVec 32 := Scalar.muli v1237 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c768_i32 : BitVec 32 := 768#32
  let v1342 : BitVec 32 := Scalar.addi v1341 c768_i32
  let c0_i32_964 : BitVec 32 := 0#32
  ![v1342.toNat, 0]
def k0_off485 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_883 : BitVec 32 := 2#32
  let v1237 : BitVec 32 := Scalar.subi v8 c2_i32_883
  let c4096_i32_971 : BitVec 32 := 4096#32
  let v1351 : BitVec 32 := Scalar.muli v1237 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c768_i32_973 : BitVec 32 := 768#32
  let v1354 : BitVec 32 := Scalar.addi v1353 c768_i32_973
  let c0_i32_974 : BitVec 32 := 0#32
  let v1355 : BitVec 32 := Scalar.addi v1354 c0_i32_974
  let c0_i32_978 : BitVec 32 := 0#32
  ![v1355.toNat, 0]
def k0_off486 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_883 : BitVec 32 := 2#32
  let v1237 : BitVec 32 := Scalar.subi v8 c2_i32_883
  let c4096_i32_980 : BitVec 32 := 4096#32
  let v1360 : BitVec 32 := Scalar.muli v1237 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c768_i32_982 : BitVec 32 := 768#32
  let v1363 : BitVec 32 := Scalar.addi v1362 c768_i32_982
  let c64_i32 : BitVec 32 := 64#32
  let v1364 : BitVec 32 := Scalar.addi v1363 c64_i32
  let c0_i32_986 : BitVec 32 := 0#32
  ![v1364.toNat, 0]
def k0_cond268 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_887 : BitVec 32 := 2#32
  let v1242 : BitVec 32 := Scalar.addi v8 c2_i32_887
  let c3_i32_888 : BitVec 32 := 3#32
  let v1243 : BitVec 1 := Scalar.cmpi .sle v1242 c3_i32_888
  let v1244 : BitVec 32 := Scalar.extui v1243
  let c0_i32_889 : BitVec 32 := 0#32
  let v1245 : BitVec 1 := Scalar.cmpi .ne v1244 c0_i32_889
  v1245

def k0_off487 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_884 : BitVec 32 := 2#32
  let v1238 : BitVec 32 := Scalar.addi v8 c2_i32_884
  let c4096_i32_961 : BitVec 32 := 4096#32
  let v1339 : BitVec 32 := Scalar.muli v1238 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c768_i32 : BitVec 32 := 768#32
  let v1342 : BitVec 32 := Scalar.addi v1341 c768_i32
  let c0_i32_964 : BitVec 32 := 0#32
  ![v1342.toNat, 0]
def k0_off488 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_884 : BitVec 32 := 2#32
  let v1238 : BitVec 32 := Scalar.addi v8 c2_i32_884
  let c4096_i32_971 : BitVec 32 := 4096#32
  let v1351 : BitVec 32 := Scalar.muli v1238 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c768_i32_973 : BitVec 32 := 768#32
  let v1354 : BitVec 32 := Scalar.addi v1353 c768_i32_973
  let c0_i32_974 : BitVec 32 := 0#32
  let v1355 : BitVec 32 := Scalar.addi v1354 c0_i32_974
  let c0_i32_978 : BitVec 32 := 0#32
  ![v1355.toNat, 0]
def k0_off489 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_884 : BitVec 32 := 2#32
  let v1238 : BitVec 32 := Scalar.addi v8 c2_i32_884
  let c4096_i32_980 : BitVec 32 := 4096#32
  let v1360 : BitVec 32 := Scalar.muli v1238 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c768_i32_982 : BitVec 32 := 768#32
  let v1363 : BitVec 32 := Scalar.addi v1362 c768_i32_982
  let c64_i32 : BitVec 32 := 64#32
  let v1364 : BitVec 32 := Scalar.addi v1363 c64_i32
  let c0_i32_986 : BitVec 32 := 0#32
  ![v1364.toNat, 0]
def k0_cond269 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_890 : BitVec 32 := 2#32
  let v1246 : BitVec 1 := Scalar.cmpi .sge v8 c2_i32_890
  let c3_i32_891 : BitVec 32 := 3#32
  let v1247 : BitVec 1 := Scalar.cmpi .slt v8 c3_i32_891
  let v1248 : BitVec 1 := Scalar.andi v1246 v1247
  let v1249 : BitVec 32 := Scalar.extui v1248
  let c0_i32_892 : BitVec 32 := 0#32
  let v1250 : BitVec 1 := Scalar.cmpi .ne v1249 c0_i32_892
  v1250

def k0_off490 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.subi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_965 : BitVec 32 := 0#32
  ![v1343.toNat, 0]
def k0_cond270 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_893 : BitVec 32 := 2#32
  let v1251 : BitVec 32 := Scalar.addi v8 c2_i32_893
  let c3_i32_894 : BitVec 32 := 3#32
  let v1252 : BitVec 1 := Scalar.cmpi .sle v1251 c3_i32_894
  let c0_i32_895 : BitVec 32 := 0#32
  let v1253 : BitVec 1 := Scalar.cmpi .sgt v8 c0_i32_895
  let v1254 : BitVec 1 := Scalar.andi v1252 v1253
  let v1255 : BitVec 32 := Scalar.extui v1254
  let c0_i32_896 : BitVec 32 := 0#32
  let v1256 : BitVec 1 := Scalar.cmpi .ne v1255 c0_i32_896
  v1256

def k0_off491 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1339 : BitVec 32 := Scalar.addi v8 c2_i32_961
  let c4096_i32_962 : BitVec 32 := 4096#32
  let v1340 : BitVec 32 := Scalar.muli v1339 c4096_i32_962
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1341 : BitVec 32 := Scalar.muli v10 c1024_i32
  let v1342 : BitVec 32 := Scalar.addi v1340 v1341
  let c896_i32 : BitVec 32 := 896#32
  let v1343 : BitVec 32 := Scalar.addi v1342 c896_i32
  let c0_i32_965 : BitVec 32 := 0#32
  ![v1343.toNat, 0]
def k0_cond271 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_899 : BitVec 32 := 2#32
  let v1259 : BitVec 1 := Scalar.cmpi .sge v8 c2_i32_899
  let v1260 : BitVec 32 := Scalar.extui v1259
  let c0_i32_900 : BitVec 32 := 0#32
  let v1261 : BitVec 1 := Scalar.cmpi .ne v1260 c0_i32_900
  v1261

def k0_off492 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_897 : BitVec 32 := 2#32
  let v1257 : BitVec 32 := Scalar.subi v8 c2_i32_897
  let c4096_i32_961 : BitVec 32 := 4096#32
  let v1339 : BitVec 32 := Scalar.muli v1257 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c896_i32 : BitVec 32 := 896#32
  let v1342 : BitVec 32 := Scalar.addi v1341 c896_i32
  let c0_i32_964 : BitVec 32 := 0#32
  ![v1342.toNat, 0]
def k0_off493 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_897 : BitVec 32 := 2#32
  let v1257 : BitVec 32 := Scalar.subi v8 c2_i32_897
  let c4096_i32_971 : BitVec 32 := 4096#32
  let v1351 : BitVec 32 := Scalar.muli v1257 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c896_i32_973 : BitVec 32 := 896#32
  let v1354 : BitVec 32 := Scalar.addi v1353 c896_i32_973
  let c0_i32_974 : BitVec 32 := 0#32
  let v1355 : BitVec 32 := Scalar.addi v1354 c0_i32_974
  let c0_i32_978 : BitVec 32 := 0#32
  ![v1355.toNat, 0]
def k0_off494 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_897 : BitVec 32 := 2#32
  let v1257 : BitVec 32 := Scalar.subi v8 c2_i32_897
  let c4096_i32_980 : BitVec 32 := 4096#32
  let v1360 : BitVec 32 := Scalar.muli v1257 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c896_i32_982 : BitVec 32 := 896#32
  let v1363 : BitVec 32 := Scalar.addi v1362 c896_i32_982
  let c64_i32 : BitVec 32 := 64#32
  let v1364 : BitVec 32 := Scalar.addi v1363 c64_i32
  let c0_i32_986 : BitVec 32 := 0#32
  ![v1364.toNat, 0]
def k0_cond272 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_901 : BitVec 32 := 2#32
  let v1262 : BitVec 32 := Scalar.addi v8 c2_i32_901
  let c3_i32_902 : BitVec 32 := 3#32
  let v1263 : BitVec 1 := Scalar.cmpi .sle v1262 c3_i32_902
  let v1264 : BitVec 32 := Scalar.extui v1263
  let c0_i32_903 : BitVec 32 := 0#32
  let v1265 : BitVec 1 := Scalar.cmpi .ne v1264 c0_i32_903
  v1265

def k0_off495 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_898 : BitVec 32 := 2#32
  let v1258 : BitVec 32 := Scalar.addi v8 c2_i32_898
  let c4096_i32_961 : BitVec 32 := 4096#32
  let v1339 : BitVec 32 := Scalar.muli v1258 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c896_i32 : BitVec 32 := 896#32
  let v1342 : BitVec 32 := Scalar.addi v1341 c896_i32
  let c0_i32_964 : BitVec 32 := 0#32
  ![v1342.toNat, 0]
def k0_off496 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_898 : BitVec 32 := 2#32
  let v1258 : BitVec 32 := Scalar.addi v8 c2_i32_898
  let c4096_i32_971 : BitVec 32 := 4096#32
  let v1351 : BitVec 32 := Scalar.muli v1258 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c896_i32_973 : BitVec 32 := 896#32
  let v1354 : BitVec 32 := Scalar.addi v1353 c896_i32_973
  let c0_i32_974 : BitVec 32 := 0#32
  let v1355 : BitVec 32 := Scalar.addi v1354 c0_i32_974
  let c0_i32_978 : BitVec 32 := 0#32
  ![v1355.toNat, 0]
def k0_off497 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_898 : BitVec 32 := 2#32
  let v1258 : BitVec 32 := Scalar.addi v8 c2_i32_898
  let c4096_i32_980 : BitVec 32 := 4096#32
  let v1360 : BitVec 32 := Scalar.muli v1258 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c896_i32_982 : BitVec 32 := 896#32
  let v1363 : BitVec 32 := Scalar.addi v1362 c896_i32_982
  let c64_i32 : BitVec 32 := 64#32
  let v1364 : BitVec 32 := Scalar.addi v1363 c64_i32
  let c0_i32_986 : BitVec 32 := 0#32
  ![v1364.toNat, 0]
def k0_cond273 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_906 : BitVec 32 := 3#32
  let v1268 : BitVec 1 := Scalar.cmpi .sge v8 c3_i32_906
  let v1269 : BitVec 32 := Scalar.extui v1268
  let c0_i32_907 : BitVec 32 := 0#32
  let v1270 : BitVec 1 := Scalar.cmpi .ne v1269 c0_i32_907
  v1270

def k0_off498 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_904 : BitVec 32 := 3#32
  let v1266 : BitVec 32 := Scalar.subi v8 c3_i32_904
  let c4096_i32_961 : BitVec 32 := 4096#32
  let v1339 : BitVec 32 := Scalar.muli v1266 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c0_i32_962 : BitVec 32 := 0#32
  let v1342 : BitVec 32 := Scalar.addi v1341 c0_i32_962
  let c0_i32_965 : BitVec 32 := 0#32
  ![v1342.toNat, 0]
def k0_off499 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_904 : BitVec 32 := 3#32
  let v1266 : BitVec 32 := Scalar.subi v8 c3_i32_904
  let c4096_i32_972 : BitVec 32 := 4096#32
  let v1351 : BitVec 32 := Scalar.muli v1266 c4096_i32_972
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_973 : BitVec 32 := 1024#32
  let v1352 : BitVec 32 := Scalar.muli v13 c1024_i32_973
  let v1353 : BitVec 32 := Scalar.addi v1351 v1352
  let c0_i32_974 : BitVec 32 := 0#32
  let v1354 : BitVec 32 := Scalar.addi v1353 c0_i32_974
  let c0_i32_975 : BitVec 32 := 0#32
  let v1355 : BitVec 32 := Scalar.addi v1354 c0_i32_975
  let c0_i32_979 : BitVec 32 := 0#32
  ![v1355.toNat, 0]
def k0_off500 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_904 : BitVec 32 := 3#32
  let v1266 : BitVec 32 := Scalar.subi v8 c3_i32_904
  let c4096_i32_981 : BitVec 32 := 4096#32
  let v1360 : BitVec 32 := Scalar.muli v1266 c4096_i32_981
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_982 : BitVec 32 := 1024#32
  let v1361 : BitVec 32 := Scalar.muli v16 c1024_i32_982
  let v1362 : BitVec 32 := Scalar.addi v1360 v1361
  let c0_i32_983 : BitVec 32 := 0#32
  let v1363 : BitVec 32 := Scalar.addi v1362 c0_i32_983
  let c64_i32 : BitVec 32 := 64#32
  let v1364 : BitVec 32 := Scalar.addi v1363 c64_i32
  let c0_i32_987 : BitVec 32 := 0#32
  ![v1364.toNat, 0]
def k0_cond274 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_908 : BitVec 32 := 3#32
  let v1271 : BitVec 32 := Scalar.addi v8 c3_i32_908
  let c3_i32_909 : BitVec 32 := 3#32
  let v1272 : BitVec 1 := Scalar.cmpi .sle v1271 c3_i32_909
  let v1273 : BitVec 32 := Scalar.extui v1272
  let c0_i32_910 : BitVec 32 := 0#32
  let v1274 : BitVec 1 := Scalar.cmpi .ne v1273 c0_i32_910
  v1274

def k0_off501 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_905 : BitVec 32 := 3#32
  let v1267 : BitVec 32 := Scalar.addi v8 c3_i32_905
  let c4096_i32_961 : BitVec 32 := 4096#32
  let v1339 : BitVec 32 := Scalar.muli v1267 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c0_i32_962 : BitVec 32 := 0#32
  let v1342 : BitVec 32 := Scalar.addi v1341 c0_i32_962
  let c0_i32_965 : BitVec 32 := 0#32
  ![v1342.toNat, 0]
def k0_off502 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_905 : BitVec 32 := 3#32
  let v1267 : BitVec 32 := Scalar.addi v8 c3_i32_905
  let c4096_i32_972 : BitVec 32 := 4096#32
  let v1351 : BitVec 32 := Scalar.muli v1267 c4096_i32_972
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_973 : BitVec 32 := 1024#32
  let v1352 : BitVec 32 := Scalar.muli v13 c1024_i32_973
  let v1353 : BitVec 32 := Scalar.addi v1351 v1352
  let c0_i32_974 : BitVec 32 := 0#32
  let v1354 : BitVec 32 := Scalar.addi v1353 c0_i32_974
  let c0_i32_975 : BitVec 32 := 0#32
  let v1355 : BitVec 32 := Scalar.addi v1354 c0_i32_975
  let c0_i32_979 : BitVec 32 := 0#32
  ![v1355.toNat, 0]
def k0_off503 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_905 : BitVec 32 := 3#32
  let v1267 : BitVec 32 := Scalar.addi v8 c3_i32_905
  let c4096_i32_981 : BitVec 32 := 4096#32
  let v1360 : BitVec 32 := Scalar.muli v1267 c4096_i32_981
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_982 : BitVec 32 := 1024#32
  let v1361 : BitVec 32 := Scalar.muli v16 c1024_i32_982
  let v1362 : BitVec 32 := Scalar.addi v1360 v1361
  let c0_i32_983 : BitVec 32 := 0#32
  let v1363 : BitVec 32 := Scalar.addi v1362 c0_i32_983
  let c64_i32 : BitVec 32 := 64#32
  let v1364 : BitVec 32 := Scalar.addi v1363 c64_i32
  let c0_i32_987 : BitVec 32 := 0#32
  ![v1364.toNat, 0]
def k0_cond275 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_913 : BitVec 32 := 3#32
  let v1277 : BitVec 1 := Scalar.cmpi .sge v8 c3_i32_913
  let v1278 : BitVec 32 := Scalar.extui v1277
  let c0_i32_914 : BitVec 32 := 0#32
  let v1279 : BitVec 1 := Scalar.cmpi .ne v1278 c0_i32_914
  v1279

def k0_off504 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_911 : BitVec 32 := 3#32
  let v1275 : BitVec 32 := Scalar.subi v8 c3_i32_911
  let c4096_i32_961 : BitVec 32 := 4096#32
  let v1339 : BitVec 32 := Scalar.muli v1275 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c128_i32 : BitVec 32 := 128#32
  let v1342 : BitVec 32 := Scalar.addi v1341 c128_i32
  let c0_i32_964 : BitVec 32 := 0#32
  ![v1342.toNat, 0]
def k0_off505 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_911 : BitVec 32 := 3#32
  let v1275 : BitVec 32 := Scalar.subi v8 c3_i32_911
  let c4096_i32_971 : BitVec 32 := 4096#32
  let v1351 : BitVec 32 := Scalar.muli v1275 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c128_i32_973 : BitVec 32 := 128#32
  let v1354 : BitVec 32 := Scalar.addi v1353 c128_i32_973
  let c0_i32_974 : BitVec 32 := 0#32
  let v1355 : BitVec 32 := Scalar.addi v1354 c0_i32_974
  let c0_i32_978 : BitVec 32 := 0#32
  ![v1355.toNat, 0]
def k0_off506 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_911 : BitVec 32 := 3#32
  let v1275 : BitVec 32 := Scalar.subi v8 c3_i32_911
  let c4096_i32_980 : BitVec 32 := 4096#32
  let v1360 : BitVec 32 := Scalar.muli v1275 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c128_i32_982 : BitVec 32 := 128#32
  let v1363 : BitVec 32 := Scalar.addi v1362 c128_i32_982
  let c64_i32 : BitVec 32 := 64#32
  let v1364 : BitVec 32 := Scalar.addi v1363 c64_i32
  let c0_i32_986 : BitVec 32 := 0#32
  ![v1364.toNat, 0]
def k0_cond276 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_915 : BitVec 32 := 3#32
  let v1280 : BitVec 32 := Scalar.addi v8 c3_i32_915
  let c3_i32_916 : BitVec 32 := 3#32
  let v1281 : BitVec 1 := Scalar.cmpi .sle v1280 c3_i32_916
  let v1282 : BitVec 32 := Scalar.extui v1281
  let c0_i32_917 : BitVec 32 := 0#32
  let v1283 : BitVec 1 := Scalar.cmpi .ne v1282 c0_i32_917
  v1283

def k0_off507 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_912 : BitVec 32 := 3#32
  let v1276 : BitVec 32 := Scalar.addi v8 c3_i32_912
  let c4096_i32_961 : BitVec 32 := 4096#32
  let v1339 : BitVec 32 := Scalar.muli v1276 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c128_i32 : BitVec 32 := 128#32
  let v1342 : BitVec 32 := Scalar.addi v1341 c128_i32
  let c0_i32_964 : BitVec 32 := 0#32
  ![v1342.toNat, 0]
def k0_off508 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_912 : BitVec 32 := 3#32
  let v1276 : BitVec 32 := Scalar.addi v8 c3_i32_912
  let c4096_i32_971 : BitVec 32 := 4096#32
  let v1351 : BitVec 32 := Scalar.muli v1276 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c128_i32_973 : BitVec 32 := 128#32
  let v1354 : BitVec 32 := Scalar.addi v1353 c128_i32_973
  let c0_i32_974 : BitVec 32 := 0#32
  let v1355 : BitVec 32 := Scalar.addi v1354 c0_i32_974
  let c0_i32_978 : BitVec 32 := 0#32
  ![v1355.toNat, 0]
def k0_off509 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_912 : BitVec 32 := 3#32
  let v1276 : BitVec 32 := Scalar.addi v8 c3_i32_912
  let c4096_i32_980 : BitVec 32 := 4096#32
  let v1360 : BitVec 32 := Scalar.muli v1276 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c128_i32_982 : BitVec 32 := 128#32
  let v1363 : BitVec 32 := Scalar.addi v1362 c128_i32_982
  let c64_i32 : BitVec 32 := 64#32
  let v1364 : BitVec 32 := Scalar.addi v1363 c64_i32
  let c0_i32_986 : BitVec 32 := 0#32
  ![v1364.toNat, 0]
def k0_cond277 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_920 : BitVec 32 := 3#32
  let v1286 : BitVec 1 := Scalar.cmpi .sge v8 c3_i32_920
  let v1287 : BitVec 32 := Scalar.extui v1286
  let c0_i32_921 : BitVec 32 := 0#32
  let v1288 : BitVec 1 := Scalar.cmpi .ne v1287 c0_i32_921
  v1288

def k0_off510 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_918 : BitVec 32 := 3#32
  let v1284 : BitVec 32 := Scalar.subi v8 c3_i32_918
  let c4096_i32_961 : BitVec 32 := 4096#32
  let v1339 : BitVec 32 := Scalar.muli v1284 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c256_i32 : BitVec 32 := 256#32
  let v1342 : BitVec 32 := Scalar.addi v1341 c256_i32
  let c0_i32_964 : BitVec 32 := 0#32
  ![v1342.toNat, 0]
def k0_off511 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_918 : BitVec 32 := 3#32
  let v1284 : BitVec 32 := Scalar.subi v8 c3_i32_918
  let c4096_i32_971 : BitVec 32 := 4096#32
  let v1351 : BitVec 32 := Scalar.muli v1284 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c256_i32_973 : BitVec 32 := 256#32
  let v1354 : BitVec 32 := Scalar.addi v1353 c256_i32_973
  let c0_i32_974 : BitVec 32 := 0#32
  let v1355 : BitVec 32 := Scalar.addi v1354 c0_i32_974
  let c0_i32_978 : BitVec 32 := 0#32
  ![v1355.toNat, 0]
def k0_off512 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_918 : BitVec 32 := 3#32
  let v1284 : BitVec 32 := Scalar.subi v8 c3_i32_918
  let c4096_i32_980 : BitVec 32 := 4096#32
  let v1360 : BitVec 32 := Scalar.muli v1284 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c256_i32_982 : BitVec 32 := 256#32
  let v1363 : BitVec 32 := Scalar.addi v1362 c256_i32_982
  let c64_i32 : BitVec 32 := 64#32
  let v1364 : BitVec 32 := Scalar.addi v1363 c64_i32
  let c0_i32_986 : BitVec 32 := 0#32
  ![v1364.toNat, 0]
def k0_cond278 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_922 : BitVec 32 := 3#32
  let v1289 : BitVec 32 := Scalar.addi v8 c3_i32_922
  let c3_i32_923 : BitVec 32 := 3#32
  let v1290 : BitVec 1 := Scalar.cmpi .sle v1289 c3_i32_923
  let v1291 : BitVec 32 := Scalar.extui v1290
  let c0_i32_924 : BitVec 32 := 0#32
  let v1292 : BitVec 1 := Scalar.cmpi .ne v1291 c0_i32_924
  v1292

def k0_off513 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1285 : BitVec 32 := Scalar.addi v8 c3_i32_919
  let c4096_i32_961 : BitVec 32 := 4096#32
  let v1339 : BitVec 32 := Scalar.muli v1285 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c256_i32 : BitVec 32 := 256#32
  let v1342 : BitVec 32 := Scalar.addi v1341 c256_i32
  let c0_i32_964 : BitVec 32 := 0#32
  ![v1342.toNat, 0]
def k0_off514 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1285 : BitVec 32 := Scalar.addi v8 c3_i32_919
  let c4096_i32_971 : BitVec 32 := 4096#32
  let v1351 : BitVec 32 := Scalar.muli v1285 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c256_i32_973 : BitVec 32 := 256#32
  let v1354 : BitVec 32 := Scalar.addi v1353 c256_i32_973
  let c0_i32_974 : BitVec 32 := 0#32
  let v1355 : BitVec 32 := Scalar.addi v1354 c0_i32_974
  let c0_i32_978 : BitVec 32 := 0#32
  ![v1355.toNat, 0]
def k0_off515 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1285 : BitVec 32 := Scalar.addi v8 c3_i32_919
  let c4096_i32_980 : BitVec 32 := 4096#32
  let v1360 : BitVec 32 := Scalar.muli v1285 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c256_i32_982 : BitVec 32 := 256#32
  let v1363 : BitVec 32 := Scalar.addi v1362 c256_i32_982
  let c64_i32 : BitVec 32 := 64#32
  let v1364 : BitVec 32 := Scalar.addi v1363 c64_i32
  let c0_i32_986 : BitVec 32 := 0#32
  ![v1364.toNat, 0]
def k0_cond279 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_927 : BitVec 32 := 3#32
  let v1295 : BitVec 1 := Scalar.cmpi .sge v8 c3_i32_927
  let v1296 : BitVec 32 := Scalar.extui v1295
  let c0_i32_928 : BitVec 32 := 0#32
  let v1297 : BitVec 1 := Scalar.cmpi .ne v1296 c0_i32_928
  v1297

def k0_off516 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_925 : BitVec 32 := 3#32
  let v1293 : BitVec 32 := Scalar.subi v8 c3_i32_925
  let c4096_i32_961 : BitVec 32 := 4096#32
  let v1339 : BitVec 32 := Scalar.muli v1293 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c384_i32 : BitVec 32 := 384#32
  let v1342 : BitVec 32 := Scalar.addi v1341 c384_i32
  let c0_i32_964 : BitVec 32 := 0#32
  ![v1342.toNat, 0]
def k0_off517 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_925 : BitVec 32 := 3#32
  let v1293 : BitVec 32 := Scalar.subi v8 c3_i32_925
  let c4096_i32_971 : BitVec 32 := 4096#32
  let v1351 : BitVec 32 := Scalar.muli v1293 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c384_i32_973 : BitVec 32 := 384#32
  let v1354 : BitVec 32 := Scalar.addi v1353 c384_i32_973
  let c0_i32_974 : BitVec 32 := 0#32
  let v1355 : BitVec 32 := Scalar.addi v1354 c0_i32_974
  let c0_i32_978 : BitVec 32 := 0#32
  ![v1355.toNat, 0]
def k0_off518 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_925 : BitVec 32 := 3#32
  let v1293 : BitVec 32 := Scalar.subi v8 c3_i32_925
  let c4096_i32_980 : BitVec 32 := 4096#32
  let v1360 : BitVec 32 := Scalar.muli v1293 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c384_i32_982 : BitVec 32 := 384#32
  let v1363 : BitVec 32 := Scalar.addi v1362 c384_i32_982
  let c64_i32 : BitVec 32 := 64#32
  let v1364 : BitVec 32 := Scalar.addi v1363 c64_i32
  let c0_i32_986 : BitVec 32 := 0#32
  ![v1364.toNat, 0]
def k0_cond280 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_929 : BitVec 32 := 3#32
  let v1298 : BitVec 32 := Scalar.addi v8 c3_i32_929
  let c3_i32_930 : BitVec 32 := 3#32
  let v1299 : BitVec 1 := Scalar.cmpi .sle v1298 c3_i32_930
  let v1300 : BitVec 32 := Scalar.extui v1299
  let c0_i32_931 : BitVec 32 := 0#32
  let v1301 : BitVec 1 := Scalar.cmpi .ne v1300 c0_i32_931
  v1301

def k0_off519 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_926 : BitVec 32 := 3#32
  let v1294 : BitVec 32 := Scalar.addi v8 c3_i32_926
  let c4096_i32_961 : BitVec 32 := 4096#32
  let v1339 : BitVec 32 := Scalar.muli v1294 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c384_i32 : BitVec 32 := 384#32
  let v1342 : BitVec 32 := Scalar.addi v1341 c384_i32
  let c0_i32_964 : BitVec 32 := 0#32
  ![v1342.toNat, 0]
def k0_off520 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_926 : BitVec 32 := 3#32
  let v1294 : BitVec 32 := Scalar.addi v8 c3_i32_926
  let c4096_i32_971 : BitVec 32 := 4096#32
  let v1351 : BitVec 32 := Scalar.muli v1294 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c384_i32_973 : BitVec 32 := 384#32
  let v1354 : BitVec 32 := Scalar.addi v1353 c384_i32_973
  let c0_i32_974 : BitVec 32 := 0#32
  let v1355 : BitVec 32 := Scalar.addi v1354 c0_i32_974
  let c0_i32_978 : BitVec 32 := 0#32
  ![v1355.toNat, 0]
def k0_off521 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_926 : BitVec 32 := 3#32
  let v1294 : BitVec 32 := Scalar.addi v8 c3_i32_926
  let c4096_i32_980 : BitVec 32 := 4096#32
  let v1360 : BitVec 32 := Scalar.muli v1294 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c384_i32_982 : BitVec 32 := 384#32
  let v1363 : BitVec 32 := Scalar.addi v1362 c384_i32_982
  let c64_i32 : BitVec 32 := 64#32
  let v1364 : BitVec 32 := Scalar.addi v1363 c64_i32
  let c0_i32_986 : BitVec 32 := 0#32
  ![v1364.toNat, 0]
def k0_cond281 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_934 : BitVec 32 := 3#32
  let v1304 : BitVec 1 := Scalar.cmpi .sge v8 c3_i32_934
  let v1305 : BitVec 32 := Scalar.extui v1304
  let c0_i32_935 : BitVec 32 := 0#32
  let v1306 : BitVec 1 := Scalar.cmpi .ne v1305 c0_i32_935
  v1306

def k0_off522 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_932 : BitVec 32 := 3#32
  let v1302 : BitVec 32 := Scalar.subi v8 c3_i32_932
  let c4096_i32_961 : BitVec 32 := 4096#32
  let v1339 : BitVec 32 := Scalar.muli v1302 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c512_i32 : BitVec 32 := 512#32
  let v1342 : BitVec 32 := Scalar.addi v1341 c512_i32
  let c0_i32_964 : BitVec 32 := 0#32
  ![v1342.toNat, 0]
def k0_off523 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_932 : BitVec 32 := 3#32
  let v1302 : BitVec 32 := Scalar.subi v8 c3_i32_932
  let c4096_i32_971 : BitVec 32 := 4096#32
  let v1351 : BitVec 32 := Scalar.muli v1302 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c512_i32_973 : BitVec 32 := 512#32
  let v1354 : BitVec 32 := Scalar.addi v1353 c512_i32_973
  let c0_i32_974 : BitVec 32 := 0#32
  let v1355 : BitVec 32 := Scalar.addi v1354 c0_i32_974
  let c0_i32_978 : BitVec 32 := 0#32
  ![v1355.toNat, 0]
def k0_off524 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_932 : BitVec 32 := 3#32
  let v1302 : BitVec 32 := Scalar.subi v8 c3_i32_932
  let c4096_i32_980 : BitVec 32 := 4096#32
  let v1360 : BitVec 32 := Scalar.muli v1302 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c512_i32_982 : BitVec 32 := 512#32
  let v1363 : BitVec 32 := Scalar.addi v1362 c512_i32_982
  let c64_i32 : BitVec 32 := 64#32
  let v1364 : BitVec 32 := Scalar.addi v1363 c64_i32
  let c0_i32_986 : BitVec 32 := 0#32
  ![v1364.toNat, 0]
def k0_cond282 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_936 : BitVec 32 := 3#32
  let v1307 : BitVec 32 := Scalar.addi v8 c3_i32_936
  let c3_i32_937 : BitVec 32 := 3#32
  let v1308 : BitVec 1 := Scalar.cmpi .sle v1307 c3_i32_937
  let v1309 : BitVec 32 := Scalar.extui v1308
  let c0_i32_938 : BitVec 32 := 0#32
  let v1310 : BitVec 1 := Scalar.cmpi .ne v1309 c0_i32_938
  v1310

def k0_off525 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_933 : BitVec 32 := 3#32
  let v1303 : BitVec 32 := Scalar.addi v8 c3_i32_933
  let c4096_i32_961 : BitVec 32 := 4096#32
  let v1339 : BitVec 32 := Scalar.muli v1303 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c512_i32 : BitVec 32 := 512#32
  let v1342 : BitVec 32 := Scalar.addi v1341 c512_i32
  let c0_i32_964 : BitVec 32 := 0#32
  ![v1342.toNat, 0]
def k0_off526 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_933 : BitVec 32 := 3#32
  let v1303 : BitVec 32 := Scalar.addi v8 c3_i32_933
  let c4096_i32_971 : BitVec 32 := 4096#32
  let v1351 : BitVec 32 := Scalar.muli v1303 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c512_i32_973 : BitVec 32 := 512#32
  let v1354 : BitVec 32 := Scalar.addi v1353 c512_i32_973
  let c0_i32_974 : BitVec 32 := 0#32
  let v1355 : BitVec 32 := Scalar.addi v1354 c0_i32_974
  let c0_i32_978 : BitVec 32 := 0#32
  ![v1355.toNat, 0]
def k0_off527 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_933 : BitVec 32 := 3#32
  let v1303 : BitVec 32 := Scalar.addi v8 c3_i32_933
  let c4096_i32_980 : BitVec 32 := 4096#32
  let v1360 : BitVec 32 := Scalar.muli v1303 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c512_i32_982 : BitVec 32 := 512#32
  let v1363 : BitVec 32 := Scalar.addi v1362 c512_i32_982
  let c64_i32 : BitVec 32 := 64#32
  let v1364 : BitVec 32 := Scalar.addi v1363 c64_i32
  let c0_i32_986 : BitVec 32 := 0#32
  ![v1364.toNat, 0]
def k0_cond283 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_941 : BitVec 32 := 3#32
  let v1313 : BitVec 1 := Scalar.cmpi .sge v8 c3_i32_941
  let v1314 : BitVec 32 := Scalar.extui v1313
  let c0_i32_942 : BitVec 32 := 0#32
  let v1315 : BitVec 1 := Scalar.cmpi .ne v1314 c0_i32_942
  v1315

def k0_off528 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_939 : BitVec 32 := 3#32
  let v1311 : BitVec 32 := Scalar.subi v8 c3_i32_939
  let c4096_i32_961 : BitVec 32 := 4096#32
  let v1339 : BitVec 32 := Scalar.muli v1311 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c640_i32 : BitVec 32 := 640#32
  let v1342 : BitVec 32 := Scalar.addi v1341 c640_i32
  let c0_i32_964 : BitVec 32 := 0#32
  ![v1342.toNat, 0]
def k0_off529 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_939 : BitVec 32 := 3#32
  let v1311 : BitVec 32 := Scalar.subi v8 c3_i32_939
  let c4096_i32_971 : BitVec 32 := 4096#32
  let v1351 : BitVec 32 := Scalar.muli v1311 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c640_i32_973 : BitVec 32 := 640#32
  let v1354 : BitVec 32 := Scalar.addi v1353 c640_i32_973
  let c0_i32_974 : BitVec 32 := 0#32
  let v1355 : BitVec 32 := Scalar.addi v1354 c0_i32_974
  let c0_i32_978 : BitVec 32 := 0#32
  ![v1355.toNat, 0]
def k0_off530 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_939 : BitVec 32 := 3#32
  let v1311 : BitVec 32 := Scalar.subi v8 c3_i32_939
  let c4096_i32_980 : BitVec 32 := 4096#32
  let v1360 : BitVec 32 := Scalar.muli v1311 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c640_i32_982 : BitVec 32 := 640#32
  let v1363 : BitVec 32 := Scalar.addi v1362 c640_i32_982
  let c64_i32 : BitVec 32 := 64#32
  let v1364 : BitVec 32 := Scalar.addi v1363 c64_i32
  let c0_i32_986 : BitVec 32 := 0#32
  ![v1364.toNat, 0]
def k0_cond284 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_943 : BitVec 32 := 3#32
  let v1316 : BitVec 32 := Scalar.addi v8 c3_i32_943
  let c3_i32_944 : BitVec 32 := 3#32
  let v1317 : BitVec 1 := Scalar.cmpi .sle v1316 c3_i32_944
  let v1318 : BitVec 32 := Scalar.extui v1317
  let c0_i32_945 : BitVec 32 := 0#32
  let v1319 : BitVec 1 := Scalar.cmpi .ne v1318 c0_i32_945
  v1319

def k0_off531 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_940 : BitVec 32 := 3#32
  let v1312 : BitVec 32 := Scalar.addi v8 c3_i32_940
  let c4096_i32_961 : BitVec 32 := 4096#32
  let v1339 : BitVec 32 := Scalar.muli v1312 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c640_i32 : BitVec 32 := 640#32
  let v1342 : BitVec 32 := Scalar.addi v1341 c640_i32
  let c0_i32_964 : BitVec 32 := 0#32
  ![v1342.toNat, 0]
def k0_off532 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_940 : BitVec 32 := 3#32
  let v1312 : BitVec 32 := Scalar.addi v8 c3_i32_940
  let c4096_i32_971 : BitVec 32 := 4096#32
  let v1351 : BitVec 32 := Scalar.muli v1312 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c640_i32_973 : BitVec 32 := 640#32
  let v1354 : BitVec 32 := Scalar.addi v1353 c640_i32_973
  let c0_i32_974 : BitVec 32 := 0#32
  let v1355 : BitVec 32 := Scalar.addi v1354 c0_i32_974
  let c0_i32_978 : BitVec 32 := 0#32
  ![v1355.toNat, 0]
def k0_off533 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_940 : BitVec 32 := 3#32
  let v1312 : BitVec 32 := Scalar.addi v8 c3_i32_940
  let c4096_i32_980 : BitVec 32 := 4096#32
  let v1360 : BitVec 32 := Scalar.muli v1312 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c640_i32_982 : BitVec 32 := 640#32
  let v1363 : BitVec 32 := Scalar.addi v1362 c640_i32_982
  let c64_i32 : BitVec 32 := 64#32
  let v1364 : BitVec 32 := Scalar.addi v1363 c64_i32
  let c0_i32_986 : BitVec 32 := 0#32
  ![v1364.toNat, 0]
def k0_cond285 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_948 : BitVec 32 := 3#32
  let v1322 : BitVec 1 := Scalar.cmpi .sge v8 c3_i32_948
  let v1323 : BitVec 32 := Scalar.extui v1322
  let c0_i32_949 : BitVec 32 := 0#32
  let v1324 : BitVec 1 := Scalar.cmpi .ne v1323 c0_i32_949
  v1324

def k0_off534 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_946 : BitVec 32 := 3#32
  let v1320 : BitVec 32 := Scalar.subi v8 c3_i32_946
  let c4096_i32_961 : BitVec 32 := 4096#32
  let v1339 : BitVec 32 := Scalar.muli v1320 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c768_i32 : BitVec 32 := 768#32
  let v1342 : BitVec 32 := Scalar.addi v1341 c768_i32
  let c0_i32_964 : BitVec 32 := 0#32
  ![v1342.toNat, 0]
def k0_off535 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_946 : BitVec 32 := 3#32
  let v1320 : BitVec 32 := Scalar.subi v8 c3_i32_946
  let c4096_i32_971 : BitVec 32 := 4096#32
  let v1351 : BitVec 32 := Scalar.muli v1320 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c768_i32_973 : BitVec 32 := 768#32
  let v1354 : BitVec 32 := Scalar.addi v1353 c768_i32_973
  let c0_i32_974 : BitVec 32 := 0#32
  let v1355 : BitVec 32 := Scalar.addi v1354 c0_i32_974
  let c0_i32_978 : BitVec 32 := 0#32
  ![v1355.toNat, 0]
def k0_off536 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_946 : BitVec 32 := 3#32
  let v1320 : BitVec 32 := Scalar.subi v8 c3_i32_946
  let c4096_i32_980 : BitVec 32 := 4096#32
  let v1360 : BitVec 32 := Scalar.muli v1320 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c768_i32_982 : BitVec 32 := 768#32
  let v1363 : BitVec 32 := Scalar.addi v1362 c768_i32_982
  let c64_i32 : BitVec 32 := 64#32
  let v1364 : BitVec 32 := Scalar.addi v1363 c64_i32
  let c0_i32_986 : BitVec 32 := 0#32
  ![v1364.toNat, 0]
def k0_cond286 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_950 : BitVec 32 := 3#32
  let v1325 : BitVec 32 := Scalar.addi v8 c3_i32_950
  let c3_i32_951 : BitVec 32 := 3#32
  let v1326 : BitVec 1 := Scalar.cmpi .sle v1325 c3_i32_951
  let v1327 : BitVec 32 := Scalar.extui v1326
  let c0_i32_952 : BitVec 32 := 0#32
  let v1328 : BitVec 1 := Scalar.cmpi .ne v1327 c0_i32_952
  v1328

def k0_off537 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_947 : BitVec 32 := 3#32
  let v1321 : BitVec 32 := Scalar.addi v8 c3_i32_947
  let c4096_i32_961 : BitVec 32 := 4096#32
  let v1339 : BitVec 32 := Scalar.muli v1321 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c768_i32 : BitVec 32 := 768#32
  let v1342 : BitVec 32 := Scalar.addi v1341 c768_i32
  let c0_i32_964 : BitVec 32 := 0#32
  ![v1342.toNat, 0]
def k0_off538 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_947 : BitVec 32 := 3#32
  let v1321 : BitVec 32 := Scalar.addi v8 c3_i32_947
  let c4096_i32_971 : BitVec 32 := 4096#32
  let v1351 : BitVec 32 := Scalar.muli v1321 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c768_i32_973 : BitVec 32 := 768#32
  let v1354 : BitVec 32 := Scalar.addi v1353 c768_i32_973
  let c0_i32_974 : BitVec 32 := 0#32
  let v1355 : BitVec 32 := Scalar.addi v1354 c0_i32_974
  let c0_i32_978 : BitVec 32 := 0#32
  ![v1355.toNat, 0]
def k0_off539 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_947 : BitVec 32 := 3#32
  let v1321 : BitVec 32 := Scalar.addi v8 c3_i32_947
  let c4096_i32_980 : BitVec 32 := 4096#32
  let v1360 : BitVec 32 := Scalar.muli v1321 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c768_i32_982 : BitVec 32 := 768#32
  let v1363 : BitVec 32 := Scalar.addi v1362 c768_i32_982
  let c64_i32 : BitVec 32 := 64#32
  let v1364 : BitVec 32 := Scalar.addi v1363 c64_i32
  let c0_i32_986 : BitVec 32 := 0#32
  ![v1364.toNat, 0]
def k0_cond287 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_955 : BitVec 32 := 3#32
  let v1331 : BitVec 1 := Scalar.cmpi .sge v8 c3_i32_955
  let v1332 : BitVec 32 := Scalar.extui v1331
  let c0_i32_956 : BitVec 32 := 0#32
  let v1333 : BitVec 1 := Scalar.cmpi .ne v1332 c0_i32_956
  v1333

def k0_off540 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_953 : BitVec 32 := 3#32
  let v1329 : BitVec 32 := Scalar.subi v8 c3_i32_953
  let c4096_i32_961 : BitVec 32 := 4096#32
  let v1339 : BitVec 32 := Scalar.muli v1329 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c896_i32 : BitVec 32 := 896#32
  let v1342 : BitVec 32 := Scalar.addi v1341 c896_i32
  let c0_i32_964 : BitVec 32 := 0#32
  ![v1342.toNat, 0]
def k0_off541 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_953 : BitVec 32 := 3#32
  let v1329 : BitVec 32 := Scalar.subi v8 c3_i32_953
  let c4096_i32_971 : BitVec 32 := 4096#32
  let v1351 : BitVec 32 := Scalar.muli v1329 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c896_i32_973 : BitVec 32 := 896#32
  let v1354 : BitVec 32 := Scalar.addi v1353 c896_i32_973
  let c0_i32_974 : BitVec 32 := 0#32
  let v1355 : BitVec 32 := Scalar.addi v1354 c0_i32_974
  let c0_i32_978 : BitVec 32 := 0#32
  ![v1355.toNat, 0]
def k0_off542 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_953 : BitVec 32 := 3#32
  let v1329 : BitVec 32 := Scalar.subi v8 c3_i32_953
  let c4096_i32_980 : BitVec 32 := 4096#32
  let v1360 : BitVec 32 := Scalar.muli v1329 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c896_i32_982 : BitVec 32 := 896#32
  let v1363 : BitVec 32 := Scalar.addi v1362 c896_i32_982
  let c64_i32 : BitVec 32 := 64#32
  let v1364 : BitVec 32 := Scalar.addi v1363 c64_i32
  let c0_i32_986 : BitVec 32 := 0#32
  ![v1364.toNat, 0]
def k0_cond288 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_957 : BitVec 32 := 3#32
  let v1334 : BitVec 32 := Scalar.addi v8 c3_i32_957
  let c3_i32_958 : BitVec 32 := 3#32
  let v1335 : BitVec 1 := Scalar.cmpi .sle v1334 c3_i32_958
  let v1336 : BitVec 32 := Scalar.extui v1335
  let c0_i32_959 : BitVec 32 := 0#32
  let v1337 : BitVec 1 := Scalar.cmpi .ne v1336 c0_i32_959
  v1337

def k0_off543 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_954 : BitVec 32 := 3#32
  let v1330 : BitVec 32 := Scalar.addi v8 c3_i32_954
  let c4096_i32_961 : BitVec 32 := 4096#32
  let v1339 : BitVec 32 := Scalar.muli v1330 c4096_i32_961
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v1340 : BitVec 32 := Scalar.muli v10 c1024_i32
  let v1341 : BitVec 32 := Scalar.addi v1339 v1340
  let c896_i32 : BitVec 32 := 896#32
  let v1342 : BitVec 32 := Scalar.addi v1341 c896_i32
  let c0_i32_964 : BitVec 32 := 0#32
  ![v1342.toNat, 0]
def k0_off544 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_954 : BitVec 32 := 3#32
  let v1330 : BitVec 32 := Scalar.addi v8 c3_i32_954
  let c4096_i32_971 : BitVec 32 := 4096#32
  let v1351 : BitVec 32 := Scalar.muli v1330 c4096_i32_971
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_972 : BitVec 32 := 1024#32
  let v1352 : BitVec 32 := Scalar.muli v13 c1024_i32_972
  let v1353 : BitVec 32 := Scalar.addi v1351 v1352
  let c896_i32_973 : BitVec 32 := 896#32
  let v1354 : BitVec 32 := Scalar.addi v1353 c896_i32_973
  let c0_i32_974 : BitVec 32 := 0#32
  let v1355 : BitVec 32 := Scalar.addi v1354 c0_i32_974
  let c0_i32_978 : BitVec 32 := 0#32
  ![v1355.toNat, 0]
def k0_off545 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_954 : BitVec 32 := 3#32
  let v1330 : BitVec 32 := Scalar.addi v8 c3_i32_954
  let c4096_i32_980 : BitVec 32 := 4096#32
  let v1360 : BitVec 32 := Scalar.muli v1330 c4096_i32_980
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_981 : BitVec 32 := 1024#32
  let v1361 : BitVec 32 := Scalar.muli v16 c1024_i32_981
  let v1362 : BitVec 32 := Scalar.addi v1360 v1361
  let c896_i32_982 : BitVec 32 := 896#32
  let v1363 : BitVec 32 := Scalar.addi v1362 c896_i32_982
  let c64_i32 : BitVec 32 := 64#32
  let v1364 : BitVec 32 := Scalar.addi v1363 c64_i32
  let c0_i32_986 : BitVec 32 := 0#32
  ![v1364.toNat, 0]
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Prog.lean ====
/-
# The kernel's body as a list of steps

The printed body is one long sequence, cut by statement count. Here each guarded block of the kernel is written
once, over the loop variables it was unrolled from, and the body is shown equal to the list of those blocks.
-/
module

public import proofs.«01_k».proof.Proof.Gen.KernelIdeal
public import proofs.«01_k».proof.Proof.Gen.KernelIdeal.Points
public import Idealize.ShloMosaic.Lib.Pipeline.Kit
public import Idealize.ShloMosaic.Lib.Tactic

@[expose] public section

noncomputable section

namespace Cert.Gather

open Cert.KernelIdeal Cert.KernelIdeal.Gen
open Idealize.ShloMosaic Idealize.ShloMosaic.TcCoe
open Idealize.SL.Sem

variable {F : FTy → Type} [FloatOps F]

/-! ## The words the kernel computes -/

/-- A device's coordinates on the mesh. -/
def wx (c : Dev nD) : BitVec 32 := Scalar.remsi (Scalar.divsi (Dev.word c) 8#32) 2#32
def wy (c : Dev nD) : BitVec 32 := Scalar.remsi (Scalar.divsi (Dev.word c) 4#32) 2#32
def wz (c : Dev nD) : BitVec 32 := Scalar.remsi (Scalar.divsi (Dev.word c) 1#32) 4#32

/-- Whose quarter: the device's own, its x neighbour's, its y neighbour's, the diagonal one's. -/
inductive Who | own | xn | yn | dg
  deriving DecidableEq

/-- The quarter's number as a word. -/
def wq (c : Dev nD) : Who → BitVec 32
  | .own => Scalar.addi (Scalar.muli 2#32 (wx c)) (wy c)
  | .xn => Scalar.addi (Scalar.muli 2#32 (Scalar.subi 1#32 (wx c))) (wy c)
  | .yn => Scalar.addi (Scalar.muli 2#32 (wx c)) (Scalar.subi 1#32 (wy c))
  | .dg => Scalar.addi (Scalar.muli 2#32 (Scalar.subi 1#32 (wx c))) (Scalar.subi 1#32 (wy c))

/-- The chunk `t + 1` places before (`false`) or after (`true`) the device's own. -/
def wc (c : Dev nD) (b : Bool) (t : Fin 3) : BitVec 32 :=
  match b with
  | false => Scalar.subi (wz c) (BitVec.ofNat 32 (t.val + 1))
  | true => Scalar.addi (wz c) (BitVec.ofNat 32 (t.val + 1))

/-- The first row of a piece of 128 rows, of a half of one, and of a piece of the device's own input. -/
def pieceW (cw qw : BitVec 32) (k : Fin 8) : BitVec 32 :=
  Scalar.addi (Scalar.addi (Scalar.muli cw 4096#32) (Scalar.muli qw 1024#32)) (BitVec.ofNat 32 (k.val * 128))
def halfW (cw qw : BitVec 32) (k : Fin 8) (h : Fin 2) : BitVec 32 :=
  Scalar.addi (pieceW cw qw k) (BitVec.ofNat 32 (64 * h.val))
def ownW (c : Dev nD) (k : Fin 8) : BitVec 32 :=
  Scalar.addi (Scalar.muli (wq c .own) 1024#32) (BitVec.ofNat 32 (k.val * 128))

/-- A device's number from its coordinates. -/
def devW (X Y Z : BitVec 32) : ℕ :=
  (Scalar.addi (Scalar.addi (Scalar.addi 0#32 (Scalar.muli X 8#32)) (Scalar.muli Y 4#32)) (Scalar.muli Z 1#32)).toNat
/-- The neighbour along z: after (`false`) or before (`true`). -/
def zdevW (c : Dev nD) (b : Bool) : ℕ :=
  match b with
  | false => devW (wx c) (wy c) (Scalar.addi (wz c) 1#32)
  | true => devW (wx c) (wy c) (Scalar.subi (wz c) 1#32)
def xdevW (c : Dev nD) : ℕ := devW (Scalar.subi 1#32 (wx c)) (wy c) (wz c)
def ydevW (c : Dev nD) : ℕ := devW (wx c) (Scalar.subi 1#32 (wy c)) (wz c)

/-- A condition as the kernel tests it. -/
def tst (b : BitVec 1) : BitVec 1 := Scalar.cmpi .ne (Scalar.extui b : BitVec 32) 0#32
/-- There is a neighbour to send to. -/
def sndW (c : Dev nD) (b : Bool) : BitVec 1 :=
  match b with
  | false => Scalar.cmpi .slt (wz c) 3#32
  | true => Scalar.cmpi .sgt (wz c) 0#32
/-- The chunk is one of the four. -/
def valW (c : Dev nD) (b : Bool) (t : Fin 3) : BitVec 1 :=
  match b with
  | false => Scalar.cmpi .sge (wz c) (BitVec.ofNat 32 (t.val + 1))
  | true => Scalar.cmpi .sle (Scalar.addi (wz c) (BitVec.ofNat 32 (t.val + 1))) 3#32

/-! ## What the words are -/

/-- A device's coordinates as numbers. -/
def zc (c : Dev nD) : ℕ := c.val % 4
def yc (c : Dev nD) : ℕ := c.val / 4 % 2
def xc (c : Dev nD) : ℕ := c.val / 8

def qn (c : Dev nD) : Who → ℕ
  | .own => 2 * xc c + yc c
  | .xn => 2 * (1 - xc c) + yc c
  | .yn => 2 * xc c + (1 - yc c)
  | .dg => 2 * (1 - xc c) + (1 - yc c)

/-- There is a neighbour to send to; the chunk is one of the four; the chunk's number. -/
def Snd (c : Dev nD) (b : Bool) : Prop :=
  match b with
  | false => zc c < 3
  | true => 0 < zc c
def Val (c : Dev nD) (b : Bool) (t : Fin 3) : Prop :=
  match b with
  | false => t.val + 1 ≤ zc c
  | true => zc c + (t.val + 1) ≤ 3
def cn (c : Dev nD) (b : Bool) (t : Fin 3) : ℕ :=
  match b with
  | false => zc c - (t.val + 1)
  | true => zc c + (t.val + 1)

instance (c : Dev nD) (b : Bool) : Decidable (Snd c b) := by cases b <;> unfold Snd <;> infer_instance
instance (c : Dev nD) (b : Bool) (t : Fin 3) : Decidable (Val c b t) := by cases b <;> unfold Val <;> infer_instance

theorem wz_eq : ∀ c : Dev nD, wz c = BitVec.ofNat 32 (zc c) := by decide +kernel
theorem wx_eq : ∀ c : Dev nD, wx c = BitVec.ofNat 32 (xc c) := by decide +kernel
theorem wy_eq : ∀ c : Dev nD, wy c = BitVec.ofNat 32 (yc c) := by decide +kernel
theorem zc_lt (c : Dev nD) : zc c < 4 := Nat.mod_lt _ (by decide)
theorem yc_lt (c : Dev nD) : yc c < 2 := Nat.mod_lt _ (by decide)
theorem xc_lt (c : Dev nD) : xc c < 2 := by have := c.isLt; simp only [nD] at this; unfold xc; omega

theorem sndW_iff : ∀ (c : Dev nD) (b : Bool), tst (sndW c b) = 1#1 ↔ Snd c b := by decide +kernel
theorem valW_iff : ∀ (c : Dev nD) (b : Bool) (t : Fin 3), tst (valW c b t) = 1#1 ↔ Val c b t := by decide +kernel
theorem fwdW_iff : ∀ (c : Dev nD) (b : Bool) (t : Fin 3),
    tst (Scalar.andi (valW c b t) (sndW c b)) = 1#1 ↔ Val c b t ∧ Snd c b := by decide +kernel
theorem wq_val : ∀ (c : Dev nD), wq c .own = BitVec.ofNat 32 (qn c .own) ∧ wq c .xn = BitVec.ofNat 32 (qn c .xn)
    ∧ wq c .yn = BitVec.ofNat 32 (qn c .yn) ∧ wq c .dg = BitVec.ofNat 32 (qn c .dg) := by decide +kernel
theorem wq_eq (c : Dev nD) (w : Who) : wq c w = BitVec.ofNat 32 (qn c w) := by
  obtain ⟨h₁, h₂, h₃, h₄⟩ := wq_val c
  cases w <;> assumption
theorem qn_lt (c : Dev nD) (w : Who) : qn c w < 4 := by
  have := xc_lt c; have := yc_lt c
  cases w <;> simp only [qn] <;> omega
theorem wc_eq : ∀ (c : Dev nD) (b : Bool) (t : Fin 3), Val c b t → wc c b t = BitVec.ofNat 32 (cn c b t) := by decide +kernel
theorem cn_lt (c : Dev nD) (b : Bool) (t : Fin 3) (h : Val c b t) : cn c b t < 4 := by
  have := zc_lt c
  cases b <;> simp only [cn, Val] at * <;> omega
theorem zdevW_lt : ∀ (c : Dev nD) (b : Bool), Snd c b → zdevW c b < nD := by decide +kernel
theorem xdevW_lt : ∀ (c : Dev nD), xdevW c < nD := by decide +kernel
theorem ydevW_lt : ∀ (c : Dev nD), ydevW c < nD := by decide +kernel

/-- A chunk's, a quarter's and a piece's first rows. -/
def rowN (cN qN : ℕ) (k : Fin 8) : ℕ := cN * 4096 + qN * 1024 + k.val * 128

theorem pieceW_toNat : ∀ (a b : Fin 4) (k : Fin 8),
    (pieceW (BitVec.ofNat 32 a.val) (BitVec.ofNat 32 b.val) k).toNat = rowN a.val b.val k := by decide +kernel
theorem halfW_toNat : ∀ (a b : Fin 4) (k : Fin 8) (h : Fin 2),
    (halfW (BitVec.ofNat 32 a.val) (BitVec.ofNat 32 b.val) k h).toNat = rowN a.val b.val k + 64 * h.val := by decide +kernel
theorem ownW_toNat : ∀ (c : Dev nD) (k : Fin 8), (ownW c k).toNat = qn c .own * 1024 + k.val * 128 := by decide +kernel

theorem piece_row (c : Dev nD) (b : Bool) (t : Fin 3) (w : Who) (k : Fin 8) (h : Val c b t) :
    (pieceW (wc c b t) (wq c w) k).toNat = rowN (cn c b t) (qn c w) k := by
  rw [wc_eq c b t h, wq_eq]
  exact pieceW_toNat ⟨_, cn_lt c b t h⟩ ⟨_, qn_lt c w⟩ k
theorem half_row (c : Dev nD) (b : Bool) (t : Fin 3) (w : Who) (k : Fin 8) (hh : Fin 2) (h : Val c b t) :
    (halfW (wc c b t) (wq c w) k hh).toNat = rowN (cn c b t) (qn c w) k + 64 * hh.val := by
  rw [wc_eq c b t h, wq_eq]
  exact halfW_toNat ⟨_, cn_lt c b t h⟩ ⟨_, qn_lt c w⟩ k hh
theorem zpiece_row (c : Dev nD) (w : Who) (k : Fin 8) :
    (pieceW (wz c) (wq c w) k).toNat = rowN (zc c) (qn c w) k := by
  rw [wz_eq, wq_eq]
  exact pieceW_toNat ⟨_, zc_lt c⟩ ⟨_, qn_lt c w⟩ k

/-! ## The blocks' views lie inside their arrays -/

theorem inbP (n : ℕ) (h : n + 128 ≤ 16384) : ∀ a, (![n, 0] : Fin 2 → ℕ) a + S128x1024.size a ≤ S16384x1024.size a := by
  intro a; fin_cases a
  · exact h
  · exact Nat.le_refl _
theorem inbH (n : ℕ) (h : n + 64 ≤ 16384) : ∀ a, (![n, 0] : Fin 2 → ℕ) a + S64x1024.size a ≤ S16384x1024.size a := by
  intro a; fin_cases a
  · exact h
  · exact Nat.le_refl _
theorem inbX (n : ℕ) (h : n + 128 ≤ 4096) : ∀ a, (![n, 0] : Fin 2 → ℕ) a + S128x1024.size a ≤ S4096x1024.size a := by
  intro a; fin_cases a
  · exact h
  · exact Nat.le_refl _
theorem inb24 (n : ℕ) (h : n < 24) : ∀ a, (![n] : Fin 1 → ℕ) a + S1.size a ≤ S24.size a := by
  intro a; fin_cases a; exact h
theorem inb48 (n : ℕ) (h : n < 48) : ∀ a, (![n] : Fin 1 → ℕ) a + S1.size a ≤ S48.size a := by
  intro a; fin_cases a; exact h

theorem rowN_le (a b : ℕ) (k : Fin 8) (ha : a < 4) (hb : b < 4) : rowN a b k + 128 ≤ 16384 := by
  have := k.isLt; unfold rowN; omega

theorem piece_inb (c : Dev nD) (b : Bool) (t : Fin 3) (w : Who) (k : Fin 8) (h : Val c b t) :
    ∀ a, (![(pieceW (wc c b t) (wq c w) k).toNat, 0] : Fin 2 → ℕ) a + S128x1024.size a ≤ S16384x1024.size a :=
  inbP _ (by rw [piece_row c b t w k h]; exact rowN_le _ _ k (cn_lt c b t h) (qn_lt c w))
theorem half_inb (c : Dev nD) (b : Bool) (t : Fin 3) (w : Who) (k : Fin 8) (hh : Fin 2) (h : Val c b t) :
    ∀ a, (![(halfW (wc c b t) (wq c w) k hh).toNat, 0] : Fin 2 → ℕ) a + S64x1024.size a ≤ S16384x1024.size a :=
  inbH _ (by
    rw [half_row c b t w k hh h]
    have := rowN_le _ _ k (cn_lt c b t h) (qn_lt c w); have := hh.isLt; omega)
theorem zpiece_inb (c : Dev nD) (k : Fin 8) :
    ∀ a, (![(pieceW (wz c) (wq c .own) k).toNat, 0] : Fin 2 → ℕ) a + S128x1024.size a ≤ S16384x1024.size a :=
  inbP _ (by rw [zpiece_row c .own k]; exact rowN_le _ _ k (zc_lt c) (qn_lt c .own))
theorem own_inb (c : Dev nD) (k : Fin 8) :
    ∀ a, (![(ownW c k).toNat, 0] : Fin 2 → ℕ) a + S128x1024.size a ≤ S4096x1024.size a :=
  inbX _ (by rw [ownW_toNat c k]; have := qn_lt c .own; have := k.isLt; omega)

/-! ## The views and the operations -/

abbrev outP (o : Fin 2 → ℕ) (h : ∀ a, o a + S128x1024.size a ≤ S16384x1024.size a) : Memref sig .tc .hbm S128x1024 .f32 :=
  (Memref.whole main_v1 : Memref sig .tc .hbm S16384x1024 .f32).slice (Rect.unit (s := S16384x1024) o S128x1024.size h) (fun _ => rfl)
abbrev outH (o : Fin 2 → ℕ) (h : ∀ a, o a + S64x1024.size a ≤ S16384x1024.size a) : Memref sig .tc .hbm S64x1024 .f32 :=
  (Memref.whole main_v1 : Memref sig .tc .hbm S16384x1024 .f32).slice (Rect.unit (s := S16384x1024) o S64x1024.size h) (fun _ => rfl)
abbrev ownP (o : Fin 2 → ℕ) (h : ∀ a, o a + S128x1024.size a ≤ S4096x1024.size a) : Memref sig .tc .hbm S128x1024 .f32 :=
  (Memref.whole main_arg0 : Memref sig .tc .hbm S4096x1024 .f32).slice (Rect.unit (s := S4096x1024) o S128x1024.size h) (fun _ => rfl)

abbrev sem24 (a : DmaSems sig S24) (i : ℕ) (h : i < 24) : DmaSem sig :=
  ((a.slice (Rect.unit (s := S24) ![i] S1.size (inb24 i h))).squeeze S_ squeezes_S1_S_).sem
abbrev sem48 (a : DmaSems sig S48) (i : ℕ) (h : i < 48) : DmaSem sig :=
  ((a.slice (Rect.unit (s := S48) ![i] S1.size (inb48 i h))).squeeze S_ squeezes_S1_S_).sem

/-- A step of the kernel. -/
abbrev PP (F : FTy → Type) [FloatOps F] := Prog (TpuEff nD τ sig (Elt F) Λ₀ .tc) PUnit

abbrev sendP (src dst : Memref sig .tc .hbm S128x1024 .f32) (d : Dev nD) (s r : DmaSem sig) : PP F :=
  Prog.lift (.enqueueDma src (.remote (Dev.tc d) dst (.dma s)) (.dma r) (View.wordExact_bits rfl) (View.wordExact_bits rfl) ⟨⟨rfl, Or.inl rfl⟩, trivial⟩)
abbrev sendH (src dst : Memref sig .tc .hbm S64x1024 .f32) (d : Dev nD) (s r : DmaSem sig) : PP F :=
  Prog.lift (.enqueueDma src (.remote (Dev.tc d) dst (.dma s)) (.dma r) (View.wordExact_bits rfl) (View.wordExact_bits rfl) ⟨⟨rfl, Or.inl rfl⟩, trivial⟩)
abbrev waitP (s : DmaSem sig) (src dst : Memref sig .tc .hbm S128x1024 .f32) : PP F :=
  Prog.lift (.waitDma2 s src dst (View.wordExact_bits rfl) (View.wordExact_bits rfl))
abbrev waitH (s : DmaSem sig) (src dst : Memref sig .tc .hbm S64x1024 .f32) : PP F :=
  Prog.lift (.waitDma2 s src dst (View.wordExact_bits rfl) (View.wordExact_bits rfl))

/-- The semaphore arrays of the two directions along z. -/
abbrev zsend (b : Bool) : DmaSems sig S24 := match b with | false => cc0_scratch1 | true => cc0_scratch3
abbrev zrecv (b : Bool) : DmaSems sig S24 := match b with | false => cc0_scratch2 | true => cc0_scratch4

/-- A slot of the 24-long arrays; of the 48-long ones. -/
abbrev s24 (t : Fin 3) (k : Fin 8) : ℕ := t.val * 8 + k.val
abbrev s48 (b : Bool) (t : Fin 3) (k : Fin 8) : ℕ := (match b with | false => 0 | true => 24) + (t.val * 8 + k.val)
theorem s24_lt (t : Fin 3) (k : Fin 8) : s24 t k < 24 := by have := t.isLt; have := k.isLt; unfold s24; omega
theorem s48_lt (b : Bool) (t : Fin 3) (k : Fin 8) : s48 b t k < 48 := by
  have := t.isLt; have := k.isLt; cases b <;> simp only [s48] <;> omega

/-! ## The blocks -/

abbrev pv (c : Dev nD) (b : Bool) (t : Fin 3) (w : Who) (k : Fin 8) (h : Val c b t) : Memref sig .tc .hbm S128x1024 .f32 :=
  outP ![(pieceW (wc c b t) (wq c w) k).toNat, 0] (piece_inb c b t w k h)
abbrev hv (c : Dev nD) (b : Bool) (t : Fin 3) (w : Who) (k : Fin 8) (hh : Fin 2) (h : Val c b t) : Memref sig .tc .hbm S64x1024 .f32 :=
  outH ![(halfW (wc c b t) (wq c w) k hh).toNat, 0] (half_inb c b t w k hh h)
abbrev zv (c : Dev nD) (k : Fin 8) : Memref sig .tc .hbm S128x1024 .f32 :=
  outP ![(pieceW (wz c) (wq c .own) k).toNat, 0] (zpiece_inb c k)
abbrev xv (c : Dev nD) (k : Fin 8) : Memref sig .tc .hbm S128x1024 .f32 :=
  ownP ![(ownW c k).toNat, 0] (own_inb c k)
abbrev zdev (c : Dev nD) (b : Bool) (h : Snd c b) : Dev nD := ⟨zdevW c b, zdevW_lt c b h⟩
abbrev xdev (c : Dev nD) : Dev nD := ⟨xdevW c, xdevW_lt c⟩
abbrev ydev (c : Dev nD) : Dev nD := ⟨ydevW c, ydevW_lt c⟩

/-- A piece of the device's own input to a neighbour along z. -/
def startB (c : Dev nD) (b : Bool) (k : Fin 8) : PP F :=
  if h : tst (sndW c b) = 1#1 then do
    sendP (xv c k) (zv c k) (zdev c b ((sndW_iff c b).1 h)) (sem24 (zsend b) (s24 0 k) (s24_lt 0 k)) (sem24 (zrecv b) (s24 0 k) (s24_lt 0 k))
    pure ⟨⟩
  else do pure ⟨⟩

/-- A piece from a neighbour along z, passed to the x and y neighbours. -/
def relayB (c : Dev nD) (b : Bool) (t : Fin 3) (k : Fin 8) : PP F :=
  if h : tst (valW c b t) = 1#1 then do
    waitP (sem24 (zrecv b) (s24 t k) (s24_lt t k)) (pv c b t .own k ((valW_iff c b t).1 h)) (pv c b t .own k ((valW_iff c b t).1 h))
    sendP (pv c b t .own k ((valW_iff c b t).1 h)) (pv c b t .own k ((valW_iff c b t).1 h)) (xdev c)
      (sem48 cc0_scratch5 (s48 b t k) (s48_lt b t k)) (sem48 cc0_scratch6 (s48 b t k) (s48_lt b t k))
    sendP (pv c b t .own k ((valW_iff c b t).1 h)) (pv c b t .own k ((valW_iff c b t).1 h)) (ydev c)
      (sem48 cc0_scratch7 (s48 b t k) (s48_lt b t k)) (sem48 cc0_scratch8 (s48 b t k) (s48_lt b t k))
    pure ⟨⟩
  else do pure ⟨⟩

/-- The slot a piece is forwarded on. -/
theorem sf_lt (t : Fin 2) (k : Fin 8) : s24 t.succ k < 24 := s24_lt t.succ k

/-- The same piece forwarded along z. -/
def forwardB (c : Dev nD) (b : Bool) (t : Fin 2) (k : Fin 8) : PP F :=
  if h : tst (Scalar.andi (valW c b t.castSucc) (sndW c b)) = 1#1 then do
    sendP (pv c b t.castSucc .own k ((fwdW_iff c b t.castSucc).1 h).1) (pv c b t.castSucc .own k ((fwdW_iff c b t.castSucc).1 h).1)
      (zdev c b ((fwdW_iff c b t.castSucc).1 h).2) (sem24 (zsend b) (s24 t.succ k) (sf_lt t k)) (sem24 (zrecv b) (s24 t.succ k) (sf_lt t k))
    pure ⟨⟩
  else do pure ⟨⟩

/-- The pieces from the x and y neighbours, a half of each passed on to the other. -/
def crossB (c : Dev nD) (b : Bool) (t : Fin 3) (k : Fin 8) : PP F :=
  if h : tst (valW c b t) = 1#1 then do
    waitP (sem48 cc0_scratch6 (s48 b t k) (s48_lt b t k)) (pv c b t .xn k ((valW_iff c b t).1 h)) (pv c b t .xn k ((valW_iff c b t).1 h))
    sendH (hv c b t .xn k 0 ((valW_iff c b t).1 h)) (hv c b t .xn k 0 ((valW_iff c b t).1 h)) (ydev c)
      (sem48 cc0_scratch11 (s48 b t k) (s48_lt b t k)) (sem48 cc0_scratch12 (s48 b t k) (s48_lt b t k))
    waitP (sem48 cc0_scratch8 (s48 b t k) (s48_lt b t k)) (pv c b t .yn k ((valW_iff c b t).1 h)) (pv c b t .yn k ((valW_iff c b t).1 h))
    sendH (hv c b t .yn k 1 ((valW_iff c b t).1 h)) (hv c b t .yn k 1 ((valW_iff c b t).1 h)) (xdev c)
      (sem48 cc0_scratch9 (s48 b t k) (s48_lt b t k)) (sem48 cc0_scratch10 (s48 b t k) (s48_lt b t k))
    pure ⟨⟩
  else do pure ⟨⟩

/-- The two halves of the diagonal device's piece. -/
def diagB (c : Dev nD) (b : Bool) (t : Fin 3) (k : Fin 8) : PP F :=
  if h : tst (valW c b t) = 1#1 then do
    waitH (sem48 cc0_scratch12 (s48 b t k) (s48_lt b t k)) (hv c b t .dg k 0 ((valW_iff c b t).1 h)) (hv c b t .dg k 0 ((valW_iff c b t).1 h))
    waitH (sem48 cc0_scratch10 (s48 b t k) (s48_lt b t k)) (hv c b t .dg k 1 ((valW_iff c b t).1 h)) (hv c b t .dg k 1 ((valW_iff c b t).1 h))
    pure ⟨⟩
  else do pure ⟨⟩

/-- The waits for what was sent. -/
def startW (c : Dev nD) (b : Bool) (k : Fin 8) : PP F :=
  if h : tst (sndW c b) = 1#1 then do
    waitP (sem24 (zsend b) (s24 0 k) (s24_lt 0 k)) (xv c k) (xv c k)
    pure ⟨⟩
  else do pure ⟨⟩
def forwardW (c : Dev nD) (b : Bool) (t : Fin 2) (k : Fin 8) : PP F :=
  if h : tst (Scalar.andi (valW c b t.castSucc) (sndW c b)) = 1#1 then do
    waitP (sem24 (zsend b) (s24 t.succ k) (sf_lt t k)) (pv c b t.castSucc .own k ((fwdW_iff c b t.castSucc).1 h).1)
      (pv c b t.castSucc .own k ((fwdW_iff c b t.castSucc).1 h).1)
    pure ⟨⟩
  else do pure ⟨⟩
def sentW (c : Dev nD) (b : Bool) (t : Fin 3) (k : Fin 8) : PP F :=
  if h : tst (valW c b t) = 1#1 then do
    waitP (sem48 cc0_scratch5 (s48 b t k) (s48_lt b t k)) (pv c b t .own k ((valW_iff c b t).1 h)) (pv c b t .own k ((valW_iff c b t).1 h))
    waitP (sem48 cc0_scratch7 (s48 b t k) (s48_lt b t k)) (pv c b t .own k ((valW_iff c b t).1 h)) (pv c b t .own k ((valW_iff c b t).1 h))
    waitH (sem48 cc0_scratch11 (s48 b t k) (s48_lt b t k)) (hv c b t .xn k 0 ((valW_iff c b t).1 h)) (hv c b t .xn k 0 ((valW_iff c b t).1 h))
    waitH (sem48 cc0_scratch9 (s48 b t k) (s48_lt b t k)) (hv c b t .yn k 1 ((valW_iff c b t).1 h)) (hv c b t .yn k 1 ((valW_iff c b t).1 h))
    pure ⟨⟩
  else do pure ⟨⟩

/-- The device's own rows into its chunk. -/
abbrev chunkV (c : Dev nD) : Memref sig .tc .hbm S4096x1024 .f32 :=
  (Memref.whole main_v1 : Memref sig .tc .hbm S16384x1024 .f32).slice (Rect.unit (s := S16384x1024) (k0_off1 c) S4096x1024.size (k0_off1_inb c)) (fun _ => rfl)
abbrev inM : Memref sig .tc .hbm S4096x1024 .f32 := Memref.whole main_arg0
def copyB (c : Dev nD) : PP F :=
  Prog.lift (.enqueueDma inM (.here (chunkV c)) (.dma cc0_scratch0.sem) (Memref.isWhole_whole main_arg0).wordExact (View.wordExact_bits rfl) ⟨Or.inl rfl, trivial⟩)
def copyW (c : Dev nD) : PP F :=
  Prog.lift (.waitDma2 cc0_scratch0.sem inM (chunkV c) (Memref.isWhole_whole main_arg0).wordExact (View.wordExact_bits rfl))

abbrev barS : Sem sig := (SemArray.scalar (sig.barrier 0 rfl) : Sems sig S_).sem
abbrev nb1 (c : Dev nD) : Dev nD := ⟨k0_dev1 c, k0_dev1_lt c⟩
abbrev nb2 (c : Dev nD) : Dev nD := ⟨k0_dev2 c, k0_dev2_lt c⟩
def signalB (d : Dev nD) : PP F := semSignalWord d barS 1#32
def barrierW : PP F := semWaitWord barS 4#32

/-! ## The body's list -/

/-- The loops' variables, in the order they run. -/
def ks : List (Fin 8) := [0, 1, 2, 3, 4, 5, 6, 7]

def headL (c : Dev nD) : List (PP F) :=
  [copyB c, signalB (nb1 c), signalB (nb2 c), signalB (xdev c), signalB (ydev c), barrierW]
def startL (c : Dev nD) : List (PP F) := ks.flatMap fun k => [startB c false k, startB c true k]
def relay1 (c : Dev nD) (t : Fin 2) (k : Fin 8) : List (PP F) :=
  [relayB c false t.castSucc k, forwardB c false t k, relayB c true t.castSucc k, forwardB c true t k]
def relay2 (c : Dev nD) (k : Fin 8) : List (PP F) := [relayB c false 2 k, relayB c true 2 k]
def relayL (c : Dev nD) : List (PP F) :=
  ks.flatMap (relay1 c 0) ++ (ks.flatMap (relay1 c 1) ++ ks.flatMap (relay2 c))
def loopL (f : Bool → Fin 3 → Fin 8 → PP F) : List (PP F) :=
  (ks.flatMap fun k => [f false 0 k, f true 0 k]) ++ ((ks.flatMap fun k => [f false 1 k, f true 1 k]) ++ ks.flatMap fun k => [f false 2 k, f true 2 k])
def startWL (c : Dev nD) : List (PP F) := ks.flatMap fun k => [startW c false k, startW c true k]
def sent1 (c : Dev nD) (t : Fin 2) (k : Fin 8) : List (PP F) :=
  [forwardW c false t k, forwardW c true t k, sentW c false t.castSucc k, sentW c true t.castSucc k]
def sent2 (c : Dev nD) (k : Fin 8) : List (PP F) := [sentW c false 2 k, sentW c true 2 k]
def sentL (c : Dev nD) : List (PP F) :=
  ks.flatMap (sent1 c 0) ++ (ks.flatMap (sent1 c 1) ++ ks.flatMap (sent2 c))

/-- The body of device `c`. -/
def bodyL (c : Dev nD) : List (PP F) :=
  headL c ++ (startL c ++ (relayL c ++ (loopL (crossB c) ++ (loopL (diagB c) ++ (startWL c ++ (sentL c ++ [copyW c]))))))

end Cert.Gather

end
-- ==== Proof.Plan.lean ====
/-
# The plan of the transfers

Every remote copy of the kernel has a name: its kind (along z; a piece to the x or y neighbour; a half to the x or y
neighbour), its step `t`, its piece `k` and its direction `b`. Here: which device runs which copy, where it goes, which
rows it fills, on which semaphores, and that the pieces that arrive at a device are the rows outside its own chunk.
-/
module

public import proofs.«01_k».proof.Proof.Prog

@[expose] public section

noncomputable section

namespace Cert.Gather

open Cert.KernelIdeal Cert.KernelIdeal.Gen
open Idealize.ShloMosaic Idealize.ShloMosaic.TcCoe
open Idealize.SL.Sem

/-- The kinds of copies: along z, a piece to the x and to the y neighbour, a half to the x and to the y neighbour. -/
inductive Kind | z | xd | yd | xh | yh
  deriving DecidableEq
instance : Fintype Kind := ⟨{.z, .xd, .yd, .xh, .yh}, fun x => by cases x <;> decide⟩

/-- A step, a piece and a direction. -/
abbrev I3 : Type := Fin 3 × Fin 8 × Bool
/-- A copy's name. -/
abbrev J : Type := Kind × I3

/-! ## Who sends what to whom -/

/-- The device sends the copy on slot `t`. -/
def actK (c : Dev nD) (kd : Kind) (t : Fin 3) (b : Bool) : Prop :=
  match kd with
  | .z => Snd c b ∧ (match b with | false => t.val ≤ zc c | true => zc c + t.val ≤ 3)
  | _ => Val c b t
instance (c : Dev nD) (kd : Kind) (t : Fin 3) (b : Bool) : Decidable (actK c kd t b) := by
  cases kd <;> cases b <;> unfold actK <;> infer_instance
abbrev Act (c : Dev nD) (j : J) : Prop := actK c j.1 j.2.1 j.2.2.2
/-- The device receives it. -/
abbrev Inc (c : Dev nD) (j : J) : Prop := Val c j.2.2.2 j.2.1

def znb (c : Dev nD) (b : Bool) : Dev nD := if h : Snd c b then zdev c b h else c
def dstK (c : Dev nD) (kd : Kind) (b : Bool) : Dev nD :=
  match kd with
  | .z => znb c b
  | .xd | .xh => xdev c
  | .yd | .yh => ydev c
def srcK (c : Dev nD) (kd : Kind) (b : Bool) : Dev nD :=
  match kd with
  | .z => znb c (!b)
  | .xd | .xh => xdev c
  | .yd | .yh => ydev c
abbrev dstD (c : Dev nD) (j : J) : Dev nD := dstK c j.1 j.2.2.2
abbrev srcD (c : Dev nD) (j : J) : Dev nD := srcK c j.1 j.2.2.2

theorem actK_inc : ∀ (c : Dev nD) (kd : Kind) (t : Fin 3) (b : Bool), actK c kd t b →
    Val (dstK c kd b) b t ∧ srcK (dstK c kd b) kd b = c := by decide +kernel
theorem incK_act : ∀ (c : Dev nD) (kd : Kind) (t : Fin 3) (b : Bool), Val c b t →
    actK (srcK c kd b) kd t b ∧ dstK (srcK c kd b) kd b = c := by decide +kernel
theorem act_inc {c : Dev nD} {j : J} (h : Act c j) : Inc (dstD c j) j ∧ srcD (dstD c j) j = c := actK_inc c j.1 j.2.1 j.2.2.2 h
theorem inc_act {c : Dev nD} {j : J} (h : Inc c j) : Act (srcD c j) j ∧ dstD (srcD c j) j = c := incK_act c j.1 j.2.1 j.2.2.2 h

/-- The four neighbours. -/
def nbrs (c : Dev nD) : Finset (Dev nD) := {nb1 c, nb2 c, xdev c, ydev c}
def nbrL (c : Dev nD) : List (Dev nD) := [nb1 c, nb2 c, xdev c, ydev c]
theorem nbrs_eq : ∀ c : Dev nD, nbrs c = (nbrL c).toFinset := by decide +kernel
theorem nbrL_nodup : ∀ c : Dev nD, (nbrL c).Nodup := by decide +kernel
theorem nbrs_symm : ∀ c d : Dev nD, d ∈ nbrs c → c ∈ nbrs d := by decide +kernel
theorem dstK_nbr : ∀ (c : Dev nD) (kd : Kind) (t : Fin 3) (b : Bool), actK c kd t b → dstK c kd b ∈ nbrs c := by decide +kernel
theorem srcK_nbr : ∀ (c : Dev nD) (kd : Kind) (t : Fin 3) (b : Bool), Val c b t → srcK c kd b ∈ nbrs c := by decide +kernel

/-! ## The rows -/

def whoK : Kind → Who | .z => .own | .xd => .xn | .yd => .yn | .xh => .dg | .yh => .dg
def halfK : Kind → ℕ | .xh => 64 | _ => 0
def lenK : Kind → ℕ | .xh | .yh => 64 | _ => 128

/-- The first row of what the device receives. -/
def rowJ (c : Dev nD) (j : J) : ℕ := rowN (cn c j.2.2.2 j.2.1) (qn c (whoK j.1)) j.2.2.1 + halfK j.1

/-- The copy that fills a block of 64 rows, if the block is outside the device's own chunk. -/
def fnd (c : Dev nD) (n : ℕ) : Option J :=
  if n / 64 = zc c then none
  else some ((if n / 16 % 4 = qn c .own then .z else if n / 16 % 4 = qn c .xn then .xd
      else if n / 16 % 4 = qn c .yn then .yd else if n % 2 = 0 then .yh else .xh),
    Fin.ofNat 3 (if n / 64 < zc c then zc c - n / 64 - 1 else n / 64 - zc c - 1), Fin.ofNat 8 (n / 2 % 8), decide (zc c < n / 64))

def fndOk (c : Dev nD) (n : ℕ) (o : Option J) : Prop :=
  match o with
  | none => n / 64 = zc c
  | some j => Inc c j ∧ rowJ c j ≤ 64 * n ∧ 64 * n < rowJ c j + lenK j.1
instance (c : Dev nD) (n : ℕ) (o : Option J) : Decidable (fndOk c n o) := by cases o <;> unfold fndOk <;> infer_instance
theorem fnd_ok : ∀ (c : Dev nD) (n : Fin 256), fndOk c n.val (fnd c n.val) := by decide +kernel
theorem fnd_at : ∀ (c : Dev nD) (kd : Kind) (t : Fin 3) (k : Fin 8) (b : Bool), Val c b t →
    fnd c (rowJ c (kd, t, k, b) / 64) = some (kd, t, k, b) ∧ (lenK kd = 128 → fnd c (rowJ c (kd, t, k, b) / 64 + 1) = some (kd, t, k, b))
      ∧ rowJ c (kd, t, k, b) % 64 = 0 := by decide +kernel

theorem len_cases (kd : Kind) : lenK kd = 64 ∨ lenK kd = 128 := by cases kd <;> decide

/-- The rows of the piece are the rows whose block it fills. -/
theorem fnd_iff (c : Dev nD) (j : J) (hj : Inc c j) (r : ℕ) (hr : r < 16384) :
    fnd c (r / 64) = some j ↔ rowJ c j ≤ r ∧ r < rowJ c j + lenK j.1 := by
  obtain ⟨kd, t, k, b⟩ := j
  obtain ⟨h₁, h₂, h₃⟩ := fnd_at c kd t k b hj
  have hl := len_cases kd
  constructor
  · intro h
    have hok := fnd_ok c ⟨r / 64, by omega⟩
    simp only [h, fndOk] at hok
    obtain ⟨-, ha, hb⟩ := hok
    simp only at hl ⊢
    rcases hl with hl | hl <;> rw [hl] at hb ⊢ <;> omega
  · rintro ⟨ha, hb⟩
    simp only at hb ha
    rcases hl with hl | hl
    · rw [hl] at hb
      have : r / 64 = rowJ c (kd, t, k, b) / 64 := by omega
      rw [this]; exact h₁
    · rw [hl] at hb
      rcases (by omega : r / 64 = rowJ c (kd, t, k, b) / 64 ∨ r / 64 = rowJ c (kd, t, k, b) / 64 + 1) with e | e <;> rw [e]
      · exact h₁
      · exact h₂ hl

theorem fnd_none_iff (c : Dev nD) (r : ℕ) : fnd c (r / 64) = none ↔ r / 4096 = zc c := by
  unfold fnd
  have : r / 64 / 64 = r / 4096 := by omega
  rw [this]
  split <;> simp [*]

theorem fnd_some_inc (c : Dev nD) (r : ℕ) (hr : r < 16384) (j : J) (h : fnd c (r / 64) = some j) : Inc c j := by
  have hok := fnd_ok c ⟨r / 64, by omega⟩
  simp only [h, fndOk] at hok
  exact hok.1

/-- The first row of what the device sends, in the sender's words. -/
def rowS (c : Dev nD) (j : J) : ℕ :=
  match j with
  | (.z, t, k, b) => rowN (match b with | false => zc c - t.val | true => zc c + t.val) (qn c .own) k
  | (.xd, t, k, b) => rowN (cn c b t) (qn c .own) k
  | (.yd, t, k, b) => rowN (cn c b t) (qn c .own) k
  | (.yh, t, k, b) => rowN (cn c b t) (qn c .xn) k
  | (.xh, t, k, b) => rowN (cn c b t) (qn c .yn) k + 64
theorem rowS_eq : ∀ (c : Dev nD) (kd : Kind) (t : Fin 3) (k : Fin 8) (b : Bool), actK c kd t b →
    rowS c (kd, t, k, b) = rowJ (dstK c kd b) (kd, t, k, b) := by decide +kernel

/-! ## The semaphores -/

def sS (j : J) : DmaSem sig :=
  match j with
  | (.z, t, k, b) => sem24 (zsend b) (s24 t k) (s24_lt t k)
  | (.xd, t, k, b) => sem48 cc0_scratch5 (s48 b t k) (s48_lt b t k)
  | (.yd, t, k, b) => sem48 cc0_scratch7 (s48 b t k) (s48_lt b t k)
  | (.xh, t, k, b) => sem48 cc0_scratch9 (s48 b t k) (s48_lt b t k)
  | (.yh, t, k, b) => sem48 cc0_scratch11 (s48 b t k) (s48_lt b t k)
def rS (j : J) : DmaSem sig :=
  match j with
  | (.z, t, k, b) => sem24 (zrecv b) (s24 t k) (s24_lt t k)
  | (.xd, t, k, b) => sem48 cc0_scratch6 (s48 b t k) (s48_lt b t k)
  | (.yd, t, k, b) => sem48 cc0_scratch8 (s48 b t k) (s48_lt b t k)
  | (.xh, t, k, b) => sem48 cc0_scratch10 (s48 b t k) (s48_lt b t k)
  | (.yh, t, k, b) => sem48 cc0_scratch12 (s48 b t k) (s48_lt b t k)
def cS : DmaSem sig := cc0_scratch0.sem

/-- What a DMA semaphore is for: the local copy (`none`), a copy's arrival (`true`) or its departure (`false`). -/
abbrev Role : Type := Option (Bool × J)
def semOf : Role → DmaSem sig
  | none => cS
  | some (false, j) => sS j
  | some (true, j) => rS j
def roleN (n : ℕ) : Role :=
  if n = 0 then none
  else if n < 97 then
    some (decide ((n - 1) / 24 % 2 = 1), .z, Fin.ofNat 3 ((n - 1) % 24 / 8), Fin.ofNat 8 ((n - 1) % 8), decide (48 ≤ n - 1))
  else
    some (decide ((n - 97) / 48 % 2 = 1), (match (n - 97) / 96 with | 0 => .xd | 1 => .yd | 2 => .xh | _ => .yh),
      Fin.ofNat 3 ((n - 97) % 24 / 8), Fin.ofNat 8 ((n - 97) % 8), decide (24 ≤ (n - 97) % 48))
def roleOf (k : DmaSem sig) : Role := roleN k.val

theorem roleOf_rS : ∀ j : J, roleOf (rS j) = some (true, j) := by decide +kernel
theorem roleOf_sS : ∀ j : J, roleOf (sS j) = some (false, j) := by decide +kernel
theorem roleOf_cS : roleOf cS = none := by decide +kernel
theorem semOf_roleOf : ∀ k : DmaSem sig, semOf (roleOf k) = k := by decide +kernel
theorem roleOf_semOf (r : Role) : roleOf (semOf r) = r := by
  rcases r with _ | ⟨_ | _, j⟩
  · exact roleOf_cS
  · exact roleOf_sS j
  · exact roleOf_rS j
/-- The DMA semaphores by what they are for. -/
def roleEquiv : Role ≃ DmaSem sig := ⟨semOf, roleOf, roleOf_semOf, semOf_roleOf⟩

end Cert.Gather

end
-- ==== Proof.Sched.lean ====
/-
# The schedule of signals

Each semaphore's rounds, what each duty delivers, what each device owes, and the rows and contents they speak of.
-/
module

public import proofs.«01_k».proof.Proof.Plan
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's own and the cells', whose duties are named by the device that pays them -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Rows and contents -/

abbrev OutC (F : FTy → Type) [FloatOps F] : Type := (main_v1 : Ref sig .tc).ty.Contents (Elt F)
abbrev InC (F : FTy → Type) [FloatOps F] : Type := (main_arg0 : Ref sig .tc).ty.Contents (Elt F)

/-- Rows `[a, a + n)` of the result and of the input. -/
def rowSet (a n : ℕ) : Finset (main_v1 : Ref sig .tc).ty.Idx :=
  Finset.univ.filter fun i => a ≤ ((i (0 : Fin 2) : Fin 16384) : ℕ) ∧ ((i (0 : Fin 2) : Fin 16384) : ℕ) < a + n
def xSet (a n : ℕ) : Finset (main_arg0 : Ref sig .tc).ty.Idx :=
  Finset.univ.filter fun i => a ≤ ((i (0 : Fin 2) : Fin 4096) : ℕ) ∧ ((i (0 : Fin 2) : Fin 4096) : ℕ) < a + n

/-- Where an element of the result comes from: the device of the same rows' chunk and quarter, and the row in its input. -/
def fromDev (i : (main_v1 : Ref sig .tc).ty.Idx) : Dev nD :=
  ⟨8 * (((i (0 : Fin 2) : Fin 16384) : ℕ) / 2048 % 2) + 4 * (((i (0 : Fin 2) : Fin 16384) : ℕ) / 1024 % 2) + ((i (0 : Fin 2) : Fin 16384) : ℕ) / 4096,
    by have h : ((i (0 : Fin 2) : Fin 16384) : ℕ) < 16384 := (i (0 : Fin 2) : Fin 16384).isLt; show _ < 16; omega⟩
def xIdx (i : (main_v1 : Ref sig .tc).ty.Idx) : (main_arg0 : Ref sig .tc).ty.Idx := fun (a : Fin 2) =>
  ⟨match a with | 0 => ((i (0 : Fin 2) : Fin 16384) : ℕ) % 4096 | 1 => ((i (1 : Fin 2) : Fin 1024) : ℕ),
    by fin_cases a
       · exact Nat.mod_lt _ (by decide)
       · exact (i (1 : Fin 2) : Fin 1024).isLt⟩

/-- What every device's input is, as the launch finds it. -/
def xAt (c : Dev nD) : InC F := m ((c : Thread nD τ).loc main_arg0)
/-- What arrives: each row from the device that first sent it. -/
def GA : OutC F := fun i => xAt m (fromDev i) (xIdx i)
/-- What a device's own chunk becomes. -/
def GO (c : Dev nD) : OutC F := fun i => xAt m c (xIdx i)

def rows (c : Dev nD) (a n : ℕ) (q : PosShare TreeShare) (f : OutC F) : sProp 𝕄 :=
  ((c : Thread nD τ).loc main_v1) ↦[rowSet a n]{q} f
def xrows (c : Dev nD) (a n : ℕ) (q : PosShare TreeShare) : sProp 𝕄 :=
  ((c : Thread nD τ).loc main_arg0) ↦[xSet a n]{q} xAt m c

instance rows_storable (c : Dev nD) (a n : ℕ) (q) (f : OutC F) : BI.Storable (upEmb : UEmb _ 𝕄) (rows c a n q f) := by unfold rows; infer_instance
instance xrows_storable (c : Dev nD) (a n : ℕ) (q) : BI.Storable (upEmb : UEmb _ 𝕄) (xrows m c a n q) := by unfold xrows; infer_instance

/-! ## The views' rows -/

theorem outP_set (a : ℕ) (h) : (outP ![a, 0] h).view.set = rowSet a 128 := by
  ext i
  rw [show (outP ![a, 0] h).view.set = (Rect.unit (s := S16384x1024) ![a, 0] S128x1024.size h).set from View.set_slice_whole _ _, Rect.mem_set_unit]
  unfold rowSet
  rw [Finset.mem_filter]
  constructor
  · intro hh; exact ⟨Finset.mem_univ _, hh (0 : Fin 2)⟩
  · rintro ⟨-, hh⟩ a'; fin_cases a'
    · exact hh
    · exact ⟨Nat.zero_le _, by show _ < 0 + 1024; have := (i (1 : Fin 2) : Fin 1024).isLt; rw [Nat.zero_add]; exact this⟩
theorem outH_set (a : ℕ) (h) : (outH ![a, 0] h).view.set = rowSet a 64 := by
  ext i
  rw [show (outH ![a, 0] h).view.set = (Rect.unit (s := S16384x1024) ![a, 0] S64x1024.size h).set from View.set_slice_whole _ _, Rect.mem_set_unit]
  unfold rowSet
  rw [Finset.mem_filter]
  constructor
  · intro hh; exact ⟨Finset.mem_univ _, hh (0 : Fin 2)⟩
  · rintro ⟨-, hh⟩ a'; fin_cases a'
    · exact hh
    · exact ⟨Nat.zero_le _, by show _ < 0 + 1024; have := (i (1 : Fin 2) : Fin 1024).isLt; rw [Nat.zero_add]; exact this⟩
theorem ownP_set (a : ℕ) (h) : (ownP ![a, 0] h).view.set = xSet a 128 := by
  ext i
  rw [show (ownP ![a, 0] h).view.set = (Rect.unit (s := S4096x1024) ![a, 0] S128x1024.size h).set from View.set_slice_whole _ _, Rect.mem_set_unit]
  unfold xSet
  rw [Finset.mem_filter]
  constructor
  · intro hh; exact ⟨Finset.mem_univ _, hh (0 : Fin 2)⟩
  · rintro ⟨-, hh⟩ a'; fin_cases a'
    · exact hh
    · exact ⟨Nat.zero_le _, by show _ < 0 + 1024; have := (i (1 : Fin 2) : Fin 1024).isLt; rw [Nat.zero_add]; exact this⟩
theorem k0_off1_eq' : ∀ (c : Dev nD), k0_off1 c = ![zc c * 4096, 0] := by
  intro c; funext a; fin_cases a
  · revert c; decide +kernel
  · rfl
theorem chunk_set (c : Dev nD) : (chunkV c).view.set = rowSet (zc c * 4096) 4096 := by
  ext i
  rw [show (chunkV c).view.set = (Rect.unit (s := S16384x1024) (k0_off1 c) S4096x1024.size (k0_off1_inb c)).set from View.set_slice_whole _ _, Rect.mem_set_unit]
  unfold rowSet
  rw [Finset.mem_filter, k0_off1_eq']
  constructor
  · intro hh; exact ⟨Finset.mem_univ _, hh (0 : Fin 2)⟩
  · rintro ⟨-, hh⟩ a'; fin_cases a'
    · exact hh
    · exact ⟨Nat.zero_le _, by show _ < 0 + 1024; have := (i (1 : Fin 2) : Fin 1024).isLt; rw [Nat.zero_add]; exact this⟩

/-! ## The cells -/

/-- A device's cells: its barrier semaphore (`none`) and its DMA semaphores. -/
abbrev CK : Type := Option (DmaSem sig)
def csem : CK → SemLoc sig | none => .reg barS | some k => .dma k
abbrev cell (c : Dev nD) (ck : CK) : GSem nD τ sig := ((c : Thread nD τ), csem ck)
abbrev barCell (c : Dev nD) : GSem nD τ sig := ((c : Thread nD τ), .reg barS)
abbrev sCell (c : Dev nD) (j : J) : GSem nD τ sig := ((c : Thread nD τ), .dma (sS j))
abbrev rCell (c : Dev nD) (j : J) : GSem nD τ sig := ((c : Thread nD τ), .dma (rS j))
abbrev cCell (c : Dev nD) : GSem nD τ sig := ((c : Thread nD τ), .dma cS)

def N128 : ℕ := (outP ![0, 0] (inbP 0 (by decide))).view.dmaCredit
def N64 : ℕ := (outH ![0, 0] (inbH 0 (by decide))).view.dmaCredit
def NC : ℕ := (chunkV 0).view.dmaCredit
def NK : Kind → ℕ | .xh | .yh => N64 | _ => N128
theorem N128_pos : 0 < N128 := View.dmaCredit_pos _ (by decide)
theorem N64_pos : 0 < N64 := View.dmaCredit_pos _ (by decide)
theorem NC_pos : 0 < NC := View.dmaCredit_pos _ (by decide)
def NR : Role → ℕ | none => NC | some (_, j) => NK j.1
theorem NR_pos (r : Role) : 0 < NR r := by
  rcases r with _ | ⟨_, kd, i⟩
  · exact NC_pos
  · cases kd <;> first | exact N128_pos | exact N64_pos

/-! ## What each duty delivers -/

/-- A piece a device is to receive, held in full. -/
def piece (c : Dev nD) (j : J) (f : OutC F) : sProp 𝕄 := rows c (rowJ c j) (lenK j.1) fullShare f

/-- The shares the pieces' copies read at. -/
def qx (b : Bool) : PosShare TreeShare := match b with | false => fullShare.right.left | true => fullShare.right.right
def qK : Kind → PosShare TreeShare | .z => fullShare.right.right | .xd => fullShare.left | .yd => fullShare.right.left | _ => fullShare

/-- What a copy reads. -/
def srcP (c : Dev nD) (j : J) : sProp 𝕄 :=
  if j.1 = .z ∧ j.2.1 = 0 then xrows m c (qn c .own * 1024 + j.2.2.1.val * 128) 128 (qx j.2.2.2)
  else rows c (rowS c j) (lenK j.1) (qK j.1) (GA m)

instance srcP_storable (c : Dev nD) (j : J) : BI.Storable (upEmb : UEmb _ 𝕄) (srcP m c j) := by unfold srcP; split <;> infer_instance
instance piece_storable (c : Dev nD) (j : J) (f : OutC F) : BI.Storable (upEmb : UEmb _ 𝕄) (piece c j f) := by unfold piece; infer_instance

/-- What device `n`'s signal hands device `c`: the pieces of `n` that `c` fills. -/
def barPay (c n : Dev nD) : sProp 𝕄 :=
  bigSep Finset.univ fun j : J => if Inc n j ∧ srcD n j = c then iprop(∃ f, piece (F := F) n j f) else iprop(emp)

def actR (c : Dev nD) : Role → Prop | none => True | some (false, j) => Act c j | some (true, j) => Inc c j
instance (c : Dev nD) (r : Role) : Decidable (actR c r) := by
  rcases r with _ | ⟨_ | _, j⟩ <;> unfold actR <;> infer_instance

def dmaPay (c : Dev nD) : Role → sProp 𝕄
  | none => iprop(rows c (zc c * 4096) 4096 fullShare (GO m c) ∗ xrows m c 0 4096 fullShare.left)
  | some (false, j) => srcP m c j
  | some (true, j) => piece c j (GA m)

instance barPay_storable (c n : Dev nD) : BI.Storable (upEmb : UEmb _ 𝕄) (barPay (F := F) c n) := by
  unfold barPay
  have : ∀ j : J, BI.Storable (upEmb : UEmb _ 𝕄) (if Inc n j ∧ srcD n j = c then iprop(∃ f, piece (F := F) n j f) else iprop(emp)) := by
    intro j; split <;> infer_instance
  infer_instance
instance dmaPay_storable (c : Dev nD) (r : Role) : BI.Storable (upEmb : UEmb _ 𝕄) (dmaPay m c r) := by
  rcases r with _ | ⟨_ | _, j⟩ <;> unfold dmaPay <;> infer_instance

def dutyF (c : Dev nD) : SemLoc sig → Finset (Dev nD)
  | .reg s => if s = barS then nbrs c else ∅
  | .dma k => if actR c (roleOf k) then {0} else ∅
def amtF : SemLoc sig → ℕ
  | .reg _ => 1
  | .dma k => NR (roleOf k)
def payF (c : Dev nD) (s : SemLoc sig) (d : Dev nD) : sProp 𝕄 :=
  match s with
  | .reg _ => barPay c d
  | .dma k => dmaPay m c (roleOf k)
instance payF_storable (c : Dev nD) (s : SemLoc sig) (d : Dev nD) : BI.Storable (upEmb : UEmb _ 𝕄) (payF m c s d) := by
  cases s <;> unfold payF <;> infer_instance

/-- The schedule: one round at each cell in use. -/
def Rd : Rounds.Schedule (GSem nD τ sig) (Dev nD) 𝕄 where
  duties g r := if r = 0 ∧ g.1.2 = .tc then dutyF g.1.1 g.2 else ∅
  unitless _ := False
  amount g _ _ := amtF g.2
  payload g _ d := payF m g.1.1 g.2 d
  amount_pos g _ _ _ := by
    rcases h : g.2 with s | k
    · show 0 < amtF _; unfold amtF; exact Nat.one_pos
    · show 0 < amtF _; exact NR_pos _

instance Rd_payload_storable (g : GSem nD τ sig) (r : ℕ) (d : Dev nD) : BI.Storable (upEmb : UEmb _ 𝕄) ((Rd m).payload g r d) := by
  show BI.Storable upEmb (payF m g.1.1 g.2 d); infer_instance

theorem duties_tc (c : Dev nD) (s : SemLoc sig) : (Rd m).duties ((c : Thread nD τ), s) 0 = dutyF c s := by
  show (if (0 : ℕ) = 0 ∧ (Kind.tc : Idealize.ShloMosaic.Kind) = .tc then dutyF c s else ∅) = _; rw [if_pos ⟨rfl, rfl⟩]
theorem duties_later (g : GSem nD τ sig) (r : ℕ) (hr : 1 ≤ r) : (Rd m).duties g r = ∅ := if_neg fun h => by omega
theorem duties_idle (c : Dev nD) (k : DmaSem sig) (h : ¬ actR c (roleOf k)) (r : ℕ) : (Rd m).duties ((c : Thread nD τ), .dma k) r = ∅ := by
  show (if r = 0 ∧ _ then dutyF c (.dma k) else ∅) = _
  unfold dutyF; simp [h]
theorem duties_bar (c : Dev nD) : (Rd m).duties (barCell c) 0 = nbrs c := (duties_tc m c _).trans (by unfold dutyF; simp only [↓reduceIte])
theorem duties_dma (c : Dev nD) (k : DmaSem sig) (h : actR c (roleOf k)) : (Rd m).duties ((c : Thread nD τ), .dma k) 0 = {0} :=
  (duties_tc m c _).trans (if_pos h)
theorem duties_snd (c : Dev nD) (j : J) (h : Act c j) : (Rd m).duties (sCell c j) 0 = {0} := duties_dma m c _ (by rw [roleOf_sS]; exact h)
theorem duties_rcv (c : Dev nD) (j : J) (h : Inc c j) : (Rd m).duties (rCell c j) 0 = {0} := duties_dma m c _ (by rw [roleOf_rS]; exact h)
theorem duties_cpy (c : Dev nD) : (Rd m).duties (cCell c) 0 = {0} := duties_dma m c _ (by rw [roleOf_cS]; exact trivial)

theorem amount_bar (c d : Dev nD) : (Rd m).amount (barCell c) 0 d = 1 := rfl
theorem amount_snd (c d : Dev nD) (j : J) : (Rd m).amount (sCell c j) 0 d = NK j.1 := by show NR (roleOf (sS j)) = _; rw [roleOf_sS]; rfl
theorem amount_rcv (c d : Dev nD) (j : J) : (Rd m).amount (rCell c j) 0 d = NK j.1 := by show NR (roleOf (rS j)) = _; rw [roleOf_rS]; rfl
theorem amount_cpy (c d : Dev nD) : (Rd m).amount (cCell c) 0 d = NC := by show NR (roleOf cS) = _; rw [roleOf_cS]; rfl

theorem payload_bar (c d : Dev nD) : (Rd m).payload (barCell c) 0 d = barPay c d := rfl
theorem payload_snd (c d : Dev nD) (j : J) : (Rd m).payload (sCell c j) 0 d = srcP m c j := by show dmaPay m c (roleOf (sS j)) = _; rw [roleOf_sS]; rfl
theorem payload_rcv (c d : Dev nD) (j : J) : (Rd m).payload (rCell c j) 0 d = piece c j (GA m) := by
  show dmaPay m c (roleOf (rS j)) = _; rw [roleOf_rS]; rfl
theorem payload_cpy (c d : Dev nD) : (Rd m).payload (cCell c) 0 d
    = iprop(rows c (zc c * 4096) 4096 fullShare (GO m c) ∗ xrows m c 0 4096 fullShare.left) := by show dmaPay m c (roleOf cS) = _; rw [roleOf_cS]; rfl

theorem expect_bar (c : Dev nD) : (Rd m).expect (barCell c) 0 = 4 := by
  unfold Schedule.expect Schedule.amountOf
  rw [duties_bar, Finset.sum_congr rfl fun d _ => amount_bar m c d, Finset.sum_const, smul_eq_mul, Nat.mul_one, nbrs_eq,
    List.toFinset_card_of_nodup (nbrL_nodup c)]; rfl
theorem expect_one (g : GSem nD τ sig) (h : (Rd m).duties g 0 = {0}) : (Rd m).expect g 0 = (Rd m).amount g 0 0 := by
  unfold Schedule.expect Schedule.amountOf; rw [h, Finset.sum_singleton]
theorem rest_one (g : GSem nD τ sig) (h : (Rd m).duties g 0 = {0}) :
    bigSep ((Rd m).duties g 0 \ ∅) (fun d => (Rd m).payload g 0 d) = (Rd m).payload g 0 0 := by
  rw [Finset.sdiff_empty, h, bigSep_singleton]
theorem rest_bar (c : Dev nD) : bigSep ((Rd m).duties (barCell c) 0 \ ∅) (fun d => (Rd m).payload (barCell c) 0 d) = bigSep (nbrs c) (barPay c) := by
  rw [Finset.sdiff_empty, duties_bar]; rfl

/-! ## What each device owes; the levels -/

/-- A copy's level: above the waits that come before it. -/
def lvJ (j : J) : ℕ := match j.1 with | .z => 2 + j.2.1.val | .xd | .yd => 10 | _ => 20

def L (g : GSem nD τ sig) : Finset Unit := if g.1.2 = .tc then {()} else ∅
def lvR : Role → ℕ | some (true, j) => lvJ j | _ => 0
def lv (g : GSem nD τ sig) (_ : Unit) : ℕ := match g.2 with | .reg s => if s = barS then 1 else 0 | .dma k => lvR (roleOf k)

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (j : J) : lv (rCell c j) () = lvJ j := by show lvR (roleOf (rS j)) = _; rw [roleOf_rS]; rfl
theorem lv_snd (c : Dev nD) (j : J) : lv (sCell c j) () = 0 := by show lvR (roleOf (sS j)) = _; rw [roleOf_sS]; rfl
theorem lv_cpy (c : Dev nD) : lv (cCell c) () = 0 := by show lvR (roleOf cS) = _; rw [roleOf_cS]; rfl
theorem lv_bar (c : Dev nD) : lv (barCell c) () = 1 := by unfold lv; simp only [↓reduceIte]

/-- What a device owes for one copy, and for a list of them. -/
def due (c : Dev nD) (j : J) : CellTallies nD τ sig Unit := if Act c j then tallyAt (rCell (dstD c j) j) () (NK j.1) else 0
def Osum (c : Dev nD) : List J → CellTallies nD τ sig Unit
  | [] => 0
  | j :: l => Osum c l + due c j

theorem Osum_pos {c : Dev nD} {l : List J} {g : GSem nD τ sig} {u : Unit} (h : 0 < Osum c l g u) : ∃ j ∈ l, g = rCell (dstD c j) j := by
  induction l with
  | nil => exact absurd h (Nat.lt_irrefl 0)
  | cons j l ih =>
    unfold Osum at h
    rw [Pi.add_apply, Finsupp.add_apply] at h
    by_cases h₁ : 0 < Osum c l g u
    · obtain ⟨j', hj', e⟩ := ih h₁; exact ⟨j', List.mem_cons_of_mem _ hj', e⟩
    · have h₂ : 0 < due c j g u := by omega
      unfold due at h₂
      by_cases ha : Act c j
      · rw [if_pos ha, tallyAt_apply] at h₂
        by_cases hg : g = rCell (dstD c j) j ∧ u = ()
        · exact ⟨j, List.mem_cons_self, hg.1⟩
        · rw [if_neg hg] at h₂; exact absurd h₂ (Nat.lt_irrefl 0)
      · rw [if_neg ha] at h₂; exact absurd h₂ (Nat.lt_irrefl 0)

/-- A wait below what is still owed. -/
theorem mayWait_at (c : Dev nD) (sm : SemLoc sig) (l : List J) (W : ℕ) (hs : lv ((c : Thread nD τ), sm) () ≤ W) (hl : ∀ j ∈ l, W < lvJ j) :
    (levAts L lv : sProp 𝕄) ⊢ MayWait (c : Thread nD τ) sm () (Osum c l) :=
  MayOwe.of_cut (L := L) (lev := lv) W (fun p hp => by rw [Finset.mem_singleton.mp hp, L_tc]; exact Finset.mem_singleton_self _)
    (fun g u hg => by obtain ⟨j, -, rfl⟩ := Osum_pos hg; rw [L_tc]; exact Finset.mem_singleton_self _)
    (fun p hp => by rw [Finset.mem_singleton.mp hp]; exact hs)
    (fun g u hg => by obtain ⟨j, hj, rfl⟩ := Osum_pos hg; rw [lv_rcv]; exact hl j hj)

end Cert.Gather

end
-- ==== Proof.Steps.lean ====
/-
# The printed body is the list of its steps
-/
module

public import proofs.«01_k».proof.Proof.Prog
public import Idealize.ShloMosaic.Lib.Pipeline.Regions

@[expose] public section

noncomputable section

namespace Cert.Gather

open Cert.KernelIdeal Cert.KernelIdeal.Gen
open Idealize.ShloMosaic Idealize.ShloMosaic.TcCoe
open Idealize.SL.Sem

variable {F : FTy → Type} [FloatOps F]

/-- The steps of a list in order, then `K`. -/
def steps {α : Type} : List (PP F) → Prog (TpuEff nD τ sig (Elt F) Λ₀ .tc) α → Prog (TpuEff nD τ sig (Elt F) Λ₀ .tc) α
  | [], K => K
  | p :: l, K => p >>= fun _ => steps l K

theorem steps_append {α : Type} (l l' : List (PP F)) (K : Prog (TpuEff nD τ sig (Elt F) Λ₀ .tc) α) :
    steps (l ++ l') K = steps l (steps l' K) := by
  induction l with
  | nil => rfl
  | cons p l ih => simp only [List.cons_append, steps, ih]

/-- The program `p` followed by `g` is the steps of `l`. -/
structure Runs {α : Type} (p : Prog (TpuEff nD τ sig (Elt F) Λ₀ .tc) α) (g : α → PP F) (l : List (PP F)) : Prop where
  eq : p >>= g = steps l (pure ⟨⟩)

theorem Runs.assoc {α α' : Type} {p : Prog (TpuEff nD τ sig (Elt F) Λ₀ .tc) α} {f : α → Prog (TpuEff nD τ sig (Elt F) Λ₀ .tc) α'} {g : α' → PP F}
    {l : List (PP F)} (h : Runs p (fun x => f x >>= g) l) : Runs (p >>= f) g l :=
  ⟨by rw [LawfulMonad.bind_assoc]; exact h.eq⟩

theorem Runs.ret {α α' : Type} {v : α} {f : α → Prog (TpuEff nD τ sig (Elt F) Λ₀ .tc) α'} {g : α' → PP F} {l : List (PP F)}
    (h : Runs (f v) g l) : Runs (pure v) (fun x => f x >>= g) l :=
  ⟨by rw [LawfulMonad.pure_bind]; exact h.eq⟩

theorem Runs.done {v : PUnit} : Runs (F := F) (pure v) pure [] := ⟨by rw [LawfulMonad.pure_bind]; rfl⟩

theorem Runs.cons {α' : Type} {p q : PP F} {f : PUnit → Prog (TpuEff nD τ sig (Elt F) Λ₀ .tc) α'} {g : α' → PP F} {l : List (PP F)} (h : p = q)
    (hf : Runs (f ⟨⟩) g l) : Runs (p >>= f) g (q :: l) :=
  ⟨by
    subst h
    rw [LawfulMonad.bind_assoc]
    show (p >>= fun x => f x >>= g) = p >>= fun _ => steps l (pure ⟨⟩)
    exact congrArg _ (funext fun _ => hf.eq)⟩

/-- A guarded step whose continuation the printed program holds in both branches. -/
theorem Runs.ite {α : Type} {C C' : Prop} [Decidable C] [Decidable C'] {X : C → Prog (TpuEff nD τ sig (Elt F) Λ₀ .tc) α} {J : Prog (TpuEff nD τ sig (Elt F) Λ₀ .tc) α}
    {A : C' → PP F} {q : PP F} {g : α → PP F} {l : List (PP F)} (hq : q = dite C' A (fun _ => pure ⟨⟩)) (hC : C = C')
    (hX : ∀ h : C, X h = A (hC.mp h) >>= fun _ => J)
    (hJ : Runs J g l) : Runs (dite C X (fun _ => J)) g (q :: l) := by
  have e : dite C X (fun _ => J) = q >>= fun _ => J := by
    subst hq
    by_cases h : C
    · rw [dif_pos h, dif_pos (hC.mp h)]; exact hX h
    · rw [dif_neg h, dif_neg (fun h' => h (hC.mpr h'))]; rw [LawfulMonad.pure_bind]
  rw [e]
  exact Runs.cons rfl hJ

theorem Runs.list {α : Type} {p : Prog (TpuEff nD τ sig (Elt F) Λ₀ .tc) α} {g : α → PP F} {l₁ l₂ : List (PP F)} (hl : l₁ = l₂) (h : Runs p g l₂) : Runs p g l₁ :=
  hl ▸ h

theorem Runs.out {p : PP F} {l : List (PP F)} (h : Runs p pure l) : p = steps l (pure ⟨⟩) := by
  have := h.eq
  rwa [bind_pure] at this

/-- The body on the arrays and semaphores the launch gives it. -/
abbrev bodyP : PP F :=
  cc0_body (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12

theorem of_dev {p : PP F} {k : Dev nD → PP F} {l : Dev nD → List (PP F)} (hk : p = .op .deviceId k) (h : ∀ c, Runs (k c) pure (l c)) :
    p = .op .deviceId (fun c => steps (l c) (pure ⟨⟩)) := by
  rw [hk]; exact congrArg _ (funext fun c => (h c).out)

set_option maxHeartbeats 1000000 in
/-- The body reads which device it runs on and then takes that device's steps. -/
theorem body_eq : (bodyP : PP F) = .op .deviceId (fun c => steps (bodyL c) (pure ⟨⟩)) := by
  refine of_dev (Eq.refl (bodyP : PP F)) fun c => ?_
  apply Runs.list (F := F)
  · simp only [bodyL, headL, startL, relayL, relay1, relay2, loopL, startWL, sentL, sent1, sent2, ks, List.flatMap_cons, List.flatMap_nil,
      List.cons_append, List.nil_append, List.append_nil]
    exact rfl
  apply Runs.assoc (F := F)
  apply Runs.assoc (F := F)
  apply Runs.ret (F := F)
  apply Runs.assoc (F := F)
  apply Runs.cons (F := F) (by chain_rfl)
  apply Runs.cons (F := F) (by chain_rfl)
  apply Runs.cons (F := F) (by chain_rfl)
  apply Runs.ret (F := F)
  apply Runs.assoc (F := F)
  apply Runs.cons (F := F) (by chain_rfl)
  apply Runs.cons (F := F) (by chain_rfl)
  apply Runs.cons (F := F) (by chain_rfl)
  repeat first
    | with_reducible apply Runs.ret (F := F)
      try apply Runs.assoc (F := F)
    | apply Runs.ite (F := F) rfl (by chain_rfl) (fun h => by chain_rfl)
  apply Runs.cons (F := F) (by chain_rfl)
  exact Runs.done

end Cert.Gather

end
-- ==== Proof.Triple.lean ====
/-
# Runs of steps

What one step, and a list of steps, does to a device's holdings, given the cells' invariants; and the rules of the
kernel's three kinds of steps: a send, a wait for an arrival, a wait for a departure.
-/
module

public import proofs.«01_k».proof.Proof.Sched
public import proofs.«01_k».proof.Proof.Steps
public import Idealize.ShloMosaic.Lib.Pipeline.BigSepL

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

variable (K : Dev nD × CK → ℕ)

/-- What is known throughout: every cell's invariant, that round 0 is reached, the levels. -/
def Ctx : sProp 𝕄 :=
  iprop((bigSep Finset.univ fun ck : Dev nD × CK => iprop(cellInv ER (Rd m) (K ck) (cell ck.1 ck.2) ∗ reached ER (cell ck.1 ck.2) 0)) ∗ levAts L lv)

instance Ctx_persistent : BI.Persistent (Ctx m K) := by unfold Ctx; infer_instance

theorem inv_elim (K : Dev nD × CK → ℕ) (ck : Dev nD × CK) :
    (bigSep Finset.univ fun ck : Dev nD × CK => iprop(cellInv ER (Rd m) (K ck) (cell ck.1 ck.2) ∗ reached ER (cell ck.1 ck.2) 0) : sProp 𝕄)
      ⊢ iprop(cellInv ER (Rd m) (K ck) (cell ck.1 ck.2) ∗ reached ER (cell ck.1 ck.2) 0) :=
  bigSep_elim (Finset.mem_univ ck)

theorem inv_at (c : Dev nD) (ck : CK) : Ctx m K ⊢ iprop(cellInv ER (Rd m) (K (c, ck)) (cell c ck) ∗ reached ER (cell c ck) 0) := by
  unfold Ctx
  iintro ⟨H, -⟩
  iapply (inv_elim m K (c, ck))
  iexact H

theorem lev_at : Ctx m K ⊢ (levAts L lv : sProp 𝕄) := by
  unfold Ctx
  iintro ⟨-, H⟩
  iexact H

theorem ctx_mayWait (c : Dev nD) (sm : SemLoc sig) (l : List J) (W : ℕ) (hs : lv ((c : Thread nD τ), sm) () ≤ W) (hl : ∀ j ∈ l, W < lvJ j) :
    Ctx m K ⊢ MayWait (c : Thread nD τ) sm () (Osum c l) := by
  unfold Ctx
  iintro ⟨-, H⟩
  iapply (mayWait_at (F := F) c sm l W hs hl)
  iexact H

/-- What the device still owes: the copies of the list. -/
def St (c : Dev nD) (l : List J) : sProp 𝕄 := iprop(∃ W, owes (c : Thread nD τ) (Osum c l) W)

abbrev WP (c : Dev nD) (p : PP F) (Φ : PUnit → sProp 𝕄) : sProp 𝕄 := wp frame (wpE (defs₀ (F := F)) 𝒱₀ (c : Thread nD τ) none) Set.univ p Φ

/-- The list of steps takes holdings `P` to `Q` and pays for the copies `ds`, whatever comes after. -/
def TripL (c : Dev nD) (W : ℕ) (l : List (PP F)) (ds : List J) (P Q : sProp 𝕄) : Prop :=
  ∀ (r : List J), (∀ j ∈ ds ++ r, W < lvJ j) → ∀ (k : PP F) (Φ : PUnit → sProp 𝕄),
    iprop(Ctx m K ∗ St c (ds ++ r) ∗ P ∗ ((St c r ∗ Q) -∗ WP c k Φ)) ⊢ WP c (steps l k) Φ

variable {m} {K} {c : Dev nD} {W : ℕ}

theorem TripL.nil (P : sProp 𝕄) : TripL m K c W [] [] P P := by
  intro r _ k Φ
  show _ ⊢ WP c k Φ
  iintro ⟨-, HS, HP, Hk⟩
  iapply Hk
  isplitl [HS]; · iexact HS
  iexact HP

theorem TripL.append {l₁ l₂ : List (PP F)} {d₁ d₂ : List J} {P Q R : sProp 𝕄} (h₁ : TripL m K c W l₁ d₁ P Q) (h₂ : TripL m K c W l₂ d₂ Q R) :
    TripL m K c W (l₁ ++ l₂) (d₁ ++ d₂) P R := by
  intro r hr k Φ
  rw [steps_append, List.append_assoc]
  rw [List.append_assoc] at hr
  iintro ⟨#HC, HS, HP, Hk⟩
  iapply (h₁ (d₂ ++ r) hr (steps l₂ k) Φ)
  isplitr; · iexact HC
  isplitl [HS]; · iexact HS
  isplitl [HP]; · iexact HP
  iintro ⟨HS, HQ⟩
  iapply (h₂ r (fun j hj => hr j (List.mem_append_right _ hj)) k Φ)
  isplitr; · iexact HC
  isplitl [HS]; · iexact HS
  isplitl [HQ]; · iexact HQ
  iexact Hk

theorem TripL.conseq {l : List (PP F)} {ds : List J} {P P' Q Q' : sProp 𝕄} (h : TripL m K c W l ds P Q) (hP : P' ⊢ P) (hQ : Q ⊢ Q') :
    TripL m K c W l ds P' Q' := by
  intro r hr k Φ
  iintro ⟨#HC, HS, HP, Hk⟩
  iapply (h r hr k Φ)
  isplitr; · iexact HC
  isplitl [HS]; · iexact HS
  isplitl [HP]; · iapply hP; iexact HP
  iintro ⟨HS, HQ⟩
  iapply Hk
  isplitl [HS]; · iexact HS
  iapply hQ; iexact HQ

theorem TripL.frame {l : List (PP F)} {ds : List J} {P Q : sProp 𝕄} (h : TripL m K c W l ds P Q) (R : sProp 𝕄) :
    TripL m K c W l ds iprop(P ∗ R) iprop(Q ∗ R) := by
  intro r hr k Φ
  iintro ⟨#HC, HS, ⟨HP, HR⟩, Hk⟩
  iapply (h r hr k Φ)
  isplitr; · iexact HC
  isplitl [HS]; · iexact HS
  isplitl [HP]; · iexact HP
  iintro ⟨HS, HQ⟩
  iapply Hk
  isplitl [HS]; · iexact HS
  isplitl [HQ] <;> iassumption

/-- Two lists side by side on separate holdings. -/
theorem TripL.par {l₁ l₂ : List (PP F)} {d₁ d₂ : List J} {P₁ P₂ Q₁ Q₂ : sProp 𝕄} (h₁ : TripL m K c W l₁ d₁ P₁ Q₁) (h₂ : TripL m K c W l₂ d₂ P₂ Q₂) :
    TripL m K c W (l₁ ++ l₂) (d₁ ++ d₂) iprop(P₁ ∗ P₂) iprop(Q₁ ∗ Q₂) :=
  (h₁.frame P₂).append ((h₂.frame Q₁).conseq sep_comm.1 sep_comm.1)

theorem TripL.flatMap {I : Type} (U : I → List (PP F)) (D : I → List J) (P Q : I → sProp 𝕄) (h : ∀ i, TripL m K c W (U i) (D i) (P i) (Q i)) :
    ∀ l : List I, TripL m K c W (l.flatMap U) (l.flatMap D) (bigSepL l P) (bigSepL l Q)
  | [] => TripL.nil _
  | i :: l => ((h i).par (TripL.flatMap U D P Q h l)).conseq (Entails.of_eq (bigSepL_cons' i l P)) (Entails.of_eq (bigSepL_cons' i l Q).symm)

theorem ks_univ : (Finset.univ : Finset (Fin 8)) = ks.toFinset := by decide
theorem ks_nodup : ks.Nodup := by decide

/-- A loop over the pieces. -/
theorem TripL.loop (U : Fin 8 → List (PP F)) (D : Fin 8 → List J) (P Q : Fin 8 → sProp 𝕄) (h : ∀ k, TripL m K c W (U k) (D k) (P k) (Q k)) :
    TripL m K c W (ks.flatMap U) (ks.flatMap D) (bigSep Finset.univ P) (bigSep Finset.univ Q) := by
  rw [bigSep_univ_eq_bigSepL ks ks_univ ks_nodup P, bigSep_univ_eq_bigSepL ks ks_univ ks_nodup Q]
  exact TripL.flatMap U D P Q h ks

/-- One step. -/
def Trip (m : (ℓ : Loc nD τ sig) → Buf (Elt F) ℓ) (K : Dev nD × CK → ℕ) (c : Dev nD) (W : ℕ) (p : PP F) (ds : List J) (P Q : sProp 𝕄) : Prop :=
  ∀ (r : List J), (∀ j ∈ ds ++ r, W < lvJ j) → ∀ (k : PUnit → PP F) (Φ : PUnit → sProp 𝕄),
    iprop(Ctx m K ∗ St c (ds ++ r) ∗ P ∗ ((St c r ∗ Q) -∗ WP c (k ⟨⟩) Φ)) ⊢ WP c (p >>= k) Φ

theorem Trip.one {p : PP F} {ds : List J} {P Q : sProp 𝕄} (h : Trip m K c W p ds P Q) : TripL m K c W [p] ds P Q :=
  fun r hr k Φ => h r hr (fun _ => k) Φ

theorem Trip.ret (P : sProp 𝕄) : Trip m K c W (pure ⟨⟩ : PP F) [] P P := by
  intro r _ k Φ
  rw [LawfulMonad.pure_bind]
  iintro ⟨-, HS, HP, Hk⟩
  iapply Hk
  isplitl [HS]; · iexact HS
  iexact HP

theorem Trip.bind {p : PP F} {f : PUnit → PP F} {d₁ d₂ : List J} {P Q R : sProp 𝕄} (h₁ : Trip m K c W p d₁ P Q) (h₂ : Trip m K c W (f ⟨⟩) d₂ Q R) :
    Trip m K c W (p >>= f) (d₁ ++ d₂) P R := by
  intro r hr k Φ
  rw [LawfulMonad.bind_assoc, List.append_assoc]
  rw [List.append_assoc] at hr
  iintro ⟨#HC, HS, HP, Hk⟩
  iapply (h₁ (d₂ ++ r) hr (fun x => f x >>= k) Φ)
  isplitr; · iexact HC
  isplitl [HS]; · iexact HS
  isplitl [HP]; · iexact HP
  iintro ⟨HS, HQ⟩
  iapply (h₂ r (fun j hj => hr j (List.mem_append_right _ hj)) k Φ)
  isplitr; · iexact HC
  isplitl [HS]; · iexact HS
  isplitl [HQ]; · iexact HQ
  iexact Hk

theorem Trip.conseq {p : PP F} {ds : List J} {P P' Q Q' : sProp 𝕄} (h : Trip m K c W p ds P Q) (hP : P' ⊢ P) (hQ : Q ⊢ Q') :
    Trip m K c W p ds P' Q' := by
  intro r hr k Φ
  iintro ⟨#HC, HS, HP, Hk⟩
  iapply (h r hr k Φ)
  isplitr; · iexact HC
  isplitl [HS]; · iexact HS
  isplitl [HP]; · iapply hP; iexact HP
  iintro ⟨HS, HQ⟩
  iapply Hk
  isplitl [HS]; · iexact HS
  iapply hQ; iexact HQ

theorem Trip.frame {p : PP F} {ds : List J} {P Q : sProp 𝕄} (h : Trip m K c W p ds P Q) (R : sProp 𝕄) :
    Trip m K c W p ds iprop(P ∗ R) iprop(Q ∗ R) := by
  intro r hr k Φ
  iintro ⟨#HC, HS, ⟨HP, HR⟩, Hk⟩
  iapply (h r hr k Φ)
  isplitr; · iexact HC
  isplitl [HS]; · iexact HS
  isplitl [HP]; · iexact HP
  iintro ⟨HS, HQ⟩
  iapply Hk
  isplitl [HS]; · iexact HS
  isplitl [HQ] <;> iassumption

/-- Copies a device does not send cost it nothing. -/
theorem St_skip {c : Dev nD} {ds : List J} (h : ∀ j ∈ ds, ¬ Act c j) (r : List J) : (St c (ds ++ r) : sProp 𝕄) = St c r := by
  unfold St
  rw [show Osum c (ds ++ r) = Osum c r from by
    induction ds with
    | nil => rfl
    | cons j ds ih =>
      rw [List.cons_append, Osum, ih fun j' hj' => h j' (List.mem_cons_of_mem _ hj'), due, if_neg (h j List.mem_cons_self), add_zero]]

theorem Trip.skip {ds : List J} (h : ∀ j ∈ ds, ¬ Act c j) (P : sProp 𝕄) : Trip m K c W (pure ⟨⟩ : PP F) ds P P := by
  intro r hr k Φ
  rw [St_skip h]
  exact Trip.ret P r (fun j hj => hr j (List.mem_append_right _ hj)) k Φ

/-! ## The three kinds of steps -/

abbrev sp (c : Dev nD) (j : J) (R : ℕ) : sProp 𝕄 := atPos ER (sCell c j) R ∅ 0
abbrev rp (c : Dev nD) (j : J) (R : ℕ) : sProp 𝕄 := atPos ER (rCell c j) R ∅ 0
/-- What a send needs beside what it reads: both duties' tokens and the rows it fills. -/
def SR (c : Dev nD) (j : J) : sProp 𝕄 :=
  iprop(dutyTok ER (sCell c j) 0 0 ∗ dutyTok ER (rCell (dstD c j) j) 0 0 ∗ ∃ f, piece (F := F) (dstD c j) j f)
/-- The right to wait for an arrival, and for a departure. -/
def RC (c : Dev nD) (j : J) : sProp 𝕄 := cred (tallyAt (rCell c j) () (NK j.1))
def SC (c : Dev nD) (j : J) : sProp 𝕄 := cred (tallyAt (sCell c j) () (NK j.1))

/-- A wait for an arrival. -/
theorem trip_recv (j : J) (h : Inc c j) (hW : lvJ j ≤ W) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (.dma (rS j)) (NK j.1) Q) :
    Trip m K c W (Prog.lift w) [] iprop(rp c j 0 ∗ RC c j) iprop(rp c j 1 ∗ piece c j (GA m)) := by
  intro r hr k Φ
  show _ ⊢ WP c (.op w k) Φ
  unfold RC St
  have hmw := ctx_mayWait (m := m) (K := K) c (.dma (rS j)) r W ((lv_rcv c j).trans_le hW) hr
  iintro ⟨#HC, ⟨%Ws, HO⟩, ⟨Hat, Hcr⟩, Hk⟩
  ihave #HI := (inv_at m K c (some (rS j))) $$ HC
  icases HI with ⟨#HI, #-⟩
  iapply (Rounds.wp_wait_rest_token 𝒱₀ ER (Rd m) (c : Thread nD τ) none (κ := K (c, some (rS j))) hw (Set.mem_univ _) ()
      (O := Osum c r) (W := Ws) (R := 0) (m := 0) (T := ∅) (by rw [Nat.zero_add]; exact ((expect_one m _ (duties_rcv m c j h)).trans (amount_rcv m c 0 j)).symm)) $$ [Hcr HO Hat]
  · isplitr; · iexact HI
    isplitl [Hcr]; · iexact Hcr
    isplitl [HO]; · iexact HO
    isplitr
    · iapply hmw; iexact HC
    iexact Hat
  iintro ⟨HO, Hat, -, Hpay⟩
  ihave Hp := (Entails.of_eq ((rest_one m _ (duties_rcv m c j h)).trans (payload_rcv m c 0 j))) $$ Hpay
  iapply Hk
  isplitl [HO]; · iexists _; iexact HO
  isplitl [Hat]; · iexact Hat
  iexact Hp

/-- A wait for a departure. -/
theorem trip_sent (j : J) (h : Act c j) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (.dma (sS j)) (NK j.1) Q) :
    Trip m K c W (Prog.lift w) [] iprop(SC c j ∗ sp c j 0) iprop(sp c j 1 ∗ srcP m c j) := by
  intro r hr k Φ
  show _ ⊢ WP c (.op w k) Φ
  unfold SC St
  have hmw := ctx_mayWait (m := m) (K := K) c (.dma (sS j)) r W ((lv_snd c j).trans_le (Nat.zero_le _)) hr
  iintro ⟨#HC, ⟨%Ws, HO⟩, ⟨Hcr, Hat⟩, Hk⟩
  ihave #HI := (inv_at m K c (some (sS j))) $$ HC
  icases HI with ⟨#HI, #-⟩
  iapply (Rounds.wp_wait_rest_token 𝒱₀ ER (Rd m) (c : Thread nD τ) none (κ := K (c, some (sS j))) hw (Set.mem_univ _) ()
      (O := Osum c r) (W := Ws) (R := 0) (m := 0) (T := ∅) (by rw [Nat.zero_add]; exact ((expect_one m _ (duties_snd m c j h)).trans (amount_snd m c 0 j)).symm)) $$ [Hcr HO Hat]
  · isplitr; · iexact HI
    isplitl [Hcr]; · iexact Hcr
    isplitl [HO]; · iexact HO
    isplitr
    · iapply hmw; iexact HC
    iexact Hat
  iintro ⟨HO, Hat, -, Hpay⟩
  ihave Hp := (Entails.of_eq ((rest_one m _ (duties_snd m c j h)).trans (payload_snd m c 0 j))) $$ Hpay
  iapply Hk
  isplitl [HO]; · iexists _; iexact HO
  isplitl [Hat]; · iexact Hat
  iexact Hp

/-- A send: given what it reads and, of what it writes, that these are the copy's rows and contents. -/
theorem trip_send (j : J) (h : Act c j) {s : Shape} (src dst : Memref sig .tc .hbm s .f32) (d : Dev nD) (hd : d = dstD c j)
    (hsrc : src.view.WordExact) (hdst : dst.view.WordExact)
    (hsc : dst.view.ref.isScScratch = false) (hsem : DmaTarget.Typed .hbm (.dma (rS j)) (.remote (Dev.tc d : Thread nD τ) dst (.dma (sS j)) hsc))
    {q : PosShare TreeShare} {fs : Buf (Elt F) (src.view.loc (c : Thread nD τ))}
    (hsP : srcP m c j = (src.view.loc (c : Thread nD τ) ↦[src.view.set]{q} fs))
    (hdP : ∀ f : OutC F, piece (dstD c j) j f ⊢ iprop(∃ fd : Buf (Elt F) (dst.view.loc (dstD c j : Thread nD τ)),
      (dst.view.loc (dstD c j : Thread nD τ) ↦[dst.view.set]{fullShare} fd)
        ∗ ⌜(dst.view.loc (dstD c j : Thread nD τ) ↦[dst.view.set]{fullShare} (dst.view.write (Elt F) fd (src.view.read (Elt F) fs) Finset.univ)) ⊢ piece (dstD c j) j (GA m)⌝))
    (hN : dst.view.dmaCredit = NK j.1) :
    Trip m K c W (Prog.lift (.enqueueDma src (.remote (Dev.tc d : Thread nD τ) dst (.dma (sS j)) hsc) (.dma (rS j)) hsrc hdst hsem)) [j]
      iprop(SR c j ∗ srcP m c j) (SC c j) := by
  subst hd
  intro r hr k Φ
  show _ ⊢ WP c (.op _ k) Φ
  unfold SR SC St
  iintro ⟨#HC, ⟨%Ws, HO⟩, ⟨⟨Ht₁, Ht₂, ⟨%f, Hd⟩⟩, Hs⟩, Hk⟩
  ihave #HI := (inv_at m K c (some (sS j))) $$ HC
  icases HI with ⟨#HI₁, #HR₁⟩
  ihave #HI' := (inv_at m K (dstD c j) (some (rS j))) $$ HC
  icases HI' with ⟨#HI₂, #HR₂⟩
  ihave Hd' := (hdP f) $$ Hd
  icases Hd' with ⟨%fd, Hd, %hpay⟩
  ihave Hs' := (Entails.of_eq hsP) $$ Hs
  iapply (Rounds.wp_send_pointsTo 𝒱₀ ER (Rd m) (c : Thread nD τ) none (κ₁ := K (c, some (sS j))) (κ₂ := K (dstD c j, some (rS j)))
    (sS := .dma (sS j)) (sem := .dma (rS j)) (r₁ := 0) (r₂ := 0) (d₁ := 0) (d₂ := 0) (fd := fd)
    (by rw [duties_snd m c j h]; exact Finset.mem_singleton_self _) (by rw [duties_rcv m _ j (act_inc h).1]; exact Finset.mem_singleton_self _)
    () () (NK j.1) hN (amount_snd m c 0 j) (amount_rcv m (dstD c j) 0 j) (Osum c r)
    (show Osum c (j :: r) = _ by rw [Osum, due, if_pos h]) (W := Ws)
    (by rw [payload_snd, hsP]) (by rw [payload_rcv]; exact hpay)) $$ [Hs' Hd HO Ht₁ Ht₂]
  · isplitr; · iexact HI₁
    isplitr; · iexact HI₂
    isplitl [Hs']; · iexact Hs'
    isplitl [Hd]; · iexact Hd
    isplitl [HO]; · iexact HO
    isplitl [Ht₁]; · iexact Ht₁
    isplitr; · iexact HR₁
    isplitl [Ht₂]; · iexact Ht₂
    iexact HR₂
  iintro ⟨Hcr, HO⟩
  iapply Hk
  isplitl [HO]; · iexists _; iexact HO
  iexact Hcr

end Cert.Gather

end
-- ==== Proof.Blocks.lean ====
/-
# The kernel's blocks

What each guarded block does to the holdings of its slot: the pieces in the step `t`, piece `k` and direction `b`.
-/
module

public import proofs.«01_k».proof.Proof.Triple
public import Idealize.ShloMosaic.Lib.Pipeline.ValueKit.Geometry

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {K : Dev nD × CK → ℕ} {W : ℕ}

/-! ## Rows split and shared -/

theorem rowSet_union (a n n' : ℕ) : rowSet a (n + n') = rowSet a n ∪ rowSet (a + n) n' := by
  ext i; unfold rowSet; rw [Finset.mem_union, Finset.mem_filter, Finset.mem_filter, Finset.mem_filter]
  constructor
  · rintro ⟨h, h₁, h₂⟩
    by_cases hh : ((i (0 : Fin 2) : Fin 16384) : ℕ) < a + n
    · exact .inl ⟨h, h₁, hh⟩
    · exact .inr ⟨h, by omega, by omega⟩
  · rintro (⟨h, h₁, h₂⟩ | ⟨h, h₁, h₂⟩) <;> exact ⟨h, by omega, by omega⟩
theorem rowSet_disj (a n n' : ℕ) : Disjoint (rowSet a n) (rowSet (a + n) n') := by
  rw [Finset.disjoint_left]; intro i; unfold rowSet; rw [Finset.mem_filter, Finset.mem_filter]
  rintro ⟨-, -, h⟩ ⟨-, h', -⟩; omega

theorem rows_split (c : Dev nD) (a : ℕ) (q) (f : OutC F) : rows c a 128 q f ⊣⊢ iprop(rows c a 64 q f ∗ rows c (a + 64) 64 q f) := by
  unfold rows
  rw [show (128 : ℕ) = 64 + 64 from rfl, rowSet_union]
  exact pointsTo_union (rowSet_disj a 64 64)

theorem rows_share (c : Dev nD) (a n : ℕ) (q : PosShare TreeShare) (f : OutC F) : rows c a n q f ⊣⊢ iprop(rows c a n q.left f ∗ rows c a n q.right f) := by
  unfold rows
  exact pointsTo_share (PosShare.mem_left_op_right q)

/-! ## Sends of rows of the result -/

/-- A send of a piece of the result to the same rows elsewhere. -/
theorem trip_out {c : Dev nD} (j : J) (h : Act c j) (hl : lenK j.1 = 128) (hz : ¬ (j.1 = .z ∧ j.2.1 = 0)) (hN : NK j.1 = N128)
    (a : ℕ) (ha : a = rowS c j) (inb) (d : Dev nD) (hd : d = dstD c j) (s r : DmaSem sig) (hs : s = sS j) (hr : r = rS j) :
    Trip m K c W (sendP (outP ![a, 0] inb) (outP ![a, 0] inb) d s r) [j] iprop(SR c j ∗ srcP m c j) (SC c j) := by
  subst ha hs hr
  have hrow : rowS c j = rowJ (dstD c j) j := rowS_eq c j.1 j.2.1 j.2.2.1 j.2.2.2 h
  refine trip_send (m := m) j h (outP ![rowS c j, 0] inb) (outP ![rowS c j, 0] inb) d hd _ _ _ _ (q := qK j.1) (fs := GA m) ?_ ?_ hN.symm
  · unfold srcP rows; rw [if_neg hz, outP_set, hl]
  · intro f
    unfold piece rows
    rw [hl, ← hrow]
    iintro H
    iexists f
    isplitl [H]; · rw [outP_set]; iexact H
    ipureintro
    rw [outP_set, View.write_read_eq_piecewise, View.setOn_univ, outP_set]
    exact Entails.of_eq (pointsTo_congr fun i hi => Finset.piecewise_eq_of_mem _ _ _ hi)

/-- A send of half a piece. -/
theorem trip_outH {c : Dev nD} (j : J) (h : Act c j) (hl : lenK j.1 = 64) (hz : ¬ (j.1 = .z ∧ j.2.1 = 0)) (hN : NK j.1 = N64)
    (a : ℕ) (ha : a = rowS c j) (inb) (d : Dev nD) (hd : d = dstD c j) (s r : DmaSem sig) (hs : s = sS j) (hr : r = rS j) :
    Trip m K c W (sendH (outH ![a, 0] inb) (outH ![a, 0] inb) d s r) [j] iprop(SR c j ∗ srcP m c j) (SC c j) := by
  subst ha hs hr
  have hrow : rowS c j = rowJ (dstD c j) j := rowS_eq c j.1 j.2.1 j.2.2.1 j.2.2.2 h
  refine trip_send (m := m) j h (outH ![rowS c j, 0] inb) (outH ![rowS c j, 0] inb) d hd _ _ _ _ (q := qK j.1) (fs := GA m) ?_ ?_ hN.symm
  · unfold srcP rows; rw [if_neg hz, outH_set, hl]
  · intro f
    unfold piece rows
    rw [hl, ← hrow]
    iintro H
    iexists f
    isplitl [H]; · rw [outH_set]; iexact H
    ipureintro
    rw [outH_set, View.write_read_eq_piecewise, View.setOn_univ, outH_set]
    exact Entails.of_eq (pointsTo_congr fun i hi => Finset.piecewise_eq_of_mem _ _ _ hi)

theorem two_bits (x : ℕ) : x / 2 % 2 = x % 4 / 2 ∧ x % 2 = x % 4 % 2 := ⟨by omega, by omega⟩

theorem fromDev_at (c : Dev nD) (i : (main_v1 : Ref sig .tc).ty.Idx) (h₁ : ((i (0 : Fin 2) : Fin 16384) : ℕ) / 4096 = zc c)
    (h₂ : ((i (0 : Fin 2) : Fin 16384) : ℕ) / 1024 % 4 = qn c .own) : fromDev i = c := by
  refine Fin.ext ?_
  have hc : c.val < 16 := c.isLt
  show 8 * (((i (0 : Fin 2) : Fin 16384) : ℕ) / 2048 % 2) + 4 * (((i (0 : Fin 2) : Fin 16384) : ℕ) / 1024 % 2) + ((i (0 : Fin 2) : Fin 16384) : ℕ) / 4096 = c.val
  simp only [qn, zc, xc, yc] at h₁ h₂
  generalize ((i (0 : Fin 2) : Fin 16384) : ℕ) = r at h₁ h₂ ⊢
  have h₀ : r / 2048 = r / 1024 / 2 := by rw [Nat.div_div_eq_div_mul]
  rw [h₀, (two_bits _).1, (two_bits (r / 1024)).2, h₁, h₂]
  omega

/-- A piece of the device's own input, read and written, is what the result holds there. -/
theorem start_val (c : Dev nD) (k : Fin 8) (f : OutC F) (i : (main_v1 : Ref sig .tc).ty.Idx) (hi : i ∈ (zv c k).view.set) :
    (zv c k).view.write (Elt F) f ((xv c k).view.read (Elt F) (xAt m c)) Finset.univ i = GA m i := by
  obtain ⟨y, -, rfl⟩ := Finset.mem_map.mp hi
  rw [View.write_emb_of_mem _ _ (Finset.mem_univ y), View.read_apply]
  have e₀ : (((zv c k).view.emb y (0 : Fin 2) : Fin 16384) : ℕ) = (pieceW (wz c) (wq c .own) k).toNat + (y (0 : Fin 2) : ℕ) :=
    ValueKit.view_emb_slice_whole_unit_val (main_v1 : Ref sig .tc) _ _ _ y (0 : Fin 2)
  have e₁ : (((zv c k).view.emb y (1 : Fin 2) : Fin 1024) : ℕ) = 0 + (y (1 : Fin 2) : ℕ) :=
    ValueKit.view_emb_slice_whole_unit_val (main_v1 : Ref sig .tc) _ _ _ y (1 : Fin 2)
  have x₀ : (((xv c k).view.emb y (0 : Fin 2) : Fin 4096) : ℕ) = (ownW c k).toNat + (y (0 : Fin 2) : ℕ) :=
    ValueKit.view_emb_slice_whole_unit_val (main_arg0 : Ref sig .tc) _ _ _ y (0 : Fin 2)
  have x₁ : (((xv c k).view.emb y (1 : Fin 2) : Fin 1024) : ℕ) = 0 + (y (1 : Fin 2) : ℕ) :=
    ValueKit.view_emb_slice_whole_unit_val (main_arg0 : Ref sig .tc) _ _ _ y (1 : Fin 2)
  rw [zpiece_row] at e₀
  rw [ownW_toNat] at x₀
  unfold rowN at e₀
  have hy : (y (0 : Fin 2) : ℕ) < 128 := (y (0 : Fin 2)).isLt
  have hk := k.isLt
  have hq := qn_lt c .own
  have hz := zc_lt c
  have hd : fromDev ((zv c k).view.emb y) = c := fromDev_at c _ (by rw [e₀]; omega) (by rw [e₀]; omega)
  show xAt m c ((xv c k).view.emb y) = xAt m (fromDev ((zv c k).view.emb y)) (xIdx ((zv c k).view.emb y))
  rw [hd]
  refine congrArg (xAt m c) (funext fun (a : Fin 2) => Fin.ext ?_)
  fin_cases a
  · show (((xv c k).view.emb y (0 : Fin 2) : Fin 4096) : ℕ) = (((zv c k).view.emb y (0 : Fin 2) : Fin 16384) : ℕ) % 4096
    rw [e₀, x₀]; omega
  · show (((xv c k).view.emb y (1 : Fin 2) : Fin 1024) : ℕ) = (((zv c k).view.emb y (1 : Fin 2) : Fin 1024) : ℕ)
    rw [e₁, x₁]

theorem act_start : ∀ (c : Dev nD) (b : Bool), actK c .z 0 b ↔ Snd c b := by decide +kernel

/-- The send of a piece of the device's own input. -/
theorem trip_start {c : Dev nD} (k : Fin 8) (b : Bool) (h : Snd c b) (d : Dev nD) (hd : d = dstD c (.z, 0, k, b)) (s r : DmaSem sig)
    (hs : s = sS (.z, 0, k, b)) (hr : r = rS (.z, 0, k, b)) :
    Trip m K c W (sendP (xv c k) (zv c k) d s r) [(.z, 0, k, b)] iprop(SR c (.z, 0, k, b) ∗ srcP m c (.z, 0, k, b)) (SC c (.z, 0, k, b)) := by
  subst hs hr
  have ha : Act c (.z, 0, k, b) := (act_start c b).2 h
  have hrow : rowS c (.z, 0, k, b) = rowJ (dstD c (.z, 0, k, b)) (.z, 0, k, b) := rowS_eq c .z 0 k b ha
  have hrow' : rowS c (.z, 0, k, b) = (pieceW (wz c) (wq c .own) k).toNat := by rw [zpiece_row]; cases b <;> rfl
  refine trip_send (m := m) (.z, 0, k, b) ha (xv c k) (zv c k) d hd _ _ _ _ (q := qx b) (fs := xAt m c) ?_ ?_ rfl
  · unfold srcP xrows; rw [if_pos ⟨rfl, rfl⟩, ownP_set, ownW_toNat]
  · intro f
    unfold piece rows
    rw [← hrow, hrow']
    iintro H
    iexists f
    isplitl [H]; · rw [outP_set]; iexact H
    ipureintro
    refine Entails.of_eq ((pointsTo_congr fun i hi => start_val m c k f i hi).trans ?_)
    rw [outP_set]; rfl

/-! ## The slots' holdings -/

/-- The own piece's last share. -/
def own (c : Dev nD) (t : Fin 3) (k : Fin 8) (b : Bool) : sProp 𝕄 := rows c (rowJ c (.z, t, k, b)) 128 fullShare.right.right (GA m)
/-- The halves that stay. -/
def keepX (c : Dev nD) (t : Fin 3) (k : Fin 8) (b : Bool) : sProp 𝕄 := rows c (rowJ c (.xd, t, k, b) + 64) 64 fullShare (GA m)
def keepY (c : Dev nD) (t : Fin 3) (k : Fin 8) (b : Bool) : sProp 𝕄 := rows c (rowJ c (.yd, t, k, b)) 64 fullShare (GA m)

variable (c : Dev nD) (t : Fin 3) (k : Fin 8) (b : Bool)

def Z0 : sProp 𝕄 := if Val c b t then
    iprop((rp c (.z, t, k, b) 0 ∗ RC c (.z, t, k, b)) ∗ (SR c (.xd, t, k, b) ∗ sp c (.xd, t, k, b) 0) ∗ (SR c (.yd, t, k, b) ∗ sp c (.yd, t, k, b) 0))
  else iprop(rp c (.z, t, k, b) 0 ∗ sp c (.xd, t, k, b) 0 ∗ sp c (.yd, t, k, b) 0)
def Z1 : sProp 𝕄 := if Val c b t then
    iprop(rp c (.z, t, k, b) 1 ∗ (SC c (.xd, t, k, b) ∗ sp c (.xd, t, k, b) 0) ∗ (SC c (.yd, t, k, b) ∗ sp c (.yd, t, k, b) 0))
  else iprop(rp c (.z, t, k, b) 0 ∗ sp c (.xd, t, k, b) 0 ∗ sp c (.yd, t, k, b) 0)
def Z2 : sProp 𝕄 := if Val c b t then
    iprop(rp c (.z, t, k, b) 1 ∗ (sp c (.xd, t, k, b) 1 ∗ srcP m c (.xd, t, k, b)) ∗ (sp c (.yd, t, k, b) 1 ∗ srcP m c (.yd, t, k, b)))
  else iprop(rp c (.z, t, k, b) 0 ∗ sp c (.xd, t, k, b) 0 ∗ sp c (.yd, t, k, b) 0)

def C0 : sProp 𝕄 := if Val c b t then
    iprop((rp c (.xd, t, k, b) 0 ∗ RC c (.xd, t, k, b)) ∗ (SR c (.yh, t, k, b) ∗ sp c (.yh, t, k, b) 0)
      ∗ (rp c (.yd, t, k, b) 0 ∗ RC c (.yd, t, k, b)) ∗ (SR c (.xh, t, k, b) ∗ sp c (.xh, t, k, b) 0))
  else iprop(rp c (.xd, t, k, b) 0 ∗ sp c (.yh, t, k, b) 0 ∗ rp c (.yd, t, k, b) 0 ∗ sp c (.xh, t, k, b) 0)
def C1 : sProp 𝕄 := if Val c b t then
    iprop((rp c (.xd, t, k, b) 1 ∗ keepX m c t k b) ∗ (SC c (.yh, t, k, b) ∗ sp c (.yh, t, k, b) 0)
      ∗ (rp c (.yd, t, k, b) 1 ∗ keepY m c t k b) ∗ (SC c (.xh, t, k, b) ∗ sp c (.xh, t, k, b) 0))
  else iprop(rp c (.xd, t, k, b) 0 ∗ sp c (.yh, t, k, b) 0 ∗ rp c (.yd, t, k, b) 0 ∗ sp c (.xh, t, k, b) 0)
def C2 : sProp 𝕄 := if Val c b t then
    iprop((rp c (.xd, t, k, b) 1 ∗ keepX m c t k b) ∗ (sp c (.yh, t, k, b) 1 ∗ srcP m c (.yh, t, k, b))
      ∗ (rp c (.yd, t, k, b) 1 ∗ keepY m c t k b) ∗ (sp c (.xh, t, k, b) 1 ∗ srcP m c (.xh, t, k, b)))
  else iprop(rp c (.xd, t, k, b) 0 ∗ sp c (.yh, t, k, b) 0 ∗ rp c (.yd, t, k, b) 0 ∗ sp c (.xh, t, k, b) 0)

def D0 : sProp 𝕄 := if Val c b t then
    iprop((rp c (.yh, t, k, b) 0 ∗ RC c (.yh, t, k, b)) ∗ (rp c (.xh, t, k, b) 0 ∗ RC c (.xh, t, k, b)))
  else iprop(rp c (.yh, t, k, b) 0 ∗ rp c (.xh, t, k, b) 0)
def D1 : sProp 𝕄 := if Val c b t then
    iprop((rp c (.yh, t, k, b) 1 ∗ piece c (.yh, t, k, b) (GA m)) ∗ (rp c (.xh, t, k, b) 1 ∗ piece c (.xh, t, k, b) (GA m)))
  else iprop(rp c (.yh, t, k, b) 0 ∗ rp c (.xh, t, k, b) 0)

/-- The own piece's last share, if there is a piece. -/
def ownG : sProp 𝕄 := if Val c b t then own m c t k b else iprop(emp)

def F0 (t : Fin 2) : sProp 𝕄 := if Val c b t.castSucc ∧ Snd c b then iprop(SR c (.z, t.succ, k, b) ∗ sp c (.z, t.succ, k, b) 0)
  else sp c (.z, t.succ, k, b) 0
def F1 (t : Fin 2) : sProp 𝕄 := if Val c b t.castSucc ∧ Snd c b then iprop(SC c (.z, t.succ, k, b) ∗ sp c (.z, t.succ, k, b) 0)
  else iprop(ownG m c t.castSucc k b ∗ sp c (.z, t.succ, k, b) 0)
def F2 (t : Fin 2) : sProp 𝕄 := if Val c b t.castSucc ∧ Snd c b then iprop(sp c (.z, t.succ, k, b) 1 ∗ srcP m c (.z, t.succ, k, b))
  else iprop(ownG m c t.castSucc k b ∗ sp c (.z, t.succ, k, b) 0)

/-- A piece of the device's own input, at the direction's share. -/
def xpc : sProp 𝕄 := xrows m c (qn c .own * 1024 + k.val * 128) 128 (qx b)
def S0 : sProp 𝕄 := if Snd c b then iprop((SR c (.z, 0, k, b) ∗ xpc m c k b) ∗ sp c (.z, 0, k, b) 0) else iprop(xpc m c k b ∗ sp c (.z, 0, k, b) 0)
def S1 : sProp 𝕄 := if Snd c b then iprop(SC c (.z, 0, k, b) ∗ sp c (.z, 0, k, b) 0) else iprop(xpc m c k b ∗ sp c (.z, 0, k, b) 0)
def S2 : sProp 𝕄 := if Snd c b then iprop(sp c (.z, 0, k, b) 1 ∗ xpc m c k b) else iprop(xpc m c k b ∗ sp c (.z, 0, k, b) 0)

/-! ## The blocks -/

theorem srcP_start : srcP m c (.z, 0, k, b) = xpc m c k b := by unfold srcP xpc; rw [if_pos ⟨rfl, rfl⟩]

theorem start_spec : Trip m K c W (startB c b k) [(.z, 0, k, b)] (S0 m c k b) (S1 m c k b) := by
  unfold startB S0 S1
  by_cases h : Snd c b
  · rw [dif_pos ((sndW_iff c b).2 h), if_pos h, if_pos h]
    refine Trip.bind (d₁ := [(.z, 0, k, b)]) (d₂ := []) (((trip_start m k b h _ (by show _ = znb c b; unfold znb; rw [dif_pos h]) _ _ rfl rfl).conseq
      (Entails.of_eq (by rw [srcP_start])) (Entails.refl _)).frame _) (Trip.ret _)
  · rw [dif_neg (fun h' => h ((sndW_iff c b).1 h')), if_neg h, if_neg h]
    exact Trip.skip (fun j hj => by rw [List.mem_singleton.mp hj]; exact fun h' => h ((act_start c b).1 h')) _

end Cert.Gather

end
-- ==== Proof.Phases.lean ====
/-
# The kernel's phases

Each block's effect, then each loop's, on all its slots together.
-/
module

public import proofs.«01_k».proof.Proof.Blocks

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {K : Dev nD × CK → ℕ} {W : ℕ}
variable (c : Dev nD) (t : Fin 3) (k : Fin 8) (b : Bool)

attribute [local irreducible] Trip TripL

/-- A step on part of the holdings. -/
theorem Trip.at {m : (ℓ : Loc nD τ sig) → Buf (Elt F) ℓ} {c : Dev nD} {p : PP F} {ds : List J} {P Q P' Q' : sProp 𝕄} (h : Trip m K c W p ds P Q) (R : sProp 𝕄)
    (hP : P' ⊢ iprop(P ∗ R)) (hQ : iprop(Q ∗ R) ⊢ Q') : Trip m K c W p ds P' Q' :=
  (h.frame R).conseq hP hQ

/-! ## The shares and halves of what arrives -/

theorem srcP_rows (j : J) (h : ¬ (j.1 = .z ∧ j.2.1 = 0)) : srcP m c j = rows c (rowS c j) (lenK j.1) (qK j.1) (GA m) := by
  unfold srcP; rw [if_neg h]

theorem rowJ_z : rowJ c (.z, t, k, b) = rowN (cn c b t) (qn c .own) k := Nat.add_zero _
theorem rowJ_xd : rowJ c (.xd, t, k, b) = rowN (cn c b t) (qn c .xn) k := Nat.add_zero _
theorem rowJ_yd : rowJ c (.yd, t, k, b) = rowN (cn c b t) (qn c .yn) k := Nat.add_zero _

theorem piece_shares : piece c (.z, t, k, b) (GA m) ⊣⊢ iprop(srcP m c (.xd, t, k, b) ∗ srcP m c (.yd, t, k, b) ∗ own m c t k b) := by
  rw [srcP_rows m c _ (fun h => by cases h.1), srcP_rows m c _ (fun h => by cases h.1)]
  unfold piece own
  rw [rowJ_z]
  have h₁ := rows_share (F := F) c (rowN (cn c b t) (qn c .own) k) 128 fullShare (GA m)
  have h₂ := rows_share (F := F) c (rowN (cn c b t) (qn c .own) k) 128 fullShare.right (GA m)
  constructor
  · exact h₁.1.trans (sep_mono_right h₂.1)
  · exact (sep_mono_right h₂.2).trans h₁.2

theorem pieceX_halves : piece c (.xd, t, k, b) (GA m) ⊣⊢ iprop(srcP m c (.yh, t, k, b) ∗ keepX m c t k b) := by
  rw [srcP_rows m c _ (fun h => by cases h.1)]
  unfold piece keepX
  rw [rowJ_xd]
  exact rows_split c (rowN (cn c b t) (qn c .xn) k) fullShare (GA m)
theorem pieceY_halves : piece c (.yd, t, k, b) (GA m) ⊣⊢ iprop(keepY m c t k b ∗ srcP m c (.xh, t, k, b)) := by
  rw [srcP_rows m c _ (fun h => by cases h.1)]
  unfold piece keepY
  rw [rowJ_yd]
  exact rows_split c (rowN (cn c b t) (qn c .yn) k) fullShare (GA m)

theorem rowS_fwd (t : Fin 2) : rowS c (.z, t.succ, k, b) = rowJ c (.z, t.castSucc, k, b) := by
  rw [rowJ_z]; unfold rowS cn; cases b <;> simp only [Fin.val_succ, Fin.val_castSucc]
theorem own_fwd (t : Fin 2) : srcP m c (.z, t.succ, k, b) = own m c t.castSucc k b := by
  rw [srcP_rows m c _ (fun h => absurd h.2 (Fin.succ_ne_zero t)), rowS_fwd]; rfl
theorem act_fwd : ∀ (c : Dev nD) (b : Bool) (t : Fin 2), actK c .z t.succ b ↔ Val c b t.castSucc ∧ Snd c b := by decide +kernel

theorem piece_row0 (w : Who) (h : Val c b t) : (pieceW (wc c b t) (wq c w) k).toNat = rowN (cn c b t) (qn c w) k := piece_row c b t w k h
theorem half_row0 (w : Who) (h : Val c b t) : (halfW (wc c b t) (wq c w) k 0).toNat = rowN (cn c b t) (qn c w) k := by
  rw [half_row c b t w k 0 h, Fin.val_zero, Nat.mul_zero, Nat.add_zero]
theorem half_row1 (w : Who) (h : Val c b t) : (halfW (wc c b t) (wq c w) k 1).toNat = rowN (cn c b t) (qn c w) k + 64 := by
  rw [half_row c b t w k 1 h, Fin.val_one, Nat.mul_one]

/-! ## The waits -/

section
variable {m : (ℓ : Loc nD τ sig) → Buf (Elt F) ℓ} {c : Dev nD}

theorem recvP (j : J) (h : Inc c j) (hW : lvJ j ≤ W) (hN : NK j.1 = N128) (s : DmaSem sig) (hs : s = rS j) (src dst : Memref sig .tc .hbm S128x1024 .f32) :
    Trip m K c W (waitP s src dst) [] iprop(rp c j 0 ∗ RC c j) iprop(rp c j 1 ∗ piece c j (GA m)) := by
  subst hs
  exact trip_recv j h hW (fun Q => (wpE_waitDma2_eq 𝒱₀ (c : Thread nD τ) none Set.univ Q).trans (by rw [hN]; rfl))
theorem recvH (j : J) (h : Inc c j) (hW : lvJ j ≤ W) (hN : NK j.1 = N64) (s : DmaSem sig) (hs : s = rS j) (src dst : Memref sig .tc .hbm S64x1024 .f32) :
    Trip m K c W (waitH s src dst) [] iprop(rp c j 0 ∗ RC c j) iprop(rp c j 1 ∗ piece c j (GA m)) := by
  subst hs
  exact trip_recv j h hW (fun Q => (wpE_waitDma2_eq 𝒱₀ (c : Thread nD τ) none Set.univ Q).trans (by rw [hN]; rfl))
theorem sentP (j : J) (h : Act c j) (hN : NK j.1 = N128) (s : DmaSem sig) (hs : s = sS j) (src dst : Memref sig .tc .hbm S128x1024 .f32) :
    Trip m K c W (waitP s src dst) [] iprop(SC c j ∗ sp c j 0) iprop(sp c j 1 ∗ srcP m c j) := by
  subst hs
  exact trip_sent j h (fun Q => (wpE_waitDma2_eq 𝒱₀ (c : Thread nD τ) none Set.univ Q).trans (by rw [hN]; rfl))
theorem sentH (j : J) (h : Act c j) (hN : NK j.1 = N64) (s : DmaSem sig) (hs : s = sS j) (src dst : Memref sig .tc .hbm S64x1024 .f32) :
    Trip m K c W (waitH s src dst) [] iprop(SC c j ∗ sp c j 0) iprop(sp c j 1 ∗ srcP m c j) := by
  subst hs
  exact trip_sent j h (fun Q => (wpE_waitDma2_eq 𝒱₀ (c : Thread nD τ) none Set.univ Q).trans (by rw [hN]; rfl))
end

/-! ## The blocks -/

theorem relay_spec (hW : 2 + t.val ≤ W) : Trip m K c W (relayB c b t k) [(.xd, t, k, b), (.yd, t, k, b)] (Z0 c t k b) iprop(Z1 c t k b ∗ ownG m c t k b) := by
  unfold relayB Z0 Z1 ownG
  by_cases h : Val c b t
  · rw [dif_pos ((valW_iff c b t).2 h), if_pos h, if_pos h, if_pos h]
    refine Trip.bind (d₁ := []) (d₂ := [(.xd, t, k, b), (.yd, t, k, b)])
      (Q := iprop((SR c (.xd, t, k, b) ∗ srcP m c (.xd, t, k, b)) ∗ sp c (.xd, t, k, b) 0 ∗ (SR c (.yd, t, k, b) ∗ srcP m c (.yd, t, k, b)) ∗ sp c (.yd, t, k, b) 0
        ∗ rp c (.z, t, k, b) 1 ∗ own m c t k b))
      ((recvP (m := m) (K := K) (.z, t, k, b) h hW rfl _ rfl _ _).at
        iprop((SR c (.xd, t, k, b) ∗ sp c (.xd, t, k, b) 0) ∗ (SR c (.yd, t, k, b) ∗ sp c (.yd, t, k, b) 0)) (Entails.refl _) ?_) ?_
    · iintro ⟨⟨Hr, Hp⟩, ⟨Hx, Hxp⟩, ⟨Hy, Hyp⟩⟩
      ihave Hp' := (piece_shares m c t k b).1 $$ Hp
      icases Hp' with ⟨H1, H2, H3⟩
      iframe Hr Hx Hxp Hy Hyp H1 H2 H3
    refine Trip.bind (d₁ := [(.xd, t, k, b)]) (d₂ := [(.yd, t, k, b)])
      ((trip_out m (.xd, t, k, b) h rfl (fun h => by cases h.1) rfl _ (piece_row c b t .own k h) _ _ rfl _ _ rfl rfl).frame _) ?_
    refine Trip.bind (d₁ := [(.yd, t, k, b)]) (d₂ := [])
      ((trip_out m (.yd, t, k, b) h rfl (fun h => by cases h.1) rfl _ (piece_row c b t .own k h) _ _ rfl _ _ rfl rfl).at
        iprop(SC c (.xd, t, k, b) ∗ sp c (.xd, t, k, b) 0 ∗ sp c (.yd, t, k, b) 0 ∗ rp c (.z, t, k, b) 1 ∗ own m c t k b) ?_ ?_) (Trip.ret _)
    · iintro ⟨H1, H2, H3, H4, H5, H6⟩
      iframe H1 H2 H3 H4 H5 H6
    · iintro ⟨H1, H2, H3, H4, H5, H6⟩
      iframe H1 H2 H3 H4 H5 H6
  · rw [dif_neg (fun h' => h ((valW_iff c b t).1 h')), if_neg h, if_neg h, if_neg h]
    refine (Trip.skip (fun j hj => ?_) _).conseq (Entails.refl _) (sep_emp (PROP := sProp 𝕄)).2
    rcases List.mem_cons.mp hj with rfl | hj
    · exact h
    · rw [List.mem_singleton.mp hj]; exact h

theorem forward_spec (t : Fin 2) : Trip m K c W (forwardB c b t k) [(.z, t.succ, k, b)] iprop(ownG m c t.castSucc k b ∗ F0 c k b t) (F1 m c k b t) := by
  unfold forwardB F0 F1 ownG
  by_cases h : Val c b t.castSucc ∧ Snd c b
  · rw [dif_pos ((fwdW_iff c b t.castSucc).2 h), if_pos h, if_pos h, if_pos h.1]
    refine Trip.bind (d₁ := [(.z, t.succ, k, b)]) (d₂ := []) ((trip_out m (.z, t.succ, k, b) ((act_fwd c b t).2 h) rfl (fun h => absurd h.2 (Fin.succ_ne_zero t)) rfl _
      ((piece_row c b t.castSucc .own k h.1).trans ((rowS_fwd c k b t).trans (rowJ_z c t.castSucc k b)).symm) _ _ (by show _ = znb c b; unfold znb; rw [dif_pos h.2]) _ _ rfl rfl).at
        (sp c (.z, t.succ, k, b) 0) ?_ (Entails.refl _)) (Trip.ret _)
    rw [own_fwd]
    iintro ⟨H1, H2, H3⟩
    iframe H1 H2 H3
  · rw [dif_neg (fun h' => h ((fwdW_iff c b t.castSucc).1 h')), if_neg h, if_neg h]
    exact Trip.skip (fun j hj => by rw [List.mem_singleton.mp hj]; exact fun h' => h ((act_fwd c b t).1 h')) _

theorem cross_spec (hW : 10 ≤ W) : Trip m K c W (crossB c b t k) [(.yh, t, k, b), (.xh, t, k, b)] (C0 c t k b) (C1 m c t k b) := by
  unfold crossB C0 C1
  by_cases h : Val c b t
  · rw [dif_pos ((valW_iff c b t).2 h), if_pos h, if_pos h]
    refine Trip.bind (d₁ := []) (d₂ := [(.yh, t, k, b), (.xh, t, k, b)])
      (Q := iprop((SR c (.yh, t, k, b) ∗ srcP m c (.yh, t, k, b)) ∗ sp c (.yh, t, k, b) 0 ∗ (rp c (.yd, t, k, b) 0 ∗ RC c (.yd, t, k, b))
        ∗ (SR c (.xh, t, k, b) ∗ sp c (.xh, t, k, b) 0) ∗ rp c (.xd, t, k, b) 1 ∗ keepX m c t k b))
      ((recvP (m := m) (K := K) (.xd, t, k, b) h hW rfl _ rfl _ _).at _ (Entails.refl _) ?_) ?_
    · iintro ⟨⟨Hr, Hp⟩, ⟨Hx, Hxp⟩, Hy, Hxh⟩
      ihave Hp' := (pieceX_halves m c t k b).1 $$ Hp
      icases Hp' with ⟨H1, H2⟩
      iframe Hr Hx Hxp Hy Hxh H1 H2
    refine Trip.bind (d₁ := [(.yh, t, k, b)]) (d₂ := [(.xh, t, k, b)])
      ((trip_outH m (.yh, t, k, b) h rfl (fun h => by cases h.1) rfl _ (half_row0 c t k b .xn h) _ _ rfl _ _ rfl rfl).frame _) ?_
    refine Trip.bind (d₁ := []) (d₂ := [(.xh, t, k, b)])
      (Q := iprop((SR c (.xh, t, k, b) ∗ srcP m c (.xh, t, k, b)) ∗ SC c (.yh, t, k, b) ∗ sp c (.yh, t, k, b) 0 ∗ sp c (.xh, t, k, b) 0
        ∗ (rp c (.xd, t, k, b) 1 ∗ keepX m c t k b) ∗ (rp c (.yd, t, k, b) 1 ∗ keepY m c t k b)))
      ((recvP (m := m) (K := K) (.yd, t, k, b) h hW rfl _ rfl _ _).at
        iprop(SC c (.yh, t, k, b) ∗ sp c (.yh, t, k, b) 0 ∗ (SR c (.xh, t, k, b) ∗ sp c (.xh, t, k, b) 0) ∗ rp c (.xd, t, k, b) 1 ∗ keepX m c t k b) ?_ ?_) ?_
    · iintro ⟨H1, H2, H3, H4, H5, H6⟩
      iframe H1 H2 H3 H4 H5 H6
    · iintro ⟨⟨Hr, Hp⟩, H1, H2, ⟨H3, H4⟩, H5, H6⟩
      ihave Hp' := (pieceY_halves m c t k b).1 $$ Hp
      icases Hp' with ⟨H7, H8⟩
      iframe Hr H1 H2 H3 H4 H5 H6 H7 H8
    refine Trip.bind (d₁ := [(.xh, t, k, b)]) (d₂ := [])
      ((trip_outH m (.xh, t, k, b) h rfl (fun h => by cases h.1) rfl _ (half_row1 c t k b .yn h) _ _ rfl _ _ rfl rfl).at _ (Entails.refl _) ?_) (Trip.ret _)
    iintro ⟨H1, H2, H3, H4, H5, H6⟩
    iframe H1 H2 H3 H4 H5 H6
  · rw [dif_neg (fun h' => h ((valW_iff c b t).1 h')), if_neg h, if_neg h]
    refine Trip.skip (fun j hj => ?_) _
    rcases List.mem_cons.mp hj with rfl | hj
    · exact h
    · rw [List.mem_singleton.mp hj]; exact h

theorem diag_spec (hW : 20 ≤ W) : Trip m K c W (diagB c b t k) [] (D0 c t k b) (D1 m c t k b) := by
  unfold diagB D0 D1
  by_cases h : Val c b t
  · rw [dif_pos ((valW_iff c b t).2 h), if_pos h, if_pos h]
    refine Trip.bind (d₁ := []) (d₂ := [])
      ((recvH (m := m) (K := K) (.yh, t, k, b) h hW rfl _ rfl _ _).frame _) ?_
    exact Trip.bind (d₁ := []) (d₂ := [])
      ((recvH (m := m) (K := K) (.xh, t, k, b) h hW rfl _ rfl _ _).at _ sep_comm.1 sep_comm.1) (Trip.ret _)
  · rw [dif_neg (fun h' => h ((valW_iff c b t).1 h')), if_neg h, if_neg h]
    exact Trip.ret _

theorem startW_spec : Trip m K c W (startW c b k) [] (S1 m c k b) (S2 m c k b) := by
  unfold startW S1 S2
  by_cases h : Snd c b
  · rw [dif_pos ((sndW_iff c b).2 h), if_pos h, if_pos h, ← srcP_start]
    exact Trip.bind (d₁ := []) (d₂ := [])
      (sentP (m := m) (K := K) (W := W) (.z, 0, k, b) ((act_start c b).2 h) rfl _ rfl _ _) (Trip.ret _)
  · rw [dif_neg (fun h' => h ((sndW_iff c b).1 h')), if_neg h, if_neg h]
    exact Trip.ret _

theorem forwardW_spec (t : Fin 2) : Trip m K c W (forwardW c b t k) [] (F1 m c k b t) (F2 m c k b t) := by
  unfold forwardW F1 F2
  by_cases h : Val c b t.castSucc ∧ Snd c b
  · rw [dif_pos ((fwdW_iff c b t.castSucc).2 h), if_pos h, if_pos h]
    exact Trip.bind (d₁ := []) (d₂ := [])
      (sentP (m := m) (K := K) (W := W) (.z, t.succ, k, b) ((act_fwd c b t).2 h) rfl _ rfl _ _) (Trip.ret _)
  · rw [dif_neg (fun h' => h ((fwdW_iff c b t.castSucc).1 h')), if_neg h, if_neg h]
    exact Trip.ret _

theorem sentW_spec : Trip m K c W (sentW c b t k) [] iprop(Z1 c t k b ∗ C1 m c t k b) iprop(Z2 m c t k b ∗ C2 m c t k b) := by
  unfold sentW Z1 Z2 C1 C2
  by_cases h : Val c b t
  · rw [dif_pos ((valW_iff c b t).2 h), if_pos h, if_pos h, if_pos h, if_pos h]
    refine Trip.bind (d₁ := []) (d₂ := [])
      (Q := iprop((sp c (.xd, t, k, b) 1 ∗ srcP m c (.xd, t, k, b)) ∗ rp c (.z, t, k, b) 1 ∗ (SC c (.yd, t, k, b) ∗ sp c (.yd, t, k, b) 0) ∗ (rp c (.xd, t, k, b) 1 ∗ keepX m c t k b) ∗ (SC c (.yh, t, k, b) ∗ sp c (.yh, t, k, b) 0)
      ∗ (rp c (.yd, t, k, b) 1 ∗ keepY m c t k b) ∗ (SC c (.xh, t, k, b) ∗ sp c (.xh, t, k, b) 0)))
      ((sentP (m := m) (K := K) (W := W) (.xd, t, k, b) h rfl _ rfl _ _).at _ ?_ (Entails.refl _)) ?_
    · iintro ⟨⟨H1, H2, H3⟩, H4, H5, H6, H7⟩
      iframe H1 H2 H3 H4 H5 H6 H7
    refine Trip.bind (d₁ := []) (d₂ := [])
      (Q := iprop((sp c (.yd, t, k, b) 1 ∗ srcP m c (.yd, t, k, b)) ∗ (sp c (.xd, t, k, b) 1 ∗ srcP m c (.xd, t, k, b)) ∗ rp c (.z, t, k, b) 1 ∗ (rp c (.xd, t, k, b) 1 ∗ keepX m c t k b) ∗ (SC c (.yh, t, k, b) ∗ sp c (.yh, t, k, b) 0)
      ∗ (rp c (.yd, t, k, b) 1 ∗ keepY m c t k b) ∗ (SC c (.xh, t, k, b) ∗ sp c (.xh, t, k, b) 0)))
      ((sentP (m := m) (K := K) (W := W) (.yd, t, k, b) h rfl _ rfl _ _).at _ ?_ (Entails.refl _)) ?_
    · iintro ⟨H1, H2, H3, H4, H5, H6, H7⟩
      iframe H1 H2 H3 H4 H5 H6 H7
    refine Trip.bind (d₁ := []) (d₂ := [])
      (Q := iprop((sp c (.yh, t, k, b) 1 ∗ srcP m c (.yh, t, k, b)) ∗ (sp c (.xd, t, k, b) 1 ∗ srcP m c (.xd, t, k, b)) ∗ (sp c (.yd, t, k, b) 1 ∗ srcP m c (.yd, t, k, b)) ∗ rp c (.z, t, k, b) 1 ∗ (rp c (.xd, t, k, b) 1 ∗ keepX m c t k b)
      ∗ (rp c (.yd, t, k, b) 1 ∗ keepY m c t k b) ∗ (SC c (.xh, t, k, b) ∗ sp c (.xh, t, k, b) 0)))
      ((sentH (m := m) (K := K) (W := W) (.yh, t, k, b) h rfl _ rfl _ _).at _ ?_ (Entails.refl _)) ?_
    · iintro ⟨H1, H2, H3, H4, H5, H6, H7⟩
      iframe H1 H2 H3 H4 H5 H6 H7
    refine Trip.bind (d₁ := []) (d₂ := [])
      ((sentH (m := m) (K := K) (W := W) (.xh, t, k, b) h rfl _ rfl _ _).at
        iprop((sp c (.yh, t, k, b) 1 ∗ srcP m c (.yh, t, k, b)) ∗ (sp c (.xd, t, k, b) 1 ∗ srcP m c (.xd, t, k, b)) ∗ (sp c (.yd, t, k, b) 1 ∗ srcP m c (.yd, t, k, b)) ∗ rp c (.z, t, k, b) 1 ∗ (rp c (.xd, t, k, b) 1 ∗ keepX m c t k b)
      ∗ (rp c (.yd, t, k, b) 1 ∗ keepY m c t k b)) ?_ ?_) (Trip.ret _)
    · iintro ⟨H1, H2, H3, H4, H5, H6, H7⟩
      iframe H1 H2 H3 H4 H5 H6 H7
    · iintro ⟨H1, H2, H3, H4, H5, H6, H7⟩
      iframe H1 H2 H3 H4 H5 H6 H7
  · rw [dif_neg (fun h' => h ((valW_iff c b t).1 h')), if_neg h, if_neg h, if_neg h, if_neg h]
    exact Trip.ret _

/-! ## Slots together -/

/-- What all pieces of both directions hold. -/
def fam2 (Φ : Fin 8 → Bool → sProp 𝕄) : sProp 𝕄 := bigSep Finset.univ fun k => iprop(Φ k false ∗ Φ k true)
/-- The same for all three distances. -/
def fam3 (Φ : Fin 3 → Fin 8 → Bool → sProp 𝕄) : sProp 𝕄 := iprop(fam2 (Φ 0) ∗ fam2 (Φ 1) ∗ fam2 (Φ 2))

theorem sep_four (A B C D : sProp 𝕄) : iprop((A ∗ B) ∗ (C ∗ D)) ⊣⊢ iprop((A ∗ C) ∗ (B ∗ D)) := by
  constructor
  · iintro ⟨⟨H1, H2⟩, H3, H4⟩
    iframe H1 H2 H3 H4
  · iintro ⟨⟨H1, H2⟩, H3, H4⟩
    iframe H1 H2 H3 H4
theorem fam2_sep (Φ Ψ : Fin 8 → Bool → sProp 𝕄) : fam2 (fun k b => iprop(Φ k b ∗ Ψ k b)) = iprop(fam2 Φ ∗ fam2 Ψ) := by
  unfold fam2
  rw [← bigSep_sep']
  exact bigSep_congr fun k _ => (sep_four (Φ k false) (Ψ k false) (Φ k true) (Ψ k true)).1.antisymm (sep_four _ _ _ _).2
theorem fam3_sep (Φ Ψ : Fin 3 → Fin 8 → Bool → sProp 𝕄) : fam3 (fun t k b => iprop(Φ t k b ∗ Ψ t k b)) ⊣⊢ iprop(fam3 Φ ∗ fam3 Ψ) := by
  unfold fam3
  rw [fam2_sep, fam2_sep, fam2_sep]
  constructor
  · iintro ⟨⟨H1, H2⟩, ⟨H3, H4⟩, H5, H6⟩
    iframe H1 H2 H3 H4 H5 H6
  · iintro ⟨⟨H1, H3, H5⟩, H2, H4, H6⟩
    iframe H1 H2 H3 H4 H5 H6

section
variable {m : (ℓ : Loc nD τ sig) → Buf (Elt F) ℓ} {c : Dev nD}

theorem TripL.two {p₁ p₂ : PP F} {d₁ d₂ : List J} {P₁ P₂ Q₁ Q₂ : sProp 𝕄} (h₁ : Trip m K c W p₁ d₁ P₁ Q₁) (h₂ : Trip m K c W p₂ d₂ P₂ Q₂) :
    TripL m K c W [p₁, p₂] (d₁ ++ d₂) iprop(P₁ ∗ P₂) iprop(Q₁ ∗ Q₂) := h₁.one.par h₂.one

/-- A loop over the pieces of both directions. -/
theorem loop2 (f : Bool → Fin 8 → PP F) (D : Bool → Fin 8 → List J) (P Q : Fin 8 → Bool → sProp 𝕄) (h : ∀ b k, Trip m K c W (f b k) (D b k) (P k b) (Q k b)) :
    TripL m K c W (ks.flatMap fun k => [f false k, f true k]) (ks.flatMap fun k => D false k ++ D true k) (fam2 P) (fam2 Q) :=
  TripL.loop (fun k => [f false k, f true k]) _ _ _ fun k => TripL.two (h false k) (h true k)

/-- What the three loops of a pass send. -/
def loopD (D : Bool → Fin 3 → Fin 8 → List J) : List J :=
  (ks.flatMap fun k => D false 0 k ++ D true 0 k) ++ ((ks.flatMap fun k => D false 1 k ++ D true 1 k) ++ ks.flatMap fun k => D false 2 k ++ D true 2 k)

theorem loop3 (f : Bool → Fin 3 → Fin 8 → PP F) (D : Bool → Fin 3 → Fin 8 → List J) (P Q : Fin 3 → Fin 8 → Bool → sProp 𝕄)
    (h : ∀ b t k, Trip m K c W (f b t k) (D b t k) (P t k b) (Q t k b)) : TripL m K c W (loopL f) (loopD D) (fam3 P) (fam3 Q) :=
  (loop2 (fun b k => f b 0 k) (fun b k => D b 0 k) _ _ (fun b k => h b 0 k)).par
    ((loop2 (fun b k => f b 1 k) (fun b k => D b 1 k) _ _ (fun b k => h b 1 k)).par (loop2 (fun b k => f b 2 k) (fun b k => D b 2 k) _ _ (fun b k => h b 2 k)))

/-! ## The passes -/

def startD : List J := ks.flatMap fun k => [(.z, 0, k, false)] ++ [(.z, 0, k, true)]
def relayU (t : Fin 2) (b : Bool) (k : Fin 8) : List J := [(.xd, t.castSucc, k, b), (.yd, t.castSucc, k, b)] ++ [(.z, t.succ, k, b)]
def relayD1 (t : Fin 2) : List J := ks.flatMap fun k => relayU t false k ++ relayU t true k
def relayV (b : Bool) (k : Fin 8) : List J := [(.xd, 2, k, b), (.yd, 2, k, b)]
def relayD2 : List J := ks.flatMap fun k => relayV false k ++ relayV true k
def crossD : List J := loopD fun b t k => [(.yh, t, k, b), (.xh, t, k, b)]

theorem start_pass : TripL m K c W (startL c) startD (fam2 (S0 m c)) (fam2 (S1 m c)) :=
  loop2 _ _ _ _ fun b k => start_spec m c k b

theorem relay_step (t : Fin 2) (b : Bool) (k : Fin 8) (hW : 2 + t.val ≤ W) :
    TripL m K c W [relayB c b t.castSucc k, forwardB c b t k] (relayU t b k)
      iprop(Z0 c t.castSucc k b ∗ F0 c k b t) iprop(Z1 c t.castSucc k b ∗ F1 m c k b t) :=
  ((relay_spec m c t.castSucc k b hW).frame (F0 c k b t)).one.append
    ((forward_spec m c k b t).at (Z1 c t.castSucc k b) (by iintro ⟨⟨H1, H2⟩, H3⟩; iframe H1 H2 H3) sep_comm.1).one
theorem relay_unit (t : Fin 2) (k : Fin 8) (hW : 2 + t.val ≤ W) :
    TripL m K c W (relay1 c t k) (relayU t false k ++ relayU t true k)
      iprop((Z0 c t.castSucc k false ∗ F0 c k false t) ∗ (Z0 c t.castSucc k true ∗ F0 c k true t))
      iprop((Z1 c t.castSucc k false ∗ F1 m c k false t) ∗ (Z1 c t.castSucc k true ∗ F1 m c k true t)) :=
  (relay_step t false k hW).par (relay_step t true k hW)

theorem relay_pass1 (t : Fin 2) (hW : 2 + t.val ≤ W) :
    TripL m K c W (ks.flatMap (relay1 c t)) (relayD1 t) iprop(fam2 (Z0 c t.castSucc) ∗ fam2 (fun k b => F0 c k b t))
      iprop(fam2 (Z1 c t.castSucc) ∗ fam2 (fun k b => F1 m c k b t)) := by
  rw [← fam2_sep, ← fam2_sep]
  exact TripL.loop (relay1 c t) (fun k => relayU t false k ++ relayU t true k) _ _ fun k => relay_unit t k hW

theorem relay_pass2 (hW : 4 ≤ W) :
    TripL m K c W (ks.flatMap (relay2 c)) relayD2 (fam2 (Z0 c 2)) iprop(fam2 (Z1 c 2) ∗ fam2 (ownG m c 2)) := by
  rw [← fam2_sep]
  exact loop2 (fun b k => relayB c b 2 k) relayV _ _ fun b k => relay_spec m c 2 k b hW

theorem cross_pass (hW : 10 ≤ W) : TripL m K c W (loopL (crossB c)) crossD (fam3 (C0 c)) (fam3 (C1 m c)) :=
  loop3 (crossB c) (fun b t k => [(.yh, t, k, b), (.xh, t, k, b)]) _ _ fun b t k => cross_spec m c t k b hW

theorem nils : (ks.flatMap fun _ => ([] : List J)) = [] := rfl

theorem diag_pass (hW : 20 ≤ W) : TripL m K c W (loopL (diagB c)) [] (fam3 (D0 c)) (fam3 (D1 m c)) :=
  loop3 (diagB c) (fun _ _ _ => []) _ _ fun b t k => diag_spec m c t k b hW

theorem startW_pass : TripL m K c W (startWL c) [] (fam2 (S1 m c)) (fam2 (S2 m c)) :=
  loop2 (startW c) (fun _ _ => []) _ _ fun b k => startW_spec m c k b

theorem sent_unit (t : Fin 2) (k : Fin 8) : TripL m K c W (sent1 c t k) []
    iprop((F1 m c k false t ∗ F1 m c k true t) ∗ (Z1 c t.castSucc k false ∗ C1 m c t.castSucc k false) ∗ (Z1 c t.castSucc k true ∗ C1 m c t.castSucc k true))
    iprop((F2 m c k false t ∗ F2 m c k true t) ∗ (Z2 m c t.castSucc k false ∗ C2 m c t.castSucc k false) ∗ (Z2 m c t.castSucc k true ∗ C2 m c t.castSucc k true)) :=
  (TripL.two (forwardW_spec m c k false t) (forwardW_spec m c k true t)).par
    (TripL.two (sentW_spec m c t.castSucc k false) (sentW_spec m c t.castSucc k true))

theorem sent_pass1 (t : Fin 2) : TripL m K c W (ks.flatMap (sent1 c t)) []
    iprop(fam2 (fun k b => F1 m c k b t) ∗ fam2 (Z1 c t.castSucc) ∗ fam2 (C1 m c t.castSucc))
    iprop(fam2 (fun k b => F2 m c k b t) ∗ fam2 (Z2 m c t.castSucc) ∗ fam2 (C2 m c t.castSucc)) := by
  have h := TripL.loop (m := m) (K := K) (W := W) (sent1 c t) (fun _ => []) _ _ fun k => sent_unit t k
  rw [nils, bigSep_sep' (M := 𝕄) Finset.univ (fun k => iprop(F1 m c k false t ∗ F1 m c k true t)),
    bigSep_sep' (M := 𝕄) Finset.univ (fun k => iprop(F2 m c k false t ∗ F2 m c k true t))] at h
  rw [← fam2_sep (Z1 c t.castSucc) (C1 m c t.castSucc), ← fam2_sep (Z2 m c t.castSucc) (C2 m c t.castSucc)]
  exact h

theorem sent_pass2 : TripL m K c W (ks.flatMap (sent2 c)) [] iprop(fam2 (Z1 c 2) ∗ fam2 (C1 m c 2)) iprop(fam2 (Z2 m c 2) ∗ fam2 (C2 m c 2)) := by
  rw [← fam2_sep (Z1 c 2) (C1 m c 2), ← fam2_sep (Z2 m c 2) (C2 m c 2)]
  exact loop2 (fun b k => sentW c b 2 k) (fun _ _ => []) _ _ fun b k => sentW_spec m c 2 k b

end

end Cert.Gather

end
-- ==== Proof.Middle.lean ====
/-
# The kernel's passes in order

From the first copies to the last waits, what a device holds before and after.
-/
module

public import proofs.«01_k».proof.Proof.Phases

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)

/-- What steps take and leave, the copies in `r` still to come. -/
def Run (l : List (PP F)) (ds r : List J) (P Q : sProp 𝕄) : Prop :=
  ∀ (k : PP F) (Φ : PUnit → sProp 𝕄), iprop(Ctx m K ∗ St c (ds ++ r) ∗ P ∗ ((St c r ∗ Q) -∗ WP c k Φ)) ⊢ WP c (steps l k) Φ

variable {m K c}

theorem TripL.run {W : ℕ} {l : List (PP F)} {ds : List J} {P Q : sProp 𝕄} (h : TripL m K c W l ds P Q) (r : List J) (hr : ∀ j ∈ ds ++ r, W < lvJ j)
    (R : sProp 𝕄) {P' Q' : sProp 𝕄} (hP : P' ⊢ iprop(P ∗ R)) (hQ : iprop(Q ∗ R) ⊢ Q') : Run m K c l ds r P' Q' :=
  ((h.frame R).conseq hP hQ) r hr

theorem Run.append {l₁ l₂ : List (PP F)} {d₁ d₂ r : List J} {P Q R : sProp 𝕄} (h₁ : Run m K c l₁ d₁ (d₂ ++ r) P Q) (h₂ : Run m K c l₂ d₂ r Q R) :
    Run m K c (l₁ ++ l₂) (d₁ ++ d₂) r P R := by
  intro k Φ
  rw [steps_append, List.append_assoc]
  iintro ⟨#HC, HS, HP, Hk⟩
  iapply (h₁ (steps l₂ k) Φ)
  isplitr; · iexact HC
  isplitl [HS]; · iexact HS
  isplitl [HP]; · iexact HP
  iintro ⟨HS, HQ⟩
  iapply (h₂ k Φ)
  isplitr; · iexact HC
  isplitl [HS]; · iexact HS
  isplitl [HQ]; · iexact HQ
  iexact Hk

theorem Run.use {l : List (PP F)} {ds r : List J} {P Q : sProp 𝕄} (h : Run m K c l ds r P Q) (k : PP F) (Φ : PUnit → sProp 𝕄) :
    iprop(Ctx m K ∗ St c (ds ++ r) ∗ P ∗ ((St c r ∗ Q) -∗ WP c k Φ)) ⊢ WP c (steps l k) Φ := h k Φ

/-! ## The levels of what is still to come -/

theorem lvJ_pos : ∀ j : J, 1 < lvJ j := by decide +kernel

def restD1 : List J := relayD1 1 ++ (relayD2 ++ crossD)
def restD2 : List J := relayD2 ++ crossD
/-- All the copies, in the order they are sent. -/
def allD : List J := startD ++ (relayD1 0 ++ (relayD1 1 ++ (relayD2 ++ crossD)))

theorem lv_relay0 : ∀ j ∈ relayD1 0 ++ restD1, 2 < lvJ j := by decide +kernel
theorem lv_relay1 : ∀ j ∈ relayD1 1 ++ restD2, 3 < lvJ j := by decide +kernel
theorem lv_relay2 : ∀ j ∈ relayD2 ++ crossD, 4 < lvJ j := by decide +kernel
theorem lv_cross : ∀ j ∈ crossD ++ [], 10 < lvJ j := by decide +kernel
theorem allD_nodup : allD.Nodup := by decide +kernel
theorem allD_univ : (Finset.univ : Finset J) = allD.toFinset := by decide +kernel

/-! ## The passes -/

attribute [local irreducible] TripL Run fam2 Z0 Z1 Z2 C0 C1 C2 D0 D1 F0 F1 F2 S0 S1 S2 ownG

variable (m c)

/-- What the device holds before the passes, and after. -/
def before : sProp 𝕄 :=
  iprop(fam2 (S0 m c) ∗ fam3 (Z0 c) ∗ (fam2 (fun k b => F0 c k b 0) ∗ fam2 (fun k b => F0 c k b 1)) ∗ fam3 (C0 c) ∗ fam3 (D0 c))
def after : sProp 𝕄 :=
  iprop(fam2 (S2 m c) ∗ fam3 (Z2 m c) ∗ (fam2 (fun k b => F2 m c k b 0) ∗ fam2 (fun k b => F2 m c k b 1)) ∗ fam2 (ownG m c 2) ∗ fam3 (C2 m c) ∗ fam3 (D1 m c))

def st1 : sProp 𝕄 :=
  iprop(fam2 (S1 m c) ∗ fam3 (Z0 c) ∗ (fam2 (fun k b => F0 c k b 0) ∗ fam2 (fun k b => F0 c k b 1)) ∗ fam3 (C0 c) ∗ fam3 (D0 c))
def st2 : sProp 𝕄 :=
  iprop(fam2 (S1 m c) ∗ fam3 (Z1 c) ∗ (fam2 (fun k b => F1 m c k b 0) ∗ fam2 (fun k b => F1 m c k b 1)) ∗ fam2 (ownG m c 2) ∗ fam3 (C0 c) ∗ fam3 (D0 c))
def st3 : sProp 𝕄 :=
  iprop(fam2 (S1 m c) ∗ fam3 (Z1 c) ∗ (fam2 (fun k b => F1 m c k b 0) ∗ fam2 (fun k b => F1 m c k b 1)) ∗ fam2 (ownG m c 2) ∗ fam3 (C1 m c) ∗ fam3 (D0 c))
def st4 : sProp 𝕄 :=
  iprop(fam2 (S1 m c) ∗ fam3 (Z1 c) ∗ (fam2 (fun k b => F1 m c k b 0) ∗ fam2 (fun k b => F1 m c k b 1)) ∗ fam2 (ownG m c 2) ∗ fam3 (C1 m c) ∗ fam3 (D1 m c))
def st5 : sProp 𝕄 :=
  iprop(fam2 (S2 m c) ∗ fam3 (Z1 c) ∗ (fam2 (fun k b => F1 m c k b 0) ∗ fam2 (fun k b => F1 m c k b 1)) ∗ fam2 (ownG m c 2) ∗ fam3 (C1 m c) ∗ fam3 (D1 m c))

theorem run_start : Run m K c (startL c) startD (relayD1 0 ++ (relayD1 1 ++ (relayD2 ++ crossD))) (before m c) (st1 m c) :=
  start_pass.run (W := 1) _ (fun j _ => lvJ_pos j) _ (Entails.refl _) (Entails.refl _)

theorem run_relay : Run m K c (relayL c) (relayD1 0 ++ (relayD1 1 ++ relayD2)) crossD (st1 m c) (st2 m c) := by
  unfold relayL st1 st2 fam3
  refine Run.append (Q := iprop(fam2 (S1 m c) ∗ (fam2 (Z1 c 0) ∗ fam2 (Z0 c 1) ∗ fam2 (Z0 c 2)) ∗ (fam2 (fun k b => F1 m c k b 0) ∗ fam2 (fun k b => F0 c k b 1)) ∗ fam3 (C0 c) ∗ fam3 (D0 c))) ?_
    (Run.append (Q := iprop(fam2 (S1 m c) ∗ (fam2 (Z1 c 0) ∗ fam2 (Z1 c 1) ∗ fam2 (Z0 c 2)) ∗ (fam2 (fun k b => F1 m c k b 0) ∗ fam2 (fun k b => F1 m c k b 1)) ∗ fam3 (C0 c) ∗ fam3 (D0 c))) ?_ ?_)
  · refine (relay_pass1 (W := 2) 0 (le_refl _)).run _ (by rw [List.append_assoc]; exact lv_relay0)
      iprop(fam2 (S1 m c) ∗ (fam2 (Z0 c 1) ∗ fam2 (Z0 c 2)) ∗ fam2 (fun k b => F0 c k b 1) ∗ fam3 (C0 c) ∗ fam3 (D0 c)) ?_ ?_
    · unfold fam3
      iintro ⟨H1, ⟨H2, H3, H4⟩, ⟨H5, H6⟩, H7, H8⟩
      isplitl [H2 H5]; · isplitl [H2]; · iexact H2
                         iexact H5
      iframe H1 H3 H4 H6 H7 H8
    · iintro ⟨⟨H1, H2⟩, H3, ⟨H4, H5⟩, H6, H7, H8⟩
      isplitl [H3]; · iexact H3
      isplitl [H1 H4 H5]
      · isplitl [H1]; · iexact H1
        iframe H4 H5
      isplitl [H2 H6]
      · isplitl [H2]; · iexact H2
        iexact H6
      iframe H7 H8
  · refine (relay_pass1 (W := 3) 1 (le_refl _)).run _ lv_relay1
      iprop(fam2 (S1 m c) ∗ (fam2 (Z1 c 0) ∗ fam2 (Z0 c 2)) ∗ fam2 (fun k b => F1 m c k b 0) ∗ fam3 (C0 c) ∗ fam3 (D0 c)) ?_ ?_
    · iintro ⟨H1, ⟨H2, H3, H4⟩, ⟨H5, H6⟩, H7, H8⟩
      isplitl [H3 H6]; · isplitl [H3]; · iexact H3
                         iexact H6
      iframe H1 H2 H4 H5 H7 H8
    · iintro ⟨⟨H1, H2⟩, H3, ⟨H4, H5⟩, H6, H7, H8⟩
      isplitl [H3]; · iexact H3
      isplitl [H1 H4 H5]
      · isplitl [H4]; · iexact H4
        isplitl [H1]; · iexact H1
        iexact H5
      isplitl [H2 H6]
      · isplitl [H6]; · iexact H6
        iexact H2
      iframe H7 H8
  · have h : TripL m K c 4 (ks.flatMap (relay2 c)) relayD2 (fam2 (Z0 c 2)) iprop(fam2 (Z1 c 2) ∗ fam2 (ownG m c 2)) := relay_pass2 (le_refl _)
    refine h.run _ lv_relay2
      iprop(fam2 (S1 m c) ∗ (fam2 (Z1 c 0) ∗ fam2 (Z1 c 1)) ∗ (fam2 (fun k b => F1 m c k b 0) ∗ fam2 (fun k b => F1 m c k b 1)) ∗ fam3 (C0 c) ∗ fam3 (D0 c)) ?_ ?_
    · iintro ⟨H1, ⟨H2, H3, H4⟩, H5, H7, H8⟩
      iframe H1 H2 H3 H4 H5 H7 H8
    · unfold fam3
      iintro ⟨⟨H1, H2⟩, H3, ⟨H4, H5⟩, H6, H7, H8⟩
      iframe H1 H2 H3 H4 H5 H6 H7 H8

theorem run_cross : Run m K c (loopL (crossB c)) crossD [] (st2 m c) (st3 m c) := by
  unfold st2 st3
  refine (cross_pass (W := 10) (le_refl _)).run _ lv_cross iprop(fam2 (S1 m c) ∗ fam3 (Z1 c) ∗ (fam2 (fun k b => F1 m c k b 0) ∗ fam2 (fun k b => F1 m c k b 1)) ∗ fam2 (ownG m c 2) ∗ fam3 (D0 c)) ?_ ?_
  · iintro ⟨H1, H2, H3, H4, H5, H6⟩
    iframe H1 H2 H3 H4 H5 H6
  · iintro ⟨H1, H2, H3, H4, H5, H6⟩
    iframe H1 H2 H3 H4 H5 H6

theorem no_more (W : ℕ) : ∀ j ∈ ([] : List J) ++ [], W < lvJ j := fun j hj => absurd hj List.not_mem_nil

theorem run_diag : Run m K c (loopL (diagB c)) [] [] (st3 m c) (st4 m c) := by
  unfold st3 st4
  refine (diag_pass (W := 20) (le_refl _)).run _ (no_more _) iprop(fam2 (S1 m c) ∗ fam3 (Z1 c) ∗ (fam2 (fun k b => F1 m c k b 0) ∗ fam2 (fun k b => F1 m c k b 1)) ∗ fam2 (ownG m c 2) ∗ fam3 (C1 m c)) ?_ ?_
  · iintro ⟨H1, H2, H3, H4, H5, H6⟩
    iframe H1 H2 H3 H4 H5 H6
  · iintro ⟨H1, H2, H3, H4, H5, H6⟩
    iframe H1 H2 H3 H4 H5 H6

theorem run_startW : Run m K c (startWL c) [] [] (st4 m c) (st5 m c) :=
  startW_pass.run (W := 0) _ (no_more _) _ (Entails.refl _) (Entails.refl _)

theorem run_sent : Run m K c (sentL c) [] [] (st5 m c) (after m c) := by
  unfold sentL st5 after fam3
  refine Run.append (d₁ := []) (d₂ := []) (Q := iprop(fam2 (S2 m c) ∗ (fam2 (Z2 m c 0) ∗ fam2 (Z1 c 1) ∗ fam2 (Z1 c 2)) ∗ (fam2 (fun k b => F2 m c k b 0) ∗ fam2 (fun k b => F1 m c k b 1)) ∗ fam2 (ownG m c 2)
      ∗ (fam2 (C2 m c 0) ∗ fam2 (C1 m c 1) ∗ fam2 (C1 m c 2)) ∗ fam3 (D1 m c))) ?_
    (Run.append (d₁ := []) (d₂ := []) (Q := iprop(fam2 (S2 m c) ∗ (fam2 (Z2 m c 0) ∗ fam2 (Z2 m c 1) ∗ fam2 (Z1 c 2)) ∗ (fam2 (fun k b => F2 m c k b 0) ∗ fam2 (fun k b => F2 m c k b 1)) ∗ fam2 (ownG m c 2)
      ∗ (fam2 (C2 m c 0) ∗ fam2 (C2 m c 1) ∗ fam2 (C1 m c 2)) ∗ fam3 (D1 m c))) ?_ ?_)
  · refine (sent_pass1 (W := 0) 0).run _ (no_more _) iprop(fam2 (S2 m c) ∗ (fam2 (Z1 c 1) ∗ fam2 (Z1 c 2)) ∗ fam2 (fun k b => F1 m c k b 1) ∗ fam2 (ownG m c 2)
      ∗ (fam2 (C1 m c 1) ∗ fam2 (C1 m c 2)) ∗ fam3 (D1 m c)) ?_ ?_
    · unfold fam3
      iintro ⟨H1, ⟨H2, H3, H4⟩, ⟨H5, H6⟩, H7, ⟨H8, H9, H10⟩, H11⟩
      isplitl [H5 H2 H8]
      · isplitl [H5]; · iexact H5
        isplitl [H2]; · iexact H2
        iexact H8
      iframe H1 H3 H4 H6 H7 H9 H10 H11
    · iintro ⟨⟨H5, H2, H8⟩, H1, ⟨H3, H4⟩, H6, H7, ⟨H9, H10⟩, H11⟩
      isplitl [H1]; · iexact H1
      isplitl [H2 H3 H4]
      · isplitl [H2]; · iexact H2
        iframe H3 H4
      isplitl [H5 H6]
      · isplitl [H5]; · iexact H5
        iexact H6
      isplitl [H7]; · iexact H7
      isplitl [H8 H9 H10]
      · isplitl [H8]; · iexact H8
        iframe H9 H10
      iexact H11
  · refine (sent_pass1 (W := 0) 1).run _ (no_more _) iprop(fam2 (S2 m c) ∗ (fam2 (Z2 m c 0) ∗ fam2 (Z1 c 2)) ∗ fam2 (fun k b => F2 m c k b 0) ∗ fam2 (ownG m c 2)
      ∗ (fam2 (C2 m c 0) ∗ fam2 (C1 m c 2)) ∗ fam3 (D1 m c)) ?_ ?_
    · iintro ⟨H1, ⟨H2, H3, H4⟩, ⟨H5, H6⟩, H7, ⟨H8, H9, H10⟩, H11⟩
      isplitl [H6 H3 H9]
      · isplitl [H6]; · iexact H6
        isplitl [H3]; · iexact H3
        iexact H9
      iframe H1 H2 H4 H5 H7 H8 H10 H11
    · iintro ⟨⟨H6, H3, H9⟩, H1, ⟨H2, H4⟩, H5, H7, ⟨H8, H10⟩, H11⟩
      isplitl [H1]; · iexact H1
      isplitl [H2 H3 H4]
      · isplitl [H2]; · iexact H2
        isplitl [H3]; · iexact H3
        iexact H4
      isplitl [H5 H6]
      · isplitl [H5]; · iexact H5
        iexact H6
      isplitl [H7]; · iexact H7
      isplitl [H8 H9 H10]
      · isplitl [H8]; · iexact H8
        isplitl [H9]; · iexact H9
        iexact H10
      iexact H11
  · have h : TripL m K c 0 (ks.flatMap (sent2 c)) [] iprop(fam2 (Z1 c 2) ∗ fam2 (C1 m c 2)) iprop(fam2 (Z2 m c 2) ∗ fam2 (C2 m c 2)) := sent_pass2
    refine h.run _ (no_more _) iprop(fam2 (S2 m c) ∗ (fam2 (Z2 m c 0) ∗ fam2 (Z2 m c 1)) ∗ (fam2 (fun k b => F2 m c k b 0) ∗ fam2 (fun k b => F2 m c k b 1)) ∗ fam2 (ownG m c 2)
      ∗ (fam2 (C2 m c 0) ∗ fam2 (C2 m c 1)) ∗ fam3 (D1 m c)) ?_ ?_
    · iintro ⟨H1, ⟨H2, H3, H4⟩, H5, H7, ⟨H8, H9, H10⟩, H11⟩
      iframe H1 H2 H3 H4 H5 H7 H8 H9 H10 H11
    · unfold fam3
      iintro ⟨⟨H1, H2⟩, H3, ⟨H4, H5⟩, H6, H7, ⟨H8, H9⟩, H11⟩
      iframe H1 H2 H3 H4 H5 H6 H7 H8 H9 H11

/-- Everything between the barrier and the wait for the device's own copy. -/
theorem run_middle (k : PP F) (Φ : PUnit → sProp 𝕄) : iprop(Ctx m K ∗ St c allD ∗ before m c ∗ ((St c [] ∗ after m c) -∗ WP c k Φ))
    ⊢ WP c (steps (startL c ++ (relayL c ++ (loopL (crossB c) ++ (loopL (diagB c) ++ (startWL c ++ sentL c))))) k) Φ := by
  have h : Run m K c (startL c ++ (relayL c ++ (loopL (crossB c) ++ (loopL (diagB c) ++ (startWL c ++ sentL c)))))
      (startD ++ ((relayD1 0 ++ (relayD1 1 ++ relayD2)) ++ (crossD ++ ([] ++ ([] ++ []))))) [] (before m c) (after m c) := by
    refine Run.append (Q := st1 m c) ?_ (Run.append (Q := st2 m c) ?_ (Run.append (Q := st3 m c) ?_ (Run.append (run_diag m c) (Run.append (run_startW m c) (run_sent m c)))))
    · have h := run_start (K := K) m c
      simpa only [List.append_assoc, List.append_nil] using h
    · have h := run_relay (K := K) m c
      simpa only [List.append_assoc, List.append_nil] using h
    · exact run_cross m c
  have h' := h.use k Φ
  simp only [List.append_assoc, List.append_nil] at h'
  exact h'

end Cert.Gather

end
-- ==== Proof.Tiles.lean ====
/-
# The result and the input, cut into pieces

The result is the device's own chunk and the pieces that arrive; the input's quarter is cut into the pieces the device
sends; the cells are the barrier's, the local copy's and two for each remote copy.
-/
module

public import proofs.«01_k».proof.Proof.Middle

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sums over the names -/

theorem all_option {I : Type} [Fintype I] [DecidableEq I] (Φ : Option I → sProp 𝕄) :
    bigSep Finset.univ Φ = iprop(Φ none ∗ bigSep Finset.univ fun i => Φ (some i)) := by
  rw [bigSep_univ_at Φ none]
  have h : (Finset.univ : Finset (Option I)).erase none = Finset.univ.map Function.Embedding.some := by
    ext o
    rw [Finset.mem_erase, Finset.mem_map]
    constructor
    · rintro ⟨h, -⟩
      obtain ⟨i, rfl⟩ := Option.ne_none_iff_exists'.mp h
      exact ⟨i, Finset.mem_univ _, rfl⟩
    · rintro ⟨i, -, rfl⟩
      exact ⟨fun h => Option.some_ne_none i h, Finset.mem_univ _⟩
  rw [h, BI.bigSep_map]; rfl

theorem all_bool (Φ : Bool → sProp 𝕄) : bigSep Finset.univ Φ = iprop(Φ false ∗ Φ true) := by
  rw [bigSep_univ_eq_bigSepL [false, true] (by decide) (by decide), bigSepL_cons', bigSepL_singleton]
theorem all_three (Φ : Fin 3 → sProp 𝕄) : bigSep Finset.univ Φ = iprop(Φ 0 ∗ Φ 1 ∗ Φ 2) := by
  rw [bigSep_univ_eq_bigSepL [0, 1, 2] (by decide) (by decide), bigSepL_cons', bigSepL_cons', bigSepL_singleton]
theorem all_kind (Φ : Kind → sProp 𝕄) : bigSep Finset.univ Φ = iprop(Φ .z ∗ Φ .xd ∗ Φ .yd ∗ Φ .xh ∗ Φ .yh) := by
  rw [bigSep_univ_eq_bigSepL [.z, .xd, .yd, .xh, .yh] (by decide) (by decide), bigSepL_cons', bigSepL_cons', bigSepL_cons', bigSepL_cons', bigSepL_singleton]

/-- The part of a family at the copies of one kind. -/
def atK (G : J → sProp 𝕄) (kd : Kind) : Fin 3 → Fin 8 → Bool → sProp 𝕄 := fun t k b => G (kd, t, k, b)

theorem all_I3 (G : I3 → sProp 𝕄) : bigSep Finset.univ G = fam3 fun t k b => G (t, k, b) := by
  rw [bigSep_univ_prod, all_three]
  unfold fam3 fam2
  rw [bigSep_univ_prod, bigSep_univ_prod, bigSep_univ_prod]
  simp only [all_bool]
theorem all_J (G : J → sProp 𝕄) : bigSep Finset.univ G
    = iprop(fam3 (atK G .z) ∗ fam3 (atK G .xd) ∗ fam3 (atK G .yd) ∗ fam3 (atK G .xh) ∗ fam3 (atK G .yh)) := by
  rw [bigSep_univ_prod, all_kind, all_I3, all_I3, all_I3, all_I3, all_I3]
  rfl

theorem fam2_mono {Φ Ψ : Fin 8 → Bool → sProp 𝕄} (h : ∀ k b, Φ k b ⊢ Ψ k b) : fam2 Φ ⊢ fam2 Ψ := by
  unfold fam2
  exact bigSep_mono fun k _ => BIClass.sep_mono (h k false) (h k true)
theorem fam3_mono {Φ Ψ : Fin 3 → Fin 8 → Bool → sProp 𝕄} (h : ∀ t k b, Φ t k b ⊢ Ψ t k b) : fam3 Φ ⊢ fam3 Ψ := by
  unfold fam3
  exact BIClass.sep_mono (fam2_mono (h 0)) (BIClass.sep_mono (fam2_mono (h 1)) (fam2_mono (h 2)))

/-- A sum with one member at most. -/
theorem one_of {I : Type} [DecidableEq I] (S : Finset I) (p : Prop) [Decidable p] (a : I) (ha : p → a ∈ S) (q : I → Prop) [DecidablePred q] (hq : ∀ n, q n ↔ p ∧ n = a)
    (Φ : I → sProp 𝕄) : (bigSep S fun n => if q n then Φ n else iprop(emp)) = if p then Φ a else iprop(emp) := by
  refine (bigSep_filter S q Φ).symm.trans ?_
  by_cases h : p
  · rw [if_pos h, show S.filter q = {a} from by
      ext n; rw [Finset.mem_filter, Finset.mem_singleton, hq]
      exact ⟨fun hh => hh.2.2, fun hh => ⟨hh ▸ ha h, h, hh⟩⟩, bigSep_singleton]
  · rw [if_neg h, show S.filter q = ∅ from by
      ext n; rw [Finset.mem_filter, hq]
      exact ⟨fun hh => absurd hh.2.1 h, fun hh => absurd hh (Finset.notMem_empty n)⟩, bigSep_empty]
    rfl

/-! ## The cells -/

theorem all_cells (Ψ : CK → sProp 𝕄) : bigSep Finset.univ Ψ
    = iprop(Ψ none ∗ Ψ (some cS) ∗ (bigSep Finset.univ fun j : J => Ψ (some (sS j))) ∗ bigSep Finset.univ fun j : J => Ψ (some (rS j))) := by
  rw [all_option, bigSep_univ_equiv roleEquiv, all_option, bigSep_univ_prod, all_bool]
  rfl

/-! ## Cutting a tensor -/

/-- A tensor cut by what its elements are classed as. -/
theorem cut {ℓ : Loc nD τ sig} {O : Type} [Fintype O] (S : Finset (Idx ℓ)) (K : O → Finset (Idx ℓ)) (g : Idx ℓ → O)
    (h : ∀ o i, i ∈ K o ↔ g i = o) (hS : ∀ i, i ∈ S) (q : PosShare TreeShare) (f : Buf (Elt F) ℓ) :
    (ℓ ↦[S]{q} f : sProp 𝕄) = bigSep Finset.univ fun o => ℓ ↦[K o]{q} f := by
  rw [← pointsTo_biUnion]
  · congr 1
    ext i
    rw [Finset.mem_biUnion]
    exact ⟨fun _ => ⟨g i, Finset.mem_univ _, (h _ i).2 rfl⟩, fun _ => hS i⟩
  · intro o _ o' _ hne
    rw [Finset.disjoint_left]
    intro i h₁ h₂
    exact hne (((h o i).1 h₁).symm.trans ((h o' i).1 h₂))

variable (c : Dev nD)

/-- The pieces that arrive, with the given contents. -/
def pieces (f : OutC F) : sProp 𝕄 := bigSep Finset.univ fun j : J => if Inc c j then piece c j f else iprop(emp)

/-- Which of the pieces an element of the result lies in. -/
def ocls (i : (main_v1 : Ref sig .tc).ty.Idx) : Option J := fnd c (((i (0 : Fin 2) : Fin 16384) : ℕ) / 64)
/-- The rows of a class. -/
def oset : Option J → Finset (main_v1 : Ref sig .tc).ty.Idx
  | none => rowSet (zc c * 4096) 4096
  | some j => if Inc c j then rowSet (rowJ c j) (lenK j.1) else ∅

theorem mem_oset (o : Option J) (i : (main_v1 : Ref sig .tc).ty.Idx) : i ∈ oset c o ↔ ocls c i = o := by
  have hlt : ((i (0 : Fin 2) : Fin 16384) : ℕ) < 16384 := (i (0 : Fin 2) : Fin 16384).isLt
  have hm : ∀ a n, i ∈ rowSet a n ↔ a ≤ ((i (0 : Fin 2) : Fin 16384) : ℕ) ∧ ((i (0 : Fin 2) : Fin 16384) : ℕ) < a + n := fun a n => by
    unfold rowSet
    rw [Finset.mem_filter]
    exact ⟨fun h => h.2, fun h => ⟨Finset.mem_univ _, h⟩⟩
  cases o with
  | none =>
    refine (hm _ _).trans (Iff.trans ?_ (fnd_none_iff c _).symm)
    omega
  | some j =>
    show (i ∈ if Inc c j then rowSet (rowJ c j) (lenK j.1) else ∅) ↔ fnd c (((i (0 : Fin 2) : Fin 16384) : ℕ) / 64) = some j
    by_cases hj : Inc c j
    · rw [if_pos hj]
      exact (hm _ _).trans (fnd_iff c j hj _ hlt).symm
    · rw [if_neg hj]
      exact ⟨fun h => absurd h (Finset.notMem_empty i), fun h => absurd (fnd_some_inc c _ hlt j h) hj⟩

theorem out_cut (f : OutC F) : (((c : Thread nD τ).loc main_v1) ↦[Finset.univ]{fullShare} f : sProp 𝕄)
    = iprop(rows c (zc c * 4096) 4096 fullShare f ∗ pieces c f) := by
  have h := cut (F := F) (ℓ := (c : Thread nD τ).loc main_v1) Finset.univ (oset c) (ocls c) (mem_oset c) (fun _ => Finset.mem_univ _) fullShare f
  refine h.trans ((all_option _).trans ?_)
  refine congrArg (BIBase.sep _) ?_
  refine bigSep_congr fun j _ => ?_
  unfold oset
  by_cases hj : Inc c j
  · simp only [if_pos hj]; rfl
  · simp only [if_neg hj]; exact pointsTo_empty

/-- The final contents of a device's result. -/
def outV : OutC F := fun i => if ((i (0 : Fin 2) : Fin 16384) : ℕ) / 4096 = zc c then GO m c i else GA m i

theorem rowJ_out (j : J) (hj : Inc c j) (i : (main_v1 : Ref sig .tc).ty.Idx) (hi : i ∈ rowSet (rowJ c j) (lenK j.1)) :
    ((i (0 : Fin 2) : Fin 16384) : ℕ) / 4096 ≠ zc c := by
  have hlt : ((i (0 : Fin 2) : Fin 16384) : ℕ) < 16384 := (i (0 : Fin 2) : Fin 16384).isLt
  have h := (fnd_iff c j hj _ hlt).2 (Finset.mem_filter.mp hi).2
  intro hz
  rw [(fnd_none_iff c _).2 hz] at h
  exact absurd h.symm (Option.some_ne_none j)

/-- The chunk and the pieces that arrived are the whole result. -/
theorem out_join : iprop(rows c (zc c * 4096) 4096 fullShare (GO m c) ∗ pieces c (GA m))
    ⊢ (((c : Thread nD τ).loc main_v1) ↦[Finset.univ]{fullShare} outV m c : sProp 𝕄) := by
  rw [out_cut]
  refine BIClass.sep_mono (Entails.of_eq ?_) (Entails.of_eq ?_)
  · unfold rows
    refine pointsTo_congr fun i hi => ?_
    have h := (Finset.mem_filter.mp hi).2
    unfold outV
    rw [if_pos (by omega)]
  · unfold pieces
    refine bigSep_congr fun j _ => ?_
    by_cases hj : Inc c j
    · rw [if_pos hj, if_pos hj]
      unfold piece rows
      refine pointsTo_congr fun i hi => ?_
      unfold outV
      rw [if_neg (rowJ_out c j hj i hi)]
    · rw [if_neg hj, if_neg hj]

/-! ## The input -/

/-- The piece of the device's own quarter an input element lies in. -/
def xcls (i : (main_arg0 : Ref sig .tc).ty.Idx) : Option (Fin 8) :=
  if ((i (0 : Fin 2) : Fin 4096) : ℕ) / 1024 = qn c .own then some (Fin.ofNat 8 (((i (0 : Fin 2) : Fin 4096) : ℕ) % 1024 / 128)) else none

theorem xcls_iff (k : Fin 8) (i : (main_arg0 : Ref sig .tc).ty.Idx) :
    xcls c i = some k ↔ qn c .own * 1024 + k.val * 128 ≤ ((i (0 : Fin 2) : Fin 4096) : ℕ) ∧ ((i (0 : Fin 2) : Fin 4096) : ℕ) < qn c .own * 1024 + k.val * 128 + 128 := by
  have hk := k.isLt
  unfold xcls
  generalize ((i (0 : Fin 2) : Fin 4096) : ℕ) = r
  split
  · rename_i h
    rw [Option.some.injEq, Fin.ext_iff, Fin.val_ofNat]
    omega
  · rename_i h
    constructor
    · intro h'; exact absurd h'.symm (Option.some_ne_none k)
    · intro h'; exact absurd (by omega) h

/-- The rest of the input. -/
def xrest (q : PosShare TreeShare) : sProp 𝕄 := ((c : Thread nD τ).loc main_arg0) ↦[Finset.univ.filter fun i => xcls c i = none]{q} xAt m c

/-- The rows of a piece of the input. -/
def xset : Option (Fin 8) → Finset (main_arg0 : Ref sig .tc).ty.Idx
  | none => Finset.univ.filter fun i => xcls c i = none
  | some k => xSet (qn c .own * 1024 + k.val * 128) 128

theorem mem_xset (o : Option (Fin 8)) (i : (main_arg0 : Ref sig .tc).ty.Idx) : i ∈ xset c o ↔ xcls c i = o := by
  cases o with
  | none => exact ⟨fun h => (Finset.mem_filter.mp h).2, fun h => Finset.mem_filter.mpr ⟨Finset.mem_univ _, h⟩⟩
  | some k =>
    refine Iff.trans ?_ (xcls_iff c k i).symm
    unfold xset xSet
    rw [Finset.mem_filter]
    exact ⟨fun h => h.2, fun h => ⟨Finset.mem_univ _, h⟩⟩

theorem x_cut (q : PosShare TreeShare) : (((c : Thread nD τ).loc main_arg0) ↦[Finset.univ]{q} xAt m c : sProp 𝕄)
    = iprop(xrest m c q ∗ bigSep Finset.univ fun k : Fin 8 => xrows m c (qn c .own * 1024 + k.val * 128) 128 q) := by
  have h := cut (F := F) (ℓ := (c : Thread nD τ).loc main_arg0) Finset.univ (xset c) (xcls c) (mem_xset c) (fun _ => Finset.mem_univ _) q (xAt m c)
  exact h.trans (all_option _)

theorem x_all (q : PosShare TreeShare) : (((c : Thread nD τ).loc main_arg0) ↦[Finset.univ]{q} xAt m c : sProp 𝕄) = xrows m c 0 4096 q := by
  unfold xrows
  refine congrArg (fun S => (((c : Thread nD τ).loc main_arg0) ↦[S]{q} xAt m c : sProp 𝕄)) ?_
  ext i
  unfold xSet
  rw [Finset.mem_filter]
  have : ((i (0 : Fin 2) : Fin 4096) : ℕ) < 4096 := (i (0 : Fin 2) : Fin 4096).isLt
  exact ⟨fun h => ⟨h, Nat.zero_le _, by omega⟩, fun h => h.1⟩

/-- The input is the local copy's share, the pieces to send in both directions and the rest. -/
theorem x_parts : (((c : Thread nD τ).loc main_arg0) ↦[Finset.univ]{fullShare} xAt m c : sProp 𝕄)
    ⊣⊢ iprop(xrows m c 0 4096 fullShare.left ∗ fam2 (xpc m c) ∗ (xrest m c fullShare.right.left ∗ xrest m c fullShare.right.right)) := by
  have h₁ := pointsTo_share (Ix := Unit) (Name := ℕ) (U := UU) (Lvl := ℕ) (ℓ := (c : Thread nD τ).loc main_arg0) (I := Finset.univ) (f := xAt m c) (PosShare.mem_left_op_right fullShare)
  have h₂ := pointsTo_share (Ix := Unit) (Name := ℕ) (U := UU) (Lvl := ℕ) (ℓ := (c : Thread nD τ).loc main_arg0) (I := Finset.univ) (f := xAt m c) (PosShare.mem_left_op_right fullShare.right)
  have hf : (fam2 (xpc m c) : sProp 𝕄) = iprop((bigSep Finset.univ fun k : Fin 8 => xrows m c (qn c .own * 1024 + k.val * 128) 128 fullShare.right.left)
      ∗ bigSep Finset.univ fun k : Fin 8 => xrows m c (qn c .own * 1024 + k.val * 128) 128 fullShare.right.right) := by
    unfold fam2; rw [bigSep_sep']; rfl
  rw [hf, ← x_all]
  rw [x_cut m c fullShare.right.left, x_cut m c fullShare.right.right] at h₂
  constructor
  · iintro H
    ihave H := h₁.1 $$ H
    icases H with ⟨H1, H2⟩
    ihave H := h₂.1 $$ H2
    icases H with ⟨⟨H2, H3⟩, H4, H5⟩
    iframe H1 H2 H3 H4 H5
  · iintro ⟨H1, ⟨H3, H5⟩, H2, H4⟩
    iapply h₁.2
    isplitl [H1]; · iexact H1
    iapply h₂.2
    iframe H2 H3 H4 H5

end Cert.Gather

end
-- ==== Proof.Head.lean ====
/-
# The first steps: the local copy, the four signals, the barrier
-/
module

public import proofs.«01_k».proof.Proof.Tiles

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ) (c : Dev nD)

/-! ## What the signals hand over -/

theorem four (Φ : Dev nD → sProp 𝕄) : bigSep (nbrs c) Φ = iprop(Φ (nb1 c) ∗ Φ (nb2 c) ∗ Φ (xdev c) ∗ Φ (ydev c)) := by
  rw [bigSep_eq_bigSepL_of_eq (nbrL c) (nbrs_eq c) (nbrL_nodup c)]
  unfold nbrL
  rw [bigSepL_cons', bigSepL_cons', bigSepL_cons', bigSepL_singleton]

theorem swap (Φ : Dev nD → J → sProp 𝕄) :
    (bigSep (nbrs c) fun n => bigSep Finset.univ (Φ n)) = bigSep Finset.univ fun j => bigSep (nbrs c) fun n => Φ n j := by
  rw [four, ← bigSep_sep', ← bigSep_sep', ← bigSep_sep']
  exact bigSep_congr fun j _ => (four c fun n => Φ n j).symm

theorem piece_some (j : J) (f : OutC F) : piece c j f ⊢ iprop(∃ f, piece (F := F) c j f) := by
  iintro H
  iexists f
  iexact H

theorem bar_out (f : OutC F) : pieces c f ⊢ bigSep (nbrs c) fun n => barPay (F := F) n c := by
  have h : (bigSep (nbrs c) fun n => barPay (F := F) n c) = bigSep Finset.univ fun j : J => if Inc c j then iprop(∃ f, piece (F := F) c j f) else iprop(emp) := by
    unfold barPay
    refine (swap c _).trans ?_
    refine bigSep_congr fun j _ => ?_
    exact one_of (nbrs c) (Inc c j) (srcD c j) (fun h => srcK_nbr c j.1 j.2.1 j.2.2.2 h) (fun n => Inc c j ∧ srcD c j = n)
      (fun n => ⟨fun h => ⟨h.1, h.2.symm⟩, fun h => ⟨h.1, h.2.symm⟩⟩) (fun _ => iprop(∃ f, piece (F := F) c j f))
  rw [h]
  unfold pieces
  refine bigSep_mono fun j _ => ?_
  by_cases hj : Inc c j
  · rw [if_pos hj, if_pos hj]
    exact piece_some c j f
  · rw [if_neg hj, if_neg hj]
    exact Entails.refl _

theorem bar_in : (bigSep (nbrs c) (barPay (F := F) c)) = bigSep Finset.univ fun j : J => if Act c j then iprop(∃ f, piece (F := F) (dstD c j) j f) else iprop(emp) := by
  unfold barPay
  refine (swap c _).trans ?_
  refine bigSep_congr fun j _ => ?_
  exact one_of (nbrs c) (Act c j) (dstD c j) (fun h => dstK_nbr c j.1 j.2.1 j.2.2.2 h) (fun n => Inc n j ∧ srcD n j = c)
    (fun n => ⟨fun h => by obtain ⟨h₁, rfl⟩ := h; exact ⟨(inc_act h₁).1, (inc_act h₁).2.symm⟩, fun h => by obtain ⟨h₁, rfl⟩ := h; exact act_inc h₁⟩)
    (fun n => iprop(∃ f, piece (F := F) n j f))

theorem nb1_mem : nb1 c ∈ nbrs c := Finset.mem_insert_self _ _
theorem nb2_mem : nb2 c ∈ nbrs c := Finset.mem_insert_of_mem (Finset.mem_insert_self _ _)
theorem xdev_mem : xdev c ∈ nbrs c := Finset.mem_insert_of_mem (Finset.mem_insert_of_mem (Finset.mem_insert_self _ _))
theorem ydev_mem : ydev c ∈ nbrs c := Finset.mem_insert_of_mem (Finset.mem_insert_of_mem (Finset.mem_insert_of_mem (Finset.mem_singleton_self _)))

/-! ## The steps -/

/-- A signal to a neighbour's barrier. -/
theorem signal_step (n : Dev nD) (hn : n ∈ nbrs c) (O : CellTallies nD τ sig Unit) (W) (k : PP F) (Φ : PUnit → sProp 𝕄) :
    iprop(Ctx m K ∗ owes (c : Thread nD τ) (O + tallyAt (barCell n) () 1) W ∗ dutyTok ER (barCell n) 0 c ∗ barPay n c
      ∗ (owes (c : Thread nD τ) O W -∗ WP c k Φ)) ⊢ WP c (signalB n >>= fun _ => k) Φ := by
  unfold signalB
  simp only [semSignalWord, Prog.lift, Prog.bind_op, Prog.bind_ret, Prog.pure_eq_ret]
  iintro ⟨#HC, HO, Ht, Hp, Hk⟩
  ihave #HI := (inv_at m K n none) $$ HC
  icases HI with ⟨#HI, #HR⟩
  iapply (Rounds.wp_signal 𝒱₀ ER (Rd m) (c : Thread nD τ) none (dst := (n : Thread nD τ)) (κ := K (n, none)) (r := 0)
      (d := c) (by rw [duties_bar]; exact nbrs_symm c n hn) ((amount_bar m n c).trans (by decide)) () O rfl)
    $$ [HO Ht Hp]
  · isplitr; · iexact HI
    isplitl [HO]; · iexact HO
    isplitl [Ht]; · iexact Ht
    isplitl [Hp]; · rw [payload_bar]; iexact Hp
    iexact HR
  iintro HO
  iapply Hk
  iexact HO

/-- The wait on the barrier. -/
theorem barrier_step (k : PP F) (Φ : PUnit → sProp 𝕄) :
    iprop(Ctx m K ∗ St c allD ∗ atPos ER (barCell c) 0 ∅ 0 ∗ cred (tallyAt (barCell c) () 4)
      ∗ ((St c allD ∗ atPos ER (barCell c) 1 ∅ 0 ∗ bigSep (nbrs c) (barPay (F := F) c)) -∗ WP c k Φ)) ⊢ WP c (barrierW >>= fun _ => k) Φ := by
  unfold barrierW St
  simp only [semWaitWord, Prog.lift, Prog.bind_op, Prog.bind_ret, Prog.pure_eq_ret]
  have hmw := ctx_mayWait (m := m) (K := K) c (.reg barS) allD 1 (lv_bar c).le (fun j _ => lvJ_pos j)
  iintro ⟨#HC, ⟨%W, HO⟩, Hat, Hcr, Hk⟩
  ihave #HI := (inv_at m K c none) $$ HC
  icases HI with ⟨#HI, #-⟩
  iapply (Rounds.wp_wait_rest_token 𝒱₀ ER (Rd m) (c : Thread nD τ) none (κ := K (c, none))
      (wpE_semWait_eq 𝒱₀ (c : Thread nD τ) none Set.univ) (Set.mem_univ _) () (O := Osum c allD) (W := W) (R := 0) (m := 0) (T := ∅)
      (by rw [expect_bar]; decide)) $$ [Hcr HO Hat]
  · isplitr; · iexact HI
    isplitl [Hcr]; · iexact Hcr
    isplitl [HO]; · iexact HO
    isplitr; · iapply hmw; iexact HC
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- The device's own chunk, once its input is copied there. -/
theorem chunk_val (f : OutC F) (i : (main_v1 : Ref sig .tc).ty.Idx) (hi : i ∈ (chunkV c).view.set) :
    (chunkV c).view.write (Elt F) f (inM.view.read (Elt F) (xAt m c)) Finset.univ i = GO m c i := by
  obtain ⟨y, -, rfl⟩ := Finset.mem_map.mp hi
  rw [View.write_emb_of_mem _ _ (Finset.mem_univ y), View.read_apply]
  have e₀ : (((chunkV c).view.emb y (0 : Fin 2) : Fin 16384) : ℕ) = k0_off1 c 0 + (y (0 : Fin 2) : ℕ) :=
    ValueKit.view_emb_slice_whole_unit_val (main_v1 : Ref sig .tc) _ _ _ y (0 : Fin 2)
  have e₁ : (((chunkV c).view.emb y (1 : Fin 2) : Fin 1024) : ℕ) = k0_off1 c 1 + (y (1 : Fin 2) : ℕ) :=
    ValueKit.view_emb_slice_whole_unit_val (main_v1 : Ref sig .tc) _ _ _ y (1 : Fin 2)
  rw [k0_off1_eq'] at e₀ e₁
  have hy : (y (0 : Fin 2) : ℕ) < 4096 := (y (0 : Fin 2)).isLt
  show xAt m c y = xAt m c (xIdx ((chunkV c).view.emb y))
  refine congrArg (xAt m c) (funext fun (a : Fin 2) => Fin.ext ?_)
  fin_cases a
  · show (y (0 : Fin 2) : ℕ) = (((chunkV c).view.emb y (0 : Fin 2) : Fin 16384) : ℕ) % 4096
    rw [e₀]
    show (y (0 : Fin 2) : ℕ) = (zc c * 4096 + (y (0 : Fin 2) : ℕ)) % 4096
    omega
  · show (y (1 : Fin 2) : ℕ) = (((chunkV c).view.emb y (1 : Fin 2) : Fin 1024) : ℕ)
    rw [e₁]
    exact (Nat.zero_add _).symm

theorem in_set : (inM.view.loc (c : Thread nD τ) ↦[inM.view.set]{fullShare.left} xAt m c : sProp 𝕄) = xrows m c 0 4096 fullShare.left := by
  rw [← x_all]
  exact congrArg (fun S => (((c : Thread nD τ).loc main_arg0) ↦[S]{fullShare.left} xAt m c : sProp 𝕄)) (View.set_whole main_arg0)

theorem chunk_credit : (chunkV c).view.dmaCredit = NC := rfl

/-- The copy of the device's input into its own chunk starts. -/
theorem copy_step (f : OutC F) (k : PP F) (Φ : PUnit → sProp 𝕄) :
    iprop(Ctx m K ∗ dutyTok ER (cCell c) 0 0 ∗ xrows m c 0 4096 fullShare.left ∗ rows c (zc c * 4096) 4096 fullShare f
      ∗ (cred (tallyAt (cCell c) () NC) -∗ WP c k Φ)) ⊢ WP c (copyB c >>= fun _ => k) Φ := by
  show _ ⊢ WP c (.op (.enqueueDma inM (.here (chunkV c)) (.dma cS) (Memref.isWhole_whole main_arg0).wordExact (View.wordExact_bits rfl) ⟨Or.inl rfl, trivial⟩) fun _ => k) Φ
  have hr : ∀ g : OutC F, ((chunkV c).view.loc (c : Thread nD τ) ↦[(chunkV c).view.set]{fullShare} g : sProp 𝕄) = rows c (zc c * 4096) 4096 fullShare g := fun g => by
    rw [chunk_set]; rfl
  iintro ⟨#HC, Ht, Hx, Hf, Hk⟩
  ihave #HI := (inv_at m K c (some cS)) $$ HC
  icases HI with ⟨#HI, #HR⟩
  ihave Hx := (Entails.of_eq (in_set m c).symm) $$ Hx
  ihave Hf := (Entails.of_eq (hr f).symm) $$ Hf
  iapply (Rounds.wp_copy_pointsTo 𝒱₀ ER (Rd m) (c : Thread nD τ) none (κ := K (c, some cS)) (src := inM) (dst := chunkV c) (sem := .dma cS) (r := 0) (d := 0) (fs := xAt m c) (fd := f)
    (q := fullShare.left) (by rw [duties_cpy]; exact Finset.mem_singleton_self _) () NC (chunk_credit c) (amount_cpy m c 0)
    (by
      rw [payload_cpy]
      refine BIClass.sep_mono (Entails.of_eq ?_) (Entails.of_eq (in_set m c))
      exact (pointsTo_congr fun i hi => chunk_val m c f i hi).trans (hr _))) $$ [Hx Hf Ht]
  · isplitr; · iexact HI
    isplitl [Hx]; · iexact Hx
    isplitl [Hf]; · iexact Hf
    isplitl [Ht]; · iexact Ht
    iexact HR
  iintro H
  iapply Hk
  iexact H

/-- The wait for that copy. -/
theorem copied_step (k : PP F) (Φ : PUnit → sProp 𝕄) :
    iprop(Ctx m K ∗ St c [] ∗ atPos ER (cCell c) 0 ∅ 0 ∗ cred (tallyAt (cCell c) () NC)
      ∗ ((St c [] ∗ atPos ER (cCell c) 1 ∅ 0 ∗ rows c (zc c * 4096) 4096 fullShare (GO m c) ∗ xrows m c 0 4096 fullShare.left) -∗ WP c k Φ))
      ⊢ WP c (copyW c >>= fun _ => k) Φ := by
  show _ ⊢ WP c (.op (.waitDma2 cS inM (chunkV c) (Memref.isWhole_whole main_arg0).wordExact (View.wordExact_bits rfl)) fun _ => k) Φ
  unfold St
  have hw : ∀ Q : PUnit → sProp 𝕄, wpE (defs₀ (F := F)) 𝒱₀ (c : Thread nD τ) none Set.univ
      (.waitDma2 cS inM (chunkV c) (Memref.isWhole_whole main_arg0).wordExact (View.wordExact_bits rfl)) Q = waitSpec (c : Thread nD τ) Set.univ (.dma cS) NC Q :=
    fun Q => (wpE_waitDma2_eq 𝒱₀ (c : Thread nD τ) none Set.univ Q).trans (by rw [chunk_credit c])
  have hmw := ctx_mayWait (m := m) (K := K) c (.dma cS) [] 0 (lv_cpy c).le (fun j hj => absurd hj List.not_mem_nil)
  iintro ⟨#HC, ⟨%W, HO⟩, Hat, Hcr, Hk⟩
  ihave #HI := (inv_at m K c (some cS)) $$ HC
  icases HI with ⟨#HI, #-⟩
  iapply (Rounds.wp_wait_rest_token 𝒱₀ ER (Rd m) (c : Thread nD τ) none (κ := K (c, some cS)) (sm := .dma cS) (k' := NC)
      hw (Set.mem_univ _) () (O := Osum c []) (W := W) (R := 0) (m := 0) (T := ∅)
      (by rw [Nat.zero_add]; exact ((expect_one m _ (duties_cpy m c)).trans (amount_cpy m c 0)).symm)) $$ [Hcr HO Hat]
  · isplitr; · iexact HI
    isplitl [Hcr]; · iexact Hcr
    isplitl [HO]; · iexact HO
    isplitr; · iapply hmw; iexact HC
    iexact Hat
  iintro ⟨HO, Hat, -, Hpay⟩
  ihave Hp := (Entails.of_eq ((rest_one m _ (duties_cpy m c)).trans (payload_cpy m c 0))) $$ Hpay
  iapply Hk
  isplitl [HO]; · iexists _; iexact HO
  isplitl [Hat]; · iexact Hat
  iexact Hp

end Cert.Gather

end
-- ==== Proof.Ends.lean ====
/-
# What the middle part starts from and ends with, copy by copy
-/
module

public import proofs.«01_k».proof.Proof.Tiles

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD) (t : Fin 3) (k : Fin 8) (b : Bool)

/-! ## Before -/

/-- A departure's cell and, if the copy is sent, what the send needs. -/
def A0 (j : J) : sProp 𝕄 := iprop(sp c j 0 ∗ if Act c j then SR c j else iprop(emp))
/-- An arrival's cell and, if the copy comes, the right to wait for it. -/
def B0 (j : J) : sProp 𝕄 := iprop(rp c j 0 ∗ if Inc c j then RC c j else iprop(emp))

theorem a0_pos (j : J) (h : Act c j) : (A0 c j : sProp 𝕄) ⊢ iprop(SR c j ∗ sp c j 0) := by
  unfold A0; rw [if_pos h]; exact sep_comm.1
theorem a0_neg (j : J) (h : ¬ Act c j) : (A0 c j : sProp 𝕄) ⊢ sp c j 0 := by
  unfold A0; rw [if_neg h]; iintro ⟨H, -⟩; iexact H
theorem b0_pos (j : J) (h : Inc c j) : (B0 c j : sProp 𝕄) ⊢ iprop(rp c j 0 ∗ RC c j) := by
  unfold B0; rw [if_pos h]
theorem b0_neg (j : J) (h : ¬ Inc c j) : (B0 c j : sProp 𝕄) ⊢ rp c j 0 := by
  unfold B0; rw [if_neg h]; iintro ⟨H, -⟩; iexact H

theorem s0_of : iprop(atK (A0 c) .z 0 k b ∗ xpc m c k b) ⊢ S0 m c k b := by
  unfold S0 atK
  by_cases h : Snd c b
  · rw [if_pos h]
    iintro ⟨H, Hx⟩
    ihave H := a0_pos c (.z, 0, k, b) ((act_start c b).2 h) $$ H
    icases H with ⟨H1, H2⟩
    iframe H1 Hx H2
  · rw [if_neg h]
    iintro ⟨H, Hx⟩
    ihave H := a0_neg c (.z, 0, k, b) (fun h' => h ((act_start c b).1 h')) $$ H
    iframe Hx H
theorem f0_of (t : Fin 2) : atK (A0 c) .z t.succ k b ⊢ (F0 c k b t : sProp 𝕄) := by
  unfold F0 atK
  by_cases h : Val c b t.castSucc ∧ Snd c b
  · rw [if_pos h]; exact a0_pos c (.z, t.succ, k, b) ((act_fwd c b t).2 h)
  · rw [if_neg h]; exact a0_neg c (.z, t.succ, k, b) (fun h' => h ((act_fwd c b t).1 h'))
theorem z0_of : iprop(atK (B0 c) .z t k b ∗ atK (A0 c) .xd t k b ∗ atK (A0 c) .yd t k b) ⊢ (Z0 c t k b : sProp 𝕄) := by
  unfold Z0 atK
  by_cases h : Val c b t
  · rw [if_pos h]
    exact BIClass.sep_mono (b0_pos c (.z, t, k, b) h) (BIClass.sep_mono (a0_pos c (.xd, t, k, b) h) (a0_pos c (.yd, t, k, b) h))
  · rw [if_neg h]
    exact BIClass.sep_mono (b0_neg c (.z, t, k, b) h) (BIClass.sep_mono (a0_neg c (.xd, t, k, b) h) (a0_neg c (.yd, t, k, b) h))
theorem c0_of : iprop(atK (B0 c) .xd t k b ∗ atK (A0 c) .yh t k b ∗ atK (B0 c) .yd t k b ∗ atK (A0 c) .xh t k b) ⊢ (C0 c t k b : sProp 𝕄) := by
  unfold C0 atK
  by_cases h : Val c b t
  · rw [if_pos h]
    exact BIClass.sep_mono (b0_pos c (.xd, t, k, b) h) (BIClass.sep_mono (a0_pos c (.yh, t, k, b) h)
      (BIClass.sep_mono (b0_pos c (.yd, t, k, b) h) (a0_pos c (.xh, t, k, b) h)))
  · rw [if_neg h]
    exact BIClass.sep_mono (b0_neg c (.xd, t, k, b) h) (BIClass.sep_mono (a0_neg c (.yh, t, k, b) h)
      (BIClass.sep_mono (b0_neg c (.yd, t, k, b) h) (a0_neg c (.xh, t, k, b) h)))
theorem d0_of : iprop(atK (B0 c) .yh t k b ∗ atK (B0 c) .xh t k b) ⊢ (D0 c t k b : sProp 𝕄) := by
  unfold D0 atK
  by_cases h : Val c b t
  · rw [if_pos h]
    exact BIClass.sep_mono (b0_pos c (.yh, t, k, b) h) (b0_pos c (.xh, t, k, b) h)
  · rw [if_neg h]
    exact BIClass.sep_mono (b0_neg c (.yh, t, k, b) h) (b0_neg c (.xh, t, k, b) h)

/-! ## After -/

/-- A departure's cell once the copies are done. -/
def A1 (j : J) : sProp 𝕄 := sp c j (if Act c j then 1 else 0)
/-- An arrival's cell once the copies are done, with what came. -/
def B1 (j : J) : sProp 𝕄 := iprop(rp c j (if Inc c j then 1 else 0) ∗ if Inc c j then piece c j (GA m) else iprop(emp))

theorem a1_pos (j : J) (h : Act c j) : (sp c j 1 : sProp 𝕄) ⊢ A1 c j := by unfold A1; rw [if_pos h]
theorem a1_neg (j : J) (h : ¬ Act c j) : (sp c j 0 : sProp 𝕄) ⊢ A1 c j := by unfold A1; rw [if_neg h]
theorem b1_pos (j : J) (h : Inc c j) : iprop(rp c j 1 ∗ piece c j (GA m)) ⊢ B1 m c j := by unfold B1; rw [if_pos h, if_pos h]
theorem b1_neg (j : J) (h : ¬ Inc c j) : (rp c j 0 : sProp 𝕄) ⊢ B1 m c j := by
  unfold B1; rw [if_neg h, if_neg h]; iintro H; iframe H

theorem s2_to : S2 m c k b ⊢ iprop(atK (A1 c) .z 0 k b ∗ xpc m c k b) := by
  unfold S2 atK
  by_cases h : Snd c b
  · rw [if_pos h]
    exact BIClass.sep_mono (a1_pos c (.z, 0, k, b) ((act_start c b).2 h)) (Entails.refl _)
  · rw [if_neg h]
    exact sep_comm.1.trans (BIClass.sep_mono (a1_neg c (.z, 0, k, b) (fun h' => h ((act_start c b).1 h'))) (Entails.refl _))
theorem f2_to (t : Fin 2) : F2 m c k b t ⊢ iprop(atK (A1 c) .z t.succ k b ∗ ownG m c t.castSucc k b) := by
  unfold F2 atK
  by_cases h : Val c b t.castSucc ∧ Snd c b
  · rw [if_pos h, own_fwd]
    refine BIClass.sep_mono (a1_pos c (.z, t.succ, k, b) ((act_fwd c b t).2 h)) ?_
    unfold ownG; rw [if_pos h.1]
  · rw [if_neg h]
    exact sep_comm.1.trans (BIClass.sep_mono (a1_neg c (.z, t.succ, k, b) (fun h' => h ((act_fwd c b t).1 h'))) (Entails.refl _))
theorem z2_to : iprop(Z2 m c t k b ∗ ownG m c t k b) ⊢ iprop(atK (B1 m c) .z t k b ∗ atK (A1 c) .xd t k b ∗ atK (A1 c) .yd t k b) := by
  unfold Z2 ownG atK
  by_cases h : Val c b t
  · rw [if_pos h, if_pos h]
    iintro ⟨⟨Hr, ⟨Hx, Hxs⟩, Hy, Hys⟩, Ho⟩
    isplitl [Hr Hxs Hys Ho]
    · iapply b1_pos m c (.z, t, k, b) h
      isplitl [Hr]; · iexact Hr
      iapply (piece_shares m c t k b).2
      iframe Hxs Hys Ho
    isplitl [Hx]
    · iapply a1_pos c (.xd, t, k, b) h; iexact Hx
    · iapply a1_pos c (.yd, t, k, b) h; iexact Hy
  · rw [if_neg h, if_neg h]
    iintro ⟨⟨Hr, Hx, Hy⟩, -⟩
    isplitl [Hr]
    · iapply b1_neg m c (.z, t, k, b) h; iexact Hr
    isplitl [Hx]
    · iapply a1_neg c (.xd, t, k, b) h; iexact Hx
    · iapply a1_neg c (.yd, t, k, b) h; iexact Hy
theorem c2_to : C2 m c t k b ⊢ iprop(atK (B1 m c) .xd t k b ∗ atK (A1 c) .yh t k b ∗ atK (B1 m c) .yd t k b ∗ atK (A1 c) .xh t k b) := by
  unfold C2 atK
  by_cases h : Val c b t
  · rw [if_pos h]
    iintro ⟨⟨Hr, Hk⟩, ⟨Hy, Hys⟩, ⟨Hr', Hk'⟩, Hx, Hxs⟩
    isplitl [Hr Hk Hys]
    · iapply b1_pos m c (.xd, t, k, b) h
      isplitl [Hr]; · iexact Hr
      iapply (pieceX_halves m c t k b).2
      iframe Hys Hk
    isplitl [Hy]
    · iapply a1_pos c (.yh, t, k, b) h; iexact Hy
    isplitl [Hr' Hk' Hxs]
    · iapply b1_pos m c (.yd, t, k, b) h
      isplitl [Hr']; · iexact Hr'
      iapply (pieceY_halves m c t k b).2
      iframe Hk' Hxs
    · iapply a1_pos c (.xh, t, k, b) h; iexact Hx
  · rw [if_neg h]
    exact BIClass.sep_mono (b1_neg m c (.xd, t, k, b) h) (BIClass.sep_mono (a1_neg c (.yh, t, k, b) h)
      (BIClass.sep_mono (b1_neg m c (.yd, t, k, b) h) (a1_neg c (.xh, t, k, b) h)))
theorem d1_to : D1 m c t k b ⊢ iprop(atK (B1 m c) .yh t k b ∗ atK (B1 m c) .xh t k b) := by
  unfold D1 atK
  by_cases h : Val c b t
  · rw [if_pos h]
    exact BIClass.sep_mono (b1_pos m c (.yh, t, k, b) h) (b1_pos m c (.xh, t, k, b) h)
  · rw [if_neg h]
    exact BIClass.sep_mono (b1_neg m c (.yh, t, k, b) h) (b1_neg m c (.xh, t, k, b) h)

/-! ## All of them -/

attribute [local irreducible] fam2 Z0 Z2 C0 C2 D0 D1 F0 F2 S0 S2 ownG xpc atK

theorem z_all : iprop(fam3 (atK (B0 c) .z) ∗ fam3 (atK (A0 c) .xd) ∗ fam3 (atK (A0 c) .yd)) ⊢ (fam3 (Z0 c) : sProp 𝕄) :=
  (BIClass.sep_mono (Entails.refl _) (fam3_sep _ _).2).trans ((fam3_sep _ _).2.trans (fam3_mono (z0_of c)))
theorem c_all : iprop(fam3 (atK (B0 c) .xd) ∗ fam3 (atK (A0 c) .yh) ∗ fam3 (atK (B0 c) .yd) ∗ fam3 (atK (A0 c) .xh)) ⊢ (fam3 (C0 c) : sProp 𝕄) :=
  (BIClass.sep_mono (Entails.refl _) ((BIClass.sep_mono (Entails.refl _) (fam3_sep _ _).2).trans (fam3_sep _ _).2)).trans ((fam3_sep _ _).2.trans (fam3_mono (c0_of c)))
theorem d_all : iprop(fam3 (atK (B0 c) .yh) ∗ fam3 (atK (B0 c) .xh)) ⊢ (fam3 (D0 c) : sProp 𝕄) :=
  (fam3_sep _ _).2.trans (fam3_mono (d0_of c))
theorem s_all : iprop(fam2 (atK (A0 c) .z 0) ∗ fam2 (xpc m c)) ⊢ fam2 (S0 m c) :=
  (Entails.of_eq (fam2_sep _ _).symm).trans (fam2_mono (s0_of m c))

theorem before_intro : iprop((bigSep Finset.univ (A0 c)) ∗ (bigSep Finset.univ (B0 c)) ∗ fam2 (xpc m c)) ⊢ before m c := by
  rw [all_J (A0 c), all_J (B0 c)]
  unfold before
  have hz : (fam3 (atK (A0 c) .z) : sProp 𝕄) = iprop(fam2 (atK (A0 c) .z 0) ∗ fam2 (atK (A0 c) .z 1) ∗ fam2 (atK (A0 c) .z 2)) := rfl
  rw [hz]
  iintro ⟨⟨⟨Az0, Az1, Az2⟩, Axd, Ayd, Axh, Ayh⟩, ⟨Bz, Bxd, Byd, Bxh, Byh⟩, Hx⟩
  isplitl [Az0 Hx]
  · iapply s_all m c; isplitl [Az0] <;> iassumption
  isplitl [Bz Axd Ayd]
  · iapply z_all c
    isplitl [Bz]; · iexact Bz
    isplitl [Axd] <;> iassumption
  isplitl [Az1 Az2]
  · isplitl [Az1]
    · iapply (fam2_mono fun k b => f0_of c k b 0); iexact Az1
    · iapply (fam2_mono fun k b => f0_of c k b 1); iexact Az2
  isplitl [Bxd Byd Ayh Axh]
  · iapply c_all c
    isplitl [Bxd]; · iexact Bxd
    isplitl [Ayh]; · iexact Ayh
    isplitl [Byd] <;> iassumption
  · iapply d_all c
    isplitl [Byh] <;> iassumption

theorem z_end : iprop(fam3 (Z2 m c) ∗ fam3 (ownG m c)) ⊢ iprop(fam3 (atK (B1 m c) .z) ∗ fam3 (atK (A1 c) .xd) ∗ fam3 (atK (A1 c) .yd)) :=
  (fam3_sep _ _).2.trans ((fam3_mono (z2_to m c)).trans ((fam3_sep _ _).1.trans (BIClass.sep_mono (Entails.refl _) (fam3_sep _ _).1)))
theorem c_end : fam3 (C2 m c) ⊢ iprop(fam3 (atK (B1 m c) .xd) ∗ fam3 (atK (A1 c) .yh) ∗ fam3 (atK (B1 m c) .yd) ∗ fam3 (atK (A1 c) .xh)) :=
  (fam3_mono (c2_to m c)).trans ((fam3_sep _ _).1.trans (BIClass.sep_mono (Entails.refl _) ((fam3_sep _ _).1.trans (BIClass.sep_mono (Entails.refl _) (fam3_sep _ _).1))))
theorem d_end : fam3 (D1 m c) ⊢ iprop(fam3 (atK (B1 m c) .yh) ∗ fam3 (atK (B1 m c) .xh)) :=
  (fam3_mono (d1_to m c)).trans (fam3_sep _ _).1
theorem s_end : fam2 (S2 m c) ⊢ iprop(fam2 (atK (A1 c) .z 0) ∗ fam2 (xpc m c)) :=
  (fam2_mono (s2_to m c)).trans (Entails.of_eq (fam2_sep _ _))
theorem f_end (t : Fin 2) : fam2 (fun k b => F2 m c k b t) ⊢ iprop(fam2 (atK (A1 c) .z t.succ) ∗ fam2 (ownG m c t.castSucc)) :=
  (fam2_mono fun k b => f2_to m c k b t).trans (Entails.of_eq (fam2_sep _ _))

theorem after_elim : after m c ⊢ iprop((bigSep Finset.univ (A1 c)) ∗ (bigSep Finset.univ (B1 m c)) ∗ fam2 (xpc m c)) := by
  rw [all_J (A1 c), all_J (B1 m c)]
  unfold after
  have hz : (fam3 (atK (A1 c) .z) : sProp 𝕄) = iprop(fam2 (atK (A1 c) .z 0) ∗ fam2 (atK (A1 c) .z 1) ∗ fam2 (atK (A1 c) .z 2)) := rfl
  have ho : fam3 (ownG m c) = iprop(fam2 (ownG m c 0) ∗ fam2 (ownG m c 1) ∗ fam2 (ownG m c 2)) := rfl
  rw [hz]
  iintro ⟨HS, HZ, ⟨HF0, HF1⟩, HO, HC, HD⟩
  ihave HS := s_end m c $$ HS
  icases HS with ⟨Az0, Hx⟩
  ihave HF0 := f_end m c 0 $$ HF0
  icases HF0 with ⟨Az1, Ho0⟩
  ihave HF1 := f_end m c 1 $$ HF1
  icases HF1 with ⟨Az2, Ho1⟩
  ihave HZ := z_end m c $$ [HZ Ho0 Ho1 HO]
  · isplitl [HZ]; · iexact HZ
    rw [ho]
    isplitl [Ho0]; · iexact Ho0
    isplitl [Ho1]; · iexact Ho1
    iexact HO
  icases HZ with ⟨Bz, Axd, Ayd⟩
  ihave HC := c_end m c $$ HC
  icases HC with ⟨Bxd, Ayh, Byd, Axh⟩
  ihave HD := d_end m c $$ HD
  icases HD with ⟨Byh, Bxh⟩
  isplitl [Az0 Az1 Az2 Axd Ayd Axh Ayh]
  · isplitl [Az0 Az1 Az2]
    · isplitl [Az0]; · iexact Az0
      isplitl [Az1]; · iexact Az1
      iexact Az2
    isplitl [Axd]; · iexact Axd
    isplitl [Ayd]; · iexact Ayd
    isplitl [Axh] <;> iassumption
  isplitl [Bz Bxd Byd Bxh Byh]
  · isplitl [Bz]; · iexact Bz
    isplitl [Bxd]; · iexact Bxd
    isplitl [Byd]; · iexact Byd
    isplitl [Bxh] <;> iassumption
  iexact Hx

end Cert.Gather

end
-- ==== Proof.Body.lean ====
/-
# The whole body: from what a device is given to what it gives back
-/
module

public import proofs.«01_k».proof.Proof.Head
public import proofs.«01_k».proof.Proof.Ends
public import Idealize.ShloMosaic.Lib.Rounds.Family

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ) (c : Dev nD)

/-- What a device owes at the start: its copies and a unit to each neighbour's barrier. -/
def O₀ (c : Dev nD) : CellTallies nD τ sig Unit :=
  Osum c allD + tallyAt (barCell (ydev c)) () 1 + tallyAt (barCell (xdev c)) () 1 + tallyAt (barCell (nb2 c)) () 1 + tallyAt (barCell (nb1 c)) () 1

/-- The tokens of a copy the device sends. -/
def tokS (j : J) : sProp 𝕄 := if Act c j then iprop(dutyTok ER (sCell c j) 0 0 ∗ dutyTok ER (rCell (dstD c j) j) 0 0) else iprop(emp)
/-- The tokens of all the duties the device pays. -/
def payToks : sProp 𝕄 :=
  iprop((bigSep (nbrs c) fun n => dutyTok ER (barCell n) 0 c) ∗ dutyTok ER (cCell c) 0 0 ∗ bigSep Finset.univ (tokS c))
/-- Its places at its own cells. -/
def places : sProp 𝕄 := bigSep Finset.univ fun ck : CK => atPos ER (cell c ck) 0 ∅ 0
/-- Its rights to wait. -/
def rights : sProp 𝕄 := iprop(cred (tallyAt (barCell c) () 4) ∗ bigSep Finset.univ fun j : J => if Inc c j then RC c j else iprop(emp))
/-- The rounds its cells end at. -/
def Rend : CK → ℕ
  | none => 1
  | some k => if actR c (roleOf k) then 1 else 0
def placesEnd : sProp 𝕄 := bigSep Finset.univ fun ck : CK => atPos ER (cell c ck) (Rend c ck) ∅ 0
def xFull : sProp 𝕄 := ((c : Thread nD τ).loc main_arg0) ↦[Finset.univ]{fullShare} xAt m c
def outFull (f : OutC F) : sProp 𝕄 := ((c : Thread nD τ).loc main_v1) ↦[Finset.univ]{fullShare} f

/-- The local copy, the signals and the barrier. -/
theorem run_head (f : OutC F) (k : PP F) (Φ : PUnit → sProp 𝕄) :
    iprop(Ctx m K ∗ (∃ W, owes (c : Thread nD τ) (O₀ c) W) ∗ dutyTok ER (cCell c) 0 0 ∗ xrows m c 0 4096 fullShare.left ∗ rows c (zc c * 4096) 4096 fullShare f
      ∗ pieces c f ∗ (bigSep (nbrs c) fun n => dutyTok ER (barCell n) 0 c) ∗ atPos ER (barCell c) 0 ∅ 0 ∗ cred (tallyAt (barCell c) () 4)
      ∗ ((St c allD ∗ cred (tallyAt (cCell c) () NC) ∗ atPos ER (barCell c) 1 ∅ 0 ∗ bigSep (nbrs c) (barPay (F := F) c)) -∗ WP c k Φ))
    ⊢ WP c (steps (headL c) k) Φ := by
  rw [four]
  show _ ⊢ WP c (copyB c >>= fun _ => signalB (nb1 c) >>= fun _ => signalB (nb2 c) >>= fun _ => signalB (xdev c) >>= fun _ => signalB (ydev c) >>= fun _ =>
    barrierW >>= fun _ => k) Φ
  iintro ⟨#HC, ⟨%W, HO⟩, Ht, Hx, Hr, Hp, ⟨T1, T2, T3, T4⟩, Hat, Hcr, Hk⟩
  iapply (copy_step m K c f _ Φ)
  isplitr; · iexact HC
  isplitl [Ht]; · iexact Ht
  isplitl [Hx]; · iexact Hx
  isplitl [Hr]; · iexact Hr
  iintro Hcc
  ihave Hp := ((bar_out c f).trans (Entails.of_eq (four c _))) $$ Hp
  icases Hp with ⟨P1, P2, P3, P4⟩
  unfold O₀
  iapply (signal_step m K c (nb1 c) (nb1_mem c) _ W _ Φ)
  isplitr; · iexact HC
  isplitl [HO]; · iexact HO
  isplitl [T1]; · iexact T1
  isplitl [P1]; · iexact P1
  iintro HO
  iapply (signal_step m K c (nb2 c) (nb2_mem c) _ W _ Φ)
  isplitr; · iexact HC
  isplitl [HO]; · iexact HO
  isplitl [T2]; · iexact T2
  isplitl [P2]; · iexact P2
  iintro HO
  iapply (signal_step m K c (xdev c) (xdev_mem c) _ W _ Φ)
  isplitr; · iexact HC
  isplitl [HO]; · iexact HO
  isplitl [T3]; · iexact T3
  isplitl [P3]; · iexact P3
  iintro HO
  iapply (signal_step m K c (ydev c) (ydev_mem c) _ W _ Φ)
  isplitr; · iexact HC
  isplitl [HO]; · iexact HO
  isplitl [T4]; · iexact T4
  isplitl [P4]; · iexact P4
  iintro HO
  iapply (barrier_step m K c k Φ)
  isplitr; · iexact HC
  isplitl [HO]; · unfold St; iexists W; iexact HO
  isplitl [Hat]; · iexact Hat
  isplitl [Hcr]; · iexact Hcr
  iintro ⟨HS, Hat, Hp⟩
  iapply Hk
  isplitl [HS]; · iexact HS
  isplitl [Hcc]; · iexact Hcc
  isplitl [Hat] <;> iassumption

/-! ## Handing the copies what they need -/

theorem a0_of (j : J) : iprop(sp c j 0 ∗ tokS c j ∗ if Act c j then iprop(∃ f, piece (F := F) (dstD c j) j f) else iprop(emp)) ⊢ A0 c j := by
  unfold tokS A0 SR
  by_cases h : Act c j
  · rw [if_pos h, if_pos h, if_pos h]
    iintro ⟨H1, ⟨H2, H3⟩, H4⟩
    iframe H1 H2 H3 H4
  · rw [if_neg h, if_neg h, if_neg h]
    iintro ⟨H1, -, -⟩
    iframe H1

theorem a0_all : iprop((bigSep Finset.univ fun j : J => sp c j 0) ∗ (bigSep Finset.univ (tokS c)) ∗ bigSep (nbrs c) (barPay (F := F) c)) ⊢ bigSep Finset.univ (A0 c) := by
  rw [bar_in, ← bigSep_sep', ← bigSep_sep']
  exact bigSep_mono fun j _ => a0_of c j
theorem b0_all : iprop((bigSep Finset.univ fun j : J => rp c j 0) ∗ bigSep Finset.univ fun j : J => if Inc c j then RC c j else iprop(emp)) ⊢ (bigSep Finset.univ (B0 c) : sProp 𝕄) := by
  rw [← bigSep_sep']
  exact Entails.refl _
theorem b1_all : bigSep Finset.univ (B1 m c) ⊢ iprop((bigSep Finset.univ fun j : J => rp c j (if Inc c j then 1 else 0)) ∗ pieces c (GA m)) := by
  unfold pieces
  rw [← bigSep_sep']
  exact Entails.refl _

theorem places_eq : (places c : sProp 𝕄) = iprop(atPos ER (barCell c) 0 ∅ 0 ∗ atPos ER (cCell c) 0 ∅ 0
    ∗ (bigSep Finset.univ fun j : J => sp c j 0) ∗ bigSep Finset.univ fun j : J => rp c j 0) := by
  unfold places
  rw [all_cells]; rfl
theorem rend_some (k : DmaSem sig) (p : Prop) [Decidable p] (h : actR c (roleOf k) ↔ p) : Rend c (some k) = if p then 1 else 0 := if_congr h rfl rfl
theorem placesEnd_eq : (placesEnd c : sProp 𝕄) = iprop(atPos ER (barCell c) 1 ∅ 0 ∗ atPos ER (cCell c) 1 ∅ 0
    ∗ (bigSep Finset.univ (A1 c)) ∗ bigSep Finset.univ fun j : J => rp c j (if Inc c j then 1 else 0)) := by
  unfold placesEnd
  rw [all_cells]
  have hs : ∀ j, Rend c (some (sS j)) = if Act c j then 1 else 0 := fun j => rend_some c (sS j) (Act c j) (by rw [roleOf_sS]; exact Iff.rfl)
  have hr : ∀ j, Rend c (some (rS j)) = if Inc c j then 1 else 0 := fun j => rend_some c (rS j) (Inc c j) (by rw [roleOf_rS]; exact Iff.rfl)
  have hc : Rend c (some cS) = 1 := (rend_some c cS True (by rw [roleOf_cS]; exact Iff.rfl)).trans (if_pos trivial)
  rw [hc]
  simp only [hs, hr]
  rfl

/-- Everything. -/
theorem run_body (f : OutC F) (k : PP F) (Φ : PUnit → sProp 𝕄) :
    iprop(Ctx m K ∗ (∃ W, owes (c : Thread nD τ) (O₀ c) W) ∗ places c ∗ payToks c ∗ rights c ∗ xFull m c ∗ outFull c f
      ∗ ((St c [] ∗ placesEnd c ∗ xFull m c ∗ outFull c (outV m c)) -∗ WP c k Φ)) ⊢ WP c (steps (bodyL c) k) Φ := by
  have hb : bodyL (F := F) c = headL c ++ ((startL c ++ (relayL c ++ (loopL (crossB c) ++ (loopL (diagB c) ++ (startWL c ++ sentL c))))) ++ [copyW c]) := by
    unfold bodyL
    simp only [List.append_assoc]
  have hl : steps [copyW (F := F) c] k = (copyW c >>= fun _ => k) := rfl
  rw [hb, steps_append, steps_append, hl, places_eq, placesEnd_eq]
  unfold payToks rights xFull outFull
  rw [out_cut c f]
  iintro ⟨#HC, HO, ⟨Hab, Hac, Hsp, Hrp⟩, ⟨Htb, Htc, Hts⟩, ⟨Hcb, Hrc⟩, Hx, ⟨Hch, Hpc⟩, Hk⟩
  ihave Hx := (x_parts m c).1 $$ Hx
  icases Hx with ⟨Hxl, Hxp, Hxr⟩
  iapply (run_head m K c f _ Φ)
  isplitr; · iexact HC
  isplitl [HO]; · iexact HO
  isplitl [Htc]; · iexact Htc
  isplitl [Hxl]; · iexact Hxl
  isplitl [Hch]; · iexact Hch
  isplitl [Hpc]; · iexact Hpc
  isplitl [Htb]; · iexact Htb
  isplitl [Hab]; · iexact Hab
  isplitl [Hcb]; · iexact Hcb
  iintro ⟨HS, Hcc, Hab, Hbp⟩
  ihave HA := (a0_all c) $$ [Hsp Hts Hbp]
  · isplitl [Hsp]; · iexact Hsp
    isplitl [Hts] <;> iassumption
  ihave HB := (b0_all c) $$ [Hrp Hrc]
  · isplitl [Hrp] <;> iassumption
  ihave HM := (before_intro m c) $$ [HA HB Hxp]
  · isplitl [HA]; · iexact HA
    isplitl [HB] <;> iassumption
  iapply (run_middle (K := K) m c _ Φ)
  isplitr; · iexact HC
  isplitl [HS]; · iexact HS
  isplitl [HM]; · iexact HM
  iintro ⟨HS, HM⟩
  ihave HM := (after_elim m c) $$ HM
  icases HM with ⟨HA, HB, Hxp⟩
  ihave HB := (b1_all m c) $$ HB
  icases HB with ⟨Hrp, Hpc⟩
  iapply (copied_step m K c k Φ)
  isplitr; · iexact HC
  isplitl [HS]; · iexact HS
  isplitl [Hac]; · iexact Hac
  isplitl [Hcc]; · iexact Hcc
  iintro ⟨HS, Hac, Hch, Hxl⟩
  iapply Hk
  isplitl [HS]; · iexact HS
  isplitl [Hab Hac HA Hrp]
  · isplitl [Hab]; · iexact Hab
    isplitl [Hac]; · iexact Hac
    isplitl [HA] <;> iassumption
  isplitl [Hxl Hxp Hxr]
  · iapply (x_parts m c).2
    isplitl [Hxl]; · iexact Hxl
    isplitl [Hxp] <;> iassumption
  · iapply (out_join m c)
    isplitl [Hch] <;> iassumption

/-! ## The cells close -/

theorem rend_later (ck : CK) (r : ℕ) (h : Rend c ck ≤ r) : (Rd m).duties (cell c ck) r = ∅ := by
  cases ck with
  | none => exact duties_later m _ r h
  | some k =>
    by_cases ha : actR c (roleOf k)
    · exact duties_later m _ r ((show Rend c (some k) = 1 from if_pos ha).symm.le.trans h)
    · exact duties_idle m c k ha r

theorem ctx_cell (ck : CK) : iprop(Ctx m K ∗ atPos ER (cell c ck) (Rend c ck) ∅ 0)
    ⊢ iprop(cellInv ER (Rd m) (K (c, ck)) (cell c ck) ∗ atPos ER (cell c ck) (Rend c ck) ∅ 0) := by
  iintro ⟨#HC, Ha⟩
  ihave #HI := (inv_at m K c ck) $$ HC
  icases HI with ⟨#HI, #-⟩
  isplitr; · iexact HI
  iexact Ha

theorem ctx_cells : iprop(Ctx m K ∗ placesEnd c) ⊢ bigSep Finset.univ fun ck : CK => iprop(cellInv ER (Rd m) (K (c, ck)) (cell c ck) ∗ atPos ER (cell c ck) (Rend c ck) ∅ 0) := by
  unfold placesEnd
  refine (BIClass.sep_mono (BI.bigSep_of_persistent (Finset.univ : Finset CK) (Ctx m K)) (Entails.refl _)).trans ?_
  rw [← bigSep_sep']
  exact bigSep_mono fun ck _ => ctx_cell m K c ck

theorem close_all : iprop(Ctx m K ∗ placesEnd c) ⊢ |={Set.univ}=> bigSep Finset.univ fun ck : CK => semVal (cell c ck) 0 :=
  (ctx_cells m K c).trans (Rounds.cells_close ER (Rd m) Finset.univ (cell c) (fun ck => K (c, ck)) (fun _ _ => Set.mem_univ _) (fun _ _ h => h) (Rend c)
    (fun ck _ r h => rend_later m c ck r h))

end Cert.Gather

end
-- ==== Proof.Deal.lean ====
/-
# The launch's dealing: cells, tokens, places and rights

What the launch mints per device, and how it is dealt: every cell's invariant to all, a device's places to it, every token to
the device that pays the duty, the credit of what the others owe to the device that waits for it.
-/
module

public import proofs.«01_k».proof.Proof.Body
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens minted -/

theorem reg_dma {s : Sem sig} {k : DmaSem sig} (h : (SemLoc.reg s : SemLoc sig) = .dma k) : False := by cases h

abbrev kcell (ck : Dev nD × CK) : GSem nD τ sig := cell ck.1 ck.2
theorem csem_injective : Function.Injective csem := by
  rintro (_ | k) (_ | k') h
  · rfl
  · exact (reg_dma h).elim
  · exact (reg_dma h.symm).elim
  · exact congrArg some (SemLoc.dma.inj h)
theorem kcell_injective : Function.Injective kcell := by
  rintro ⟨c, k⟩ ⟨c', k'⟩ h
  have h₁ : c = c' := congrArg (fun g : GSem nD τ sig => g.1.1) h
  have h₂ : k = k' := csem_injective (congrArg Prod.snd h)
  rw [h₁, h₂]
def allCells : Finset (GSem nD τ sig) := Finset.univ.map ⟨kcell, kcell_injective⟩

/-- A device's own tokens: one of its barrier per device, one of each DMA semaphore. -/
abbrev Tk : Type := Dev nD ⊕ DmaSem sig
def tokOf (x : Dev nD × Tk) : GSem nD τ sig × ℕ × Dev nD :=
  match x.2 with | .inl n => (barCell x.1, 0, n) | .inr k => (((x.1 : Thread nD τ), .dma k), 0, 0)
theorem tokOf_injective : Function.Injective tokOf := by
  rintro ⟨c, t⟩ ⟨c', t'⟩ h
  have h₁ : c = c' := by
    have := congrArg (fun y : GSem nD τ sig × ℕ × Dev nD => y.1.1.1) h
    rcases t with n | k <;> rcases t' with n' | k' <;> exact this
  subst h₁
  rcases t with n | k <;> rcases t' with n' | k'
  · have : n = n' := congrArg (fun y : GSem nD τ sig × ℕ × Dev nD => y.2.2) h
    rw [this]
  · exact (reg_dma (congrArg Prod.snd (congrArg Prod.fst h))).elim
  · exact (reg_dma (congrArg Prod.snd (congrArg Prod.fst h)).symm).elim
  · have : k = k' := SemLoc.dma.inj (congrArg Prod.snd (congrArg Prod.fst h))
    rw [this]
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- A device's own tokens. -/
def toks (c : Dev nD) : sProp 𝕄 :=
  iprop((bigSep Finset.univ fun n : Dev nD => dutyTok ER (barCell c) 0 n)
    ∗ bigSep Finset.univ fun k : DmaSem sig => dutyTok ER ((c : Thread nD τ), .dma k) 0 0)

theorem all_sum {A B : Type} [Fintype A] [Fintype B] [DecidableEq A] [DecidableEq B] (Φ : A ⊕ B → sProp 𝕄) :
    bigSep Finset.univ Φ = iprop((bigSep Finset.univ fun a => Φ (.inl a)) ∗ bigSep Finset.univ fun b => Φ (.inr b)) := by
  have h : (Finset.univ : Finset (A ⊕ B)) = Finset.univ.map Function.Embedding.inl ∪ Finset.univ.map Function.Embedding.inr := by
    ext x; rcases x with a | b <;> simp
  rw [h, BI.bigSep_union, bigSep_map, bigSep_map]
  · rfl
  · rw [Finset.disjoint_left]; intro x h₁ h₂
    obtain ⟨a, -, rfl⟩ := Finset.mem_map.mp h₁
    obtain ⟨b, -, hb⟩ := Finset.mem_map.mp h₂
    exact absurd hb (by simp)

/-- What the launch deals device `c`. -/
def G (c : Dev nD) : sProp 𝕄 :=
  iprop((bigSep Finset.univ fun k : CK => roundState ER (Rd m) (cell c k) 0)
    ∗ (bigSep Finset.univ fun k : CK => iprop(atPos ER (cell c k) 0 ∅ 0 ∗ reached ER (cell c k) 0)) ∗ toks c)

theorem over_cells (Φ : GSem nD τ sig → sProp 𝕄) :
    bigSep allCells Φ = bigSep Finset.univ fun c : Dev nD => bigSep Finset.univ fun k : CK => Φ (cell c k) := by
  unfold allCells; rw [bigSep_map, bigSep_univ_prod]; rfl
theorem over_toks : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [all_sum]; rfl

theorem fund_all : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst' := (Entails.of_eq (over_cells fun g => roundState ER (Rd m) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat'] <;> iassumption
  iexact Htok'

/-! ## The semaphores at zero -/

abbrev osem : DmaSem sig → SemLoc sig := .dma
theorem ownSemFacts : Pipeline.OwnSemFacts cfg0.spec osem :=
  ⟨by decide +kernel, fun _ _ h => SemLoc.dma.inj h, fun _ w => w.elim0⟩

theorem unscoped_eq (c : Dev nD) : (unscopedSems0 c : sProp 𝕄) = semVal (barCell c) 0 := by
  unfold unscopedSems0
  rw [bigSep_eq_bigSepL_of_eq [SemLoc.reg barS] (by decide +kernel) (by decide +kernel)]
  rfl

theorem sems_split (c : Dev nD) : (bigSep Finset.univ fun k : CK => semVal (cell c k) 0 : sProp 𝕄)
    = iprop(unscopedSems0 c ∗ Pipeline.ownSems0 (Ix := Unit) (Name := ℕ) (U := UU) (Lvl := ℕ) (Val := Elt F) (τ := τ) osem c) := by
  rw [all_option, unscoped_eq]
  rfl

/-! ## The tokens to their payers -/

theorem bar_deal : (bigSep Finset.univ fun c : Dev nD => bigSep Finset.univ fun n : Dev nD => (dutyTok ER (barCell c) 0 n : sProp 𝕄))
    ⊢ bigSep Finset.univ fun c : Dev nD => bigSep (nbrs c) fun n => dutyTok ER (barCell n) 0 c := by
  rw [bigSep_univ_comm]
  exact bigSep_mono fun c _ => BI.bigSep_subset (Finset.subset_univ _)

theorem drop_idle (p : Prop) [Decidable p] (P : sProp 𝕄) : P ⊢ if p then P else iprop(emp) := by
  by_cases h : p
  · rw [if_pos h]
  · rw [if_neg h]
    iintro -; iempintro

/-- One copy's arrival token at every device, dealt to the devices that send the copy. -/
theorem arrive_deal (j : J) (T : Dev nD → sProp 𝕄) : bigSep Finset.univ T ⊢ bigSep Finset.univ fun c => if Act c j then T (dstD c j) else iprop(emp) := by
  have h₁ : (fun c => if Act c j then T (dstD c j) else iprop(emp))
      = fun c => bigSep Finset.univ fun d => if Act c j ∧ d = dstD c j then T d else iprop(emp) :=
    funext fun c => (one_of Finset.univ (Act c j) (dstD c j) (fun _ => Finset.mem_univ _) _ (fun _ => Iff.rfl) T).symm
  rw [h₁, bigSep_univ_comm]
  refine bigSep_mono fun d _ => ?_
  have h₂ := one_of Finset.univ (Inc d j) (srcD d j) (fun _ => Finset.mem_univ _) (fun c => Act c j ∧ d = dstD c j)
    (fun c => ⟨fun ⟨h, e⟩ => by subst e; exact ⟨(act_inc h).1, (act_inc h).2.symm⟩, fun ⟨h, e⟩ => by subst e; exact ⟨(inc_act h).1, (inc_act h).2.symm⟩⟩)
    (fun _ => T d)
  exact (drop_idle (Inc d j) (T d)).trans (Entails.of_eq h₂.symm)

theorem arrivals_deal : (bigSep Finset.univ fun c : Dev nD => bigSep Finset.univ fun j : J => (dutyTok ER (rCell c j) 0 0 : sProp 𝕄))
    ⊢ bigSep Finset.univ fun c : Dev nD => bigSep Finset.univ fun j : J => if Act c j then dutyTok ER (rCell (dstD c j) j) 0 0 else iprop(emp) := by
  rw [bigSep_univ_comm, bigSep_univ_comm (fun (c : Dev nD) (j : J) => if Act c j then (dutyTok ER (rCell (dstD c j) j) 0 0 : sProp 𝕄) else iprop(emp))]
  exact bigSep_mono fun j _ => arrive_deal j fun c => dutyTok ER (rCell c j) 0 0

theorem dma_toks (c : Dev nD) : (bigSep Finset.univ fun k : DmaSem sig => (dutyTok ER ((c : Thread nD τ), .dma k) 0 0 : sProp 𝕄))
    = iprop(dutyTok ER (cCell c) 0 0 ∗ (bigSep Finset.univ fun j : J => dutyTok ER (sCell c j) 0 0) ∗ bigSep Finset.univ fun j : J => dutyTok ER (rCell c j) 0 0) := by
  rw [bigSep_univ_equiv roleEquiv, all_option, bigSep_univ_prod, all_bool]
  rfl

theorem both_toks (c : Dev nD) (j : J) :
    iprop((dutyTok ER (sCell c j) 0 0) ∗ if Act c j then (dutyTok ER (rCell (dstD c j) j) 0 0 : sProp 𝕄) else iprop(emp)) ⊢ tokS c j := by
  unfold tokS
  by_cases h : Act c j
  · rw [if_pos h, if_pos h]
  · rw [if_neg h, if_neg h]
    iintro -; iempintro

theorem toks_deal : (bigSep Finset.univ fun c : Dev nD => (toks c : sProp 𝕄)) ⊢ bigSep Finset.univ fun c : Dev nD => payToks c := by
  unfold toks payToks
  simp only [dma_toks]
  simp only [bigSep_sep']
  iintro ⟨HB, HC, HS, HR⟩
  isplitl [HB]
  · iapply bar_deal
    iexact HB
  isplitl [HC]; · iexact HC
  ihave HR' := arrivals_deal (F := F) $$ HR
  iapply (show iprop((bigSep Finset.univ fun c : Dev nD => bigSep Finset.univ fun j : J => dutyTok ER (sCell c j) 0 0)
      ∗ bigSep Finset.univ fun c : Dev nD => bigSep Finset.univ fun j : J => if Act c j then (dutyTok ER (rCell (dstD c j) j) 0 0 : sProp 𝕄) else iprop(emp))
      ⊢ bigSep Finset.univ fun c : Dev nD => bigSep Finset.univ (tokS c) from by
    rw [← bigSep_sep']
    refine bigSep_mono fun c _ => ?_
    rw [← bigSep_sep']
    exact bigSep_mono fun j _ => both_toks c j)
  isplitl [HS] <;> iassumption

/-! ## The global step -/

def records (K : Dev nD × CK → ℕ) : sProp 𝕄 :=
  bigSep Finset.univ fun ck : Dev nD × CK => iprop(cellInv ER (Rd m) (K ck) (cell ck.1 ck.2) ∗ reached ER (cell ck.1 ck.2) 0)
instance records_persistent (K : Dev nD × CK → ℕ) : BI.Persistent (records m K) := by unfold records; infer_instance

/-- What the global step makes of it. -/
def G' (c : Dev nD) : sProp 𝕄 := iprop(∃ K, records m K ∗ places c ∗ payToks c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ (bigSep Finset.univ fun k : CK => iprop(atPos ER (cell c k) 0 ∅ 0 ∗ reached ER (cell c k) 0)) ∗ toks c) := by
  unfold G
  iintro ⟨Hos, Hus, Hst, Hat, Htok⟩
  ihave Hv := (Entails.of_eq (sems_split (F := F) c).symm) $$ [Hos Hus]
  · isplitl [Hus] <;> iassumption
  imod (show iprop((bigSep Finset.univ fun k : CK => semVal (cell c k) 0) ∗ bigSep Finset.univ fun k : CK => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem G'_intro (K : Dev nD × CK → ℕ) (c : Dev nD) : iprop(records m K ∗ places c ∗ payToks c) ⊢ G' m c := by
  unfold G'
  iintro H
  iexists K
  iexact H

theorem to_all (R : sProp 𝕄) [BI.Persistent R] (Φ Ψ : Dev nD → sProp 𝕄) (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : CK => iprop(∃ κ : ℕ, cellInv ER (Rd m) κ (cell c k)))
          ∗ (bigSep Finset.univ fun k : CK => iprop(atPos ER (cell c k) 0 ∅ 0 ∗ reached ER (cell c k) 0)) ∗ toks c) : sProp 𝕄)
      ⊢ bigSep Finset.univ (G' m) := by
  simp only [bigSep_sep']
  rw [← bigSep_univ_prod (fun ck : Dev nD × CK => iprop(∃ κ : ℕ, cellInv ER (Rd m) κ (cell ck.1 ck.2))),
    ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (Rd m) κ (cell ck.1 ck.2) : sProp 𝕄))) $$ HI
  icases HK with ⟨%K, #HI⟩
  ihave Htk := (toks_deal (F := F)) $$ Htok
  iapply (to_all (records m K) _ _ fun c => G'_intro m K c)
  isplitr
  · unfold records
    rw [bigSep_sep']
    isplitl; · iexact HI
    iexact HR
  · rw [bigSep_sep']
    unfold places
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what is owed -/

theorem rCell_eq {c d : Dev nD} {j j' : J} (h : rCell c j = rCell d j') : c = d ∧ j = j' := by
  refine ⟨congrArg (fun g : GSem nD τ sig => g.1.1) h, ?_⟩
  have h₁ : rS j = rS j' := SemLoc.dma.inj (congrArg Prod.snd h)
  have h₂ := congrArg roleOf h₁
  rw [roleOf_rS, roleOf_rS] at h₂
  exact congrArg Prod.snd (Option.some.inj h₂)

theorem due_self (d c : Dev nD) (j : J) : due d j (rCell c j) () = if d = srcD c j ∧ Inc c j then NK j.1 else 0 := by
  unfold due
  by_cases h : d = srcD c j ∧ Inc c j
  · rw [if_pos h]
    obtain ⟨rfl, hi⟩ := h
    rw [if_pos (inc_act hi).1, (inc_act hi).2, tallyAt_apply, if_pos ⟨rfl, rfl⟩]
  · rw [if_neg h]
    by_cases ha : Act d j
    · rw [if_pos ha, tallyAt_ne_cell]
      · rfl
      · intro e
        obtain rfl := (rCell_eq e).1
        exact h ⟨(act_inc ha).2.symm, (act_inc ha).1⟩
    · rw [if_neg ha]; rfl

theorem due_other (d c : Dev nD) (j j' : J) (h : j' ≠ j) : due d j' (rCell c j) () = 0 := by
  unfold due
  split
  · rw [tallyAt_ne_cell]
    · rfl
    · intro e; exact h (rCell_eq e).2.symm
  · rfl

theorem Osum_at (d c : Dev nD) (j : J) (l : List J) (hl : l.Nodup) : Osum d l (rCell c j) () = if j ∈ l then due d j (rCell c j) () else 0 := by
  induction l with
  | nil => rfl
  | cons a l ih =>
    unfold Osum
    rw [Pi.add_apply, Finsupp.add_apply, ih hl.of_cons]
    by_cases h : a = j
    · subst h
      rw [if_neg (List.nodup_cons.mp hl).1, if_pos (List.mem_cons_self ..), Nat.zero_add]
    · rw [due_other d c j a h, Nat.add_zero]
      exact if_congr ⟨fun k => List.mem_cons_of_mem _ k, fun k => (List.mem_cons.mp k).resolve_left (Ne.symm h)⟩ rfl rfl

theorem owed_rcv (d c : Dev nD) (j : J) : O₀ d (rCell c j) () = if d = srcD c j then (if Inc c j then NK j.1 else 0) else 0 := by
  have hb : ∀ n : Dev nD, (tallyAt (barCell n) () 1 : CellTallies nD τ sig Unit) (rCell c j) () = 0 := fun n => by
    rw [tallyAt_ne_cell (fun e => reg_dma (congrArg Prod.snd e).symm)]; rfl
  unfold O₀
  simp only [Pi.add_apply, Finsupp.add_apply, hb, Nat.add_zero]
  rw [Osum_at d c j allD allD_nodup, if_pos (by rw [← List.mem_toFinset, ← allD_univ]; exact Finset.mem_univ _), due_self]
  by_cases h : d = srcD c j <;> by_cases h' : Inc c j <;> simp [h, h']

theorem bar_eq_iff (a b : Dev nD) : barCell a = barCell b ↔ a = b :=
  ⟨fun h => congrArg (fun g : GSem nD τ sig => g.1.1) h, fun h => h ▸ rfl⟩

theorem owed_bar (d c : Dev nD) : O₀ d (barCell c) ()
    = (if c = ydev d then 1 else 0) + (if c = xdev d then 1 else 0) + (if c = nb2 d then 1 else 0) + (if c = nb1 d then 1 else 0) := by
  have hb : ∀ n : Dev nD, (tallyAt (barCell n) () 1 : CellTallies nD τ sig Unit) (barCell c) () = if c = n then 1 else 0 := fun n => by
    rw [tallyAt_apply]; exact if_congr ⟨fun h => (bar_eq_iff _ _).mp h.1, fun h => ⟨(bar_eq_iff _ _).mpr h, rfl⟩⟩ rfl rfl
  have ho : Osum d allD (barCell c) () = 0 := by
    by_contra h
    obtain ⟨j, -, e⟩ := Osum_pos (Nat.pos_of_ne_zero h)
    exact reg_dma (congrArg Prod.snd e)
  unfold O₀
  simp only [Pi.add_apply, Finsupp.add_apply, hb, ho, Nat.zero_add]

theorem four_units : ∀ c : Dev nD, (∑ d : Dev nD, ((if c = ydev d then 1 else 0) + (if c = xdev d then 1 else 0) + (if c = nb2 d then 1 else 0) + (if c = nb1 d then 1 else 0))) = 4 := by
  decide +kernel

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c]
  exact four_units c

theorem launch_rcv (c : Dev nD) (j : J) (hj : Inc c j) :
    tallyOn (rCell c j) (launchCredit (Pipeline.owing O₀) 0 (rCell c j)) = (tallyAt (rCell c j) () (NK j.1) : CellTallies nD τ sig Unit) := by
  unfold tallyAt; refine congrArg _ (Finsupp.ext fun u => ?_); cases u
  rw [Pipeline.launchCredit_owing, Finsupp.single_eq_same, Finset.sum_congr rfl fun d _ => owed_rcv d c j,
    Finset.sum_ite_eq' Finset.univ (srcD c j) fun _ => (if Inc c j then NK j.1 else 0), if_pos (Finset.mem_univ _), if_pos hj]

/-- The credit of one cell. -/
def credAt (c : Dev nD) (sm : SemLoc sig) : sProp 𝕄 := cred (tallyOn ((c : Thread nD τ), sm) (launchCredit (Pipeline.owing O₀) 0 ((c : Thread nD τ), sm)))

theorem bar_right (c : Dev nD) : (credAt c (csem none) : sProp 𝕄) = cred (tallyAt (barCell c) () 4) := congrArg cred (launch_bar c)
theorem rcv_right (c : Dev nD) (j : J) : (credAt c (csem (some (rS j))) : sProp 𝕄) ⊢ if Inc c j then RC c j else iprop(emp) := by
  by_cases h : Inc c j
  · rw [if_pos h]
    exact Entails.of_eq (congrArg cred (launch_rcv c j h))
  · rw [if_neg h]
    iintro -; iempintro

theorem rights_intro (c : Dev nD) :
    iprop(credAt c (csem none) ∗ credAt c (csem (some cS)) ∗ (bigSep Finset.univ fun j : J => credAt c (csem (some (sS j))))
      ∗ bigSep Finset.univ fun j : J => credAt c (csem (some (rS j)))) ⊢ (rights c : sProp 𝕄) := by
  rw [bar_right]
  unfold rights
  iintro ⟨HB, -, -, HR⟩
  isplitl [HB]; · iexact HB
  iapply (show (bigSep Finset.univ fun j : J => credAt c (csem (some (rS j))))
      ⊢ (bigSep Finset.univ fun j : J => if Inc c j then RC c j else iprop(emp) : sProp 𝕄) from bigSep_mono fun j _ => rcv_right c j)
  iexact HR

theorem credits (c : Dev nD) : (Pipeline.launchCred O₀ c : sProp 𝕄) ⊢ rights c := by
  unfold Pipeline.launchCred
  have hs : (Finset.univ : Finset CK).map ⟨csem, csem_injective⟩ ⊆ (Finset.univ : Finset (SemLoc sig)) := Finset.subset_univ _
  refine (BI.bigSep_subset hs).trans ?_
  rw [bigSep_map, all_cells]
  exact rights_intro c

end Cert.Gather

end
-- ==== Proof.Run.lean ====
/-
# The run: every device's program from the launch to the end
-/
module

public import proofs.«01_k».proof.Proof.Deal
public import proofs.«01_k».proof.Proof.Gen.KernelIdeal.Points

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after its program -/

def outAt (c : Dev nD) : OutC F := m ((c : Thread nD τ).loc main_v1)
def Φ₀ (c : Dev nD) : sProp 𝕄 := iprop((∃ K, Ctx m K ∗ places c ∗ payToks c) ∗ rights c ∗ xFull m c ∗ outFull c (outAt m c))
def Φ₁ (c : Dev nD) : sProp 𝕄 := iprop((bigSep Finset.univ fun k : CK => semVal (cell c k) 0) ∗ xFull m c ∗ outFull c (outV m c))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

theorem close_end (K : Dev nD × CK → ℕ) (c : Dev nD) (Q : PUnit → sProp 𝕄) :
    iprop(Ctx m K ∗ St c [] ∗ placesEnd c ∗ xFull m c ∗ outFull c (outV m c) ∗ ((Φ₁ m c ∗ St c []) -∗ Q ⟨⟩)) ⊢ WP c (.ret ⟨⟩ : PP F) Q := by
  iintro ⟨HK, HS, HP, HX, HO, Hk⟩
  imod (close_all m K c) $$ [HK HP] with Hz
  · isplitl [HK] <;> iassumption
  rw [wp_ret]
  imodintro
  iapply Hk
  unfold Φ₁
  isplitr [HS]
  · isplitl [Hz]; · iexact Hz
    isplitl [HX] <;> iassumption
  · iexact HS

theorem body_run (c : Dev nD) (Q : PUnit → sProp 𝕄) :
    iprop(Φ₀ m c ∗ (∃ W, owes (c : Thread nD τ) (O₀ c) W) ∗ ((Φ₁ m c ∗ St c []) -∗ Q ⟨⟩)) ⊢ WP c (bodyP : PP F) Q := by
  rw [body_eq]
  unfold WP
  rw [wp_deviceId]
  unfold Φ₀
  iintro ⟨⟨⟨%K, #HK, Hpl, Htk⟩, Hr, HX, HO⟩, Ho, Hk⟩
  iapply (run_body m K c (outAt m c) (pure ⟨⟩) Q)
  isplitr; · iexact HK
  isplitl [Ho]; · iexact Ho
  isplitl [Hpl]; · iexact Hpl
  isplitl [Htk]; · iexact Htk
  isplitl [Hr]; · iexact Hr
  isplitl [HX]; · iexact HX
  isplitl [HO]; · iexact HO
  iintro ⟨HS, HP, HX, HO⟩
  iapply (close_end m K c Q)
  isplitr; · iexact HK
  isplitl [HS]; · iexact HS
  isplitl [HP]; · iexact HP
  isplitl [HX]; · iexact HX
  isplitl [HO]; · iexact HO
  iexact Hk

theorem no_windows (Φ : Fin cfg0.W → sProp 𝕄) : bigSep Finset.univ Φ = iprop(emp) := by
  rw [show (Finset.univ : Finset (Fin cfg0.W)) = ∅ from rfl, bigSep_empty]
  rfl

theorem Φ_before (c : Dev nD) : (dats m 0 c).Φ (t0_0 : Fin grid0.N).castSucc = Φ₀ m c := rfl
theorem Φ_after (c : Dev nD) : (dats m 0 c).Φ (t0_0 : Fin grid0.N).succ = Φ₁ m c := rfl
theorem body_at : (defs₀ (F := F)) .tc cfg0.body (cfg0.bodyArgs t0_0 (cfg0.slots t0_0)) = bodyP := rfl

set_option maxRecDepth 4000 in
theorem body_obligation (c : Dev nD) : BodyObligation (dats m 0 c) (defs₀ (F := F)) 𝒱₀ () Set.univ := fun t => by
  rw [fin_N0 t]
  rw [no_windows, no_windows, body_at, Φ_before, Φ_after]
  unfold Dat.owesAt Pipeline.owesWithin
  iintro ⟨HΦ, ⟨%W, -, Ho⟩, -⟩
  iapply (body_run m c _)
  isplitl [HΦ]; · iexact HΦ
  isplitl [Ho]
  · iexists W; iexact Ho
  iintro ⟨H1, HS⟩
  isplitl [H1]; · iexact H1
  isplitl [HS]
  · unfold St
    icases HS with ⟨%W', Ho⟩
    iexists W'
    isplitr
    · ipureintro; exact fun _ _ => Or.inl trivial
    iexact Ho
  · iempintro

/-! ## The launch -/

def start (c : Dev nD) : sProp 𝕄 := Φ₀ m c
def finish (c : Dev nD) : sProp 𝕄 := iprop(unscopedSems0 c ∗ xFull m c ∗ outFull c (outV m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start Φ₀
  iintro ⟨⟨HX, HO⟩, Hlev, Hcr, -, ⟨%K, HK, Hpl, Htk⟩⟩
  ihave Hr := (credits (F := F) c) $$ Hcr
  imodintro
  isplitl
  · isplitl [Hlev HK Hpl Htk]
    · iexists K
      unfold Ctx
      isplitl [Hlev HK]
      · isplitl [HK]
        · unfold records; iexact HK
        · iexact Hlev
      isplitl [Hpl] <;> iassumption
    isplitl [Hr]; · iexact Hr
    isplitl [HX]
    · unfold xFull xAt; iexact HX
    · unfold outFull outAt; iexact HO
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨H, -, -⟩
  iexact H

theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq]
  unfold Φ₁ finish
  rw [sems_split]
  iintro ⟨⟨Hu, Ho⟩, HX, HO⟩
  isplitl [Hu HX HO]
  · isplitl [Hu]; · iexact Hu
    isplitl [HX] <;> iassumption
  isplitl [Ho]; · iexact Ho
  iempintro

theorem waits (c : Dev nD) : (levAts L lv : sProp 𝕄) ⊢ Pipeline.cellsWaits cfgs (dats m) () 0 c :=
  Pipeline.cellsWaits_intro cfgs (dats m) () 0 c fun w => w.elim0

/-! ## Reading the end -/

def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = xAt m c ∧ s.mem ((c : Thread nD τ).loc main_v1) = outV m c

theorem read_one (ℓ : Loc nD τ sig) (f : Buf (Elt F) ℓ) (s' : Phys nD τ sig (Elt F)) :
    iprop((ℓ ↦[Finset.univ]{fullShare} f : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  iintro H
  ihave H' := h $$ H
  icases H' with ⟨%h, HSI⟩
  isplitr
  · ipureintro; exact h () (Finset.mem_singleton_self _)
  · iexact HSI

theorem read_end (c : Dev nD) (s' : Phys nD τ sig (Elt F)) :
    iprop(finish m c ∗ emp ∗ SI s') ⊢ |={Set.univ}=> iprop(⌜QY m c s'.mem⌝ ∗ SI s') := by
  unfold finish xFull outFull
  iintro ⟨⟨Hu, HX, HO⟩, -, HSI⟩
  ihave H := (read_one (F := F) _ _ s') $$ [HX HSI]
  · isplitl [HX] <;> iassumption
  icases H with ⟨%hx, HSI⟩
  ihave H := (read_one (F := F) _ _ s') $$ [HO HSI]
  · isplitl [HO] <;> iassumption
  icases H with ⟨%ho, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hx, ho⟩
  · iexact HSI

/-! ## The run -/

/-- Every device ends with the gathered rows, its input as it was. -/
def QC : PUnit × MemSt nD τ sig (Elt F) → Prop := fun r =>
  ∀ c : Dev nD, r.2.mem ((c : Thread nD τ).loc main_arg0) = xAt m c ∧ r.2.mem ((c : Thread nD τ).loc main_v1) = outV m c

set_option maxRecDepth 8000 in
/-- For any float values, from any memory with zero counters: the kernel runs to its end, every device's result array holds
    the gathered rows, its input is as it was, and every semaphore counter is zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := phi0_intro m) (hout := phi1_exit m)
    (QY := QY m) (hY := read_end m)
    (hQ := fun _ h hs => ⟨fun c => (h c).2.2.2, sem_eq_zero hs fun c => (h c).2.2.1⟩)

end Cert.Gather

end
-- ==== Proof.Value.lean ====
/-
# The value: what every device ends with is the whole array
-/
module

public import proofs.«01_k».proof.Proof.Run
public import Idealize.ShloMosaic.Lib.Layout

@[expose] public section

noncomputable section

namespace Cert.Gather

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ)

theorem mesh_z : ∀ d : Dev nD, Layout.meshLin [2, 2, 4] d.val [2] = zc d := by decide +kernel

theorem fromDev_z (i : (main_v1 : Ref sig .tc).ty.Idx) : zc (fromDev i) = ((i (0 : Fin 2) : Fin 16384) : ℕ) / 4096 := by
  have h : ((i (0 : Fin 2) : Fin 16384) : ℕ) < 16384 := (i (0 : Fin 2) : Fin 16384).isLt
  show (8 * (((i (0 : Fin 2) : Fin 16384) : ℕ) / 2048 % 2) + 4 * (((i (0 : Fin 2) : Fin 16384) : ℕ) / 1024 % 2) + ((i (0 : Fin 2) : Fin 16384) : ℕ) / 4096) % 4
    = ((i (0 : Fin 2) : Fin 16384) : ℕ) / 4096
  revert h
  generalize ((i (0 : Fin 2) : Fin 16384) : ℕ) = r
  intro h
  omega

/-- A row of the whole array, read in the input of any device of its chunk. -/
theorem block_row (d : Dev nD) (v : OutC F) (i : (main_v1 : Ref sig .tc).ty.Idx) (hd : zc d = ((i (0 : Fin 2) : Fin 16384) : ℕ) / 4096) :
    (Layout.blockN ⟨2, ![4096, 1024]⟩ ⟨2, ![16384, 1024]⟩ (Layout.meshBlock [2, 2, 4] ![[2], []] d) v : InC F) (xIdx i) = v i := by
  rw [Layout.blockN_apply]
  refine congrArg v (funext fun b => Fin.ext ?_)
  rw [Layout.TilesN.idx_val]
  revert b
  intro (b : Fin 2)
  fin_cases b
  · show Layout.meshLin [2, 2, 4] d.val [2] * 4096 + ((i (0 : Fin 2) : Fin 16384) : ℕ) % 4096 = ((i (0 : Fin 2) : Fin 16384) : ℕ)
    rw [mesh_z, hd]
    omega
  · show 0 * 1024 + ((i (1 : Fin 2) : Fin 1024) : ℕ) = ((i (1 : Fin 2) : Fin 1024) : ℕ)
    omega

/-- Where every device's input is its block of `v`, every device's result is `v`. -/
theorem outV_eq (v : OutC F)
    (h : ∀ c : Dev nD, xAt m c = Layout.blockN ⟨2, ![4096, 1024]⟩ ⟨2, ![16384, 1024]⟩ (Layout.meshBlock [2, 2, 4] ![[2], []] c) v)
    (c : Dev nD) : outV m c = v := by
  funext i
  unfold outV
  by_cases hz : ((i (0 : Fin 2) : Fin 16384) : ℕ) / 4096 = zc c
  · rw [if_pos hz]
    unfold GO
    rw [h c]
    exact block_row c v i hz.symm
  · rw [if_neg hz]
    unfold GA
    rw [h (fromDev i)]
    exact block_row (fromDev i) v i (fromDev_z i)

end Cert.Gather

end
-- ==== Proof.lean ====
/-
# The proof of the claim

The kernel's run (Proof/Run.lean, for any float values) read at the two instances; the reference, which returns its argument;
and the value: every device's result is the whole array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.StableHlo.Run
public import proofs.«01_k».proof.Proof.Value

@[expose] public section

noncomputable section

namespace Cert.Proof

open Idealize.ShloMosaic Idealize.SL.Sem

/-! ## The reference -/

theorem no_buffers : (Finset.univ.filter fun b : Ref Cert.ReferenceIdeal.sig .tc => b.isScoped) = ∅ := by decide
theorem no_semaphores : (Finset.univ.filter fun sm : SemLoc Cert.ReferenceIdeal.sig => sm.isScoped .tc) = ∅ := by decide

/-- The reference runs no operation: its array ends as it was. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0) :=
  (θ_run Cert.ReferenceIdeal.defs _ _).mono (fun _ h c => h c Cert.ReferenceIdeal.main_arg0)
    (StableHlo.run_seq no_buffers no_semaphores Cert.ReferenceIdeal.defs Cert.ReferenceIdeal.main (fun _ => []) (fun _ => rfl) (fun _ => trivial) m ρ)

/-! ## The five claims -/

theorem frame_reference : Cert.quiescent_ReferenceIdeal := fun m ρ _ =>
  (θ_run Cert.ReferenceIdeal.defs _ _).mono (fun r h => ⟨h, sem_eq_zero_of_no_sems (by decide) r.2⟩) (run_reference m ρ)

theorem frame_ideal : Cert.quiescent_KernelIdeal := fun m ρ _ =>
  (θ_run Cert.KernelIdeal.defs _ _).mono (fun _ h => ⟨fun c => (h.1 c).1, h.2⟩) (Cert.Gather.run_main (F := Ideal) m ρ)

theorem frame_kernel : Cert.quiescent_Kernel := fun m ρ _ =>
  (θ_run Cert.KernelIdeal.defs _ _).mono (fun _ h => ⟨fun c => (h.1 c).1, h.2⟩) (Cert.Gather.run_main (F := Bits) m ρ)

theorem algebraic : Cert.algebraic_KernelIdeal_ReferenceIdeal := fun m ρ m' ρ' _ hagree =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).2.trans (Cert.Gather.outV_eq m _ hagree c), (h.1 c).1⟩)
      (Cert.Gather.run_main (F := Ideal) m ρ),
    (θ_run Cert.ReferenceIdeal.defs _ _).mono (fun _ h => ⟨h 0, h 0⟩) (run_reference m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
